-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_fwd [hPre_finite_fwd : Cert.Pre_finite_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_finite_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.1 = (fun _ => 1#1)
    ∧ (Cert.Pre_finite_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.2 = (fun _ => 1#1)

def Pre_RefAttnFwdIdeal (m : (ℓ : Loc Cert.RefAttnFwdIdeal.nD Cert.RefAttnFwdIdeal.τ Cert.RefAttnFwdIdeal.sig) → Buf (Elt Ideal) ℓ) : Prop :=
  True

def Pre_RefAttnFwdIdeal_finite_fwd [hPre_finite_fwd : Cert.Pre_finite_fwd.Facts] (m : (ℓ : Loc Cert.RefAttnFwdIdeal.nD Cert.RefAttnFwdIdeal.τ Cert.RefAttnFwdIdeal.sig) → Buf (Elt Ideal) ℓ) : Prop :=
  ∀ c : Dev Cert.RefAttnFwdIdeal.nD,
    (Cert.Pre_finite_fwd.fn (F := Ideal) (m ((c.tc : Thread Cert.RefAttnFwdIdeal.nD Cert.RefAttnFwdIdeal.τ).loc Cert.RefAttnFwdIdeal.main_arg0)) (m ((c.tc : Thread Cert.RefAttnFwdIdeal.nD Cert.RefAttnFwdIdeal.τ).loc Cert.RefAttnFwdIdeal.main_arg1)) (m ((c.tc : Thread Cert.RefAttnFwdIdeal.nD Cert.RefAttnFwdIdeal.τ).loc Cert.RefAttnFwdIdeal.main_arg2))).1 = (fun _ => 1#1)
    ∧ (Cert.Pre_finite_fwd.fn (F := Ideal) (m ((c.tc : Thread Cert.RefAttnFwdIdeal.nD Cert.RefAttnFwdIdeal.τ).loc Cert.RefAttnFwdIdeal.main_arg0)) (m ((c.tc : Thread Cert.RefAttnFwdIdeal.nD Cert.RefAttnFwdIdeal.τ).loc Cert.RefAttnFwdIdeal.main_arg1)) (m ((c.tc : Thread Cert.RefAttnFwdIdeal.nD Cert.RefAttnFwdIdeal.τ).loc Cert.RefAttnFwdIdeal.main_arg2))).2.1 = (fun _ => 1#1)
    ∧ (Cert.Pre_finite_fwd.fn (F := Ideal) (m ((c.tc : Thread Cert.RefAttnFwdIdeal.nD Cert.RefAttnFwdIdeal.τ).loc Cert.RefAttnFwdIdeal.main_arg0)) (m ((c.tc : Thread Cert.RefAttnFwdIdeal.nD Cert.RefAttnFwdIdeal.τ).loc Cert.RefAttnFwdIdeal.main_arg1)) (m ((c.tc : Thread Cert.RefAttnFwdIdeal.nD Cert.RefAttnFwdIdeal.τ).loc Cert.RefAttnFwdIdeal.main_arg2))).2.2 = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_RefInFwdIdeal (m : (ℓ : Loc Cert.RefInFwdIdeal.nD Cert.RefInFwdIdeal.τ Cert.RefInFwdIdeal.sig) → Buf (Elt Ideal) ℓ) : Prop :=
  True

def Pre_InDa (m : (ℓ : Loc Cert.InDa.nD Cert.InDa.τ Cert.InDa.sig) → Buf (Elt Bits) ℓ) : Prop :=
  True

def Pre_InDaIdeal (m : (ℓ : Loc Cert.InDaIdeal.nD Cert.InDaIdeal.τ Cert.InDaIdeal.sig) → Buf (Elt Ideal) ℓ) : Prop :=
  True

def Pre_RefInDaIdeal (m : (ℓ : Loc Cert.RefInDaIdeal.nD Cert.RefInDaIdeal.τ Cert.RefInDaIdeal.sig) → Buf (Elt Ideal) ℓ) : Prop :=
  True

def Pre_InDb (m : (ℓ : Loc Cert.InDb.nD Cert.InDb.τ Cert.InDb.sig) → Buf (Elt Bits) ℓ) : Prop :=
  True

def Pre_InDbIdeal (m : (ℓ : Loc Cert.InDbIdeal.nD Cert.InDbIdeal.τ Cert.InDbIdeal.sig) → Buf (Elt Ideal) ℓ) : Prop :=
  True

def Pre_RefInDbIdeal (m : (ℓ : Loc Cert.RefInDbIdeal.nD Cert.RefInDbIdeal.τ Cert.RefInDbIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_RefOutFwdIdeal (m : (ℓ : Loc Cert.RefOutFwdIdeal.nD Cert.RefOutFwdIdeal.τ Cert.RefOutFwdIdeal.sig) → Buf (Elt Ideal) ℓ) : Prop :=
  True

def Pre_OutDa (m : (ℓ : Loc Cert.OutDa.nD Cert.OutDa.τ Cert.OutDa.sig) → Buf (Elt Bits) ℓ) : Prop :=
  True

def Pre_OutDaIdeal (m : (ℓ : Loc Cert.OutDaIdeal.nD Cert.OutDaIdeal.τ Cert.OutDaIdeal.sig) → Buf (Elt Ideal) ℓ) : Prop :=
  True

def Pre_RefOutDaIdeal (m : (ℓ : Loc Cert.RefOutDaIdeal.nD Cert.RefOutDaIdeal.τ Cert.RefOutDaIdeal.sig) → Buf (Elt Ideal) ℓ) : Prop :=
  True

def Pre_OutDb (m : (ℓ : Loc Cert.OutDb.nD Cert.OutDb.τ Cert.OutDb.sig) → Buf (Elt Bits) ℓ) : Prop :=
  True

def Pre_OutDbIdeal (m : (ℓ : Loc Cert.OutDbIdeal.nD Cert.OutDbIdeal.τ Cert.OutDbIdeal.sig) → Buf (Elt Ideal) ℓ) : Prop :=
  True

def Pre_RefOutDbIdeal (m : (ℓ : Loc Cert.RefOutDbIdeal.nD Cert.RefOutDbIdeal.τ Cert.RefOutDbIdeal.sig) → Buf (Elt Ideal) ℓ) : Prop :=
  True

def Pre_SmallFwd (m : (ℓ : Loc Cert.SmallFwd.nD Cert.SmallFwd.τ Cert.SmallFwd.sig) → Buf (Elt Bits) ℓ) : Prop :=
  True

def Pre_SmallFwdIdeal (m : (ℓ : Loc Cert.SmallFwdIdeal.nD Cert.SmallFwdIdeal.τ Cert.SmallFwdIdeal.sig) → Buf (Elt Ideal) ℓ) : Prop :=
  True

def Pre_RefSmallFwdIdeal (m : (ℓ : Loc Cert.RefSmallFwdIdeal.nD Cert.RefSmallFwdIdeal.τ Cert.RefSmallFwdIdeal.sig) → Buf (Elt Ideal) ℓ) : Prop :=
  True

def Pre_SmallDa (m : (ℓ : Loc Cert.SmallDa.nD Cert.SmallDa.τ Cert.SmallDa.sig) → Buf (Elt Bits) ℓ) : Prop :=
  True

def Pre_SmallDaIdeal (m : (ℓ : Loc Cert.SmallDaIdeal.nD Cert.SmallDaIdeal.τ Cert.SmallDaIdeal.sig) → Buf (Elt Ideal) ℓ) : Prop :=
  True

def Pre_RefSmallDaIdeal (m : (ℓ : Loc Cert.RefSmallDaIdeal.nD Cert.RefSmallDaIdeal.τ Cert.RefSmallDaIdeal.sig) → Buf (Elt Ideal) ℓ) : Prop :=
  True

def Pre_SmallDb (m : (ℓ : Loc Cert.SmallDb.nD Cert.SmallDb.τ Cert.SmallDb.sig) → Buf (Elt Bits) ℓ) : Prop :=
  True

def Pre_SmallDbIdeal (m : (ℓ : Loc Cert.SmallDbIdeal.nD Cert.SmallDbIdeal.τ Cert.SmallDbIdeal.sig) → Buf (Elt Ideal) ℓ) : Prop :=
  True

def Pre_RefSmallDbIdeal (m : (ℓ : Loc Cert.RefSmallDbIdeal.nD Cert.RefSmallDbIdeal.τ Cert.RefSmallDbIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_RefMergeFwdIdeal (m : (ℓ : Loc Cert.RefMergeFwdIdeal.nD Cert.RefMergeFwdIdeal.τ Cert.RefMergeFwdIdeal.sig) → Buf (Elt Ideal) ℓ) : Prop :=
  True

def Pre_MergeDa (m : (ℓ : Loc Cert.MergeDa.nD Cert.MergeDa.τ Cert.MergeDa.sig) → Buf (Elt Bits) ℓ) : Prop :=
  True

def Pre_MergeDaIdeal (m : (ℓ : Loc Cert.MergeDaIdeal.nD Cert.MergeDaIdeal.τ Cert.MergeDaIdeal.sig) → Buf (Elt Ideal) ℓ) : Prop :=
  True

def Pre_RefMergeDaIdeal (m : (ℓ : Loc Cert.RefMergeDaIdeal.nD Cert.RefMergeDaIdeal.τ Cert.RefMergeDaIdeal.sig) → Buf (Elt Ideal) ℓ) : Prop :=
  True

def Pre_MergeDb (m : (ℓ : Loc Cert.MergeDb.nD Cert.MergeDb.τ Cert.MergeDb.sig) → Buf (Elt Bits) ℓ) : Prop :=
  True

def Pre_MergeDbIdeal (m : (ℓ : Loc Cert.MergeDbIdeal.nD Cert.MergeDbIdeal.τ Cert.MergeDbIdeal.sig) → Buf (Elt Ideal) ℓ) : Prop :=
  True

def Pre_RefMergeDbIdeal (m : (ℓ : Loc Cert.RefMergeDbIdeal.nD Cert.RefMergeDbIdeal.τ Cert.RefMergeDbIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_RefBranchFwdIdeal (m : (ℓ : Loc Cert.RefBranchFwdIdeal.nD Cert.RefBranchFwdIdeal.τ Cert.RefBranchFwdIdeal.sig) → Buf (Elt Ideal) ℓ) : Prop :=
  True

def Pre_BranchDa (m : (ℓ : Loc Cert.BranchDa.nD Cert.BranchDa.τ Cert.BranchDa.sig) → Buf (Elt Bits) ℓ) : Prop :=
  True

def Pre_BranchDaIdeal (m : (ℓ : Loc Cert.BranchDaIdeal.nD Cert.BranchDaIdeal.τ Cert.BranchDaIdeal.sig) → Buf (Elt Ideal) ℓ) : Prop :=
  True

def Pre_RefBranchDaIdeal (m : (ℓ : Loc Cert.RefBranchDaIdeal.nD Cert.RefBranchDaIdeal.τ Cert.RefBranchDaIdeal.sig) → Buf (Elt Ideal) ℓ) : Prop :=
  True

def Pre_BranchDb (m : (ℓ : Loc Cert.BranchDb.nD Cert.BranchDb.τ Cert.BranchDb.sig) → Buf (Elt Bits) ℓ) : Prop :=
  True

def Pre_BranchDbIdeal (m : (ℓ : Loc Cert.BranchDbIdeal.nD Cert.BranchDbIdeal.τ Cert.BranchDbIdeal.sig) → Buf (Elt Ideal) ℓ) : Prop :=
  True

def Pre_RefBranchDbIdeal (m : (ℓ : Loc Cert.RefBranchDbIdeal.nD Cert.RefBranchDbIdeal.τ Cert.RefBranchDbIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_RefNormFwdIdeal (m : (ℓ : Loc Cert.RefNormFwdIdeal.nD Cert.RefNormFwdIdeal.τ Cert.RefNormFwdIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2))).1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2))).2.1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2))).2.2 = (fun _ => 1#1)

def Pre_RefNormBwdIdeal (m : (ℓ : Loc Cert.RefNormBwdIdeal.nD Cert.RefNormBwdIdeal.τ Cert.RefNormBwdIdeal.sig) → Buf (Elt Ideal) ℓ) : Prop :=
  True

def Pre_RefNormBwdIdeal_finite_norm [hPre_finite_norm : Cert.Pre_finite_norm.Facts] (m : (ℓ : Loc Cert.RefNormBwdIdeal.nD Cert.RefNormBwdIdeal.τ Cert.RefNormBwdIdeal.sig) → Buf (Elt Ideal) ℓ) : Prop :=
  ∀ c : Dev Cert.RefNormBwdIdeal.nD,
    (Cert.Pre_finite_norm.fn (F := Ideal) (m ((c.tc : Thread Cert.RefNormBwdIdeal.nD Cert.RefNormBwdIdeal.τ).loc Cert.RefNormBwdIdeal.main_arg0)) (m ((c.tc : Thread Cert.RefNormBwdIdeal.nD Cert.RefNormBwdIdeal.τ).loc Cert.RefNormBwdIdeal.main_arg1)) (m ((c.tc : Thread Cert.RefNormBwdIdeal.nD Cert.RefNormBwdIdeal.τ).loc Cert.RefNormBwdIdeal.main_arg2))).1 = (fun _ => 1#1)
    ∧ (Cert.Pre_finite_norm.fn (F := Ideal) (m ((c.tc : Thread Cert.RefNormBwdIdeal.nD Cert.RefNormBwdIdeal.τ).loc Cert.RefNormBwdIdeal.main_arg0)) (m ((c.tc : Thread Cert.RefNormBwdIdeal.nD Cert.RefNormBwdIdeal.τ).loc Cert.RefNormBwdIdeal.main_arg1)) (m ((c.tc : Thread Cert.RefNormBwdIdeal.nD Cert.RefNormBwdIdeal.τ).loc Cert.RefNormBwdIdeal.main_arg2))).2.1 = (fun _ => 1#1)
    ∧ (Cert.Pre_finite_norm.fn (F := Ideal) (m ((c.tc : Thread Cert.RefNormBwdIdeal.nD Cert.RefNormBwdIdeal.τ).loc Cert.RefNormBwdIdeal.main_arg0)) (m ((c.tc : Thread Cert.RefNormBwdIdeal.nD Cert.RefNormBwdIdeal.τ).loc Cert.RefNormBwdIdeal.main_arg1)) (m ((c.tc : Thread Cert.RefNormBwdIdeal.nD Cert.RefNormBwdIdeal.τ).loc Cert.RefNormBwdIdeal.main_arg2))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RefLossIdeal (m : (ℓ : Loc Cert.RefLossIdeal.nD Cert.RefLossIdeal.τ Cert.RefLossIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_RefAdamSmallIdeal (m : (ℓ : Loc Cert.RefAdamSmallIdeal.nD Cert.RefAdamSmallIdeal.τ Cert.RefAdamSmallIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RefAdamInIdeal (m : (ℓ : Loc Cert.RefAdamInIdeal.nD Cert.RefAdamInIdeal.τ Cert.RefAdamInIdeal.sig) → Buf (Elt Ideal) ℓ) : Prop :=
  True

def Pre_AdamMlpIn (m : (ℓ : Loc Cert.AdamMlpIn.nD Cert.AdamMlpIn.τ Cert.AdamMlpIn.sig) → Buf (Elt Bits) ℓ) : Prop :=
  True

def Pre_AdamMlpInIdeal (m : (ℓ : Loc Cert.AdamMlpInIdeal.nD Cert.AdamMlpInIdeal.τ Cert.AdamMlpInIdeal.sig) → Buf (Elt Ideal) ℓ) : Prop :=
  True

def Pre_RefAdamMlpInIdeal (m : (ℓ : Loc Cert.RefAdamMlpInIdeal.nD Cert.RefAdamMlpInIdeal.τ Cert.RefAdamMlpInIdeal.sig) → Buf (Elt Ideal) ℓ) : Prop :=
  True

def Pre_AdamMlpOut (m : (ℓ : Loc Cert.AdamMlpOut.nD Cert.AdamMlpOut.τ Cert.AdamMlpOut.sig) → Buf (Elt Bits) ℓ) : Prop :=
  True

def Pre_AdamMlpOutIdeal (m : (ℓ : Loc Cert.AdamMlpOutIdeal.nD Cert.AdamMlpOutIdeal.τ Cert.AdamMlpOutIdeal.sig) → Buf (Elt Ideal) ℓ) : Prop :=
  True

def Pre_RefAdamMlpOutIdeal (m : (ℓ : Loc Cert.RefAdamMlpOutIdeal.nD Cert.RefAdamMlpOutIdeal.τ Cert.RefAdamMlpOutIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_RefAdamOutIdeal (m : (ℓ : Loc Cert.RefAdamOutIdeal.nD Cert.RefAdamOutIdeal.τ Cert.RefAdamOutIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_RefAdamBranchIdeal (m : (ℓ : Loc Cert.RefAdamBranchIdeal.nD Cert.RefAdamBranchIdeal.τ Cert.RefAdamBranchIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_RefAdamGluIdeal (m : (ℓ : Loc Cert.RefAdamGluIdeal.nD Cert.RefAdamGluIdeal.τ Cert.RefAdamGluIdeal.sig) → Buf (Elt Ideal) ℓ) : Prop :=
  True

def Pre_AdamUq (m : (ℓ : Loc Cert.AdamUq.nD Cert.AdamUq.τ Cert.AdamUq.sig) → Buf (Elt Bits) ℓ) : Prop :=
  True

def Pre_AdamUqIdeal (m : (ℓ : Loc Cert.AdamUqIdeal.nD Cert.AdamUqIdeal.τ Cert.AdamUqIdeal.sig) → Buf (Elt Ideal) ℓ) : Prop :=
  True

def Pre_RefAdamUqIdeal (m : (ℓ : Loc Cert.RefAdamUqIdeal.nD Cert.RefAdamUqIdeal.τ Cert.RefAdamUqIdeal.sig) → Buf (Elt Ideal) ℓ) : Prop :=
  True

def Pre_AdamUkv (m : (ℓ : Loc Cert.AdamUkv.nD Cert.AdamUkv.τ Cert.AdamUkv.sig) → Buf (Elt Bits) ℓ) : Prop :=
  True

def Pre_AdamUkvIdeal (m : (ℓ : Loc Cert.AdamUkvIdeal.nD Cert.AdamUkvIdeal.τ Cert.AdamUkvIdeal.sig) → Buf (Elt Ideal) ℓ) : Prop :=
  True

def Pre_RefAdamUkvIdeal (m : (ℓ : Loc Cert.RefAdamUkvIdeal.nD Cert.RefAdamUkvIdeal.τ Cert.RefAdamUkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_fwd [hAttnFwdIdeal : Cert.AttnFwdIdeal.Facts] [hPre_finite_fwd : Cert.Pre_finite_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_RefAttnFwdIdeal [hRefAttnFwdIdeal : Cert.RefAttnFwdIdeal.Facts] : Prop :=
  ∀ (m : (ℓ : Loc Cert.RefAttnFwdIdeal.nD Cert.RefAttnFwdIdeal.τ Cert.RefAttnFwdIdeal.sig) → Buf (Elt Ideal) ℓ) (g : Dev Cert.RefAttnFwdIdeal.nD → PrngReg), Pre_RefAttnFwdIdeal m →
    θ_run (Cert.RefAttnFwdIdeal.defs (F := Ideal)) (onTc (τ := Cert.RefAttnFwdIdeal.τ) (Cert.RefAttnFwdIdeal.main (F := Ideal))) ⟨m, fun _ => 0, g⟩ (fun r => (∀ c : Dev Cert.RefAttnFwdIdeal.nD,
      r.2.mem ((c.tc : Thread Cert.RefAttnFwdIdeal.nD Cert.RefAttnFwdIdeal.τ).loc Cert.RefAttnFwdIdeal.main_arg0) = m ((c.tc : Thread Cert.RefAttnFwdIdeal.nD Cert.RefAttnFwdIdeal.τ).loc Cert.RefAttnFwdIdeal.main_arg0)
      ∧ r.2.mem ((c.tc : Thread Cert.RefAttnFwdIdeal.nD Cert.RefAttnFwdIdeal.τ).loc Cert.RefAttnFwdIdeal.main_arg1) = m ((c.tc : Thread Cert.RefAttnFwdIdeal.nD Cert.RefAttnFwdIdeal.τ).loc Cert.RefAttnFwdIdeal.main_arg1)
      ∧ r.2.mem ((c.tc : Thread Cert.RefAttnFwdIdeal.nD Cert.RefAttnFwdIdeal.τ).loc Cert.RefAttnFwdIdeal.main_arg2) = m ((c.tc : Thread Cert.RefAttnFwdIdeal.nD Cert.RefAttnFwdIdeal.τ).loc Cert.RefAttnFwdIdeal.main_arg2))
      ∧ r.2.sem = fun _ => 0)

def quiescent_RefAttnFwdIdeal_pre_finite_fwd [hRefAttnFwdIdeal : Cert.RefAttnFwdIdeal.Facts] [hPre_finite_fwd : Cert.Pre_finite_fwd.Facts] : Prop :=
  ∀ (m : (ℓ : Loc Cert.RefAttnFwdIdeal.nD Cert.RefAttnFwdIdeal.τ Cert.RefAttnFwdIdeal.sig) → Buf (Elt Ideal) ℓ) (g : Dev Cert.RefAttnFwdIdeal.nD → PrngReg), Pre_RefAttnFwdIdeal_finite_fwd m →
    θ_run (Cert.RefAttnFwdIdeal.defs (F := Ideal)) (onTc (τ := Cert.RefAttnFwdIdeal.τ) (Cert.RefAttnFwdIdeal.main (F := Ideal))) ⟨m, fun _ => 0, g⟩ (fun r => (∀ c : Dev Cert.RefAttnFwdIdeal.nD,
      r.2.mem ((c.tc : Thread Cert.RefAttnFwdIdeal.nD Cert.RefAttnFwdIdeal.τ).loc Cert.RefAttnFwdIdeal.main_arg0) = m ((c.tc : Thread Cert.RefAttnFwdIdeal.nD Cert.RefAttnFwdIdeal.τ).loc Cert.RefAttnFwdIdeal.main_arg0)
      ∧ r.2.mem ((c.tc : Thread Cert.RefAttnFwdIdeal.nD Cert.RefAttnFwdIdeal.τ).loc Cert.RefAttnFwdIdeal.main_arg1) = m ((c.tc : Thread Cert.RefAttnFwdIdeal.nD Cert.RefAttnFwdIdeal.τ).loc Cert.RefAttnFwdIdeal.main_arg1)
      ∧ r.2.mem ((c.tc : Thread Cert.RefAttnFwdIdeal.nD Cert.RefAttnFwdIdeal.τ).loc Cert.RefAttnFwdIdeal.main_arg2) = m ((c.tc : Thread Cert.RefAttnFwdIdeal.nD Cert.RefAttnFwdIdeal.τ).loc Cert.RefAttnFwdIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_RefInFwdIdeal [hRefInFwdIdeal : Cert.RefInFwdIdeal.Facts] : Prop :=
  ∀ (m : (ℓ : Loc Cert.RefInFwdIdeal.nD Cert.RefInFwdIdeal.τ Cert.RefInFwdIdeal.sig) → Buf (Elt Ideal) ℓ) (g : Dev Cert.RefInFwdIdeal.nD → PrngReg), Pre_RefInFwdIdeal m →
    θ_run (Cert.RefInFwdIdeal.defs (F := Ideal)) (onTc (τ := Cert.RefInFwdIdeal.τ) (Cert.RefInFwdIdeal.main (F := Ideal))) ⟨m, fun _ => 0, g⟩ (fun r => (∀ c : Dev Cert.RefInFwdIdeal.nD,
      r.2.mem ((c.tc : Thread Cert.RefInFwdIdeal.nD Cert.RefInFwdIdeal.τ).loc Cert.RefInFwdIdeal.main_arg0) = m ((c.tc : Thread Cert.RefInFwdIdeal.nD Cert.RefInFwdIdeal.τ).loc Cert.RefInFwdIdeal.main_arg0)
      ∧ r.2.mem ((c.tc : Thread Cert.RefInFwdIdeal.nD Cert.RefInFwdIdeal.τ).loc Cert.RefInFwdIdeal.main_arg1) = m ((c.tc : Thread Cert.RefInFwdIdeal.nD Cert.RefInFwdIdeal.τ).loc Cert.RefInFwdIdeal.main_arg1))
      ∧ r.2.sem = fun _ => 0)

def quiescent_InDa [hInDa : Cert.InDa.Facts] : Prop :=
  ∀ (m : (ℓ : Loc Cert.InDa.nD Cert.InDa.τ Cert.InDa.sig) → Buf (Elt Bits) ℓ) (g : Dev Cert.InDa.nD → PrngReg), Pre_InDa m →
    θ_run (Cert.InDa.defs (F := Bits)) (onTc (τ := Cert.InDa.τ) (Cert.InDa.main (F := Bits))) ⟨m, fun _ => 0, g⟩ (fun r => (∀ c : Dev Cert.InDa.nD,
      r.2.mem ((c.tc : Thread Cert.InDa.nD Cert.InDa.τ).loc Cert.InDa.main_arg0) = m ((c.tc : Thread Cert.InDa.nD Cert.InDa.τ).loc Cert.InDa.main_arg0)
      ∧ r.2.mem ((c.tc : Thread Cert.InDa.nD Cert.InDa.τ).loc Cert.InDa.main_arg1) = m ((c.tc : Thread Cert.InDa.nD Cert.InDa.τ).loc Cert.InDa.main_arg1)
      ∧ r.2.mem ((c.tc : Thread Cert.InDa.nD Cert.InDa.τ).loc Cert.InDa.main_arg2) = m ((c.tc : Thread Cert.InDa.nD Cert.InDa.τ).loc Cert.InDa.main_arg2))
      ∧ r.2.sem = fun _ => 0)

def quiescent_InDaIdeal [hInDaIdeal : Cert.InDaIdeal.Facts] : Prop :=
  ∀ (m : (ℓ : Loc Cert.InDaIdeal.nD Cert.InDaIdeal.τ Cert.InDaIdeal.sig) → Buf (Elt Ideal) ℓ) (g : Dev Cert.InDaIdeal.nD → PrngReg), Pre_InDaIdeal m →
    θ_run (Cert.InDaIdeal.defs (F := Ideal)) (onTc (τ := Cert.InDaIdeal.τ) (Cert.InDaIdeal.main (F := Ideal))) ⟨m, fun _ => 0, g⟩ (fun r => (∀ c : Dev Cert.InDaIdeal.nD,
      r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
      ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
      ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2))
      ∧ r.2.sem = fun _ => 0)

def quiescent_RefInDaIdeal [hRefInDaIdeal : Cert.RefInDaIdeal.Facts] : Prop :=
  ∀ (m : (ℓ : Loc Cert.RefInDaIdeal.nD Cert.RefInDaIdeal.τ Cert.RefInDaIdeal.sig) → Buf (Elt Ideal) ℓ) (g : Dev Cert.RefInDaIdeal.nD → PrngReg), Pre_RefInDaIdeal m →
    θ_run (Cert.RefInDaIdeal.defs (F := Ideal)) (onTc (τ := Cert.RefInDaIdeal.τ) (Cert.RefInDaIdeal.main (F := Ideal))) ⟨m, fun _ => 0, g⟩ (fun r => (∀ c : Dev Cert.RefInDaIdeal.nD,
      r.2.mem ((c.tc : Thread Cert.RefInDaIdeal.nD Cert.RefInDaIdeal.τ).loc Cert.RefInDaIdeal.main_arg0) = m ((c.tc : Thread Cert.RefInDaIdeal.nD Cert.RefInDaIdeal.τ).loc Cert.RefInDaIdeal.main_arg0)
      ∧ r.2.mem ((c.tc : Thread Cert.RefInDaIdeal.nD Cert.RefInDaIdeal.τ).loc Cert.RefInDaIdeal.main_arg1) = m ((c.tc : Thread Cert.RefInDaIdeal.nD Cert.RefInDaIdeal.τ).loc Cert.RefInDaIdeal.main_arg1)
      ∧ r.2.mem ((c.tc : Thread Cert.RefInDaIdeal.nD Cert.RefInDaIdeal.τ).loc Cert.RefInDaIdeal.main_arg2) = m ((c.tc : Thread Cert.RefInDaIdeal.nD Cert.RefInDaIdeal.τ).loc Cert.RefInDaIdeal.main_arg2))
      ∧ r.2.sem = fun _ => 0)

def quiescent_InDb [hInDb : Cert.InDb.Facts] : Prop :=
  ∀ (m : (ℓ : Loc Cert.InDb.nD Cert.InDb.τ Cert.InDb.sig) → Buf (Elt Bits) ℓ) (g : Dev Cert.InDb.nD → PrngReg), Pre_InDb m →
    θ_run (Cert.InDb.defs (F := Bits)) (onTc (τ := Cert.InDb.τ) (Cert.InDb.main (F := Bits))) ⟨m, fun _ => 0, g⟩ (fun r => (∀ c : Dev Cert.InDb.nD,
      r.2.mem ((c.tc : Thread Cert.InDb.nD Cert.InDb.τ).loc Cert.InDb.main_arg0) = m ((c.tc : Thread Cert.InDb.nD Cert.InDb.τ).loc Cert.InDb.main_arg0)
      ∧ r.2.mem ((c.tc : Thread Cert.InDb.nD Cert.InDb.τ).loc Cert.InDb.main_arg1) = m ((c.tc : Thread Cert.InDb.nD Cert.InDb.τ).loc Cert.InDb.main_arg1)
      ∧ r.2.mem ((c.tc : Thread Cert.InDb.nD Cert.InDb.τ).loc Cert.InDb.main_arg2) = m ((c.tc : Thread Cert.InDb.nD Cert.InDb.τ).loc Cert.InDb.main_arg2))
      ∧ r.2.sem = fun _ => 0)

def quiescent_InDbIdeal [hInDbIdeal : Cert.InDbIdeal.Facts] : Prop :=
  ∀ (m : (ℓ : Loc Cert.InDbIdeal.nD Cert.InDbIdeal.τ Cert.InDbIdeal.sig) → Buf (Elt Ideal) ℓ) (g : Dev Cert.InDbIdeal.nD → PrngReg), Pre_InDbIdeal m →
    θ_run (Cert.InDbIdeal.defs (F := Ideal)) (onTc (τ := Cert.InDbIdeal.τ) (Cert.InDbIdeal.main (F := Ideal))) ⟨m, fun _ => 0, g⟩ (fun r => (∀ c : Dev Cert.InDbIdeal.nD,
      r.2.mem ((c.tc : Thread Cert.InDbIdeal.nD Cert.InDbIdeal.τ).loc Cert.InDbIdeal.main_arg0) = m ((c.tc : Thread Cert.InDbIdeal.nD Cert.InDbIdeal.τ).loc Cert.InDbIdeal.main_arg0)
      ∧ r.2.mem ((c.tc : Thread Cert.InDbIdeal.nD Cert.InDbIdeal.τ).loc Cert.InDbIdeal.main_arg1) = m ((c.tc : Thread Cert.InDbIdeal.nD Cert.InDbIdeal.τ).loc Cert.InDbIdeal.main_arg1)
      ∧ r.2.mem ((c.tc : Thread Cert.InDbIdeal.nD Cert.InDbIdeal.τ).loc Cert.InDbIdeal.main_arg2) = m ((c.tc : Thread Cert.InDbIdeal.nD Cert.InDbIdeal.τ).loc Cert.InDbIdeal.main_arg2))
      ∧ r.2.sem = fun _ => 0)

def quiescent_RefInDbIdeal [hRefInDbIdeal : Cert.RefInDbIdeal.Facts] : Prop :=
  ∀ (m : (ℓ : Loc Cert.RefInDbIdeal.nD Cert.RefInDbIdeal.τ Cert.RefInDbIdeal.sig) → Buf (Elt Ideal) ℓ) (g : Dev Cert.RefInDbIdeal.nD → PrngReg), Pre_RefInDbIdeal m →
    θ_run (Cert.RefInDbIdeal.defs (F := Ideal)) (onTc (τ := Cert.RefInDbIdeal.τ) (Cert.RefInDbIdeal.main (F := Ideal))) ⟨m, fun _ => 0, g⟩ (fun r => (∀ c : Dev Cert.RefInDbIdeal.nD,
      r.2.mem ((c.tc : Thread Cert.RefInDbIdeal.nD Cert.RefInDbIdeal.τ).loc Cert.RefInDbIdeal.main_arg0) = m ((c.tc : Thread Cert.RefInDbIdeal.nD Cert.RefInDbIdeal.τ).loc Cert.RefInDbIdeal.main_arg0)
      ∧ r.2.mem ((c.tc : Thread Cert.RefInDbIdeal.nD Cert.RefInDbIdeal.τ).loc Cert.RefInDbIdeal.main_arg1) = m ((c.tc : Thread Cert.RefInDbIdeal.nD Cert.RefInDbIdeal.τ).loc Cert.RefInDbIdeal.main_arg1)
      ∧ r.2.mem ((c.tc : Thread Cert.RefInDbIdeal.nD Cert.RefInDbIdeal.τ).loc Cert.RefInDbIdeal.main_arg2) = m ((c.tc : Thread Cert.RefInDbIdeal.nD Cert.RefInDbIdeal.τ).loc Cert.RefInDbIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_RefOutFwdIdeal [hRefOutFwdIdeal : Cert.RefOutFwdIdeal.Facts] : Prop :=
  ∀ (m : (ℓ : Loc Cert.RefOutFwdIdeal.nD Cert.RefOutFwdIdeal.τ Cert.RefOutFwdIdeal.sig) → Buf (Elt Ideal) ℓ) (g : Dev Cert.RefOutFwdIdeal.nD → PrngReg), Pre_RefOutFwdIdeal m →
    θ_run (Cert.RefOutFwdIdeal.defs (F := Ideal)) (onTc (τ := Cert.RefOutFwdIdeal.τ) (Cert.RefOutFwdIdeal.main (F := Ideal))) ⟨m, fun _ => 0, g⟩ (fun r => (∀ c : Dev Cert.RefOutFwdIdeal.nD,
      r.2.mem ((c.tc : Thread Cert.RefOutFwdIdeal.nD Cert.RefOutFwdIdeal.τ).loc Cert.RefOutFwdIdeal.main_arg0) = m ((c.tc : Thread Cert.RefOutFwdIdeal.nD Cert.RefOutFwdIdeal.τ).loc Cert.RefOutFwdIdeal.main_arg0)
      ∧ r.2.mem ((c.tc : Thread Cert.RefOutFwdIdeal.nD Cert.RefOutFwdIdeal.τ).loc Cert.RefOutFwdIdeal.main_arg1) = m ((c.tc : Thread Cert.RefOutFwdIdeal.nD Cert.RefOutFwdIdeal.τ).loc Cert.RefOutFwdIdeal.main_arg1))
      ∧ r.2.sem = fun _ => 0)

def quiescent_OutDa [hOutDa : Cert.OutDa.Facts] : Prop :=
  ∀ (m : (ℓ : Loc Cert.OutDa.nD Cert.OutDa.τ Cert.OutDa.sig) → Buf (Elt Bits) ℓ) (g : Dev Cert.OutDa.nD → PrngReg), Pre_OutDa m →
    θ_run (Cert.OutDa.defs (F := Bits)) (onTc (τ := Cert.OutDa.τ) (Cert.OutDa.main (F := Bits))) ⟨m, fun _ => 0, g⟩ (fun r => (∀ c : Dev Cert.OutDa.nD,
      r.2.mem ((c.tc : Thread Cert.OutDa.nD Cert.OutDa.τ).loc Cert.OutDa.main_arg0) = m ((c.tc : Thread Cert.OutDa.nD Cert.OutDa.τ).loc Cert.OutDa.main_arg0)
      ∧ r.2.mem ((c.tc : Thread Cert.OutDa.nD Cert.OutDa.τ).loc Cert.OutDa.main_arg1) = m ((c.tc : Thread Cert.OutDa.nD Cert.OutDa.τ).loc Cert.OutDa.main_arg1)
      ∧ r.2.mem ((c.tc : Thread Cert.OutDa.nD Cert.OutDa.τ).loc Cert.OutDa.main_arg2) = m ((c.tc : Thread Cert.OutDa.nD Cert.OutDa.τ).loc Cert.OutDa.main_arg2))
      ∧ r.2.sem = fun _ => 0)

def quiescent_OutDaIdeal [hOutDaIdeal : Cert.OutDaIdeal.Facts] : Prop :=
  ∀ (m : (ℓ : Loc Cert.OutDaIdeal.nD Cert.OutDaIdeal.τ Cert.OutDaIdeal.sig) → Buf (Elt Ideal) ℓ) (g : Dev Cert.OutDaIdeal.nD → PrngReg), Pre_OutDaIdeal m →
    θ_run (Cert.OutDaIdeal.defs (F := Ideal)) (onTc (τ := Cert.OutDaIdeal.τ) (Cert.OutDaIdeal.main (F := Ideal))) ⟨m, fun _ => 0, g⟩ (fun r => (∀ c : Dev Cert.OutDaIdeal.nD,
      r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
      ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1)
      ∧ r.2.mem ((c.tc : Thread Cert.OutDaIdeal.nD Cert.OutDaIdeal.τ).loc Cert.OutDaIdeal.main_arg2) = m ((c.tc : Thread Cert.OutDaIdeal.nD Cert.OutDaIdeal.τ).loc Cert.OutDaIdeal.main_arg2))
      ∧ r.2.sem = fun _ => 0)

def quiescent_RefOutDaIdeal [hRefOutDaIdeal : Cert.RefOutDaIdeal.Facts] : Prop :=
  ∀ (m : (ℓ : Loc Cert.RefOutDaIdeal.nD Cert.RefOutDaIdeal.τ Cert.RefOutDaIdeal.sig) → Buf (Elt Ideal) ℓ) (g : Dev Cert.RefOutDaIdeal.nD → PrngReg), Pre_RefOutDaIdeal m →
    θ_run (Cert.RefOutDaIdeal.defs (F := Ideal)) (onTc (τ := Cert.RefOutDaIdeal.τ) (Cert.RefOutDaIdeal.main (F := Ideal))) ⟨m, fun _ => 0, g⟩ (fun r => (∀ c : Dev Cert.RefOutDaIdeal.nD,
      r.2.mem ((c.tc : Thread Cert.RefOutDaIdeal.nD Cert.RefOutDaIdeal.τ).loc Cert.RefOutDaIdeal.main_arg0) = m ((c.tc : Thread Cert.RefOutDaIdeal.nD Cert.RefOutDaIdeal.τ).loc Cert.RefOutDaIdeal.main_arg0)
      ∧ r.2.mem ((c.tc : Thread Cert.RefOutDaIdeal.nD Cert.RefOutDaIdeal.τ).loc Cert.RefOutDaIdeal.main_arg1) = m ((c.tc : Thread Cert.RefOutDaIdeal.nD Cert.RefOutDaIdeal.τ).loc Cert.RefOutDaIdeal.main_arg1)
      ∧ r.2.mem ((c.tc : Thread Cert.RefOutDaIdeal.nD Cert.RefOutDaIdeal.τ).loc Cert.RefOutDaIdeal.main_arg2) = m ((c.tc : Thread Cert.RefOutDaIdeal.nD Cert.RefOutDaIdeal.τ).loc Cert.RefOutDaIdeal.main_arg2))
      ∧ r.2.sem = fun _ => 0)

def quiescent_OutDb [hOutDb : Cert.OutDb.Facts] : Prop :=
  ∀ (m : (ℓ : Loc Cert.OutDb.nD Cert.OutDb.τ Cert.OutDb.sig) → Buf (Elt Bits) ℓ) (g : Dev Cert.OutDb.nD → PrngReg), Pre_OutDb m →
    θ_run (Cert.OutDb.defs (F := Bits)) (onTc (τ := Cert.OutDb.τ) (Cert.OutDb.main (F := Bits))) ⟨m, fun _ => 0, g⟩ (fun r => (∀ c : Dev Cert.OutDb.nD,
      r.2.mem ((c.tc : Thread Cert.OutDb.nD Cert.OutDb.τ).loc Cert.OutDb.main_arg0) = m ((c.tc : Thread Cert.OutDb.nD Cert.OutDb.τ).loc Cert.OutDb.main_arg0)
      ∧ r.2.mem ((c.tc : Thread Cert.OutDb.nD Cert.OutDb.τ).loc Cert.OutDb.main_arg1) = m ((c.tc : Thread Cert.OutDb.nD Cert.OutDb.τ).loc Cert.OutDb.main_arg1)
      ∧ r.2.mem ((c.tc : Thread Cert.OutDb.nD Cert.OutDb.τ).loc Cert.OutDb.main_arg2) = m ((c.tc : Thread Cert.OutDb.nD Cert.OutDb.τ).loc Cert.OutDb.main_arg2))
      ∧ r.2.sem = fun _ => 0)

def quiescent_OutDbIdeal [hOutDbIdeal : Cert.OutDbIdeal.Facts] : Prop :=
  ∀ (m : (ℓ : Loc Cert.OutDbIdeal.nD Cert.OutDbIdeal.τ Cert.OutDbIdeal.sig) → Buf (Elt Ideal) ℓ) (g : Dev Cert.OutDbIdeal.nD → PrngReg), Pre_OutDbIdeal m →
    θ_run (Cert.OutDbIdeal.defs (F := Ideal)) (onTc (τ := Cert.OutDbIdeal.τ) (Cert.OutDbIdeal.main (F := Ideal))) ⟨m, fun _ => 0, g⟩ (fun r => (∀ c : Dev Cert.OutDbIdeal.nD,
      r.2.mem ((c.tc : Thread Cert.OutDbIdeal.nD Cert.OutDbIdeal.τ).loc Cert.OutDbIdeal.main_arg0) = m ((c.tc : Thread Cert.OutDbIdeal.nD Cert.OutDbIdeal.τ).loc Cert.OutDbIdeal.main_arg0)
      ∧ r.2.mem ((c.tc : Thread Cert.OutDbIdeal.nD Cert.OutDbIdeal.τ).loc Cert.OutDbIdeal.main_arg1) = m ((c.tc : Thread Cert.OutDbIdeal.nD Cert.OutDbIdeal.τ).loc Cert.OutDbIdeal.main_arg1)
      ∧ r.2.mem ((c.tc : Thread Cert.OutDbIdeal.nD Cert.OutDbIdeal.τ).loc Cert.OutDbIdeal.main_arg2) = m ((c.tc : Thread Cert.OutDbIdeal.nD Cert.OutDbIdeal.τ).loc Cert.OutDbIdeal.main_arg2))
      ∧ r.2.sem = fun _ => 0)

def quiescent_RefOutDbIdeal [hRefOutDbIdeal : Cert.RefOutDbIdeal.Facts] : Prop :=
  ∀ (m : (ℓ : Loc Cert.RefOutDbIdeal.nD Cert.RefOutDbIdeal.τ Cert.RefOutDbIdeal.sig) → Buf (Elt Ideal) ℓ) (g : Dev Cert.RefOutDbIdeal.nD → PrngReg), Pre_RefOutDbIdeal m →
    θ_run (Cert.RefOutDbIdeal.defs (F := Ideal)) (onTc (τ := Cert.RefOutDbIdeal.τ) (Cert.RefOutDbIdeal.main (F := Ideal))) ⟨m, fun _ => 0, g⟩ (fun r => (∀ c : Dev Cert.RefOutDbIdeal.nD,
      r.2.mem ((c.tc : Thread Cert.RefOutDbIdeal.nD Cert.RefOutDbIdeal.τ).loc Cert.RefOutDbIdeal.main_arg0) = m ((c.tc : Thread Cert.RefOutDbIdeal.nD Cert.RefOutDbIdeal.τ).loc Cert.RefOutDbIdeal.main_arg0)
      ∧ r.2.mem ((c.tc : Thread Cert.RefOutDbIdeal.nD Cert.RefOutDbIdeal.τ).loc Cert.RefOutDbIdeal.main_arg1) = m ((c.tc : Thread Cert.RefOutDbIdeal.nD Cert.RefOutDbIdeal.τ).loc Cert.RefOutDbIdeal.main_arg1)
      ∧ r.2.mem ((c.tc : Thread Cert.RefOutDbIdeal.nD Cert.RefOutDbIdeal.τ).loc Cert.RefOutDbIdeal.main_arg2) = m ((c.tc : Thread Cert.RefOutDbIdeal.nD Cert.RefOutDbIdeal.τ).loc Cert.RefOutDbIdeal.main_arg2))
      ∧ r.2.sem = fun _ => 0)

def quiescent_SmallFwd [hSmallFwd : Cert.SmallFwd.Facts] : Prop :=
  ∀ (m : (ℓ : Loc Cert.SmallFwd.nD Cert.SmallFwd.τ Cert.SmallFwd.sig) → Buf (Elt Bits) ℓ) (g : Dev Cert.SmallFwd.nD → PrngReg), Pre_SmallFwd m →
    θ_run (Cert.SmallFwd.defs (F := Bits)) (onTc (τ := Cert.SmallFwd.τ) (Cert.SmallFwd.main (F := Bits))) ⟨m, fun _ => 0, g⟩ (fun r => (∀ c : Dev Cert.SmallFwd.nD,
      r.2.mem ((c.tc : Thread Cert.SmallFwd.nD Cert.SmallFwd.τ).loc Cert.SmallFwd.main_arg0) = m ((c.tc : Thread Cert.SmallFwd.nD Cert.SmallFwd.τ).loc Cert.SmallFwd.main_arg0)
      ∧ r.2.mem ((c.tc : Thread Cert.SmallFwd.nD Cert.SmallFwd.τ).loc Cert.SmallFwd.main_arg1) = m ((c.tc : Thread Cert.SmallFwd.nD Cert.SmallFwd.τ).loc Cert.SmallFwd.main_arg1))
      ∧ r.2.sem = fun _ => 0)

def quiescent_SmallFwdIdeal [hSmallFwdIdeal : Cert.SmallFwdIdeal.Facts] : Prop :=
  ∀ (m : (ℓ : Loc Cert.SmallFwdIdeal.nD Cert.SmallFwdIdeal.τ Cert.SmallFwdIdeal.sig) → Buf (Elt Ideal) ℓ) (g : Dev Cert.SmallFwdIdeal.nD → PrngReg), Pre_SmallFwdIdeal m →
    θ_run (Cert.SmallFwdIdeal.defs (F := Ideal)) (onTc (τ := Cert.SmallFwdIdeal.τ) (Cert.SmallFwdIdeal.main (F := Ideal))) ⟨m, fun _ => 0, g⟩ (fun r => (∀ c : Dev Cert.SmallFwdIdeal.nD,
      r.2.mem ((c.tc : Thread Cert.SmallFwdIdeal.nD Cert.SmallFwdIdeal.τ).loc Cert.SmallFwdIdeal.main_arg0) = m ((c.tc : Thread Cert.SmallFwdIdeal.nD Cert.SmallFwdIdeal.τ).loc Cert.SmallFwdIdeal.main_arg0)
      ∧ r.2.mem ((c.tc : Thread Cert.SmallFwdIdeal.nD Cert.SmallFwdIdeal.τ).loc Cert.SmallFwdIdeal.main_arg1) = m ((c.tc : Thread Cert.SmallFwdIdeal.nD Cert.SmallFwdIdeal.τ).loc Cert.SmallFwdIdeal.main_arg1))
      ∧ r.2.sem = fun _ => 0)

def quiescent_RefSmallFwdIdeal [hRefSmallFwdIdeal : Cert.RefSmallFwdIdeal.Facts] : Prop :=
  ∀ (m : (ℓ : Loc Cert.RefSmallFwdIdeal.nD Cert.RefSmallFwdIdeal.τ Cert.RefSmallFwdIdeal.sig) → Buf (Elt Ideal) ℓ) (g : Dev Cert.RefSmallFwdIdeal.nD → PrngReg), Pre_RefSmallFwdIdeal m →
    θ_run (Cert.RefSmallFwdIdeal.defs (F := Ideal)) (onTc (τ := Cert.RefSmallFwdIdeal.τ) (Cert.RefSmallFwdIdeal.main (F := Ideal))) ⟨m, fun _ => 0, g⟩ (fun r => (∀ c : Dev Cert.RefSmallFwdIdeal.nD,
      r.2.mem ((c.tc : Thread Cert.RefSmallFwdIdeal.nD Cert.RefSmallFwdIdeal.τ).loc Cert.RefSmallFwdIdeal.main_arg0) = m ((c.tc : Thread Cert.RefSmallFwdIdeal.nD Cert.RefSmallFwdIdeal.τ).loc Cert.RefSmallFwdIdeal.main_arg0)
      ∧ r.2.mem ((c.tc : Thread Cert.RefSmallFwdIdeal.nD Cert.RefSmallFwdIdeal.τ).loc Cert.RefSmallFwdIdeal.main_arg1) = m ((c.tc : Thread Cert.RefSmallFwdIdeal.nD Cert.RefSmallFwdIdeal.τ).loc Cert.RefSmallFwdIdeal.main_arg1))
      ∧ r.2.sem = fun _ => 0)

def quiescent_SmallDa [hSmallDa : Cert.SmallDa.Facts] : Prop :=
  ∀ (m : (ℓ : Loc Cert.SmallDa.nD Cert.SmallDa.τ Cert.SmallDa.sig) → Buf (Elt Bits) ℓ) (g : Dev Cert.SmallDa.nD → PrngReg), Pre_SmallDa m →
    θ_run (Cert.SmallDa.defs (F := Bits)) (onTc (τ := Cert.SmallDa.τ) (Cert.SmallDa.main (F := Bits))) ⟨m, fun _ => 0, g⟩ (fun r => (∀ c : Dev Cert.SmallDa.nD,
      r.2.mem ((c.tc : Thread Cert.SmallDa.nD Cert.SmallDa.τ).loc Cert.SmallDa.main_arg0) = m ((c.tc : Thread Cert.SmallDa.nD Cert.SmallDa.τ).loc Cert.SmallDa.main_arg0)
      ∧ r.2.mem ((c.tc : Thread Cert.SmallDa.nD Cert.SmallDa.τ).loc Cert.SmallDa.main_arg1) = m ((c.tc : Thread Cert.SmallDa.nD Cert.SmallDa.τ).loc Cert.SmallDa.main_arg1)
      ∧ r.2.mem ((c.tc : Thread Cert.SmallDa.nD Cert.SmallDa.τ).loc Cert.SmallDa.main_arg2) = m ((c.tc : Thread Cert.SmallDa.nD Cert.SmallDa.τ).loc Cert.SmallDa.main_arg2))
      ∧ r.2.sem = fun _ => 0)

def quiescent_SmallDaIdeal [hSmallDaIdeal : Cert.SmallDaIdeal.Facts] : Prop :=
  ∀ (m : (ℓ : Loc Cert.SmallDaIdeal.nD Cert.SmallDaIdeal.τ Cert.SmallDaIdeal.sig) → Buf (Elt Ideal) ℓ) (g : Dev Cert.SmallDaIdeal.nD → PrngReg), Pre_SmallDaIdeal m →
    θ_run (Cert.SmallDaIdeal.defs (F := Ideal)) (onTc (τ := Cert.SmallDaIdeal.τ) (Cert.SmallDaIdeal.main (F := Ideal))) ⟨m, fun _ => 0, g⟩ (fun r => (∀ c : Dev Cert.SmallDaIdeal.nD,
      r.2.mem ((c.tc : Thread Cert.SmallDaIdeal.nD Cert.SmallDaIdeal.τ).loc Cert.SmallDaIdeal.main_arg0) = m ((c.tc : Thread Cert.SmallDaIdeal.nD Cert.SmallDaIdeal.τ).loc Cert.SmallDaIdeal.main_arg0)
      ∧ r.2.mem ((c.tc : Thread Cert.SmallDaIdeal.nD Cert.SmallDaIdeal.τ).loc Cert.SmallDaIdeal.main_arg1) = m ((c.tc : Thread Cert.SmallDaIdeal.nD Cert.SmallDaIdeal.τ).loc Cert.SmallDaIdeal.main_arg1)
      ∧ r.2.mem ((c.tc : Thread Cert.SmallDaIdeal.nD Cert.SmallDaIdeal.τ).loc Cert.SmallDaIdeal.main_arg2) = m ((c.tc : Thread Cert.SmallDaIdeal.nD Cert.SmallDaIdeal.τ).loc Cert.SmallDaIdeal.main_arg2))
      ∧ r.2.sem = fun _ => 0)

def quiescent_RefSmallDaIdeal [hRefSmallDaIdeal : Cert.RefSmallDaIdeal.Facts] : Prop :=
  ∀ (m : (ℓ : Loc Cert.RefSmallDaIdeal.nD Cert.RefSmallDaIdeal.τ Cert.RefSmallDaIdeal.sig) → Buf (Elt Ideal) ℓ) (g : Dev Cert.RefSmallDaIdeal.nD → PrngReg), Pre_RefSmallDaIdeal m →
    θ_run (Cert.RefSmallDaIdeal.defs (F := Ideal)) (onTc (τ := Cert.RefSmallDaIdeal.τ) (Cert.RefSmallDaIdeal.main (F := Ideal))) ⟨m, fun _ => 0, g⟩ (fun r => (∀ c : Dev Cert.RefSmallDaIdeal.nD,
      r.2.mem ((c.tc : Thread Cert.RefSmallDaIdeal.nD Cert.RefSmallDaIdeal.τ).loc Cert.RefSmallDaIdeal.main_arg0) = m ((c.tc : Thread Cert.RefSmallDaIdeal.nD Cert.RefSmallDaIdeal.τ).loc Cert.RefSmallDaIdeal.main_arg0)
      ∧ r.2.mem ((c.tc : Thread Cert.RefSmallDaIdeal.nD Cert.RefSmallDaIdeal.τ).loc Cert.RefSmallDaIdeal.main_arg1) = m ((c.tc : Thread Cert.RefSmallDaIdeal.nD Cert.RefSmallDaIdeal.τ).loc Cert.RefSmallDaIdeal.main_arg1)
      ∧ r.2.mem ((c.tc : Thread Cert.RefSmallDaIdeal.nD Cert.RefSmallDaIdeal.τ).loc Cert.RefSmallDaIdeal.main_arg2) = m ((c.tc : Thread Cert.RefSmallDaIdeal.nD Cert.RefSmallDaIdeal.τ).loc Cert.RefSmallDaIdeal.main_arg2))
      ∧ r.2.sem = fun _ => 0)

def quiescent_SmallDb [hSmallDb : Cert.SmallDb.Facts] : Prop :=
  ∀ (m : (ℓ : Loc Cert.SmallDb.nD Cert.SmallDb.τ Cert.SmallDb.sig) → Buf (Elt Bits) ℓ) (g : Dev Cert.SmallDb.nD → PrngReg), Pre_SmallDb m →
    θ_run (Cert.SmallDb.defs (F := Bits)) (onTc (τ := Cert.SmallDb.τ) (Cert.SmallDb.main (F := Bits))) ⟨m, fun _ => 0, g⟩ (fun r => (∀ c : Dev Cert.SmallDb.nD,
      r.2.mem ((c.tc : Thread Cert.SmallDb.nD Cert.SmallDb.τ).loc Cert.SmallDb.main_arg0) = m ((c.tc : Thread Cert.SmallDb.nD Cert.SmallDb.τ).loc Cert.SmallDb.main_arg0)
      ∧ r.2.mem ((c.tc : Thread Cert.SmallDb.nD Cert.SmallDb.τ).loc Cert.SmallDb.main_arg1) = m ((c.tc : Thread Cert.SmallDb.nD Cert.SmallDb.τ).loc Cert.SmallDb.main_arg1)
      ∧ r.2.mem ((c.tc : Thread Cert.SmallDb.nD Cert.SmallDb.τ).loc Cert.SmallDb.main_arg2) = m ((c.tc : Thread Cert.SmallDb.nD Cert.SmallDb.τ).loc Cert.SmallDb.main_arg2))
      ∧ r.2.sem = fun _ => 0)

def quiescent_SmallDbIdeal [hSmallDbIdeal : Cert.SmallDbIdeal.Facts] : Prop :=
  ∀ (m : (ℓ : Loc Cert.SmallDbIdeal.nD Cert.SmallDbIdeal.τ Cert.SmallDbIdeal.sig) → Buf (Elt Ideal) ℓ) (g : Dev Cert.SmallDbIdeal.nD → PrngReg), Pre_SmallDbIdeal m →
    θ_run (Cert.SmallDbIdeal.defs (F := Ideal)) (onTc (τ := Cert.SmallDbIdeal.τ) (Cert.SmallDbIdeal.main (F := Ideal))) ⟨m, fun _ => 0, g⟩ (fun r => (∀ c : Dev Cert.SmallDbIdeal.nD,
      r.2.mem ((c.tc : Thread Cert.SmallDbIdeal.nD Cert.SmallDbIdeal.τ).loc Cert.SmallDbIdeal.main_arg0) = m ((c.tc : Thread Cert.SmallDbIdeal.nD Cert.SmallDbIdeal.τ).loc Cert.SmallDbIdeal.main_arg0)
      ∧ r.2.mem ((c.tc : Thread Cert.SmallDbIdeal.nD Cert.SmallDbIdeal.τ).loc Cert.SmallDbIdeal.main_arg1) = m ((c.tc : Thread Cert.SmallDbIdeal.nD Cert.SmallDbIdeal.τ).loc Cert.SmallDbIdeal.main_arg1)
      ∧ r.2.mem ((c.tc : Thread Cert.SmallDbIdeal.nD Cert.SmallDbIdeal.τ).loc Cert.SmallDbIdeal.main_arg2) = m ((c.tc : Thread Cert.SmallDbIdeal.nD Cert.SmallDbIdeal.τ).loc Cert.SmallDbIdeal.main_arg2))
      ∧ r.2.sem = fun _ => 0)

def quiescent_RefSmallDbIdeal [hRefSmallDbIdeal : Cert.RefSmallDbIdeal.Facts] : Prop :=
  ∀ (m : (ℓ : Loc Cert.RefSmallDbIdeal.nD Cert.RefSmallDbIdeal.τ Cert.RefSmallDbIdeal.sig) → Buf (Elt Ideal) ℓ) (g : Dev Cert.RefSmallDbIdeal.nD → PrngReg), Pre_RefSmallDbIdeal m →
    θ_run (Cert.RefSmallDbIdeal.defs (F := Ideal)) (onTc (τ := Cert.RefSmallDbIdeal.τ) (Cert.RefSmallDbIdeal.main (F := Ideal))) ⟨m, fun _ => 0, g⟩ (fun r => (∀ c : Dev Cert.RefSmallDbIdeal.nD,
      r.2.mem ((c.tc : Thread Cert.RefSmallDbIdeal.nD Cert.RefSmallDbIdeal.τ).loc Cert.RefSmallDbIdeal.main_arg0) = m ((c.tc : Thread Cert.RefSmallDbIdeal.nD Cert.RefSmallDbIdeal.τ).loc Cert.RefSmallDbIdeal.main_arg0)
      ∧ r.2.mem ((c.tc : Thread Cert.RefSmallDbIdeal.nD Cert.RefSmallDbIdeal.τ).loc Cert.RefSmallDbIdeal.main_arg1) = m ((c.tc : Thread Cert.RefSmallDbIdeal.nD Cert.RefSmallDbIdeal.τ).loc Cert.RefSmallDbIdeal.main_arg1)
      ∧ r.2.mem ((c.tc : Thread Cert.RefSmallDbIdeal.nD Cert.RefSmallDbIdeal.τ).loc Cert.RefSmallDbIdeal.main_arg2) = m ((c.tc : Thread Cert.RefSmallDbIdeal.nD Cert.RefSmallDbIdeal.τ).loc Cert.RefSmallDbIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1))
      ∧ r.2.sem = fun _ => 0)

def quiescent_RefMergeFwdIdeal [hRefMergeFwdIdeal : Cert.RefMergeFwdIdeal.Facts] : Prop :=
  ∀ (m : (ℓ : Loc Cert.RefMergeFwdIdeal.nD Cert.RefMergeFwdIdeal.τ Cert.RefMergeFwdIdeal.sig) → Buf (Elt Ideal) ℓ) (g : Dev Cert.RefMergeFwdIdeal.nD → PrngReg), Pre_RefMergeFwdIdeal m →
    θ_run (Cert.RefMergeFwdIdeal.defs (F := Ideal)) (onTc (τ := Cert.RefMergeFwdIdeal.τ) (Cert.RefMergeFwdIdeal.main (F := Ideal))) ⟨m, fun _ => 0, g⟩ (fun r => (∀ c : Dev Cert.RefMergeFwdIdeal.nD,
      r.2.mem ((c.tc : Thread Cert.RefMergeFwdIdeal.nD Cert.RefMergeFwdIdeal.τ).loc Cert.RefMergeFwdIdeal.main_arg0) = m ((c.tc : Thread Cert.RefMergeFwdIdeal.nD Cert.RefMergeFwdIdeal.τ).loc Cert.RefMergeFwdIdeal.main_arg0)
      ∧ r.2.mem ((c.tc : Thread Cert.RefMergeFwdIdeal.nD Cert.RefMergeFwdIdeal.τ).loc Cert.RefMergeFwdIdeal.main_arg1) = m ((c.tc : Thread Cert.RefMergeFwdIdeal.nD Cert.RefMergeFwdIdeal.τ).loc Cert.RefMergeFwdIdeal.main_arg1))
      ∧ r.2.sem = fun _ => 0)

def quiescent_MergeDa [hMergeDa : Cert.MergeDa.Facts] : Prop :=
  ∀ (m : (ℓ : Loc Cert.MergeDa.nD Cert.MergeDa.τ Cert.MergeDa.sig) → Buf (Elt Bits) ℓ) (g : Dev Cert.MergeDa.nD → PrngReg), Pre_MergeDa m →
    θ_run (Cert.MergeDa.defs (F := Bits)) (onTc (τ := Cert.MergeDa.τ) (Cert.MergeDa.main (F := Bits))) ⟨m, fun _ => 0, g⟩ (fun r => (∀ c : Dev Cert.MergeDa.nD,
      r.2.mem ((c.tc : Thread Cert.MergeDa.nD Cert.MergeDa.τ).loc Cert.MergeDa.main_arg0) = m ((c.tc : Thread Cert.MergeDa.nD Cert.MergeDa.τ).loc Cert.MergeDa.main_arg0)
      ∧ r.2.mem ((c.tc : Thread Cert.MergeDa.nD Cert.MergeDa.τ).loc Cert.MergeDa.main_arg1) = m ((c.tc : Thread Cert.MergeDa.nD Cert.MergeDa.τ).loc Cert.MergeDa.main_arg1)
      ∧ r.2.mem ((c.tc : Thread Cert.MergeDa.nD Cert.MergeDa.τ).loc Cert.MergeDa.main_arg2) = m ((c.tc : Thread Cert.MergeDa.nD Cert.MergeDa.τ).loc Cert.MergeDa.main_arg2))
      ∧ r.2.sem = fun _ => 0)

def quiescent_MergeDaIdeal [hMergeDaIdeal : Cert.MergeDaIdeal.Facts] : Prop :=
  ∀ (m : (ℓ : Loc Cert.MergeDaIdeal.nD Cert.MergeDaIdeal.τ Cert.MergeDaIdeal.sig) → Buf (Elt Ideal) ℓ) (g : Dev Cert.MergeDaIdeal.nD → PrngReg), Pre_MergeDaIdeal m →
    θ_run (Cert.MergeDaIdeal.defs (F := Ideal)) (onTc (τ := Cert.MergeDaIdeal.τ) (Cert.MergeDaIdeal.main (F := Ideal))) ⟨m, fun _ => 0, g⟩ (fun r => (∀ c : Dev Cert.MergeDaIdeal.nD,
      r.2.mem ((c.tc : Thread Cert.MergeDaIdeal.nD Cert.MergeDaIdeal.τ).loc Cert.MergeDaIdeal.main_arg0) = m ((c.tc : Thread Cert.MergeDaIdeal.nD Cert.MergeDaIdeal.τ).loc Cert.MergeDaIdeal.main_arg0)
      ∧ r.2.mem ((c.tc : Thread Cert.MergeDaIdeal.nD Cert.MergeDaIdeal.τ).loc Cert.MergeDaIdeal.main_arg1) = m ((c.tc : Thread Cert.MergeDaIdeal.nD Cert.MergeDaIdeal.τ).loc Cert.MergeDaIdeal.main_arg1)
      ∧ r.2.mem ((c.tc : Thread Cert.MergeDaIdeal.nD Cert.MergeDaIdeal.τ).loc Cert.MergeDaIdeal.main_arg2) = m ((c.tc : Thread Cert.MergeDaIdeal.nD Cert.MergeDaIdeal.τ).loc Cert.MergeDaIdeal.main_arg2))
      ∧ r.2.sem = fun _ => 0)

def quiescent_RefMergeDaIdeal [hRefMergeDaIdeal : Cert.RefMergeDaIdeal.Facts] : Prop :=
  ∀ (m : (ℓ : Loc Cert.RefMergeDaIdeal.nD Cert.RefMergeDaIdeal.τ Cert.RefMergeDaIdeal.sig) → Buf (Elt Ideal) ℓ) (g : Dev Cert.RefMergeDaIdeal.nD → PrngReg), Pre_RefMergeDaIdeal m →
    θ_run (Cert.RefMergeDaIdeal.defs (F := Ideal)) (onTc (τ := Cert.RefMergeDaIdeal.τ) (Cert.RefMergeDaIdeal.main (F := Ideal))) ⟨m, fun _ => 0, g⟩ (fun r => (∀ c : Dev Cert.RefMergeDaIdeal.nD,
      r.2.mem ((c.tc : Thread Cert.RefMergeDaIdeal.nD Cert.RefMergeDaIdeal.τ).loc Cert.RefMergeDaIdeal.main_arg0) = m ((c.tc : Thread Cert.RefMergeDaIdeal.nD Cert.RefMergeDaIdeal.τ).loc Cert.RefMergeDaIdeal.main_arg0)
      ∧ r.2.mem ((c.tc : Thread Cert.RefMergeDaIdeal.nD Cert.RefMergeDaIdeal.τ).loc Cert.RefMergeDaIdeal.main_arg1) = m ((c.tc : Thread Cert.RefMergeDaIdeal.nD Cert.RefMergeDaIdeal.τ).loc Cert.RefMergeDaIdeal.main_arg1)
      ∧ r.2.mem ((c.tc : Thread Cert.RefMergeDaIdeal.nD Cert.RefMergeDaIdeal.τ).loc Cert.RefMergeDaIdeal.main_arg2) = m ((c.tc : Thread Cert.RefMergeDaIdeal.nD Cert.RefMergeDaIdeal.τ).loc Cert.RefMergeDaIdeal.main_arg2))
      ∧ r.2.sem = fun _ => 0)

def quiescent_MergeDb [hMergeDb : Cert.MergeDb.Facts] : Prop :=
  ∀ (m : (ℓ : Loc Cert.MergeDb.nD Cert.MergeDb.τ Cert.MergeDb.sig) → Buf (Elt Bits) ℓ) (g : Dev Cert.MergeDb.nD → PrngReg), Pre_MergeDb m →
    θ_run (Cert.MergeDb.defs (F := Bits)) (onTc (τ := Cert.MergeDb.τ) (Cert.MergeDb.main (F := Bits))) ⟨m, fun _ => 0, g⟩ (fun r => (∀ c : Dev Cert.MergeDb.nD,
      r.2.mem ((c.tc : Thread Cert.MergeDb.nD Cert.MergeDb.τ).loc Cert.MergeDb.main_arg0) = m ((c.tc : Thread Cert.MergeDb.nD Cert.MergeDb.τ).loc Cert.MergeDb.main_arg0)
      ∧ r.2.mem ((c.tc : Thread Cert.MergeDb.nD Cert.MergeDb.τ).loc Cert.MergeDb.main_arg1) = m ((c.tc : Thread Cert.MergeDb.nD Cert.MergeDb.τ).loc Cert.MergeDb.main_arg1)
      ∧ r.2.mem ((c.tc : Thread Cert.MergeDb.nD Cert.MergeDb.τ).loc Cert.MergeDb.main_arg2) = m ((c.tc : Thread Cert.MergeDb.nD Cert.MergeDb.τ).loc Cert.MergeDb.main_arg2))
      ∧ r.2.sem = fun _ => 0)

def quiescent_MergeDbIdeal [hMergeDbIdeal : Cert.MergeDbIdeal.Facts] : Prop :=
  ∀ (m : (ℓ : Loc Cert.MergeDbIdeal.nD Cert.MergeDbIdeal.τ Cert.MergeDbIdeal.sig) → Buf (Elt Ideal) ℓ) (g : Dev Cert.MergeDbIdeal.nD → PrngReg), Pre_MergeDbIdeal m →
    θ_run (Cert.MergeDbIdeal.defs (F := Ideal)) (onTc (τ := Cert.MergeDbIdeal.τ) (Cert.MergeDbIdeal.main (F := Ideal))) ⟨m, fun _ => 0, g⟩ (fun r => (∀ c : Dev Cert.MergeDbIdeal.nD,
      r.2.mem ((c.tc : Thread Cert.MergeDbIdeal.nD Cert.MergeDbIdeal.τ).loc Cert.MergeDbIdeal.main_arg0) = m ((c.tc : Thread Cert.MergeDbIdeal.nD Cert.MergeDbIdeal.τ).loc Cert.MergeDbIdeal.main_arg0)
      ∧ r.2.mem ((c.tc : Thread Cert.MergeDbIdeal.nD Cert.MergeDbIdeal.τ).loc Cert.MergeDbIdeal.main_arg1) = m ((c.tc : Thread Cert.MergeDbIdeal.nD Cert.MergeDbIdeal.τ).loc Cert.MergeDbIdeal.main_arg1)
      ∧ r.2.mem ((c.tc : Thread Cert.MergeDbIdeal.nD Cert.MergeDbIdeal.τ).loc Cert.MergeDbIdeal.main_arg2) = m ((c.tc : Thread Cert.MergeDbIdeal.nD Cert.MergeDbIdeal.τ).loc Cert.MergeDbIdeal.main_arg2))
      ∧ r.2.sem = fun _ => 0)

def quiescent_RefMergeDbIdeal [hRefMergeDbIdeal : Cert.RefMergeDbIdeal.Facts] : Prop :=
  ∀ (m : (ℓ : Loc Cert.RefMergeDbIdeal.nD Cert.RefMergeDbIdeal.τ Cert.RefMergeDbIdeal.sig) → Buf (Elt Ideal) ℓ) (g : Dev Cert.RefMergeDbIdeal.nD → PrngReg), Pre_RefMergeDbIdeal m →
    θ_run (Cert.RefMergeDbIdeal.defs (F := Ideal)) (onTc (τ := Cert.RefMergeDbIdeal.τ) (Cert.RefMergeDbIdeal.main (F := Ideal))) ⟨m, fun _ => 0, g⟩ (fun r => (∀ c : Dev Cert.RefMergeDbIdeal.nD,
      r.2.mem ((c.tc : Thread Cert.RefMergeDbIdeal.nD Cert.RefMergeDbIdeal.τ).loc Cert.RefMergeDbIdeal.main_arg0) = m ((c.tc : Thread Cert.RefMergeDbIdeal.nD Cert.RefMergeDbIdeal.τ).loc Cert.RefMergeDbIdeal.main_arg0)
      ∧ r.2.mem ((c.tc : Thread Cert.RefMergeDbIdeal.nD Cert.RefMergeDbIdeal.τ).loc Cert.RefMergeDbIdeal.main_arg1) = m ((c.tc : Thread Cert.RefMergeDbIdeal.nD Cert.RefMergeDbIdeal.τ).loc Cert.RefMergeDbIdeal.main_arg1)
      ∧ r.2.mem ((c.tc : Thread Cert.RefMergeDbIdeal.nD Cert.RefMergeDbIdeal.τ).loc Cert.RefMergeDbIdeal.main_arg2) = m ((c.tc : Thread Cert.RefMergeDbIdeal.nD Cert.RefMergeDbIdeal.τ).loc Cert.RefMergeDbIdeal.main_arg2))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ r.2.sem = fun _ => 0)

def quiescent_RefBranchFwdIdeal [hRefBranchFwdIdeal : Cert.RefBranchFwdIdeal.Facts] : Prop :=
  ∀ (m : (ℓ : Loc Cert.RefBranchFwdIdeal.nD Cert.RefBranchFwdIdeal.τ Cert.RefBranchFwdIdeal.sig) → Buf (Elt Ideal) ℓ) (g : Dev Cert.RefBranchFwdIdeal.nD → PrngReg), Pre_RefBranchFwdIdeal m →
    θ_run (Cert.RefBranchFwdIdeal.defs (F := Ideal)) (onTc (τ := Cert.RefBranchFwdIdeal.τ) (Cert.RefBranchFwdIdeal.main (F := Ideal))) ⟨m, fun _ => 0, g⟩ (fun r => (∀ c : Dev Cert.RefBranchFwdIdeal.nD,
      r.2.mem ((c.tc : Thread Cert.RefBranchFwdIdeal.nD Cert.RefBranchFwdIdeal.τ).loc Cert.RefBranchFwdIdeal.main_arg0) = m ((c.tc : Thread Cert.RefBranchFwdIdeal.nD Cert.RefBranchFwdIdeal.τ).loc Cert.RefBranchFwdIdeal.main_arg0)
      ∧ r.2.mem ((c.tc : Thread Cert.RefBranchFwdIdeal.nD Cert.RefBranchFwdIdeal.τ).loc Cert.RefBranchFwdIdeal.main_arg1) = m ((c.tc : Thread Cert.RefBranchFwdIdeal.nD Cert.RefBranchFwdIdeal.τ).loc Cert.RefBranchFwdIdeal.main_arg1))
      ∧ r.2.sem = fun _ => 0)

def quiescent_BranchDa [hBranchDa : Cert.BranchDa.Facts] : Prop :=
  ∀ (m : (ℓ : Loc Cert.BranchDa.nD Cert.BranchDa.τ Cert.BranchDa.sig) → Buf (Elt Bits) ℓ) (g : Dev Cert.BranchDa.nD → PrngReg), Pre_BranchDa m →
    θ_run (Cert.BranchDa.defs (F := Bits)) (onTc (τ := Cert.BranchDa.τ) (Cert.BranchDa.main (F := Bits))) ⟨m, fun _ => 0, g⟩ (fun r => (∀ c : Dev Cert.BranchDa.nD,
      r.2.mem ((c.tc : Thread Cert.BranchDa.nD Cert.BranchDa.τ).loc Cert.BranchDa.main_arg0) = m ((c.tc : Thread Cert.BranchDa.nD Cert.BranchDa.τ).loc Cert.BranchDa.main_arg0)
      ∧ r.2.mem ((c.tc : Thread Cert.BranchDa.nD Cert.BranchDa.τ).loc Cert.BranchDa.main_arg1) = m ((c.tc : Thread Cert.BranchDa.nD Cert.BranchDa.τ).loc Cert.BranchDa.main_arg1)
      ∧ r.2.mem ((c.tc : Thread Cert.BranchDa.nD Cert.BranchDa.τ).loc Cert.BranchDa.main_arg2) = m ((c.tc : Thread Cert.BranchDa.nD Cert.BranchDa.τ).loc Cert.BranchDa.main_arg2))
      ∧ r.2.sem = fun _ => 0)

def quiescent_BranchDaIdeal [hBranchDaIdeal : Cert.BranchDaIdeal.Facts] : Prop :=
  ∀ (m : (ℓ : Loc Cert.BranchDaIdeal.nD Cert.BranchDaIdeal.τ Cert.BranchDaIdeal.sig) → Buf (Elt Ideal) ℓ) (g : Dev Cert.BranchDaIdeal.nD → PrngReg), Pre_BranchDaIdeal m →
    θ_run (Cert.BranchDaIdeal.defs (F := Ideal)) (onTc (τ := Cert.BranchDaIdeal.τ) (Cert.BranchDaIdeal.main (F := Ideal))) ⟨m, fun _ => 0, g⟩ (fun r => (∀ c : Dev Cert.BranchDaIdeal.nD,
      r.2.mem ((c.tc : Thread Cert.BranchDaIdeal.nD Cert.BranchDaIdeal.τ).loc Cert.BranchDaIdeal.main_arg0) = m ((c.tc : Thread Cert.BranchDaIdeal.nD Cert.BranchDaIdeal.τ).loc Cert.BranchDaIdeal.main_arg0)
      ∧ r.2.mem ((c.tc : Thread Cert.BranchDaIdeal.nD Cert.BranchDaIdeal.τ).loc Cert.BranchDaIdeal.main_arg1) = m ((c.tc : Thread Cert.BranchDaIdeal.nD Cert.BranchDaIdeal.τ).loc Cert.BranchDaIdeal.main_arg1)
      ∧ r.2.mem ((c.tc : Thread Cert.BranchDaIdeal.nD Cert.BranchDaIdeal.τ).loc Cert.BranchDaIdeal.main_arg2) = m ((c.tc : Thread Cert.BranchDaIdeal.nD Cert.BranchDaIdeal.τ).loc Cert.BranchDaIdeal.main_arg2))
      ∧ r.2.sem = fun _ => 0)

def quiescent_RefBranchDaIdeal [hRefBranchDaIdeal : Cert.RefBranchDaIdeal.Facts] : Prop :=
  ∀ (m : (ℓ : Loc Cert.RefBranchDaIdeal.nD Cert.RefBranchDaIdeal.τ Cert.RefBranchDaIdeal.sig) → Buf (Elt Ideal) ℓ) (g : Dev Cert.RefBranchDaIdeal.nD → PrngReg), Pre_RefBranchDaIdeal m →
    θ_run (Cert.RefBranchDaIdeal.defs (F := Ideal)) (onTc (τ := Cert.RefBranchDaIdeal.τ) (Cert.RefBranchDaIdeal.main (F := Ideal))) ⟨m, fun _ => 0, g⟩ (fun r => (∀ c : Dev Cert.RefBranchDaIdeal.nD,
      r.2.mem ((c.tc : Thread Cert.RefBranchDaIdeal.nD Cert.RefBranchDaIdeal.τ).loc Cert.RefBranchDaIdeal.main_arg0) = m ((c.tc : Thread Cert.RefBranchDaIdeal.nD Cert.RefBranchDaIdeal.τ).loc Cert.RefBranchDaIdeal.main_arg0)
      ∧ r.2.mem ((c.tc : Thread Cert.RefBranchDaIdeal.nD Cert.RefBranchDaIdeal.τ).loc Cert.RefBranchDaIdeal.main_arg1) = m ((c.tc : Thread Cert.RefBranchDaIdeal.nD Cert.RefBranchDaIdeal.τ).loc Cert.RefBranchDaIdeal.main_arg1)
      ∧ r.2.mem ((c.tc : Thread Cert.RefBranchDaIdeal.nD Cert.RefBranchDaIdeal.τ).loc Cert.RefBranchDaIdeal.main_arg2) = m ((c.tc : Thread Cert.RefBranchDaIdeal.nD Cert.RefBranchDaIdeal.τ).loc Cert.RefBranchDaIdeal.main_arg2))
      ∧ r.2.sem = fun _ => 0)

def quiescent_BranchDb [hBranchDb : Cert.BranchDb.Facts] : Prop :=
  ∀ (m : (ℓ : Loc Cert.BranchDb.nD Cert.BranchDb.τ Cert.BranchDb.sig) → Buf (Elt Bits) ℓ) (g : Dev Cert.BranchDb.nD → PrngReg), Pre_BranchDb m →
    θ_run (Cert.BranchDb.defs (F := Bits)) (onTc (τ := Cert.BranchDb.τ) (Cert.BranchDb.main (F := Bits))) ⟨m, fun _ => 0, g⟩ (fun r => (∀ c : Dev Cert.BranchDb.nD,
      r.2.mem ((c.tc : Thread Cert.BranchDb.nD Cert.BranchDb.τ).loc Cert.BranchDb.main_arg0) = m ((c.tc : Thread Cert.BranchDb.nD Cert.BranchDb.τ).loc Cert.BranchDb.main_arg0)
      ∧ r.2.mem ((c.tc : Thread Cert.BranchDb.nD Cert.BranchDb.τ).loc Cert.BranchDb.main_arg1) = m ((c.tc : Thread Cert.BranchDb.nD Cert.BranchDb.τ).loc Cert.BranchDb.main_arg1)
      ∧ r.2.mem ((c.tc : Thread Cert.BranchDb.nD Cert.BranchDb.τ).loc Cert.BranchDb.main_arg2) = m ((c.tc : Thread Cert.BranchDb.nD Cert.BranchDb.τ).loc Cert.BranchDb.main_arg2))
      ∧ r.2.sem = fun _ => 0)

def quiescent_BranchDbIdeal [hBranchDbIdeal : Cert.BranchDbIdeal.Facts] : Prop :=
  ∀ (m : (ℓ : Loc Cert.BranchDbIdeal.nD Cert.BranchDbIdeal.τ Cert.BranchDbIdeal.sig) → Buf (Elt Ideal) ℓ) (g : Dev Cert.BranchDbIdeal.nD → PrngReg), Pre_BranchDbIdeal m →
    θ_run (Cert.BranchDbIdeal.defs (F := Ideal)) (onTc (τ := Cert.BranchDbIdeal.τ) (Cert.BranchDbIdeal.main (F := Ideal))) ⟨m, fun _ => 0, g⟩ (fun r => (∀ c : Dev Cert.BranchDbIdeal.nD,
      r.2.mem ((c.tc : Thread Cert.BranchDbIdeal.nD Cert.BranchDbIdeal.τ).loc Cert.BranchDbIdeal.main_arg0) = m ((c.tc : Thread Cert.BranchDbIdeal.nD Cert.BranchDbIdeal.τ).loc Cert.BranchDbIdeal.main_arg0)
      ∧ r.2.mem ((c.tc : Thread Cert.BranchDbIdeal.nD Cert.BranchDbIdeal.τ).loc Cert.BranchDbIdeal.main_arg1) = m ((c.tc : Thread Cert.BranchDbIdeal.nD Cert.BranchDbIdeal.τ).loc Cert.BranchDbIdeal.main_arg1)
      ∧ r.2.mem ((c.tc : Thread Cert.BranchDbIdeal.nD Cert.BranchDbIdeal.τ).loc Cert.BranchDbIdeal.main_arg2) = m ((c.tc : Thread Cert.BranchDbIdeal.nD Cert.BranchDbIdeal.τ).loc Cert.BranchDbIdeal.main_arg2))
      ∧ r.2.sem = fun _ => 0)

def quiescent_RefBranchDbIdeal [hRefBranchDbIdeal : Cert.RefBranchDbIdeal.Facts] : Prop :=
  ∀ (m : (ℓ : Loc Cert.RefBranchDbIdeal.nD Cert.RefBranchDbIdeal.τ Cert.RefBranchDbIdeal.sig) → Buf (Elt Ideal) ℓ) (g : Dev Cert.RefBranchDbIdeal.nD → PrngReg), Pre_RefBranchDbIdeal m →
    θ_run (Cert.RefBranchDbIdeal.defs (F := Ideal)) (onTc (τ := Cert.RefBranchDbIdeal.τ) (Cert.RefBranchDbIdeal.main (F := Ideal))) ⟨m, fun _ => 0, g⟩ (fun r => (∀ c : Dev Cert.RefBranchDbIdeal.nD,
      r.2.mem ((c.tc : Thread Cert.RefBranchDbIdeal.nD Cert.RefBranchDbIdeal.τ).loc Cert.RefBranchDbIdeal.main_arg0) = m ((c.tc : Thread Cert.RefBranchDbIdeal.nD Cert.RefBranchDbIdeal.τ).loc Cert.RefBranchDbIdeal.main_arg0)
      ∧ r.2.mem ((c.tc : Thread Cert.RefBranchDbIdeal.nD Cert.RefBranchDbIdeal.τ).loc Cert.RefBranchDbIdeal.main_arg1) = m ((c.tc : Thread Cert.RefBranchDbIdeal.nD Cert.RefBranchDbIdeal.τ).loc Cert.RefBranchDbIdeal.main_arg1)
      ∧ r.2.mem ((c.tc : Thread Cert.RefBranchDbIdeal.nD Cert.RefBranchDbIdeal.τ).loc Cert.RefBranchDbIdeal.main_arg2) = m ((c.tc : Thread Cert.RefBranchDbIdeal.nD Cert.RefBranchDbIdeal.τ).loc Cert.RefBranchDbIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_RefNormFwdIdeal [hRefNormFwdIdeal : Cert.RefNormFwdIdeal.Facts] : Prop :=
  ∀ (m : (ℓ : Loc Cert.RefNormFwdIdeal.nD Cert.RefNormFwdIdeal.τ Cert.RefNormFwdIdeal.sig) → Buf (Elt Ideal) ℓ) (g : Dev Cert.RefNormFwdIdeal.nD → PrngReg), Pre_RefNormFwdIdeal m →
    θ_run (Cert.RefNormFwdIdeal.defs (F := Ideal)) (onTc (τ := Cert.RefNormFwdIdeal.τ) (Cert.RefNormFwdIdeal.main (F := Ideal))) ⟨m, fun _ => 0, g⟩ (fun r => (∀ c : Dev Cert.RefNormFwdIdeal.nD,
      r.2.mem ((c.tc : Thread Cert.RefNormFwdIdeal.nD Cert.RefNormFwdIdeal.τ).loc Cert.RefNormFwdIdeal.main_arg0) = m ((c.tc : Thread Cert.RefNormFwdIdeal.nD Cert.RefNormFwdIdeal.τ).loc Cert.RefNormFwdIdeal.main_arg0)
      ∧ r.2.mem ((c.tc : Thread Cert.RefNormFwdIdeal.nD Cert.RefNormFwdIdeal.τ).loc Cert.RefNormFwdIdeal.main_arg1) = m ((c.tc : Thread Cert.RefNormFwdIdeal.nD Cert.RefNormFwdIdeal.τ).loc Cert.RefNormFwdIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ r.2.sem = fun _ => 0)

def quiescent_RefNormBwdIdeal [hRefNormBwdIdeal : Cert.RefNormBwdIdeal.Facts] : Prop :=
  ∀ (m : (ℓ : Loc Cert.RefNormBwdIdeal.nD Cert.RefNormBwdIdeal.τ Cert.RefNormBwdIdeal.sig) → Buf (Elt Ideal) ℓ) (g : Dev Cert.RefNormBwdIdeal.nD → PrngReg), Pre_RefNormBwdIdeal m →
    θ_run (Cert.RefNormBwdIdeal.defs (F := Ideal)) (onTc (τ := Cert.RefNormBwdIdeal.τ) (Cert.RefNormBwdIdeal.main (F := Ideal))) ⟨m, fun _ => 0, g⟩ (fun r => (∀ c : Dev Cert.RefNormBwdIdeal.nD,
      r.2.mem ((c.tc : Thread Cert.RefNormBwdIdeal.nD Cert.RefNormBwdIdeal.τ).loc Cert.RefNormBwdIdeal.main_arg0) = m ((c.tc : Thread Cert.RefNormBwdIdeal.nD Cert.RefNormBwdIdeal.τ).loc Cert.RefNormBwdIdeal.main_arg0)
      ∧ r.2.mem ((c.tc : Thread Cert.RefNormBwdIdeal.nD Cert.RefNormBwdIdeal.τ).loc Cert.RefNormBwdIdeal.main_arg1) = m ((c.tc : Thread Cert.RefNormBwdIdeal.nD Cert.RefNormBwdIdeal.τ).loc Cert.RefNormBwdIdeal.main_arg1)
      ∧ r.2.mem ((c.tc : Thread Cert.RefNormBwdIdeal.nD Cert.RefNormBwdIdeal.τ).loc Cert.RefNormBwdIdeal.main_arg2) = m ((c.tc : Thread Cert.RefNormBwdIdeal.nD Cert.RefNormBwdIdeal.τ).loc Cert.RefNormBwdIdeal.main_arg2))
      ∧ r.2.sem = fun _ => 0)

def quiescent_RefNormBwdIdeal_pre_finite_norm [hRefNormBwdIdeal : Cert.RefNormBwdIdeal.Facts] [hPre_finite_norm : Cert.Pre_finite_norm.Facts] : Prop :=
  ∀ (m : (ℓ : Loc Cert.RefNormBwdIdeal.nD Cert.RefNormBwdIdeal.τ Cert.RefNormBwdIdeal.sig) → Buf (Elt Ideal) ℓ) (g : Dev Cert.RefNormBwdIdeal.nD → PrngReg), Pre_RefNormBwdIdeal_finite_norm m →
    θ_run (Cert.RefNormBwdIdeal.defs (F := Ideal)) (onTc (τ := Cert.RefNormBwdIdeal.τ) (Cert.RefNormBwdIdeal.main (F := Ideal))) ⟨m, fun _ => 0, g⟩ (fun r => (∀ c : Dev Cert.RefNormBwdIdeal.nD,
      r.2.mem ((c.tc : Thread Cert.RefNormBwdIdeal.nD Cert.RefNormBwdIdeal.τ).loc Cert.RefNormBwdIdeal.main_arg0) = m ((c.tc : Thread Cert.RefNormBwdIdeal.nD Cert.RefNormBwdIdeal.τ).loc Cert.RefNormBwdIdeal.main_arg0)
      ∧ r.2.mem ((c.tc : Thread Cert.RefNormBwdIdeal.nD Cert.RefNormBwdIdeal.τ).loc Cert.RefNormBwdIdeal.main_arg1) = m ((c.tc : Thread Cert.RefNormBwdIdeal.nD Cert.RefNormBwdIdeal.τ).loc Cert.RefNormBwdIdeal.main_arg1)
      ∧ r.2.mem ((c.tc : Thread Cert.RefNormBwdIdeal.nD Cert.RefNormBwdIdeal.τ).loc Cert.RefNormBwdIdeal.main_arg2) = m ((c.tc : Thread Cert.RefNormBwdIdeal.nD Cert.RefNormBwdIdeal.τ).loc Cert.RefNormBwdIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_RefLossIdeal [hRefLossIdeal : Cert.RefLossIdeal.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_RefAdamSmallIdeal [hRefAdamSmallIdeal : Cert.RefAdamSmallIdeal.Facts] : Prop :=
  ∀ (m : (ℓ : Loc Cert.RefAdamSmallIdeal.nD Cert.RefAdamSmallIdeal.τ Cert.RefAdamSmallIdeal.sig) → Buf (Elt Ideal) ℓ) (g : Dev Cert.RefAdamSmallIdeal.nD → PrngReg), Pre_RefAdamSmallIdeal m →
    θ_run (Cert.RefAdamSmallIdeal.defs (F := Ideal)) (onTc (τ := Cert.RefAdamSmallIdeal.τ) (Cert.RefAdamSmallIdeal.main (F := Ideal))) ⟨m, fun _ => 0, g⟩ (fun r => (∀ c : Dev Cert.RefAdamSmallIdeal.nD,
      r.2.mem ((c.tc : Thread Cert.RefAdamSmallIdeal.nD Cert.RefAdamSmallIdeal.τ).loc Cert.RefAdamSmallIdeal.main_arg0) = m ((c.tc : Thread Cert.RefAdamSmallIdeal.nD Cert.RefAdamSmallIdeal.τ).loc Cert.RefAdamSmallIdeal.main_arg0)
      ∧ r.2.mem ((c.tc : Thread Cert.RefAdamSmallIdeal.nD Cert.RefAdamSmallIdeal.τ).loc Cert.RefAdamSmallIdeal.main_arg1) = m ((c.tc : Thread Cert.RefAdamSmallIdeal.nD Cert.RefAdamSmallIdeal.τ).loc Cert.RefAdamSmallIdeal.main_arg1)
      ∧ r.2.mem ((c.tc : Thread Cert.RefAdamSmallIdeal.nD Cert.RefAdamSmallIdeal.τ).loc Cert.RefAdamSmallIdeal.main_arg2) = m ((c.tc : Thread Cert.RefAdamSmallIdeal.nD Cert.RefAdamSmallIdeal.τ).loc Cert.RefAdamSmallIdeal.main_arg2)
      ∧ r.2.mem ((c.tc : Thread Cert.RefAdamSmallIdeal.nD Cert.RefAdamSmallIdeal.τ).loc Cert.RefAdamSmallIdeal.main_arg3) = m ((c.tc : Thread Cert.RefAdamSmallIdeal.nD Cert.RefAdamSmallIdeal.τ).loc Cert.RefAdamSmallIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3))
      ∧ r.2.sem = fun _ => 0)

def quiescent_AdamMlpIn [hAdamMlpIn : Cert.AdamMlpIn.Facts] : Prop :=
  ∀ (m : (ℓ : Loc Cert.AdamMlpIn.nD Cert.AdamMlpIn.τ Cert.AdamMlpIn.sig) → Buf (Elt Bits) ℓ) (g : Dev Cert.AdamMlpIn.nD → PrngReg), Pre_AdamMlpIn m →
    θ_run (Cert.AdamMlpIn.defs (F := Bits)) (onTc (τ := Cert.AdamMlpIn.τ) (Cert.AdamMlpIn.main (F := Bits))) ⟨m, fun _ => 0, g⟩ (fun r => (∀ c : Dev Cert.AdamMlpIn.nD,
      r.2.mem ((c.tc : Thread Cert.AdamMlpIn.nD Cert.AdamMlpIn.τ).loc Cert.AdamMlpIn.main_arg0) = m ((c.tc : Thread Cert.AdamMlpIn.nD Cert.AdamMlpIn.τ).loc Cert.AdamMlpIn.main_arg0)
      ∧ r.2.mem ((c.tc : Thread Cert.AdamMlpIn.nD Cert.AdamMlpIn.τ).loc Cert.AdamMlpIn.main_arg1) = m ((c.tc : Thread Cert.AdamMlpIn.nD Cert.AdamMlpIn.τ).loc Cert.AdamMlpIn.main_arg1)
      ∧ r.2.mem ((c.tc : Thread Cert.AdamMlpIn.nD Cert.AdamMlpIn.τ).loc Cert.AdamMlpIn.main_arg2) = m ((c.tc : Thread Cert.AdamMlpIn.nD Cert.AdamMlpIn.τ).loc Cert.AdamMlpIn.main_arg2)
      ∧ r.2.mem ((c.tc : Thread Cert.AdamMlpIn.nD Cert.AdamMlpIn.τ).loc Cert.AdamMlpIn.main_arg3) = m ((c.tc : Thread Cert.AdamMlpIn.nD Cert.AdamMlpIn.τ).loc Cert.AdamMlpIn.main_arg3))
      ∧ r.2.sem = fun _ => 0)

def quiescent_AdamMlpInIdeal [hAdamMlpInIdeal : Cert.AdamMlpInIdeal.Facts] : Prop :=
  ∀ (m : (ℓ : Loc Cert.AdamMlpInIdeal.nD Cert.AdamMlpInIdeal.τ Cert.AdamMlpInIdeal.sig) → Buf (Elt Ideal) ℓ) (g : Dev Cert.AdamMlpInIdeal.nD → PrngReg), Pre_AdamMlpInIdeal m →
    θ_run (Cert.AdamMlpInIdeal.defs (F := Ideal)) (onTc (τ := Cert.AdamMlpInIdeal.τ) (Cert.AdamMlpInIdeal.main (F := Ideal))) ⟨m, fun _ => 0, g⟩ (fun r => (∀ c : Dev Cert.AdamMlpInIdeal.nD,
      r.2.mem ((c.tc : Thread Cert.AdamMlpInIdeal.nD Cert.AdamMlpInIdeal.τ).loc Cert.AdamMlpInIdeal.main_arg0) = m ((c.tc : Thread Cert.AdamMlpInIdeal.nD Cert.AdamMlpInIdeal.τ).loc Cert.AdamMlpInIdeal.main_arg0)
      ∧ r.2.mem ((c.tc : Thread Cert.AdamMlpInIdeal.nD Cert.AdamMlpInIdeal.τ).loc Cert.AdamMlpInIdeal.main_arg1) = m ((c.tc : Thread Cert.AdamMlpInIdeal.nD Cert.AdamMlpInIdeal.τ).loc Cert.AdamMlpInIdeal.main_arg1)
      ∧ r.2.mem ((c.tc : Thread Cert.AdamMlpInIdeal.nD Cert.AdamMlpInIdeal.τ).loc Cert.AdamMlpInIdeal.main_arg2) = m ((c.tc : Thread Cert.AdamMlpInIdeal.nD Cert.AdamMlpInIdeal.τ).loc Cert.AdamMlpInIdeal.main_arg2)
      ∧ r.2.mem ((c.tc : Thread Cert.AdamMlpInIdeal.nD Cert.AdamMlpInIdeal.τ).loc Cert.AdamMlpInIdeal.main_arg3) = m ((c.tc : Thread Cert.AdamMlpInIdeal.nD Cert.AdamMlpInIdeal.τ).loc Cert.AdamMlpInIdeal.main_arg3))
      ∧ r.2.sem = fun _ => 0)

def quiescent_RefAdamMlpInIdeal [hRefAdamMlpInIdeal : Cert.RefAdamMlpInIdeal.Facts] : Prop :=
  ∀ (m : (ℓ : Loc Cert.RefAdamMlpInIdeal.nD Cert.RefAdamMlpInIdeal.τ Cert.RefAdamMlpInIdeal.sig) → Buf (Elt Ideal) ℓ) (g : Dev Cert.RefAdamMlpInIdeal.nD → PrngReg), Pre_RefAdamMlpInIdeal m →
    θ_run (Cert.RefAdamMlpInIdeal.defs (F := Ideal)) (onTc (τ := Cert.RefAdamMlpInIdeal.τ) (Cert.RefAdamMlpInIdeal.main (F := Ideal))) ⟨m, fun _ => 0, g⟩ (fun r => (∀ c : Dev Cert.RefAdamMlpInIdeal.nD,
      r.2.mem ((c.tc : Thread Cert.RefAdamMlpInIdeal.nD Cert.RefAdamMlpInIdeal.τ).loc Cert.RefAdamMlpInIdeal.main_arg0) = m ((c.tc : Thread Cert.RefAdamMlpInIdeal.nD Cert.RefAdamMlpInIdeal.τ).loc Cert.RefAdamMlpInIdeal.main_arg0)
      ∧ r.2.mem ((c.tc : Thread Cert.RefAdamMlpInIdeal.nD Cert.RefAdamMlpInIdeal.τ).loc Cert.RefAdamMlpInIdeal.main_arg1) = m ((c.tc : Thread Cert.RefAdamMlpInIdeal.nD Cert.RefAdamMlpInIdeal.τ).loc Cert.RefAdamMlpInIdeal.main_arg1)
      ∧ r.2.mem ((c.tc : Thread Cert.RefAdamMlpInIdeal.nD Cert.RefAdamMlpInIdeal.τ).loc Cert.RefAdamMlpInIdeal.main_arg2) = m ((c.tc : Thread Cert.RefAdamMlpInIdeal.nD Cert.RefAdamMlpInIdeal.τ).loc Cert.RefAdamMlpInIdeal.main_arg2)
      ∧ r.2.mem ((c.tc : Thread Cert.RefAdamMlpInIdeal.nD Cert.RefAdamMlpInIdeal.τ).loc Cert.RefAdamMlpInIdeal.main_arg3) = m ((c.tc : Thread Cert.RefAdamMlpInIdeal.nD Cert.RefAdamMlpInIdeal.τ).loc Cert.RefAdamMlpInIdeal.main_arg3))
      ∧ r.2.sem = fun _ => 0)

def quiescent_AdamMlpOut [hAdamMlpOut : Cert.AdamMlpOut.Facts] : Prop :=
  ∀ (m : (ℓ : Loc Cert.AdamMlpOut.nD Cert.AdamMlpOut.τ Cert.AdamMlpOut.sig) → Buf (Elt Bits) ℓ) (g : Dev Cert.AdamMlpOut.nD → PrngReg), Pre_AdamMlpOut m →
    θ_run (Cert.AdamMlpOut.defs (F := Bits)) (onTc (τ := Cert.AdamMlpOut.τ) (Cert.AdamMlpOut.main (F := Bits))) ⟨m, fun _ => 0, g⟩ (fun r => (∀ c : Dev Cert.AdamMlpOut.nD,
      r.2.mem ((c.tc : Thread Cert.AdamMlpOut.nD Cert.AdamMlpOut.τ).loc Cert.AdamMlpOut.main_arg0) = m ((c.tc : Thread Cert.AdamMlpOut.nD Cert.AdamMlpOut.τ).loc Cert.AdamMlpOut.main_arg0)
      ∧ r.2.mem ((c.tc : Thread Cert.AdamMlpOut.nD Cert.AdamMlpOut.τ).loc Cert.AdamMlpOut.main_arg1) = m ((c.tc : Thread Cert.AdamMlpOut.nD Cert.AdamMlpOut.τ).loc Cert.AdamMlpOut.main_arg1)
      ∧ r.2.mem ((c.tc : Thread Cert.AdamMlpOut.nD Cert.AdamMlpOut.τ).loc Cert.AdamMlpOut.main_arg2) = m ((c.tc : Thread Cert.AdamMlpOut.nD Cert.AdamMlpOut.τ).loc Cert.AdamMlpOut.main_arg2)
      ∧ r.2.mem ((c.tc : Thread Cert.AdamMlpOut.nD Cert.AdamMlpOut.τ).loc Cert.AdamMlpOut.main_arg3) = m ((c.tc : Thread Cert.AdamMlpOut.nD Cert.AdamMlpOut.τ).loc Cert.AdamMlpOut.main_arg3))
      ∧ r.2.sem = fun _ => 0)

def quiescent_AdamMlpOutIdeal [hAdamMlpOutIdeal : Cert.AdamMlpOutIdeal.Facts] : Prop :=
  ∀ (m : (ℓ : Loc Cert.AdamMlpOutIdeal.nD Cert.AdamMlpOutIdeal.τ Cert.AdamMlpOutIdeal.sig) → Buf (Elt Ideal) ℓ) (g : Dev Cert.AdamMlpOutIdeal.nD → PrngReg), Pre_AdamMlpOutIdeal m →
    θ_run (Cert.AdamMlpOutIdeal.defs (F := Ideal)) (onTc (τ := Cert.AdamMlpOutIdeal.τ) (Cert.AdamMlpOutIdeal.main (F := Ideal))) ⟨m, fun _ => 0, g⟩ (fun r => (∀ c : Dev Cert.AdamMlpOutIdeal.nD,
      r.2.mem ((c.tc : Thread Cert.AdamMlpOutIdeal.nD Cert.AdamMlpOutIdeal.τ).loc Cert.AdamMlpOutIdeal.main_arg0) = m ((c.tc : Thread Cert.AdamMlpOutIdeal.nD Cert.AdamMlpOutIdeal.τ).loc Cert.AdamMlpOutIdeal.main_arg0)
      ∧ r.2.mem ((c.tc : Thread Cert.AdamMlpOutIdeal.nD Cert.AdamMlpOutIdeal.τ).loc Cert.AdamMlpOutIdeal.main_arg1) = m ((c.tc : Thread Cert.AdamMlpOutIdeal.nD Cert.AdamMlpOutIdeal.τ).loc Cert.AdamMlpOutIdeal.main_arg1)
      ∧ r.2.mem ((c.tc : Thread Cert.AdamMlpOutIdeal.nD Cert.AdamMlpOutIdeal.τ).loc Cert.AdamMlpOutIdeal.main_arg2) = m ((c.tc : Thread Cert.AdamMlpOutIdeal.nD Cert.AdamMlpOutIdeal.τ).loc Cert.AdamMlpOutIdeal.main_arg2)
      ∧ r.2.mem ((c.tc : Thread Cert.AdamMlpOutIdeal.nD Cert.AdamMlpOutIdeal.τ).loc Cert.AdamMlpOutIdeal.main_arg3) = m ((c.tc : Thread Cert.AdamMlpOutIdeal.nD Cert.AdamMlpOutIdeal.τ).loc Cert.AdamMlpOutIdeal.main_arg3))
      ∧ r.2.sem = fun _ => 0)

def quiescent_RefAdamMlpOutIdeal [hRefAdamMlpOutIdeal : Cert.RefAdamMlpOutIdeal.Facts] : Prop :=
  ∀ (m : (ℓ : Loc Cert.RefAdamMlpOutIdeal.nD Cert.RefAdamMlpOutIdeal.τ Cert.RefAdamMlpOutIdeal.sig) → Buf (Elt Ideal) ℓ) (g : Dev Cert.RefAdamMlpOutIdeal.nD → PrngReg), Pre_RefAdamMlpOutIdeal m →
    θ_run (Cert.RefAdamMlpOutIdeal.defs (F := Ideal)) (onTc (τ := Cert.RefAdamMlpOutIdeal.τ) (Cert.RefAdamMlpOutIdeal.main (F := Ideal))) ⟨m, fun _ => 0, g⟩ (fun r => (∀ c : Dev Cert.RefAdamMlpOutIdeal.nD,
      r.2.mem ((c.tc : Thread Cert.RefAdamMlpOutIdeal.nD Cert.RefAdamMlpOutIdeal.τ).loc Cert.RefAdamMlpOutIdeal.main_arg0) = m ((c.tc : Thread Cert.RefAdamMlpOutIdeal.nD Cert.RefAdamMlpOutIdeal.τ).loc Cert.RefAdamMlpOutIdeal.main_arg0)
      ∧ r.2.mem ((c.tc : Thread Cert.RefAdamMlpOutIdeal.nD Cert.RefAdamMlpOutIdeal.τ).loc Cert.RefAdamMlpOutIdeal.main_arg1) = m ((c.tc : Thread Cert.RefAdamMlpOutIdeal.nD Cert.RefAdamMlpOutIdeal.τ).loc Cert.RefAdamMlpOutIdeal.main_arg1)
      ∧ r.2.mem ((c.tc : Thread Cert.RefAdamMlpOutIdeal.nD Cert.RefAdamMlpOutIdeal.τ).loc Cert.RefAdamMlpOutIdeal.main_arg2) = m ((c.tc : Thread Cert.RefAdamMlpOutIdeal.nD Cert.RefAdamMlpOutIdeal.τ).loc Cert.RefAdamMlpOutIdeal.main_arg2)
      ∧ r.2.mem ((c.tc : Thread Cert.RefAdamMlpOutIdeal.nD Cert.RefAdamMlpOutIdeal.τ).loc Cert.RefAdamMlpOutIdeal.main_arg3) = m ((c.tc : Thread Cert.RefAdamMlpOutIdeal.nD Cert.RefAdamMlpOutIdeal.τ).loc Cert.RefAdamMlpOutIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_RefAdamOutIdeal [hRefAdamOutIdeal : Cert.RefAdamOutIdeal.Facts] : Prop :=
  ∀ (m : (ℓ : Loc Cert.RefAdamOutIdeal.nD Cert.RefAdamOutIdeal.τ Cert.RefAdamOutIdeal.sig) → Buf (Elt Ideal) ℓ) (g : Dev Cert.RefAdamOutIdeal.nD → PrngReg), Pre_RefAdamOutIdeal m →
    θ_run (Cert.RefAdamOutIdeal.defs (F := Ideal)) (onTc (τ := Cert.RefAdamOutIdeal.τ) (Cert.RefAdamOutIdeal.main (F := Ideal))) ⟨m, fun _ => 0, g⟩ (fun r => (∀ c : Dev Cert.RefAdamOutIdeal.nD,
      r.2.mem ((c.tc : Thread Cert.RefAdamOutIdeal.nD Cert.RefAdamOutIdeal.τ).loc Cert.RefAdamOutIdeal.main_arg0) = m ((c.tc : Thread Cert.RefAdamOutIdeal.nD Cert.RefAdamOutIdeal.τ).loc Cert.RefAdamOutIdeal.main_arg0)
      ∧ r.2.mem ((c.tc : Thread Cert.RefAdamOutIdeal.nD Cert.RefAdamOutIdeal.τ).loc Cert.RefAdamOutIdeal.main_arg1) = m ((c.tc : Thread Cert.RefAdamOutIdeal.nD Cert.RefAdamOutIdeal.τ).loc Cert.RefAdamOutIdeal.main_arg1)
      ∧ r.2.mem ((c.tc : Thread Cert.RefAdamOutIdeal.nD Cert.RefAdamOutIdeal.τ).loc Cert.RefAdamOutIdeal.main_arg2) = m ((c.tc : Thread Cert.RefAdamOutIdeal.nD Cert.RefAdamOutIdeal.τ).loc Cert.RefAdamOutIdeal.main_arg2)
      ∧ r.2.mem ((c.tc : Thread Cert.RefAdamOutIdeal.nD Cert.RefAdamOutIdeal.τ).loc Cert.RefAdamOutIdeal.main_arg3) = m ((c.tc : Thread Cert.RefAdamOutIdeal.nD Cert.RefAdamOutIdeal.τ).loc Cert.RefAdamOutIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_RefAdamBranchIdeal [hRefAdamBranchIdeal : Cert.RefAdamBranchIdeal.Facts] : Prop :=
  ∀ (m : (ℓ : Loc Cert.RefAdamBranchIdeal.nD Cert.RefAdamBranchIdeal.τ Cert.RefAdamBranchIdeal.sig) → Buf (Elt Ideal) ℓ) (g : Dev Cert.RefAdamBranchIdeal.nD → PrngReg), Pre_RefAdamBranchIdeal m →
    θ_run (Cert.RefAdamBranchIdeal.defs (F := Ideal)) (onTc (τ := Cert.RefAdamBranchIdeal.τ) (Cert.RefAdamBranchIdeal.main (F := Ideal))) ⟨m, fun _ => 0, g⟩ (fun r => (∀ c : Dev Cert.RefAdamBranchIdeal.nD,
      r.2.mem ((c.tc : Thread Cert.RefAdamBranchIdeal.nD Cert.RefAdamBranchIdeal.τ).loc Cert.RefAdamBranchIdeal.main_arg0) = m ((c.tc : Thread Cert.RefAdamBranchIdeal.nD Cert.RefAdamBranchIdeal.τ).loc Cert.RefAdamBranchIdeal.main_arg0)
      ∧ r.2.mem ((c.tc : Thread Cert.RefAdamBranchIdeal.nD Cert.RefAdamBranchIdeal.τ).loc Cert.RefAdamBranchIdeal.main_arg1) = m ((c.tc : Thread Cert.RefAdamBranchIdeal.nD Cert.RefAdamBranchIdeal.τ).loc Cert.RefAdamBranchIdeal.main_arg1)
      ∧ r.2.mem ((c.tc : Thread Cert.RefAdamBranchIdeal.nD Cert.RefAdamBranchIdeal.τ).loc Cert.RefAdamBranchIdeal.main_arg2) = m ((c.tc : Thread Cert.RefAdamBranchIdeal.nD Cert.RefAdamBranchIdeal.τ).loc Cert.RefAdamBranchIdeal.main_arg2)
      ∧ r.2.mem ((c.tc : Thread Cert.RefAdamBranchIdeal.nD Cert.RefAdamBranchIdeal.τ).loc Cert.RefAdamBranchIdeal.main_arg3) = m ((c.tc : Thread Cert.RefAdamBranchIdeal.nD Cert.RefAdamBranchIdeal.τ).loc Cert.RefAdamBranchIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_RefAdamGluIdeal [hRefAdamGluIdeal : Cert.RefAdamGluIdeal.Facts] : Prop :=
  ∀ (m : (ℓ : Loc Cert.RefAdamGluIdeal.nD Cert.RefAdamGluIdeal.τ Cert.RefAdamGluIdeal.sig) → Buf (Elt Ideal) ℓ) (g : Dev Cert.RefAdamGluIdeal.nD → PrngReg), Pre_RefAdamGluIdeal m →
    θ_run (Cert.RefAdamGluIdeal.defs (F := Ideal)) (onTc (τ := Cert.RefAdamGluIdeal.τ) (Cert.RefAdamGluIdeal.main (F := Ideal))) ⟨m, fun _ => 0, g⟩ (fun r => (∀ c : Dev Cert.RefAdamGluIdeal.nD,
      r.2.mem ((c.tc : Thread Cert.RefAdamGluIdeal.nD Cert.RefAdamGluIdeal.τ).loc Cert.RefAdamGluIdeal.main_arg0) = m ((c.tc : Thread Cert.RefAdamGluIdeal.nD Cert.RefAdamGluIdeal.τ).loc Cert.RefAdamGluIdeal.main_arg0)
      ∧ r.2.mem ((c.tc : Thread Cert.RefAdamGluIdeal.nD Cert.RefAdamGluIdeal.τ).loc Cert.RefAdamGluIdeal.main_arg1) = m ((c.tc : Thread Cert.RefAdamGluIdeal.nD Cert.RefAdamGluIdeal.τ).loc Cert.RefAdamGluIdeal.main_arg1)
      ∧ r.2.mem ((c.tc : Thread Cert.RefAdamGluIdeal.nD Cert.RefAdamGluIdeal.τ).loc Cert.RefAdamGluIdeal.main_arg2) = m ((c.tc : Thread Cert.RefAdamGluIdeal.nD Cert.RefAdamGluIdeal.τ).loc Cert.RefAdamGluIdeal.main_arg2)
      ∧ r.2.mem ((c.tc : Thread Cert.RefAdamGluIdeal.nD Cert.RefAdamGluIdeal.τ).loc Cert.RefAdamGluIdeal.main_arg3) = m ((c.tc : Thread Cert.RefAdamGluIdeal.nD Cert.RefAdamGluIdeal.τ).loc Cert.RefAdamGluIdeal.main_arg3))
      ∧ r.2.sem = fun _ => 0)

def quiescent_AdamUq [hAdamUq : Cert.AdamUq.Facts] : Prop :=
  ∀ (m : (ℓ : Loc Cert.AdamUq.nD Cert.AdamUq.τ Cert.AdamUq.sig) → Buf (Elt Bits) ℓ) (g : Dev Cert.AdamUq.nD → PrngReg), Pre_AdamUq m →
    θ_run (Cert.AdamUq.defs (F := Bits)) (onTc (τ := Cert.AdamUq.τ) (Cert.AdamUq.main (F := Bits))) ⟨m, fun _ => 0, g⟩ (fun r => (∀ c : Dev Cert.AdamUq.nD,
      r.2.mem ((c.tc : Thread Cert.AdamUq.nD Cert.AdamUq.τ).loc Cert.AdamUq.main_arg0) = m ((c.tc : Thread Cert.AdamUq.nD Cert.AdamUq.τ).loc Cert.AdamUq.main_arg0)
      ∧ r.2.mem ((c.tc : Thread Cert.AdamUq.nD Cert.AdamUq.τ).loc Cert.AdamUq.main_arg1) = m ((c.tc : Thread Cert.AdamUq.nD Cert.AdamUq.τ).loc Cert.AdamUq.main_arg1)
      ∧ r.2.mem ((c.tc : Thread Cert.AdamUq.nD Cert.AdamUq.τ).loc Cert.AdamUq.main_arg2) = m ((c.tc : Thread Cert.AdamUq.nD Cert.AdamUq.τ).loc Cert.AdamUq.main_arg2)
      ∧ r.2.mem ((c.tc : Thread Cert.AdamUq.nD Cert.AdamUq.τ).loc Cert.AdamUq.main_arg3) = m ((c.tc : Thread Cert.AdamUq.nD Cert.AdamUq.τ).loc Cert.AdamUq.main_arg3))
      ∧ r.2.sem = fun _ => 0)

def quiescent_AdamUqIdeal [hAdamUqIdeal : Cert.AdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg), Pre_AdamUqIdeal m →
    θ_run (Cert.AdamUqIdeal.defs (F := Ideal)) (onTc (τ := Cert.AdamUqIdeal.τ) (Cert.AdamUqIdeal.main (F := Ideal))) ⟨m, fun _ => 0, g⟩ (fun r => (∀ c : Dev Cert.AdamUqIdeal.nD,
      r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
      ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
      ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
      ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ r.2.sem = fun _ => 0)

def quiescent_RefAdamUqIdeal [hRefAdamUqIdeal : Cert.RefAdamUqIdeal.Facts] : Prop :=
  ∀ (m : (ℓ : Loc Cert.RefAdamUqIdeal.nD Cert.RefAdamUqIdeal.τ Cert.RefAdamUqIdeal.sig) → Buf (Elt Ideal) ℓ) (g : Dev Cert.RefAdamUqIdeal.nD → PrngReg), Pre_RefAdamUqIdeal m →
    θ_run (Cert.RefAdamUqIdeal.defs (F := Ideal)) (onTc (τ := Cert.RefAdamUqIdeal.τ) (Cert.RefAdamUqIdeal.main (F := Ideal))) ⟨m, fun _ => 0, g⟩ (fun r => (∀ c : Dev Cert.RefAdamUqIdeal.nD,
      r.2.mem ((c.tc : Thread Cert.RefAdamUqIdeal.nD Cert.RefAdamUqIdeal.τ).loc Cert.RefAdamUqIdeal.main_arg0) = m ((c.tc : Thread Cert.RefAdamUqIdeal.nD Cert.RefAdamUqIdeal.τ).loc Cert.RefAdamUqIdeal.main_arg0)
      ∧ r.2.mem ((c.tc : Thread Cert.RefAdamUqIdeal.nD Cert.RefAdamUqIdeal.τ).loc Cert.RefAdamUqIdeal.main_arg1) = m ((c.tc : Thread Cert.RefAdamUqIdeal.nD Cert.RefAdamUqIdeal.τ).loc Cert.RefAdamUqIdeal.main_arg1)
      ∧ r.2.mem ((c.tc : Thread Cert.RefAdamUqIdeal.nD Cert.RefAdamUqIdeal.τ).loc Cert.RefAdamUqIdeal.main_arg2) = m ((c.tc : Thread Cert.RefAdamUqIdeal.nD Cert.RefAdamUqIdeal.τ).loc Cert.RefAdamUqIdeal.main_arg2)
      ∧ r.2.mem ((c.tc : Thread Cert.RefAdamUqIdeal.nD Cert.RefAdamUqIdeal.τ).loc Cert.RefAdamUqIdeal.main_arg3) = m ((c.tc : Thread Cert.RefAdamUqIdeal.nD Cert.RefAdamUqIdeal.τ).loc Cert.RefAdamUqIdeal.main_arg3))
      ∧ r.2.sem = fun _ => 0)

def quiescent_AdamUkv [hAdamUkv : Cert.AdamUkv.Facts] : Prop :=
  ∀ (m : (ℓ : Loc Cert.AdamUkv.nD Cert.AdamUkv.τ Cert.AdamUkv.sig) → Buf (Elt Bits) ℓ) (g : Dev Cert.AdamUkv.nD → PrngReg), Pre_AdamUkv m →
    θ_run (Cert.AdamUkv.defs (F := Bits)) (onTc (τ := Cert.AdamUkv.τ) (Cert.AdamUkv.main (F := Bits))) ⟨m, fun _ => 0, g⟩ (fun r => (∀ c : Dev Cert.AdamUkv.nD,
      r.2.mem ((c.tc : Thread Cert.AdamUkv.nD Cert.AdamUkv.τ).loc Cert.AdamUkv.main_arg0) = m ((c.tc : Thread Cert.AdamUkv.nD Cert.AdamUkv.τ).loc Cert.AdamUkv.main_arg0)
      ∧ r.2.mem ((c.tc : Thread Cert.AdamUkv.nD Cert.AdamUkv.τ).loc Cert.AdamUkv.main_arg1) = m ((c.tc : Thread Cert.AdamUkv.nD Cert.AdamUkv.τ).loc Cert.AdamUkv.main_arg1)
      ∧ r.2.mem ((c.tc : Thread Cert.AdamUkv.nD Cert.AdamUkv.τ).loc Cert.AdamUkv.main_arg2) = m ((c.tc : Thread Cert.AdamUkv.nD Cert.AdamUkv.τ).loc Cert.AdamUkv.main_arg2)
      ∧ r.2.mem ((c.tc : Thread Cert.AdamUkv.nD Cert.AdamUkv.τ).loc Cert.AdamUkv.main_arg3) = m ((c.tc : Thread Cert.AdamUkv.nD Cert.AdamUkv.τ).loc Cert.AdamUkv.main_arg3))
      ∧ r.2.sem = fun _ => 0)

def quiescent_AdamUkvIdeal [hAdamUkvIdeal : Cert.AdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg), Pre_AdamUkvIdeal m →
    θ_run (Cert.AdamUkvIdeal.defs (F := Ideal)) (onTc (τ := Cert.AdamUkvIdeal.τ) (Cert.AdamUkvIdeal.main (F := Ideal))) ⟨m, fun _ => 0, g⟩ (fun r => (∀ c : Dev Cert.AdamUkvIdeal.nD,
      r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
      ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
      ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
      ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ r.2.sem = fun _ => 0)

def quiescent_RefAdamUkvIdeal [hRefAdamUkvIdeal : Cert.RefAdamUkvIdeal.Facts] : Prop :=
  ∀ (m : (ℓ : Loc Cert.RefAdamUkvIdeal.nD Cert.RefAdamUkvIdeal.τ Cert.RefAdamUkvIdeal.sig) → Buf (Elt Ideal) ℓ) (g : Dev Cert.RefAdamUkvIdeal.nD → PrngReg), Pre_RefAdamUkvIdeal m →
    θ_run (Cert.RefAdamUkvIdeal.defs (F := Ideal)) (onTc (τ := Cert.RefAdamUkvIdeal.τ) (Cert.RefAdamUkvIdeal.main (F := Ideal))) ⟨m, fun _ => 0, g⟩ (fun r => (∀ c : Dev Cert.RefAdamUkvIdeal.nD,
      r.2.mem ((c.tc : Thread Cert.RefAdamUkvIdeal.nD Cert.RefAdamUkvIdeal.τ).loc Cert.RefAdamUkvIdeal.main_arg0) = m ((c.tc : Thread Cert.RefAdamUkvIdeal.nD Cert.RefAdamUkvIdeal.τ).loc Cert.RefAdamUkvIdeal.main_arg0)
      ∧ r.2.mem ((c.tc : Thread Cert.RefAdamUkvIdeal.nD Cert.RefAdamUkvIdeal.τ).loc Cert.RefAdamUkvIdeal.main_arg1) = m ((c.tc : Thread Cert.RefAdamUkvIdeal.nD Cert.RefAdamUkvIdeal.τ).loc Cert.RefAdamUkvIdeal.main_arg1)
      ∧ r.2.mem ((c.tc : Thread Cert.RefAdamUkvIdeal.nD Cert.RefAdamUkvIdeal.τ).loc Cert.RefAdamUkvIdeal.main_arg2) = m ((c.tc : Thread Cert.RefAdamUkvIdeal.nD Cert.RefAdamUkvIdeal.τ).loc Cert.RefAdamUkvIdeal.main_arg2)
      ∧ r.2.mem ((c.tc : Thread Cert.RefAdamUkvIdeal.nD Cert.RefAdamUkvIdeal.τ).loc Cert.RefAdamUkvIdeal.main_arg3) = m ((c.tc : Thread Cert.RefAdamUkvIdeal.nD Cert.RefAdamUkvIdeal.τ).loc Cert.RefAdamUkvIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_AttnFwd_AttnFwdIdeal : Prop :=
  True

def algebraic_AttnFwdIdeal_RefAttnFwdIdeal_pre_finite_fwd [hAttnFwdIdeal : Cert.AttnFwdIdeal.Facts] [hRefAttnFwdIdeal : Cert.RefAttnFwdIdeal.Facts] [hPre_finite_fwd : Cert.Pre_finite_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.RefAttnFwdIdeal.nD Cert.RefAttnFwdIdeal.τ Cert.RefAttnFwdIdeal.sig) → Buf (Elt Ideal) ℓ) (g' : Dev Cert.RefAttnFwdIdeal.nD → PrngReg), Pre_AttnFwdIdeal_finite_fwd m →
    (∀ c : Dev Cert.AttnFwdIdeal.nD,
      m' ((c.tc : Thread Cert.RefAttnFwdIdeal.nD Cert.RefAttnFwdIdeal.τ).loc Cert.RefAttnFwdIdeal.main_arg0) = m ((c.tc : Thread Cert.AttnFwdIdeal.nD Cert.AttnFwdIdeal.τ).loc Cert.AttnFwdIdeal.main_arg0)
      ∧ m' ((c.tc : Thread Cert.RefAttnFwdIdeal.nD Cert.RefAttnFwdIdeal.τ).loc Cert.RefAttnFwdIdeal.main_arg1) = m ((c.tc : Thread Cert.AttnFwdIdeal.nD Cert.AttnFwdIdeal.τ).loc Cert.AttnFwdIdeal.main_arg1)
      ∧ m' ((c.tc : Thread Cert.RefAttnFwdIdeal.nD Cert.RefAttnFwdIdeal.τ).loc Cert.RefAttnFwdIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v3_0)) (v1 : (c : Dev Cert.AttnFwdIdeal.nD) → Buf (Elt Ideal) ((c.tc : Thread Cert.AttnFwdIdeal.nD Cert.AttnFwdIdeal.τ).loc Cert.AttnFwdIdeal.main_v3_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v3_0) = v0 c
          ∧ r.2.mem ((c.tc : Thread Cert.AttnFwdIdeal.nD Cert.AttnFwdIdeal.τ).loc Cert.AttnFwdIdeal.main_v3_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.RefAttnFwdIdeal.defs (F := Ideal)) (onTc (τ := Cert.RefAttnFwdIdeal.τ) (Cert.RefAttnFwdIdeal.main (F := Ideal))) ⟨m', fun _ => 0, g'⟩ (fun r => ∀ c : Dev Cert.RefAttnFwdIdeal.nD,
          r.2.mem ((c.tc : Thread Cert.RefAttnFwdIdeal.nD Cert.RefAttnFwdIdeal.τ).loc Cert.RefAttnFwdIdeal.main_v19) = v0 c
          ∧ r.2.mem ((c.tc : Thread Cert.RefAttnFwdIdeal.nD Cert.RefAttnFwdIdeal.τ).loc Cert.RefAttnFwdIdeal.main_v23) = v1 c
          ∧ r.2.mem ((c.tc : Thread Cert.RefAttnFwdIdeal.nD Cert.RefAttnFwdIdeal.τ).loc Cert.RefAttnFwdIdeal.main_arg0) = m' ((c.tc : Thread Cert.RefAttnFwdIdeal.nD Cert.RefAttnFwdIdeal.τ).loc Cert.RefAttnFwdIdeal.main_arg0)
          ∧ r.2.mem ((c.tc : Thread Cert.RefAttnFwdIdeal.nD Cert.RefAttnFwdIdeal.τ).loc Cert.RefAttnFwdIdeal.main_arg1) = m' ((c.tc : Thread Cert.RefAttnFwdIdeal.nD Cert.RefAttnFwdIdeal.τ).loc Cert.RefAttnFwdIdeal.main_arg1)
          ∧ r.2.mem ((c.tc : Thread Cert.RefAttnFwdIdeal.nD Cert.RefAttnFwdIdeal.τ).loc Cert.RefAttnFwdIdeal.main_arg2) = m' ((c.tc : Thread Cert.RefAttnFwdIdeal.nD Cert.RefAttnFwdIdeal.τ).loc Cert.RefAttnFwdIdeal.main_arg2))

def preserves_InFwd_InFwdIdeal : Prop :=
  True

def algebraic_InFwdIdeal_RefInFwdIdeal [hInFwdIdeal : Cert.InFwdIdeal.Facts] [hRefInFwdIdeal : Cert.RefInFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.RefInFwdIdeal.nD Cert.RefInFwdIdeal.τ Cert.RefInFwdIdeal.sig) → Buf (Elt Ideal) ℓ) (g' : Dev Cert.RefInFwdIdeal.nD → PrngReg), Pre_InFwdIdeal m →
    (∀ c : Dev Cert.InFwdIdeal.nD,
      m' ((c.tc : Thread Cert.RefInFwdIdeal.nD Cert.RefInFwdIdeal.τ).loc Cert.RefInFwdIdeal.main_arg0) = m ((c.tc : Thread Cert.InFwdIdeal.nD Cert.InFwdIdeal.τ).loc Cert.InFwdIdeal.main_arg0)
      ∧ m' ((c.tc : Thread Cert.RefInFwdIdeal.nD Cert.RefInFwdIdeal.τ).loc Cert.RefInFwdIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v1) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.RefInFwdIdeal.defs (F := Ideal)) (onTc (τ := Cert.RefInFwdIdeal.τ) (Cert.RefInFwdIdeal.main (F := Ideal))) ⟨m', fun _ => 0, g'⟩ (fun r => ∀ c : Dev Cert.RefInFwdIdeal.nD,
          r.2.mem ((c.tc : Thread Cert.RefInFwdIdeal.nD Cert.RefInFwdIdeal.τ).loc Cert.RefInFwdIdeal.main_v0) = v0 c
          ∧ r.2.mem ((c.tc : Thread Cert.RefInFwdIdeal.nD Cert.RefInFwdIdeal.τ).loc Cert.RefInFwdIdeal.main_arg0) = m' ((c.tc : Thread Cert.RefInFwdIdeal.nD Cert.RefInFwdIdeal.τ).loc Cert.RefInFwdIdeal.main_arg0)
          ∧ r.2.mem ((c.tc : Thread Cert.RefInFwdIdeal.nD Cert.RefInFwdIdeal.τ).loc Cert.RefInFwdIdeal.main_arg1) = m' ((c.tc : Thread Cert.RefInFwdIdeal.nD Cert.RefInFwdIdeal.τ).loc Cert.RefInFwdIdeal.main_arg1))

def preserves_InDa_InDaIdeal : Prop :=
  True

def algebraic_InDaIdeal_RefInDaIdeal [hInDaIdeal : Cert.InDaIdeal.Facts] [hRefInDaIdeal : Cert.RefInDaIdeal.Facts] : Prop :=
  ∀ (m : (ℓ : Loc Cert.InDaIdeal.nD Cert.InDaIdeal.τ Cert.InDaIdeal.sig) → Buf (Elt Ideal) ℓ) (g : Dev Cert.InDaIdeal.nD → PrngReg)
    (m' : (ℓ : Loc Cert.RefInDaIdeal.nD Cert.RefInDaIdeal.τ Cert.RefInDaIdeal.sig) → Buf (Elt Ideal) ℓ) (g' : Dev Cert.RefInDaIdeal.nD → PrngReg), Pre_InDaIdeal m →
    (∀ c : Dev Cert.InDaIdeal.nD,
      m' ((c.tc : Thread Cert.RefInDaIdeal.nD Cert.RefInDaIdeal.τ).loc Cert.RefInDaIdeal.main_arg0) = m ((c.tc : Thread Cert.InDaIdeal.nD Cert.InDaIdeal.τ).loc Cert.InDaIdeal.main_arg0)
      ∧ m' ((c.tc : Thread Cert.RefInDaIdeal.nD Cert.RefInDaIdeal.τ).loc Cert.RefInDaIdeal.main_arg1) = m ((c.tc : Thread Cert.InDaIdeal.nD Cert.InDaIdeal.τ).loc Cert.InDaIdeal.main_arg1)
      ∧ m' ((c.tc : Thread Cert.RefInDaIdeal.nD Cert.RefInDaIdeal.τ).loc Cert.RefInDaIdeal.main_arg2) = m ((c.tc : Thread Cert.InDaIdeal.nD Cert.InDaIdeal.τ).loc Cert.InDaIdeal.main_arg2)) →
    ∃ (v0 : (c : Dev Cert.InDaIdeal.nD) → Buf (Elt Ideal) ((c.tc : Thread Cert.InDaIdeal.nD Cert.InDaIdeal.τ).loc Cert.InDaIdeal.main_v1)),
      θ_run (Cert.InDaIdeal.defs (F := Ideal)) (onTc (τ := Cert.InDaIdeal.τ) (Cert.InDaIdeal.main (F := Ideal))) ⟨m, fun _ => 0, g⟩ (fun r => ∀ c : Dev Cert.InDaIdeal.nD,
          r.2.mem ((c.tc : Thread Cert.InDaIdeal.nD Cert.InDaIdeal.τ).loc Cert.InDaIdeal.main_v1) = v0 c
          ∧ r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
          ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
          ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2))
      ∧ θ_run (Cert.RefInDaIdeal.defs (F := Ideal)) (onTc (τ := Cert.RefInDaIdeal.τ) (Cert.RefInDaIdeal.main (F := Ideal))) ⟨m', fun _ => 0, g'⟩ (fun r => ∀ c : Dev Cert.RefInDaIdeal.nD,
          r.2.mem ((c.tc : Thread Cert.RefInDaIdeal.nD Cert.RefInDaIdeal.τ).loc Cert.RefInDaIdeal.main_v3) = v0 c
          ∧ r.2.mem ((c.tc : Thread Cert.RefInDaIdeal.nD Cert.RefInDaIdeal.τ).loc Cert.RefInDaIdeal.main_arg0) = m' ((c.tc : Thread Cert.RefInDaIdeal.nD Cert.RefInDaIdeal.τ).loc Cert.RefInDaIdeal.main_arg0)
          ∧ r.2.mem ((c.tc : Thread Cert.RefInDaIdeal.nD Cert.RefInDaIdeal.τ).loc Cert.RefInDaIdeal.main_arg1) = m' ((c.tc : Thread Cert.RefInDaIdeal.nD Cert.RefInDaIdeal.τ).loc Cert.RefInDaIdeal.main_arg1)
          ∧ r.2.mem ((c.tc : Thread Cert.RefInDaIdeal.nD Cert.RefInDaIdeal.τ).loc Cert.RefInDaIdeal.main_arg2) = m' ((c.tc : Thread Cert.RefInDaIdeal.nD Cert.RefInDaIdeal.τ).loc Cert.RefInDaIdeal.main_arg2))

def preserves_InDb_InDbIdeal : Prop :=
  True

def algebraic_InDbIdeal_RefInDbIdeal [hInDbIdeal : Cert.InDbIdeal.Facts] [hRefInDbIdeal : Cert.RefInDbIdeal.Facts] : Prop :=
  ∀ (m : (ℓ : Loc Cert.InDbIdeal.nD Cert.InDbIdeal.τ Cert.InDbIdeal.sig) → Buf (Elt Ideal) ℓ) (g : Dev Cert.InDbIdeal.nD → PrngReg)
    (m' : (ℓ : Loc Cert.RefInDbIdeal.nD Cert.RefInDbIdeal.τ Cert.RefInDbIdeal.sig) → Buf (Elt Ideal) ℓ) (g' : Dev Cert.RefInDbIdeal.nD → PrngReg), Pre_InDbIdeal m →
    (∀ c : Dev Cert.InDbIdeal.nD,
      m' ((c.tc : Thread Cert.RefInDbIdeal.nD Cert.RefInDbIdeal.τ).loc Cert.RefInDbIdeal.main_arg0) = m ((c.tc : Thread Cert.InDbIdeal.nD Cert.InDbIdeal.τ).loc Cert.InDbIdeal.main_arg0)
      ∧ m' ((c.tc : Thread Cert.RefInDbIdeal.nD Cert.RefInDbIdeal.τ).loc Cert.RefInDbIdeal.main_arg1) = m ((c.tc : Thread Cert.InDbIdeal.nD Cert.InDbIdeal.τ).loc Cert.InDbIdeal.main_arg1)
      ∧ m' ((c.tc : Thread Cert.RefInDbIdeal.nD Cert.RefInDbIdeal.τ).loc Cert.RefInDbIdeal.main_arg2) = m ((c.tc : Thread Cert.InDbIdeal.nD Cert.InDbIdeal.τ).loc Cert.InDbIdeal.main_arg2)) →
    ∃ (v0 : (c : Dev Cert.InDbIdeal.nD) → Buf (Elt Ideal) ((c.tc : Thread Cert.InDbIdeal.nD Cert.InDbIdeal.τ).loc Cert.InDbIdeal.main_v0)),
      θ_run (Cert.InDbIdeal.defs (F := Ideal)) (onTc (τ := Cert.InDbIdeal.τ) (Cert.InDbIdeal.main (F := Ideal))) ⟨m, fun _ => 0, g⟩ (fun r => ∀ c : Dev Cert.InDbIdeal.nD,
          r.2.mem ((c.tc : Thread Cert.InDbIdeal.nD Cert.InDbIdeal.τ).loc Cert.InDbIdeal.main_v0) = v0 c
          ∧ r.2.mem ((c.tc : Thread Cert.InDbIdeal.nD Cert.InDbIdeal.τ).loc Cert.InDbIdeal.main_arg0) = m ((c.tc : Thread Cert.InDbIdeal.nD Cert.InDbIdeal.τ).loc Cert.InDbIdeal.main_arg0)
          ∧ r.2.mem ((c.tc : Thread Cert.InDbIdeal.nD Cert.InDbIdeal.τ).loc Cert.InDbIdeal.main_arg1) = m ((c.tc : Thread Cert.InDbIdeal.nD Cert.InDbIdeal.τ).loc Cert.InDbIdeal.main_arg1)
          ∧ r.2.mem ((c.tc : Thread Cert.InDbIdeal.nD Cert.InDbIdeal.τ).loc Cert.InDbIdeal.main_arg2) = m ((c.tc : Thread Cert.InDbIdeal.nD Cert.InDbIdeal.τ).loc Cert.InDbIdeal.main_arg2))
      ∧ θ_run (Cert.RefInDbIdeal.defs (F := Ideal)) (onTc (τ := Cert.RefInDbIdeal.τ) (Cert.RefInDbIdeal.main (F := Ideal))) ⟨m', fun _ => 0, g'⟩ (fun r => ∀ c : Dev Cert.RefInDbIdeal.nD,
          r.2.mem ((c.tc : Thread Cert.RefInDbIdeal.nD Cert.RefInDbIdeal.τ).loc Cert.RefInDbIdeal.main_v2) = v0 c
          ∧ r.2.mem ((c.tc : Thread Cert.RefInDbIdeal.nD Cert.RefInDbIdeal.τ).loc Cert.RefInDbIdeal.main_arg0) = m' ((c.tc : Thread Cert.RefInDbIdeal.nD Cert.RefInDbIdeal.τ).loc Cert.RefInDbIdeal.main_arg0)
          ∧ r.2.mem ((c.tc : Thread Cert.RefInDbIdeal.nD Cert.RefInDbIdeal.τ).loc Cert.RefInDbIdeal.main_arg1) = m' ((c.tc : Thread Cert.RefInDbIdeal.nD Cert.RefInDbIdeal.τ).loc Cert.RefInDbIdeal.main_arg1)
          ∧ r.2.mem ((c.tc : Thread Cert.RefInDbIdeal.nD Cert.RefInDbIdeal.τ).loc Cert.RefInDbIdeal.main_arg2) = m' ((c.tc : Thread Cert.RefInDbIdeal.nD Cert.RefInDbIdeal.τ).loc Cert.RefInDbIdeal.main_arg2))

def preserves_OutFwd_OutFwdIdeal : Prop :=
  True

def algebraic_OutFwdIdeal_RefOutFwdIdeal [hOutFwdIdeal : Cert.OutFwdIdeal.Facts] [hRefOutFwdIdeal : Cert.RefOutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.RefOutFwdIdeal.nD Cert.RefOutFwdIdeal.τ Cert.RefOutFwdIdeal.sig) → Buf (Elt Ideal) ℓ) (g' : Dev Cert.RefOutFwdIdeal.nD → PrngReg), Pre_OutFwdIdeal m →
    (∀ c : Dev Cert.OutFwdIdeal.nD,
      m' ((c.tc : Thread Cert.RefOutFwdIdeal.nD Cert.RefOutFwdIdeal.τ).loc Cert.RefOutFwdIdeal.main_arg0) = m ((c.tc : Thread Cert.OutFwdIdeal.nD Cert.OutFwdIdeal.τ).loc Cert.OutFwdIdeal.main_arg0)
      ∧ m' ((c.tc : Thread Cert.RefOutFwdIdeal.nD Cert.RefOutFwdIdeal.τ).loc Cert.RefOutFwdIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v3)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v3) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.RefOutFwdIdeal.defs (F := Ideal)) (onTc (τ := Cert.RefOutFwdIdeal.τ) (Cert.RefOutFwdIdeal.main (F := Ideal))) ⟨m', fun _ => 0, g'⟩ (fun r => ∀ c : Dev Cert.RefOutFwdIdeal.nD,
          r.2.mem ((c.tc : Thread Cert.RefOutFwdIdeal.nD Cert.RefOutFwdIdeal.τ).loc Cert.RefOutFwdIdeal.main_v2) = v0 c
          ∧ r.2.mem ((c.tc : Thread Cert.RefOutFwdIdeal.nD Cert.RefOutFwdIdeal.τ).loc Cert.RefOutFwdIdeal.main_arg0) = m' ((c.tc : Thread Cert.RefOutFwdIdeal.nD Cert.RefOutFwdIdeal.τ).loc Cert.RefOutFwdIdeal.main_arg0)
          ∧ r.2.mem ((c.tc : Thread Cert.RefOutFwdIdeal.nD Cert.RefOutFwdIdeal.τ).loc Cert.RefOutFwdIdeal.main_arg1) = m' ((c.tc : Thread Cert.RefOutFwdIdeal.nD Cert.RefOutFwdIdeal.τ).loc Cert.RefOutFwdIdeal.main_arg1))

def preserves_OutDa_OutDaIdeal : Prop :=
  True

def algebraic_OutDaIdeal_RefOutDaIdeal [hOutDaIdeal : Cert.OutDaIdeal.Facts] [hRefOutDaIdeal : Cert.RefOutDaIdeal.Facts] : Prop :=
  ∀ (m : (ℓ : Loc Cert.OutDaIdeal.nD Cert.OutDaIdeal.τ Cert.OutDaIdeal.sig) → Buf (Elt Ideal) ℓ) (g : Dev Cert.OutDaIdeal.nD → PrngReg)
    (m' : (ℓ : Loc Cert.RefOutDaIdeal.nD Cert.RefOutDaIdeal.τ Cert.RefOutDaIdeal.sig) → Buf (Elt Ideal) ℓ) (g' : Dev Cert.RefOutDaIdeal.nD → PrngReg), Pre_OutDaIdeal m →
    (∀ c : Dev Cert.OutDaIdeal.nD,
      m' ((c.tc : Thread Cert.RefOutDaIdeal.nD Cert.RefOutDaIdeal.τ).loc Cert.RefOutDaIdeal.main_arg0) = m ((c.tc : Thread Cert.OutDaIdeal.nD Cert.OutDaIdeal.τ).loc Cert.OutDaIdeal.main_arg0)
      ∧ m' ((c.tc : Thread Cert.RefOutDaIdeal.nD Cert.RefOutDaIdeal.τ).loc Cert.RefOutDaIdeal.main_arg1) = m ((c.tc : Thread Cert.OutDaIdeal.nD Cert.OutDaIdeal.τ).loc Cert.OutDaIdeal.main_arg1)
      ∧ m' ((c.tc : Thread Cert.RefOutDaIdeal.nD Cert.RefOutDaIdeal.τ).loc Cert.RefOutDaIdeal.main_arg2) = m ((c.tc : Thread Cert.OutDaIdeal.nD Cert.OutDaIdeal.τ).loc Cert.OutDaIdeal.main_arg2)) →
    ∃ (v0 : (c : Dev Cert.OutDaIdeal.nD) → Buf (Elt Ideal) ((c.tc : Thread Cert.OutDaIdeal.nD Cert.OutDaIdeal.τ).loc Cert.OutDaIdeal.main_v1)),
      θ_run (Cert.OutDaIdeal.defs (F := Ideal)) (onTc (τ := Cert.OutDaIdeal.τ) (Cert.OutDaIdeal.main (F := Ideal))) ⟨m, fun _ => 0, g⟩ (fun r => ∀ c : Dev Cert.OutDaIdeal.nD,
          r.2.mem ((c.tc : Thread Cert.OutDaIdeal.nD Cert.OutDaIdeal.τ).loc Cert.OutDaIdeal.main_v1) = v0 c
          ∧ r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
          ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1)
          ∧ r.2.mem ((c.tc : Thread Cert.OutDaIdeal.nD Cert.OutDaIdeal.τ).loc Cert.OutDaIdeal.main_arg2) = m ((c.tc : Thread Cert.OutDaIdeal.nD Cert.OutDaIdeal.τ).loc Cert.OutDaIdeal.main_arg2))
      ∧ θ_run (Cert.RefOutDaIdeal.defs (F := Ideal)) (onTc (τ := Cert.RefOutDaIdeal.τ) (Cert.RefOutDaIdeal.main (F := Ideal))) ⟨m', fun _ => 0, g'⟩ (fun r => ∀ c : Dev Cert.RefOutDaIdeal.nD,
          r.2.mem ((c.tc : Thread Cert.RefOutDaIdeal.nD Cert.RefOutDaIdeal.τ).loc Cert.RefOutDaIdeal.main_v1) = v0 c
          ∧ r.2.mem ((c.tc : Thread Cert.RefOutDaIdeal.nD Cert.RefOutDaIdeal.τ).loc Cert.RefOutDaIdeal.main_arg0) = m' ((c.tc : Thread Cert.RefOutDaIdeal.nD Cert.RefOutDaIdeal.τ).loc Cert.RefOutDaIdeal.main_arg0)
          ∧ r.2.mem ((c.tc : Thread Cert.RefOutDaIdeal.nD Cert.RefOutDaIdeal.τ).loc Cert.RefOutDaIdeal.main_arg1) = m' ((c.tc : Thread Cert.RefOutDaIdeal.nD Cert.RefOutDaIdeal.τ).loc Cert.RefOutDaIdeal.main_arg1)
          ∧ r.2.mem ((c.tc : Thread Cert.RefOutDaIdeal.nD Cert.RefOutDaIdeal.τ).loc Cert.RefOutDaIdeal.main_arg2) = m' ((c.tc : Thread Cert.RefOutDaIdeal.nD Cert.RefOutDaIdeal.τ).loc Cert.RefOutDaIdeal.main_arg2))

def preserves_OutDb_OutDbIdeal : Prop :=
  True

def algebraic_OutDbIdeal_RefOutDbIdeal [hOutDbIdeal : Cert.OutDbIdeal.Facts] [hRefOutDbIdeal : Cert.RefOutDbIdeal.Facts] : Prop :=
  ∀ (m : (ℓ : Loc Cert.OutDbIdeal.nD Cert.OutDbIdeal.τ Cert.OutDbIdeal.sig) → Buf (Elt Ideal) ℓ) (g : Dev Cert.OutDbIdeal.nD → PrngReg)
    (m' : (ℓ : Loc Cert.RefOutDbIdeal.nD Cert.RefOutDbIdeal.τ Cert.RefOutDbIdeal.sig) → Buf (Elt Ideal) ℓ) (g' : Dev Cert.RefOutDbIdeal.nD → PrngReg), Pre_OutDbIdeal m →
    (∀ c : Dev Cert.OutDbIdeal.nD,
      m' ((c.tc : Thread Cert.RefOutDbIdeal.nD Cert.RefOutDbIdeal.τ).loc Cert.RefOutDbIdeal.main_arg0) = m ((c.tc : Thread Cert.OutDbIdeal.nD Cert.OutDbIdeal.τ).loc Cert.OutDbIdeal.main_arg0)
      ∧ m' ((c.tc : Thread Cert.RefOutDbIdeal.nD Cert.RefOutDbIdeal.τ).loc Cert.RefOutDbIdeal.main_arg1) = m ((c.tc : Thread Cert.OutDbIdeal.nD Cert.OutDbIdeal.τ).loc Cert.OutDbIdeal.main_arg1)
      ∧ m' ((c.tc : Thread Cert.RefOutDbIdeal.nD Cert.RefOutDbIdeal.τ).loc Cert.RefOutDbIdeal.main_arg2) = m ((c.tc : Thread Cert.OutDbIdeal.nD Cert.OutDbIdeal.τ).loc Cert.OutDbIdeal.main_arg2)) →
    ∃ (v0 : (c : Dev Cert.OutDbIdeal.nD) → Buf (Elt Ideal) ((c.tc : Thread Cert.OutDbIdeal.nD Cert.OutDbIdeal.τ).loc Cert.OutDbIdeal.main_v2)),
      θ_run (Cert.OutDbIdeal.defs (F := Ideal)) (onTc (τ := Cert.OutDbIdeal.τ) (Cert.OutDbIdeal.main (F := Ideal))) ⟨m, fun _ => 0, g⟩ (fun r => ∀ c : Dev Cert.OutDbIdeal.nD,
          r.2.mem ((c.tc : Thread Cert.OutDbIdeal.nD Cert.OutDbIdeal.τ).loc Cert.OutDbIdeal.main_v2) = v0 c
          ∧ r.2.mem ((c.tc : Thread Cert.OutDbIdeal.nD Cert.OutDbIdeal.τ).loc Cert.OutDbIdeal.main_arg0) = m ((c.tc : Thread Cert.OutDbIdeal.nD Cert.OutDbIdeal.τ).loc Cert.OutDbIdeal.main_arg0)
          ∧ r.2.mem ((c.tc : Thread Cert.OutDbIdeal.nD Cert.OutDbIdeal.τ).loc Cert.OutDbIdeal.main_arg1) = m ((c.tc : Thread Cert.OutDbIdeal.nD Cert.OutDbIdeal.τ).loc Cert.OutDbIdeal.main_arg1)
          ∧ r.2.mem ((c.tc : Thread Cert.OutDbIdeal.nD Cert.OutDbIdeal.τ).loc Cert.OutDbIdeal.main_arg2) = m ((c.tc : Thread Cert.OutDbIdeal.nD Cert.OutDbIdeal.τ).loc Cert.OutDbIdeal.main_arg2))
      ∧ θ_run (Cert.RefOutDbIdeal.defs (F := Ideal)) (onTc (τ := Cert.RefOutDbIdeal.τ) (Cert.RefOutDbIdeal.main (F := Ideal))) ⟨m', fun _ => 0, g'⟩ (fun r => ∀ c : Dev Cert.RefOutDbIdeal.nD,
          r.2.mem ((c.tc : Thread Cert.RefOutDbIdeal.nD Cert.RefOutDbIdeal.τ).loc Cert.RefOutDbIdeal.main_v4) = v0 c
          ∧ r.2.mem ((c.tc : Thread Cert.RefOutDbIdeal.nD Cert.RefOutDbIdeal.τ).loc Cert.RefOutDbIdeal.main_arg0) = m' ((c.tc : Thread Cert.RefOutDbIdeal.nD Cert.RefOutDbIdeal.τ).loc Cert.RefOutDbIdeal.main_arg0)
          ∧ r.2.mem ((c.tc : Thread Cert.RefOutDbIdeal.nD Cert.RefOutDbIdeal.τ).loc Cert.RefOutDbIdeal.main_arg1) = m' ((c.tc : Thread Cert.RefOutDbIdeal.nD Cert.RefOutDbIdeal.τ).loc Cert.RefOutDbIdeal.main_arg1)
          ∧ r.2.mem ((c.tc : Thread Cert.RefOutDbIdeal.nD Cert.RefOutDbIdeal.τ).loc Cert.RefOutDbIdeal.main_arg2) = m' ((c.tc : Thread Cert.RefOutDbIdeal.nD Cert.RefOutDbIdeal.τ).loc Cert.RefOutDbIdeal.main_arg2))

def preserves_SmallFwd_SmallFwdIdeal : Prop :=
  True

def algebraic_SmallFwdIdeal_RefSmallFwdIdeal [hSmallFwdIdeal : Cert.SmallFwdIdeal.Facts] [hRefSmallFwdIdeal : Cert.RefSmallFwdIdeal.Facts] : Prop :=
  ∀ (m : (ℓ : Loc Cert.SmallFwdIdeal.nD Cert.SmallFwdIdeal.τ Cert.SmallFwdIdeal.sig) → Buf (Elt Ideal) ℓ) (g : Dev Cert.SmallFwdIdeal.nD → PrngReg)
    (m' : (ℓ : Loc Cert.RefSmallFwdIdeal.nD Cert.RefSmallFwdIdeal.τ Cert.RefSmallFwdIdeal.sig) → Buf (Elt Ideal) ℓ) (g' : Dev Cert.RefSmallFwdIdeal.nD → PrngReg), Pre_SmallFwdIdeal m →
    (∀ c : Dev Cert.SmallFwdIdeal.nD,
      m' ((c.tc : Thread Cert.RefSmallFwdIdeal.nD Cert.RefSmallFwdIdeal.τ).loc Cert.RefSmallFwdIdeal.main_arg0) = m ((c.tc : Thread Cert.SmallFwdIdeal.nD Cert.SmallFwdIdeal.τ).loc Cert.SmallFwdIdeal.main_arg0)
      ∧ m' ((c.tc : Thread Cert.RefSmallFwdIdeal.nD Cert.RefSmallFwdIdeal.τ).loc Cert.RefSmallFwdIdeal.main_arg1) = m ((c.tc : Thread Cert.SmallFwdIdeal.nD Cert.SmallFwdIdeal.τ).loc Cert.SmallFwdIdeal.main_arg1)) →
    ∃ (v0 : (c : Dev Cert.SmallFwdIdeal.nD) → Buf (Elt Ideal) ((c.tc : Thread Cert.SmallFwdIdeal.nD Cert.SmallFwdIdeal.τ).loc Cert.SmallFwdIdeal.main_v1)),
      θ_run (Cert.SmallFwdIdeal.defs (F := Ideal)) (onTc (τ := Cert.SmallFwdIdeal.τ) (Cert.SmallFwdIdeal.main (F := Ideal))) ⟨m, fun _ => 0, g⟩ (fun r => ∀ c : Dev Cert.SmallFwdIdeal.nD,
          r.2.mem ((c.tc : Thread Cert.SmallFwdIdeal.nD Cert.SmallFwdIdeal.τ).loc Cert.SmallFwdIdeal.main_v1) = v0 c
          ∧ r.2.mem ((c.tc : Thread Cert.SmallFwdIdeal.nD Cert.SmallFwdIdeal.τ).loc Cert.SmallFwdIdeal.main_arg0) = m ((c.tc : Thread Cert.SmallFwdIdeal.nD Cert.SmallFwdIdeal.τ).loc Cert.SmallFwdIdeal.main_arg0)
          ∧ r.2.mem ((c.tc : Thread Cert.SmallFwdIdeal.nD Cert.SmallFwdIdeal.τ).loc Cert.SmallFwdIdeal.main_arg1) = m ((c.tc : Thread Cert.SmallFwdIdeal.nD Cert.SmallFwdIdeal.τ).loc Cert.SmallFwdIdeal.main_arg1))
      ∧ θ_run (Cert.RefSmallFwdIdeal.defs (F := Ideal)) (onTc (τ := Cert.RefSmallFwdIdeal.τ) (Cert.RefSmallFwdIdeal.main (F := Ideal))) ⟨m', fun _ => 0, g'⟩ (fun r => ∀ c : Dev Cert.RefSmallFwdIdeal.nD,
          r.2.mem ((c.tc : Thread Cert.RefSmallFwdIdeal.nD Cert.RefSmallFwdIdeal.τ).loc Cert.RefSmallFwdIdeal.main_v0) = v0 c
          ∧ r.2.mem ((c.tc : Thread Cert.RefSmallFwdIdeal.nD Cert.RefSmallFwdIdeal.τ).loc Cert.RefSmallFwdIdeal.main_arg0) = m' ((c.tc : Thread Cert.RefSmallFwdIdeal.nD Cert.RefSmallFwdIdeal.τ).loc Cert.RefSmallFwdIdeal.main_arg0)
          ∧ r.2.mem ((c.tc : Thread Cert.RefSmallFwdIdeal.nD Cert.RefSmallFwdIdeal.τ).loc Cert.RefSmallFwdIdeal.main_arg1) = m' ((c.tc : Thread Cert.RefSmallFwdIdeal.nD Cert.RefSmallFwdIdeal.τ).loc Cert.RefSmallFwdIdeal.main_arg1))

def preserves_SmallDa_SmallDaIdeal : Prop :=
  True

def algebraic_SmallDaIdeal_RefSmallDaIdeal [hSmallDaIdeal : Cert.SmallDaIdeal.Facts] [hRefSmallDaIdeal : Cert.RefSmallDaIdeal.Facts] : Prop :=
  ∀ (m : (ℓ : Loc Cert.SmallDaIdeal.nD Cert.SmallDaIdeal.τ Cert.SmallDaIdeal.sig) → Buf (Elt Ideal) ℓ) (g : Dev Cert.SmallDaIdeal.nD → PrngReg)
    (m' : (ℓ : Loc Cert.RefSmallDaIdeal.nD Cert.RefSmallDaIdeal.τ Cert.RefSmallDaIdeal.sig) → Buf (Elt Ideal) ℓ) (g' : Dev Cert.RefSmallDaIdeal.nD → PrngReg), Pre_SmallDaIdeal m →
    (∀ c : Dev Cert.SmallDaIdeal.nD,
      m' ((c.tc : Thread Cert.RefSmallDaIdeal.nD Cert.RefSmallDaIdeal.τ).loc Cert.RefSmallDaIdeal.main_arg0) = m ((c.tc : Thread Cert.SmallDaIdeal.nD Cert.SmallDaIdeal.τ).loc Cert.SmallDaIdeal.main_arg0)
      ∧ m' ((c.tc : Thread Cert.RefSmallDaIdeal.nD Cert.RefSmallDaIdeal.τ).loc Cert.RefSmallDaIdeal.main_arg1) = m ((c.tc : Thread Cert.SmallDaIdeal.nD Cert.SmallDaIdeal.τ).loc Cert.SmallDaIdeal.main_arg1)
      ∧ m' ((c.tc : Thread Cert.RefSmallDaIdeal.nD Cert.RefSmallDaIdeal.τ).loc Cert.RefSmallDaIdeal.main_arg2) = m ((c.tc : Thread Cert.SmallDaIdeal.nD Cert.SmallDaIdeal.τ).loc Cert.SmallDaIdeal.main_arg2)) →
    ∃ (v0 : (c : Dev Cert.SmallDaIdeal.nD) → Buf (Elt Ideal) ((c.tc : Thread Cert.SmallDaIdeal.nD Cert.SmallDaIdeal.τ).loc Cert.SmallDaIdeal.main_v1)),
      θ_run (Cert.SmallDaIdeal.defs (F := Ideal)) (onTc (τ := Cert.SmallDaIdeal.τ) (Cert.SmallDaIdeal.main (F := Ideal))) ⟨m, fun _ => 0, g⟩ (fun r => ∀ c : Dev Cert.SmallDaIdeal.nD,
          r.2.mem ((c.tc : Thread Cert.SmallDaIdeal.nD Cert.SmallDaIdeal.τ).loc Cert.SmallDaIdeal.main_v1) = v0 c
          ∧ r.2.mem ((c.tc : Thread Cert.SmallDaIdeal.nD Cert.SmallDaIdeal.τ).loc Cert.SmallDaIdeal.main_arg0) = m ((c.tc : Thread Cert.SmallDaIdeal.nD Cert.SmallDaIdeal.τ).loc Cert.SmallDaIdeal.main_arg0)
          ∧ r.2.mem ((c.tc : Thread Cert.SmallDaIdeal.nD Cert.SmallDaIdeal.τ).loc Cert.SmallDaIdeal.main_arg1) = m ((c.tc : Thread Cert.SmallDaIdeal.nD Cert.SmallDaIdeal.τ).loc Cert.SmallDaIdeal.main_arg1)
          ∧ r.2.mem ((c.tc : Thread Cert.SmallDaIdeal.nD Cert.SmallDaIdeal.τ).loc Cert.SmallDaIdeal.main_arg2) = m ((c.tc : Thread Cert.SmallDaIdeal.nD Cert.SmallDaIdeal.τ).loc Cert.SmallDaIdeal.main_arg2))
      ∧ θ_run (Cert.RefSmallDaIdeal.defs (F := Ideal)) (onTc (τ := Cert.RefSmallDaIdeal.τ) (Cert.RefSmallDaIdeal.main (F := Ideal))) ⟨m', fun _ => 0, g'⟩ (fun r => ∀ c : Dev Cert.RefSmallDaIdeal.nD,
          r.2.mem ((c.tc : Thread Cert.RefSmallDaIdeal.nD Cert.RefSmallDaIdeal.τ).loc Cert.RefSmallDaIdeal.main_v3) = v0 c
          ∧ r.2.mem ((c.tc : Thread Cert.RefSmallDaIdeal.nD Cert.RefSmallDaIdeal.τ).loc Cert.RefSmallDaIdeal.main_arg0) = m' ((c.tc : Thread Cert.RefSmallDaIdeal.nD Cert.RefSmallDaIdeal.τ).loc Cert.RefSmallDaIdeal.main_arg0)
          ∧ r.2.mem ((c.tc : Thread Cert.RefSmallDaIdeal.nD Cert.RefSmallDaIdeal.τ).loc Cert.RefSmallDaIdeal.main_arg1) = m' ((c.tc : Thread Cert.RefSmallDaIdeal.nD Cert.RefSmallDaIdeal.τ).loc Cert.RefSmallDaIdeal.main_arg1)
          ∧ r.2.mem ((c.tc : Thread Cert.RefSmallDaIdeal.nD Cert.RefSmallDaIdeal.τ).loc Cert.RefSmallDaIdeal.main_arg2) = m' ((c.tc : Thread Cert.RefSmallDaIdeal.nD Cert.RefSmallDaIdeal.τ).loc Cert.RefSmallDaIdeal.main_arg2))

def preserves_SmallDb_SmallDbIdeal : Prop :=
  True

def algebraic_SmallDbIdeal_RefSmallDbIdeal [hSmallDbIdeal : Cert.SmallDbIdeal.Facts] [hRefSmallDbIdeal : Cert.RefSmallDbIdeal.Facts] : Prop :=
  ∀ (m : (ℓ : Loc Cert.SmallDbIdeal.nD Cert.SmallDbIdeal.τ Cert.SmallDbIdeal.sig) → Buf (Elt Ideal) ℓ) (g : Dev Cert.SmallDbIdeal.nD → PrngReg)
    (m' : (ℓ : Loc Cert.RefSmallDbIdeal.nD Cert.RefSmallDbIdeal.τ Cert.RefSmallDbIdeal.sig) → Buf (Elt Ideal) ℓ) (g' : Dev Cert.RefSmallDbIdeal.nD → PrngReg), Pre_SmallDbIdeal m →
    (∀ c : Dev Cert.SmallDbIdeal.nD,
      m' ((c.tc : Thread Cert.RefSmallDbIdeal.nD Cert.RefSmallDbIdeal.τ).loc Cert.RefSmallDbIdeal.main_arg0) = m ((c.tc : Thread Cert.SmallDbIdeal.nD Cert.SmallDbIdeal.τ).loc Cert.SmallDbIdeal.main_arg0)
      ∧ m' ((c.tc : Thread Cert.RefSmallDbIdeal.nD Cert.RefSmallDbIdeal.τ).loc Cert.RefSmallDbIdeal.main_arg1) = m ((c.tc : Thread Cert.SmallDbIdeal.nD Cert.SmallDbIdeal.τ).loc Cert.SmallDbIdeal.main_arg1)
      ∧ m' ((c.tc : Thread Cert.RefSmallDbIdeal.nD Cert.RefSmallDbIdeal.τ).loc Cert.RefSmallDbIdeal.main_arg2) = m ((c.tc : Thread Cert.SmallDbIdeal.nD Cert.SmallDbIdeal.τ).loc Cert.SmallDbIdeal.main_arg2)) →
    ∃ (v0 : (c : Dev Cert.SmallDbIdeal.nD) → Buf (Elt Ideal) ((c.tc : Thread Cert.SmallDbIdeal.nD Cert.SmallDbIdeal.τ).loc Cert.SmallDbIdeal.main_v0)),
      θ_run (Cert.SmallDbIdeal.defs (F := Ideal)) (onTc (τ := Cert.SmallDbIdeal.τ) (Cert.SmallDbIdeal.main (F := Ideal))) ⟨m, fun _ => 0, g⟩ (fun r => ∀ c : Dev Cert.SmallDbIdeal.nD,
          r.2.mem ((c.tc : Thread Cert.SmallDbIdeal.nD Cert.SmallDbIdeal.τ).loc Cert.SmallDbIdeal.main_v0) = v0 c
          ∧ r.2.mem ((c.tc : Thread Cert.SmallDbIdeal.nD Cert.SmallDbIdeal.τ).loc Cert.SmallDbIdeal.main_arg0) = m ((c.tc : Thread Cert.SmallDbIdeal.nD Cert.SmallDbIdeal.τ).loc Cert.SmallDbIdeal.main_arg0)
          ∧ r.2.mem ((c.tc : Thread Cert.SmallDbIdeal.nD Cert.SmallDbIdeal.τ).loc Cert.SmallDbIdeal.main_arg1) = m ((c.tc : Thread Cert.SmallDbIdeal.nD Cert.SmallDbIdeal.τ).loc Cert.SmallDbIdeal.main_arg1)
          ∧ r.2.mem ((c.tc : Thread Cert.SmallDbIdeal.nD Cert.SmallDbIdeal.τ).loc Cert.SmallDbIdeal.main_arg2) = m ((c.tc : Thread Cert.SmallDbIdeal.nD Cert.SmallDbIdeal.τ).loc Cert.SmallDbIdeal.main_arg2))
      ∧ θ_run (Cert.RefSmallDbIdeal.defs (F := Ideal)) (onTc (τ := Cert.RefSmallDbIdeal.τ) (Cert.RefSmallDbIdeal.main (F := Ideal))) ⟨m', fun _ => 0, g'⟩ (fun r => ∀ c : Dev Cert.RefSmallDbIdeal.nD,
          r.2.mem ((c.tc : Thread Cert.RefSmallDbIdeal.nD Cert.RefSmallDbIdeal.τ).loc Cert.RefSmallDbIdeal.main_v2) = v0 c
          ∧ r.2.mem ((c.tc : Thread Cert.RefSmallDbIdeal.nD Cert.RefSmallDbIdeal.τ).loc Cert.RefSmallDbIdeal.main_arg0) = m' ((c.tc : Thread Cert.RefSmallDbIdeal.nD Cert.RefSmallDbIdeal.τ).loc Cert.RefSmallDbIdeal.main_arg0)
          ∧ r.2.mem ((c.tc : Thread Cert.RefSmallDbIdeal.nD Cert.RefSmallDbIdeal.τ).loc Cert.RefSmallDbIdeal.main_arg1) = m' ((c.tc : Thread Cert.RefSmallDbIdeal.nD Cert.RefSmallDbIdeal.τ).loc Cert.RefSmallDbIdeal.main_arg1)
          ∧ r.2.mem ((c.tc : Thread Cert.RefSmallDbIdeal.nD Cert.RefSmallDbIdeal.τ).loc Cert.RefSmallDbIdeal.main_arg2) = m' ((c.tc : Thread Cert.RefSmallDbIdeal.nD Cert.RefSmallDbIdeal.τ).loc Cert.RefSmallDbIdeal.main_arg2))

def preserves_MergeFwd_MergeFwdIdeal : Prop :=
  True

def algebraic_MergeFwdIdeal_RefMergeFwdIdeal [hMergeFwdIdeal : Cert.MergeFwdIdeal.Facts] [hRefMergeFwdIdeal : Cert.RefMergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.RefMergeFwdIdeal.nD Cert.RefMergeFwdIdeal.τ Cert.RefMergeFwdIdeal.sig) → Buf (Elt Ideal) ℓ) (g' : Dev Cert.RefMergeFwdIdeal.nD → PrngReg), Pre_MergeFwdIdeal m →
    (∀ c : Dev Cert.MergeFwdIdeal.nD,
      m' ((c.tc : Thread Cert.RefMergeFwdIdeal.nD Cert.RefMergeFwdIdeal.τ).loc Cert.RefMergeFwdIdeal.main_arg0) = m ((c.tc : Thread Cert.MergeFwdIdeal.nD Cert.MergeFwdIdeal.τ).loc Cert.MergeFwdIdeal.main_arg0)
      ∧ m' ((c.tc : Thread Cert.RefMergeFwdIdeal.nD Cert.RefMergeFwdIdeal.τ).loc Cert.RefMergeFwdIdeal.main_arg1) = m ((c.tc : Thread Cert.MergeFwdIdeal.nD Cert.MergeFwdIdeal.τ).loc Cert.MergeFwdIdeal.main_arg1)) →
    ∃ (v0 : (c : Dev Cert.MergeFwdIdeal.nD) → Buf (Elt Ideal) ((c.tc : Thread Cert.MergeFwdIdeal.nD Cert.MergeFwdIdeal.τ).loc Cert.MergeFwdIdeal.main_v1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v1) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1))
      ∧ θ_run (Cert.RefMergeFwdIdeal.defs (F := Ideal)) (onTc (τ := Cert.RefMergeFwdIdeal.τ) (Cert.RefMergeFwdIdeal.main (F := Ideal))) ⟨m', fun _ => 0, g'⟩ (fun r => ∀ c : Dev Cert.RefMergeFwdIdeal.nD,
          r.2.mem ((c.tc : Thread Cert.RefMergeFwdIdeal.nD Cert.RefMergeFwdIdeal.τ).loc Cert.RefMergeFwdIdeal.main_v0) = v0 c
          ∧ r.2.mem ((c.tc : Thread Cert.RefMergeFwdIdeal.nD Cert.RefMergeFwdIdeal.τ).loc Cert.RefMergeFwdIdeal.main_arg0) = m' ((c.tc : Thread Cert.RefMergeFwdIdeal.nD Cert.RefMergeFwdIdeal.τ).loc Cert.RefMergeFwdIdeal.main_arg0)
          ∧ r.2.mem ((c.tc : Thread Cert.RefMergeFwdIdeal.nD Cert.RefMergeFwdIdeal.τ).loc Cert.RefMergeFwdIdeal.main_arg1) = m' ((c.tc : Thread Cert.RefMergeFwdIdeal.nD Cert.RefMergeFwdIdeal.τ).loc Cert.RefMergeFwdIdeal.main_arg1))

def preserves_MergeDa_MergeDaIdeal : Prop :=
  True

def algebraic_MergeDaIdeal_RefMergeDaIdeal [hMergeDaIdeal : Cert.MergeDaIdeal.Facts] [hRefMergeDaIdeal : Cert.RefMergeDaIdeal.Facts] : Prop :=
  ∀ (m : (ℓ : Loc Cert.MergeDaIdeal.nD Cert.MergeDaIdeal.τ Cert.MergeDaIdeal.sig) → Buf (Elt Ideal) ℓ) (g : Dev Cert.MergeDaIdeal.nD → PrngReg)
    (m' : (ℓ : Loc Cert.RefMergeDaIdeal.nD Cert.RefMergeDaIdeal.τ Cert.RefMergeDaIdeal.sig) → Buf (Elt Ideal) ℓ) (g' : Dev Cert.RefMergeDaIdeal.nD → PrngReg), Pre_MergeDaIdeal m →
    (∀ c : Dev Cert.MergeDaIdeal.nD,
      m' ((c.tc : Thread Cert.RefMergeDaIdeal.nD Cert.RefMergeDaIdeal.τ).loc Cert.RefMergeDaIdeal.main_arg0) = m ((c.tc : Thread Cert.MergeDaIdeal.nD Cert.MergeDaIdeal.τ).loc Cert.MergeDaIdeal.main_arg0)
      ∧ m' ((c.tc : Thread Cert.RefMergeDaIdeal.nD Cert.RefMergeDaIdeal.τ).loc Cert.RefMergeDaIdeal.main_arg1) = m ((c.tc : Thread Cert.MergeDaIdeal.nD Cert.MergeDaIdeal.τ).loc Cert.MergeDaIdeal.main_arg1)
      ∧ m' ((c.tc : Thread Cert.RefMergeDaIdeal.nD Cert.RefMergeDaIdeal.τ).loc Cert.RefMergeDaIdeal.main_arg2) = m ((c.tc : Thread Cert.MergeDaIdeal.nD Cert.MergeDaIdeal.τ).loc Cert.MergeDaIdeal.main_arg2)) →
    ∃ (v0 : (c : Dev Cert.MergeDaIdeal.nD) → Buf (Elt Ideal) ((c.tc : Thread Cert.MergeDaIdeal.nD Cert.MergeDaIdeal.τ).loc Cert.MergeDaIdeal.main_v1)),
      θ_run (Cert.MergeDaIdeal.defs (F := Ideal)) (onTc (τ := Cert.MergeDaIdeal.τ) (Cert.MergeDaIdeal.main (F := Ideal))) ⟨m, fun _ => 0, g⟩ (fun r => ∀ c : Dev Cert.MergeDaIdeal.nD,
          r.2.mem ((c.tc : Thread Cert.MergeDaIdeal.nD Cert.MergeDaIdeal.τ).loc Cert.MergeDaIdeal.main_v1) = v0 c
          ∧ r.2.mem ((c.tc : Thread Cert.MergeDaIdeal.nD Cert.MergeDaIdeal.τ).loc Cert.MergeDaIdeal.main_arg0) = m ((c.tc : Thread Cert.MergeDaIdeal.nD Cert.MergeDaIdeal.τ).loc Cert.MergeDaIdeal.main_arg0)
          ∧ r.2.mem ((c.tc : Thread Cert.MergeDaIdeal.nD Cert.MergeDaIdeal.τ).loc Cert.MergeDaIdeal.main_arg1) = m ((c.tc : Thread Cert.MergeDaIdeal.nD Cert.MergeDaIdeal.τ).loc Cert.MergeDaIdeal.main_arg1)
          ∧ r.2.mem ((c.tc : Thread Cert.MergeDaIdeal.nD Cert.MergeDaIdeal.τ).loc Cert.MergeDaIdeal.main_arg2) = m ((c.tc : Thread Cert.MergeDaIdeal.nD Cert.MergeDaIdeal.τ).loc Cert.MergeDaIdeal.main_arg2))
      ∧ θ_run (Cert.RefMergeDaIdeal.defs (F := Ideal)) (onTc (τ := Cert.RefMergeDaIdeal.τ) (Cert.RefMergeDaIdeal.main (F := Ideal))) ⟨m', fun _ => 0, g'⟩ (fun r => ∀ c : Dev Cert.RefMergeDaIdeal.nD,
          r.2.mem ((c.tc : Thread Cert.RefMergeDaIdeal.nD Cert.RefMergeDaIdeal.τ).loc Cert.RefMergeDaIdeal.main_v3) = v0 c
          ∧ r.2.mem ((c.tc : Thread Cert.RefMergeDaIdeal.nD Cert.RefMergeDaIdeal.τ).loc Cert.RefMergeDaIdeal.main_arg0) = m' ((c.tc : Thread Cert.RefMergeDaIdeal.nD Cert.RefMergeDaIdeal.τ).loc Cert.RefMergeDaIdeal.main_arg0)
          ∧ r.2.mem ((c.tc : Thread Cert.RefMergeDaIdeal.nD Cert.RefMergeDaIdeal.τ).loc Cert.RefMergeDaIdeal.main_arg1) = m' ((c.tc : Thread Cert.RefMergeDaIdeal.nD Cert.RefMergeDaIdeal.τ).loc Cert.RefMergeDaIdeal.main_arg1)
          ∧ r.2.mem ((c.tc : Thread Cert.RefMergeDaIdeal.nD Cert.RefMergeDaIdeal.τ).loc Cert.RefMergeDaIdeal.main_arg2) = m' ((c.tc : Thread Cert.RefMergeDaIdeal.nD Cert.RefMergeDaIdeal.τ).loc Cert.RefMergeDaIdeal.main_arg2))

def preserves_MergeDb_MergeDbIdeal : Prop :=
  True

def algebraic_MergeDbIdeal_RefMergeDbIdeal [hMergeDbIdeal : Cert.MergeDbIdeal.Facts] [hRefMergeDbIdeal : Cert.RefMergeDbIdeal.Facts] : Prop :=
  ∀ (m : (ℓ : Loc Cert.MergeDbIdeal.nD Cert.MergeDbIdeal.τ Cert.MergeDbIdeal.sig) → Buf (Elt Ideal) ℓ) (g : Dev Cert.MergeDbIdeal.nD → PrngReg)
    (m' : (ℓ : Loc Cert.RefMergeDbIdeal.nD Cert.RefMergeDbIdeal.τ Cert.RefMergeDbIdeal.sig) → Buf (Elt Ideal) ℓ) (g' : Dev Cert.RefMergeDbIdeal.nD → PrngReg), Pre_MergeDbIdeal m →
    (∀ c : Dev Cert.MergeDbIdeal.nD,
      m' ((c.tc : Thread Cert.RefMergeDbIdeal.nD Cert.RefMergeDbIdeal.τ).loc Cert.RefMergeDbIdeal.main_arg0) = m ((c.tc : Thread Cert.MergeDbIdeal.nD Cert.MergeDbIdeal.τ).loc Cert.MergeDbIdeal.main_arg0)
      ∧ m' ((c.tc : Thread Cert.RefMergeDbIdeal.nD Cert.RefMergeDbIdeal.τ).loc Cert.RefMergeDbIdeal.main_arg1) = m ((c.tc : Thread Cert.MergeDbIdeal.nD Cert.MergeDbIdeal.τ).loc Cert.MergeDbIdeal.main_arg1)
      ∧ m' ((c.tc : Thread Cert.RefMergeDbIdeal.nD Cert.RefMergeDbIdeal.τ).loc Cert.RefMergeDbIdeal.main_arg2) = m ((c.tc : Thread Cert.MergeDbIdeal.nD Cert.MergeDbIdeal.τ).loc Cert.MergeDbIdeal.main_arg2)) →
    ∃ (v0 : (c : Dev Cert.MergeDbIdeal.nD) → Buf (Elt Ideal) ((c.tc : Thread Cert.MergeDbIdeal.nD Cert.MergeDbIdeal.τ).loc Cert.MergeDbIdeal.main_v0)),
      θ_run (Cert.MergeDbIdeal.defs (F := Ideal)) (onTc (τ := Cert.MergeDbIdeal.τ) (Cert.MergeDbIdeal.main (F := Ideal))) ⟨m, fun _ => 0, g⟩ (fun r => ∀ c : Dev Cert.MergeDbIdeal.nD,
          r.2.mem ((c.tc : Thread Cert.MergeDbIdeal.nD Cert.MergeDbIdeal.τ).loc Cert.MergeDbIdeal.main_v0) = v0 c
          ∧ r.2.mem ((c.tc : Thread Cert.MergeDbIdeal.nD Cert.MergeDbIdeal.τ).loc Cert.MergeDbIdeal.main_arg0) = m ((c.tc : Thread Cert.MergeDbIdeal.nD Cert.MergeDbIdeal.τ).loc Cert.MergeDbIdeal.main_arg0)
          ∧ r.2.mem ((c.tc : Thread Cert.MergeDbIdeal.nD Cert.MergeDbIdeal.τ).loc Cert.MergeDbIdeal.main_arg1) = m ((c.tc : Thread Cert.MergeDbIdeal.nD Cert.MergeDbIdeal.τ).loc Cert.MergeDbIdeal.main_arg1)
          ∧ r.2.mem ((c.tc : Thread Cert.MergeDbIdeal.nD Cert.MergeDbIdeal.τ).loc Cert.MergeDbIdeal.main_arg2) = m ((c.tc : Thread Cert.MergeDbIdeal.nD Cert.MergeDbIdeal.τ).loc Cert.MergeDbIdeal.main_arg2))
      ∧ θ_run (Cert.RefMergeDbIdeal.defs (F := Ideal)) (onTc (τ := Cert.RefMergeDbIdeal.τ) (Cert.RefMergeDbIdeal.main (F := Ideal))) ⟨m', fun _ => 0, g'⟩ (fun r => ∀ c : Dev Cert.RefMergeDbIdeal.nD,
          r.2.mem ((c.tc : Thread Cert.RefMergeDbIdeal.nD Cert.RefMergeDbIdeal.τ).loc Cert.RefMergeDbIdeal.main_v2) = v0 c
          ∧ r.2.mem ((c.tc : Thread Cert.RefMergeDbIdeal.nD Cert.RefMergeDbIdeal.τ).loc Cert.RefMergeDbIdeal.main_arg0) = m' ((c.tc : Thread Cert.RefMergeDbIdeal.nD Cert.RefMergeDbIdeal.τ).loc Cert.RefMergeDbIdeal.main_arg0)
          ∧ r.2.mem ((c.tc : Thread Cert.RefMergeDbIdeal.nD Cert.RefMergeDbIdeal.τ).loc Cert.RefMergeDbIdeal.main_arg1) = m' ((c.tc : Thread Cert.RefMergeDbIdeal.nD Cert.RefMergeDbIdeal.τ).loc Cert.RefMergeDbIdeal.main_arg1)
          ∧ r.2.mem ((c.tc : Thread Cert.RefMergeDbIdeal.nD Cert.RefMergeDbIdeal.τ).loc Cert.RefMergeDbIdeal.main_arg2) = m' ((c.tc : Thread Cert.RefMergeDbIdeal.nD Cert.RefMergeDbIdeal.τ).loc Cert.RefMergeDbIdeal.main_arg2))

def preserves_BranchFwd_BranchFwdIdeal : Prop :=
  True

def algebraic_BranchFwdIdeal_RefBranchFwdIdeal [hBranchFwdIdeal : Cert.BranchFwdIdeal.Facts] [hRefBranchFwdIdeal : Cert.RefBranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.RefBranchFwdIdeal.nD Cert.RefBranchFwdIdeal.τ Cert.RefBranchFwdIdeal.sig) → Buf (Elt Ideal) ℓ) (g' : Dev Cert.RefBranchFwdIdeal.nD → PrngReg), Pre_BranchFwdIdeal m →
    (∀ c : Dev Cert.BranchFwdIdeal.nD,
      m' ((c.tc : Thread Cert.RefBranchFwdIdeal.nD Cert.RefBranchFwdIdeal.τ).loc Cert.RefBranchFwdIdeal.main_arg0) = m ((c.tc : Thread Cert.BranchFwdIdeal.nD Cert.BranchFwdIdeal.τ).loc Cert.BranchFwdIdeal.main_arg0)
      ∧ m' ((c.tc : Thread Cert.RefBranchFwdIdeal.nD Cert.RefBranchFwdIdeal.τ).loc Cert.RefBranchFwdIdeal.main_arg1) = m ((c.tc : Thread Cert.BranchFwdIdeal.nD Cert.BranchFwdIdeal.τ).loc Cert.BranchFwdIdeal.main_arg1)) →
    ∃ (v0 : (c : Dev Cert.BranchFwdIdeal.nD) → Buf (Elt Ideal) ((c.tc : Thread Cert.BranchFwdIdeal.nD Cert.BranchFwdIdeal.τ).loc Cert.BranchFwdIdeal.main_v1)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v1) = v0 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ θ_run (Cert.RefBranchFwdIdeal.defs (F := Ideal)) (onTc (τ := Cert.RefBranchFwdIdeal.τ) (Cert.RefBranchFwdIdeal.main (F := Ideal))) ⟨m', fun _ => 0, g'⟩ (fun r => ∀ c : Dev Cert.RefBranchFwdIdeal.nD,
          r.2.mem ((c.tc : Thread Cert.RefBranchFwdIdeal.nD Cert.RefBranchFwdIdeal.τ).loc Cert.RefBranchFwdIdeal.main_v0) = v0 c
          ∧ r.2.mem ((c.tc : Thread Cert.RefBranchFwdIdeal.nD Cert.RefBranchFwdIdeal.τ).loc Cert.RefBranchFwdIdeal.main_arg0) = m' ((c.tc : Thread Cert.RefBranchFwdIdeal.nD Cert.RefBranchFwdIdeal.τ).loc Cert.RefBranchFwdIdeal.main_arg0)
          ∧ r.2.mem ((c.tc : Thread Cert.RefBranchFwdIdeal.nD Cert.RefBranchFwdIdeal.τ).loc Cert.RefBranchFwdIdeal.main_arg1) = m' ((c.tc : Thread Cert.RefBranchFwdIdeal.nD Cert.RefBranchFwdIdeal.τ).loc Cert.RefBranchFwdIdeal.main_arg1))

def preserves_BranchDa_BranchDaIdeal : Prop :=
  True

def algebraic_BranchDaIdeal_RefBranchDaIdeal [hBranchDaIdeal : Cert.BranchDaIdeal.Facts] [hRefBranchDaIdeal : Cert.RefBranchDaIdeal.Facts] : Prop :=
  ∀ (m : (ℓ : Loc Cert.BranchDaIdeal.nD Cert.BranchDaIdeal.τ Cert.BranchDaIdeal.sig) → Buf (Elt Ideal) ℓ) (g : Dev Cert.BranchDaIdeal.nD → PrngReg)
    (m' : (ℓ : Loc Cert.RefBranchDaIdeal.nD Cert.RefBranchDaIdeal.τ Cert.RefBranchDaIdeal.sig) → Buf (Elt Ideal) ℓ) (g' : Dev Cert.RefBranchDaIdeal.nD → PrngReg), Pre_BranchDaIdeal m →
    (∀ c : Dev Cert.BranchDaIdeal.nD,
      m' ((c.tc : Thread Cert.RefBranchDaIdeal.nD Cert.RefBranchDaIdeal.τ).loc Cert.RefBranchDaIdeal.main_arg0) = m ((c.tc : Thread Cert.BranchDaIdeal.nD Cert.BranchDaIdeal.τ).loc Cert.BranchDaIdeal.main_arg0)
      ∧ m' ((c.tc : Thread Cert.RefBranchDaIdeal.nD Cert.RefBranchDaIdeal.τ).loc Cert.RefBranchDaIdeal.main_arg1) = m ((c.tc : Thread Cert.BranchDaIdeal.nD Cert.BranchDaIdeal.τ).loc Cert.BranchDaIdeal.main_arg1)
      ∧ m' ((c.tc : Thread Cert.RefBranchDaIdeal.nD Cert.RefBranchDaIdeal.τ).loc Cert.RefBranchDaIdeal.main_arg2) = m ((c.tc : Thread Cert.BranchDaIdeal.nD Cert.BranchDaIdeal.τ).loc Cert.BranchDaIdeal.main_arg2)) →
    ∃ (v0 : (c : Dev Cert.BranchDaIdeal.nD) → Buf (Elt Ideal) ((c.tc : Thread Cert.BranchDaIdeal.nD Cert.BranchDaIdeal.τ).loc Cert.BranchDaIdeal.main_v1)),
      θ_run (Cert.BranchDaIdeal.defs (F := Ideal)) (onTc (τ := Cert.BranchDaIdeal.τ) (Cert.BranchDaIdeal.main (F := Ideal))) ⟨m, fun _ => 0, g⟩ (fun r => ∀ c : Dev Cert.BranchDaIdeal.nD,
          r.2.mem ((c.tc : Thread Cert.BranchDaIdeal.nD Cert.BranchDaIdeal.τ).loc Cert.BranchDaIdeal.main_v1) = v0 c
          ∧ r.2.mem ((c.tc : Thread Cert.BranchDaIdeal.nD Cert.BranchDaIdeal.τ).loc Cert.BranchDaIdeal.main_arg0) = m ((c.tc : Thread Cert.BranchDaIdeal.nD Cert.BranchDaIdeal.τ).loc Cert.BranchDaIdeal.main_arg0)
          ∧ r.2.mem ((c.tc : Thread Cert.BranchDaIdeal.nD Cert.BranchDaIdeal.τ).loc Cert.BranchDaIdeal.main_arg1) = m ((c.tc : Thread Cert.BranchDaIdeal.nD Cert.BranchDaIdeal.τ).loc Cert.BranchDaIdeal.main_arg1)
          ∧ r.2.mem ((c.tc : Thread Cert.BranchDaIdeal.nD Cert.BranchDaIdeal.τ).loc Cert.BranchDaIdeal.main_arg2) = m ((c.tc : Thread Cert.BranchDaIdeal.nD Cert.BranchDaIdeal.τ).loc Cert.BranchDaIdeal.main_arg2))
      ∧ θ_run (Cert.RefBranchDaIdeal.defs (F := Ideal)) (onTc (τ := Cert.RefBranchDaIdeal.τ) (Cert.RefBranchDaIdeal.main (F := Ideal))) ⟨m', fun _ => 0, g'⟩ (fun r => ∀ c : Dev Cert.RefBranchDaIdeal.nD,
          r.2.mem ((c.tc : Thread Cert.RefBranchDaIdeal.nD Cert.RefBranchDaIdeal.τ).loc Cert.RefBranchDaIdeal.main_v3) = v0 c
          ∧ r.2.mem ((c.tc : Thread Cert.RefBranchDaIdeal.nD Cert.RefBranchDaIdeal.τ).loc Cert.RefBranchDaIdeal.main_arg0) = m' ((c.tc : Thread Cert.RefBranchDaIdeal.nD Cert.RefBranchDaIdeal.τ).loc Cert.RefBranchDaIdeal.main_arg0)
          ∧ r.2.mem ((c.tc : Thread Cert.RefBranchDaIdeal.nD Cert.RefBranchDaIdeal.τ).loc Cert.RefBranchDaIdeal.main_arg1) = m' ((c.tc : Thread Cert.RefBranchDaIdeal.nD Cert.RefBranchDaIdeal.τ).loc Cert.RefBranchDaIdeal.main_arg1)
          ∧ r.2.mem ((c.tc : Thread Cert.RefBranchDaIdeal.nD Cert.RefBranchDaIdeal.τ).loc Cert.RefBranchDaIdeal.main_arg2) = m' ((c.tc : Thread Cert.RefBranchDaIdeal.nD Cert.RefBranchDaIdeal.τ).loc Cert.RefBranchDaIdeal.main_arg2))

def preserves_BranchDb_BranchDbIdeal : Prop :=
  True

def algebraic_BranchDbIdeal_RefBranchDbIdeal [hBranchDbIdeal : Cert.BranchDbIdeal.Facts] [hRefBranchDbIdeal : Cert.RefBranchDbIdeal.Facts] : Prop :=
  ∀ (m : (ℓ : Loc Cert.BranchDbIdeal.nD Cert.BranchDbIdeal.τ Cert.BranchDbIdeal.sig) → Buf (Elt Ideal) ℓ) (g : Dev Cert.BranchDbIdeal.nD → PrngReg)
    (m' : (ℓ : Loc Cert.RefBranchDbIdeal.nD Cert.RefBranchDbIdeal.τ Cert.RefBranchDbIdeal.sig) → Buf (Elt Ideal) ℓ) (g' : Dev Cert.RefBranchDbIdeal.nD → PrngReg), Pre_BranchDbIdeal m →
    (∀ c : Dev Cert.BranchDbIdeal.nD,
      m' ((c.tc : Thread Cert.RefBranchDbIdeal.nD Cert.RefBranchDbIdeal.τ).loc Cert.RefBranchDbIdeal.main_arg0) = m ((c.tc : Thread Cert.BranchDbIdeal.nD Cert.BranchDbIdeal.τ).loc Cert.BranchDbIdeal.main_arg0)
      ∧ m' ((c.tc : Thread Cert.RefBranchDbIdeal.nD Cert.RefBranchDbIdeal.τ).loc Cert.RefBranchDbIdeal.main_arg1) = m ((c.tc : Thread Cert.BranchDbIdeal.nD Cert.BranchDbIdeal.τ).loc Cert.BranchDbIdeal.main_arg1)
      ∧ m' ((c.tc : Thread Cert.RefBranchDbIdeal.nD Cert.RefBranchDbIdeal.τ).loc Cert.RefBranchDbIdeal.main_arg2) = m ((c.tc : Thread Cert.BranchDbIdeal.nD Cert.BranchDbIdeal.τ).loc Cert.BranchDbIdeal.main_arg2)) →
    ∃ (v0 : (c : Dev Cert.BranchDbIdeal.nD) → Buf (Elt Ideal) ((c.tc : Thread Cert.BranchDbIdeal.nD Cert.BranchDbIdeal.τ).loc Cert.BranchDbIdeal.main_v0)),
      θ_run (Cert.BranchDbIdeal.defs (F := Ideal)) (onTc (τ := Cert.BranchDbIdeal.τ) (Cert.BranchDbIdeal.main (F := Ideal))) ⟨m, fun _ => 0, g⟩ (fun r => ∀ c : Dev Cert.BranchDbIdeal.nD,
          r.2.mem ((c.tc : Thread Cert.BranchDbIdeal.nD Cert.BranchDbIdeal.τ).loc Cert.BranchDbIdeal.main_v0) = v0 c
          ∧ r.2.mem ((c.tc : Thread Cert.BranchDbIdeal.nD Cert.BranchDbIdeal.τ).loc Cert.BranchDbIdeal.main_arg0) = m ((c.tc : Thread Cert.BranchDbIdeal.nD Cert.BranchDbIdeal.τ).loc Cert.BranchDbIdeal.main_arg0)
          ∧ r.2.mem ((c.tc : Thread Cert.BranchDbIdeal.nD Cert.BranchDbIdeal.τ).loc Cert.BranchDbIdeal.main_arg1) = m ((c.tc : Thread Cert.BranchDbIdeal.nD Cert.BranchDbIdeal.τ).loc Cert.BranchDbIdeal.main_arg1)
          ∧ r.2.mem ((c.tc : Thread Cert.BranchDbIdeal.nD Cert.BranchDbIdeal.τ).loc Cert.BranchDbIdeal.main_arg2) = m ((c.tc : Thread Cert.BranchDbIdeal.nD Cert.BranchDbIdeal.τ).loc Cert.BranchDbIdeal.main_arg2))
      ∧ θ_run (Cert.RefBranchDbIdeal.defs (F := Ideal)) (onTc (τ := Cert.RefBranchDbIdeal.τ) (Cert.RefBranchDbIdeal.main (F := Ideal))) ⟨m', fun _ => 0, g'⟩ (fun r => ∀ c : Dev Cert.RefBranchDbIdeal.nD,
          r.2.mem ((c.tc : Thread Cert.RefBranchDbIdeal.nD Cert.RefBranchDbIdeal.τ).loc Cert.RefBranchDbIdeal.main_v2) = v0 c
          ∧ r.2.mem ((c.tc : Thread Cert.RefBranchDbIdeal.nD Cert.RefBranchDbIdeal.τ).loc Cert.RefBranchDbIdeal.main_arg0) = m' ((c.tc : Thread Cert.RefBranchDbIdeal.nD Cert.RefBranchDbIdeal.τ).loc Cert.RefBranchDbIdeal.main_arg0)
          ∧ r.2.mem ((c.tc : Thread Cert.RefBranchDbIdeal.nD Cert.RefBranchDbIdeal.τ).loc Cert.RefBranchDbIdeal.main_arg1) = m' ((c.tc : Thread Cert.RefBranchDbIdeal.nD Cert.RefBranchDbIdeal.τ).loc Cert.RefBranchDbIdeal.main_arg1)
          ∧ r.2.mem ((c.tc : Thread Cert.RefBranchDbIdeal.nD Cert.RefBranchDbIdeal.τ).loc Cert.RefBranchDbIdeal.main_arg2) = m' ((c.tc : Thread Cert.RefBranchDbIdeal.nD Cert.RefBranchDbIdeal.τ).loc Cert.RefBranchDbIdeal.main_arg2))

def preserves_NormFwd_NormFwdIdeal : Prop :=
  True

def algebraic_NormFwdIdeal_RefNormFwdIdeal [hNormFwdIdeal : Cert.NormFwdIdeal.Facts] [hRefNormFwdIdeal : Cert.RefNormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.RefNormFwdIdeal.nD Cert.RefNormFwdIdeal.τ Cert.RefNormFwdIdeal.sig) → Buf (Elt Ideal) ℓ) (g' : Dev Cert.RefNormFwdIdeal.nD → PrngReg), Pre_NormFwdIdeal m →
    (∀ c : Dev Cert.NormFwdIdeal.nD,
      m' ((c.tc : Thread Cert.RefNormFwdIdeal.nD Cert.RefNormFwdIdeal.τ).loc Cert.RefNormFwdIdeal.main_arg0) = m ((c.tc : Thread Cert.NormFwdIdeal.nD Cert.NormFwdIdeal.τ).loc Cert.NormFwdIdeal.main_arg0)
      ∧ m' ((c.tc : Thread Cert.RefNormFwdIdeal.nD Cert.RefNormFwdIdeal.τ).loc Cert.RefNormFwdIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.RefNormFwdIdeal.defs (F := Ideal)) (onTc (τ := Cert.RefNormFwdIdeal.τ) (Cert.RefNormFwdIdeal.main (F := Ideal))) ⟨m', fun _ => 0, g'⟩ (fun r => ∀ c : Dev Cert.RefNormFwdIdeal.nD,
          r.2.mem ((c.tc : Thread Cert.RefNormFwdIdeal.nD Cert.RefNormFwdIdeal.τ).loc Cert.RefNormFwdIdeal.main_v12) = v0 c
          ∧ r.2.mem ((c.tc : Thread Cert.RefNormFwdIdeal.nD Cert.RefNormFwdIdeal.τ).loc Cert.RefNormFwdIdeal.main_arg0) = m' ((c.tc : Thread Cert.RefNormFwdIdeal.nD Cert.RefNormFwdIdeal.τ).loc Cert.RefNormFwdIdeal.main_arg0)
          ∧ r.2.mem ((c.tc : Thread Cert.RefNormFwdIdeal.nD Cert.RefNormFwdIdeal.τ).loc Cert.RefNormFwdIdeal.main_arg1) = m' ((c.tc : Thread Cert.RefNormFwdIdeal.nD Cert.RefNormFwdIdeal.τ).loc Cert.RefNormFwdIdeal.main_arg1))

def preserves_NormBwd_NormBwdIdeal : Prop :=
  True

def algebraic_NormBwdIdeal_RefNormBwdIdeal_pre_finite_norm [hNormBwdIdeal : Cert.NormBwdIdeal.Facts] [hRefNormBwdIdeal : Cert.RefNormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.RefNormBwdIdeal.nD Cert.RefNormBwdIdeal.τ Cert.RefNormBwdIdeal.sig) → Buf (Elt Ideal) ℓ) (g' : Dev Cert.RefNormBwdIdeal.nD → PrngReg), Pre_NormBwdIdeal_finite_norm m →
    (∀ c : Dev Cert.NormBwdIdeal.nD,
      m' ((c.tc : Thread Cert.RefNormBwdIdeal.nD Cert.RefNormBwdIdeal.τ).loc Cert.RefNormBwdIdeal.main_arg0) = m ((c.tc : Thread Cert.NormBwdIdeal.nD Cert.NormBwdIdeal.τ).loc Cert.NormBwdIdeal.main_arg0)
      ∧ m' ((c.tc : Thread Cert.RefNormBwdIdeal.nD Cert.RefNormBwdIdeal.τ).loc Cert.RefNormBwdIdeal.main_arg1) = m ((c.tc : Thread Cert.NormBwdIdeal.nD Cert.NormBwdIdeal.τ).loc Cert.NormBwdIdeal.main_arg1)
      ∧ m' ((c.tc : Thread Cert.RefNormBwdIdeal.nD Cert.RefNormBwdIdeal.τ).loc Cert.RefNormBwdIdeal.main_arg2) = m ((c.tc : Thread Cert.NormBwdIdeal.nD Cert.NormBwdIdeal.τ).loc Cert.NormBwdIdeal.main_arg2)) →
    ∃ (v0 : (c : Dev Cert.NormBwdIdeal.nD) → Buf (Elt Ideal) ((c.tc : Thread Cert.NormBwdIdeal.nD Cert.NormBwdIdeal.τ).loc Cert.NormBwdIdeal.main_v1_0)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ θ_run (Cert.RefNormBwdIdeal.defs (F := Ideal)) (onTc (τ := Cert.RefNormBwdIdeal.τ) (Cert.RefNormBwdIdeal.main (F := Ideal))) ⟨m', fun _ => 0, g'⟩ (fun r => ∀ c : Dev Cert.RefNormBwdIdeal.nD,
          r.2.mem ((c.tc : Thread Cert.RefNormBwdIdeal.nD Cert.RefNormBwdIdeal.τ).loc Cert.RefNormBwdIdeal.main_v31) = v0 c
          ∧ r.2.mem ((c.tc : Thread Cert.RefNormBwdIdeal.nD Cert.RefNormBwdIdeal.τ).loc Cert.RefNormBwdIdeal.main_arg0) = m' ((c.tc : Thread Cert.RefNormBwdIdeal.nD Cert.RefNormBwdIdeal.τ).loc Cert.RefNormBwdIdeal.main_arg0)
          ∧ r.2.mem ((c.tc : Thread Cert.RefNormBwdIdeal.nD Cert.RefNormBwdIdeal.τ).loc Cert.RefNormBwdIdeal.main_arg1) = m' ((c.tc : Thread Cert.RefNormBwdIdeal.nD Cert.RefNormBwdIdeal.τ).loc Cert.RefNormBwdIdeal.main_arg1)
          ∧ r.2.mem ((c.tc : Thread Cert.RefNormBwdIdeal.nD Cert.RefNormBwdIdeal.τ).loc Cert.RefNormBwdIdeal.main_arg2) = m' ((c.tc : Thread Cert.RefNormBwdIdeal.nD Cert.RefNormBwdIdeal.τ).loc Cert.RefNormBwdIdeal.main_arg2))

def preserves_Loss_LossIdeal : Prop :=
  True

def algebraic_LossIdeal_RefLossIdeal [hLossIdeal : Cert.LossIdeal.Facts] [hRefLossIdeal : Cert.RefLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RefLossIdeal.nD Cert.RefLossIdeal.τ Cert.RefLossIdeal.sig) → Buf (Elt Ideal) ℓ) (g' : Dev Cert.RefLossIdeal.nD → PrngReg), Pre_LossIdeal m →
    (∀ c : Dev Cert.LossIdeal.nD,
      m' ((c.tc : Thread Cert.RefLossIdeal.nD Cert.RefLossIdeal.τ).loc Cert.RefLossIdeal.main_arg0) = m ((c.tc : Thread Cert.LossIdeal.nD Cert.LossIdeal.τ).loc Cert.LossIdeal.main_arg0)
      ∧ m' ((c.tc : Thread Cert.RefLossIdeal.nD Cert.RefLossIdeal.τ).loc Cert.RefLossIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.RefLossIdeal.defs (F := Ideal)) (onTc (τ := Cert.RefLossIdeal.τ) (Cert.RefLossIdeal.main (F := Ideal))) ⟨m', fun _ => 0, g'⟩ (fun r => ∀ c : Dev Cert.RefLossIdeal.nD,
          r.2.mem ((c.tc : Thread Cert.RefLossIdeal.nD Cert.RefLossIdeal.τ).loc Cert.RefLossIdeal.main_v7) = v0 c
          ∧ r.2.mem ((c.tc : Thread Cert.RefLossIdeal.nD Cert.RefLossIdeal.τ).loc Cert.RefLossIdeal.main_v22) = v1 c
          ∧ r.2.mem ((c.tc : Thread Cert.RefLossIdeal.nD Cert.RefLossIdeal.τ).loc Cert.RefLossIdeal.main_arg0) = m' ((c.tc : Thread Cert.RefLossIdeal.nD Cert.RefLossIdeal.τ).loc Cert.RefLossIdeal.main_arg0)
          ∧ r.2.mem ((c.tc : Thread Cert.RefLossIdeal.nD Cert.RefLossIdeal.τ).loc Cert.RefLossIdeal.main_arg1) = m' ((c.tc : Thread Cert.RefLossIdeal.nD Cert.RefLossIdeal.τ).loc Cert.RefLossIdeal.main_arg1))

def preserves_AdamSmall_AdamSmallIdeal : Prop :=
  True

def algebraic_AdamSmallIdeal_RefAdamSmallIdeal [hAdamSmallIdeal : Cert.AdamSmallIdeal.Facts] [hRefAdamSmallIdeal : Cert.RefAdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.RefAdamSmallIdeal.nD Cert.RefAdamSmallIdeal.τ Cert.RefAdamSmallIdeal.sig) → Buf (Elt Ideal) ℓ) (g' : Dev Cert.RefAdamSmallIdeal.nD → PrngReg), Pre_AdamSmallIdeal m →
    (∀ c : Dev Cert.AdamSmallIdeal.nD,
      m' ((c.tc : Thread Cert.RefAdamSmallIdeal.nD Cert.RefAdamSmallIdeal.τ).loc Cert.RefAdamSmallIdeal.main_arg0) = m ((c.tc : Thread Cert.AdamSmallIdeal.nD Cert.AdamSmallIdeal.τ).loc Cert.AdamSmallIdeal.main_arg0)
      ∧ m' ((c.tc : Thread Cert.RefAdamSmallIdeal.nD Cert.RefAdamSmallIdeal.τ).loc Cert.RefAdamSmallIdeal.main_arg1) = m ((c.tc : Thread Cert.AdamSmallIdeal.nD Cert.AdamSmallIdeal.τ).loc Cert.AdamSmallIdeal.main_arg1)
      ∧ m' ((c.tc : Thread Cert.RefAdamSmallIdeal.nD Cert.RefAdamSmallIdeal.τ).loc Cert.RefAdamSmallIdeal.main_arg2) = m ((c.tc : Thread Cert.AdamSmallIdeal.nD Cert.AdamSmallIdeal.τ).loc Cert.AdamSmallIdeal.main_arg2)
      ∧ m' ((c.tc : Thread Cert.RefAdamSmallIdeal.nD Cert.RefAdamSmallIdeal.τ).loc Cert.RefAdamSmallIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.RefAdamSmallIdeal.defs (F := Ideal)) (onTc (τ := Cert.RefAdamSmallIdeal.τ) (Cert.RefAdamSmallIdeal.main (F := Ideal))) ⟨m', fun _ => 0, g'⟩ (fun r => ∀ c : Dev Cert.RefAdamSmallIdeal.nD,
          r.2.mem ((c.tc : Thread Cert.RefAdamSmallIdeal.nD Cert.RefAdamSmallIdeal.τ).loc Cert.RefAdamSmallIdeal.main_v23) = v0 c
          ∧ r.2.mem ((c.tc : Thread Cert.RefAdamSmallIdeal.nD Cert.RefAdamSmallIdeal.τ).loc Cert.RefAdamSmallIdeal.main_v4) = v1 c
          ∧ r.2.mem ((c.tc : Thread Cert.RefAdamSmallIdeal.nD Cert.RefAdamSmallIdeal.τ).loc Cert.RefAdamSmallIdeal.main_v10) = v2 c
          ∧ r.2.mem ((c.tc : Thread Cert.RefAdamSmallIdeal.nD Cert.RefAdamSmallIdeal.τ).loc Cert.RefAdamSmallIdeal.main_arg0) = m' ((c.tc : Thread Cert.RefAdamSmallIdeal.nD Cert.RefAdamSmallIdeal.τ).loc Cert.RefAdamSmallIdeal.main_arg0)
          ∧ r.2.mem ((c.tc : Thread Cert.RefAdamSmallIdeal.nD Cert.RefAdamSmallIdeal.τ).loc Cert.RefAdamSmallIdeal.main_arg1) = m' ((c.tc : Thread Cert.RefAdamSmallIdeal.nD Cert.RefAdamSmallIdeal.τ).loc Cert.RefAdamSmallIdeal.main_arg1)
          ∧ r.2.mem ((c.tc : Thread Cert.RefAdamSmallIdeal.nD Cert.RefAdamSmallIdeal.τ).loc Cert.RefAdamSmallIdeal.main_arg2) = m' ((c.tc : Thread Cert.RefAdamSmallIdeal.nD Cert.RefAdamSmallIdeal.τ).loc Cert.RefAdamSmallIdeal.main_arg2)
          ∧ r.2.mem ((c.tc : Thread Cert.RefAdamSmallIdeal.nD Cert.RefAdamSmallIdeal.τ).loc Cert.RefAdamSmallIdeal.main_arg3) = m' ((c.tc : Thread Cert.RefAdamSmallIdeal.nD Cert.RefAdamSmallIdeal.τ).loc Cert.RefAdamSmallIdeal.main_arg3))

def preserves_AdamIn_AdamInIdeal : Prop :=
  True

def algebraic_AdamInIdeal_RefAdamInIdeal [hAdamInIdeal : Cert.AdamInIdeal.Facts] [hRefAdamInIdeal : Cert.RefAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_v24) = v0 c
          ∧ r.2.mem ((c.tc : Thread Cert.RefAdamInIdeal.nD Cert.RefAdamInIdeal.τ).loc Cert.RefAdamInIdeal.main_v25) = v1 c
          ∧ r.2.mem ((c.tc : Thread Cert.RefAdamInIdeal.nD Cert.RefAdamInIdeal.τ).loc Cert.RefAdamInIdeal.main_v26) = v2 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3))

def preserves_AdamMlpIn_AdamMlpInIdeal : Prop :=
  True

def algebraic_AdamMlpInIdeal_RefAdamMlpInIdeal [hAdamMlpInIdeal : Cert.AdamMlpInIdeal.Facts] [hRefAdamMlpInIdeal : Cert.RefAdamMlpInIdeal.Facts] : Prop :=
  ∀ (m : (ℓ : Loc Cert.AdamMlpInIdeal.nD Cert.AdamMlpInIdeal.τ Cert.AdamMlpInIdeal.sig) → Buf (Elt Ideal) ℓ) (g : Dev Cert.AdamMlpInIdeal.nD → PrngReg)
    (m' : (ℓ : Loc Cert.RefAdamMlpInIdeal.nD Cert.RefAdamMlpInIdeal.τ Cert.RefAdamMlpInIdeal.sig) → Buf (Elt Ideal) ℓ) (g' : Dev Cert.RefAdamMlpInIdeal.nD → PrngReg), Pre_AdamMlpInIdeal m →
    (∀ c : Dev Cert.AdamMlpInIdeal.nD,
      m' ((c.tc : Thread Cert.RefAdamMlpInIdeal.nD Cert.RefAdamMlpInIdeal.τ).loc Cert.RefAdamMlpInIdeal.main_arg0) = m ((c.tc : Thread Cert.AdamMlpInIdeal.nD Cert.AdamMlpInIdeal.τ).loc Cert.AdamMlpInIdeal.main_arg0)
      ∧ m' ((c.tc : Thread Cert.RefAdamMlpInIdeal.nD Cert.RefAdamMlpInIdeal.τ).loc Cert.RefAdamMlpInIdeal.main_arg1) = m ((c.tc : Thread Cert.AdamMlpInIdeal.nD Cert.AdamMlpInIdeal.τ).loc Cert.AdamMlpInIdeal.main_arg1)
      ∧ m' ((c.tc : Thread Cert.RefAdamMlpInIdeal.nD Cert.RefAdamMlpInIdeal.τ).loc Cert.RefAdamMlpInIdeal.main_arg2) = m ((c.tc : Thread Cert.AdamMlpInIdeal.nD Cert.AdamMlpInIdeal.τ).loc Cert.AdamMlpInIdeal.main_arg2)
      ∧ m' ((c.tc : Thread Cert.RefAdamMlpInIdeal.nD Cert.RefAdamMlpInIdeal.τ).loc Cert.RefAdamMlpInIdeal.main_arg3) = m ((c.tc : Thread Cert.AdamMlpInIdeal.nD Cert.AdamMlpInIdeal.τ).loc Cert.AdamMlpInIdeal.main_arg3)) →
    ∃ (v0 : (c : Dev Cert.AdamMlpInIdeal.nD) → Buf (Elt Ideal) ((c.tc : Thread Cert.AdamMlpInIdeal.nD Cert.AdamMlpInIdeal.τ).loc Cert.AdamMlpInIdeal.main_v4_0)) (v1 : (c : Dev Cert.AdamMlpInIdeal.nD) → Buf (Elt Ideal) ((c.tc : Thread Cert.AdamMlpInIdeal.nD Cert.AdamMlpInIdeal.τ).loc Cert.AdamMlpInIdeal.main_v4_1)) (v2 : (c : Dev Cert.AdamMlpInIdeal.nD) → Buf (Elt Ideal) ((c.tc : Thread Cert.AdamMlpInIdeal.nD Cert.AdamMlpInIdeal.τ).loc Cert.AdamMlpInIdeal.main_v4_2)),
      θ_run (Cert.AdamMlpInIdeal.defs (F := Ideal)) (onTc (τ := Cert.AdamMlpInIdeal.τ) (Cert.AdamMlpInIdeal.main (F := Ideal))) ⟨m, fun _ => 0, g⟩ (fun r => ∀ c : Dev Cert.AdamMlpInIdeal.nD,
          r.2.mem ((c.tc : Thread Cert.AdamMlpInIdeal.nD Cert.AdamMlpInIdeal.τ).loc Cert.AdamMlpInIdeal.main_v4_0) = v0 c
          ∧ r.2.mem ((c.tc : Thread Cert.AdamMlpInIdeal.nD Cert.AdamMlpInIdeal.τ).loc Cert.AdamMlpInIdeal.main_v4_1) = v1 c
          ∧ r.2.mem ((c.tc : Thread Cert.AdamMlpInIdeal.nD Cert.AdamMlpInIdeal.τ).loc Cert.AdamMlpInIdeal.main_v4_2) = v2 c
          ∧ r.2.mem ((c.tc : Thread Cert.AdamMlpInIdeal.nD Cert.AdamMlpInIdeal.τ).loc Cert.AdamMlpInIdeal.main_arg0) = m ((c.tc : Thread Cert.AdamMlpInIdeal.nD Cert.AdamMlpInIdeal.τ).loc Cert.AdamMlpInIdeal.main_arg0)
          ∧ r.2.mem ((c.tc : Thread Cert.AdamMlpInIdeal.nD Cert.AdamMlpInIdeal.τ).loc Cert.AdamMlpInIdeal.main_arg1) = m ((c.tc : Thread Cert.AdamMlpInIdeal.nD Cert.AdamMlpInIdeal.τ).loc Cert.AdamMlpInIdeal.main_arg1)
          ∧ r.2.mem ((c.tc : Thread Cert.AdamMlpInIdeal.nD Cert.AdamMlpInIdeal.τ).loc Cert.AdamMlpInIdeal.main_arg2) = m ((c.tc : Thread Cert.AdamMlpInIdeal.nD Cert.AdamMlpInIdeal.τ).loc Cert.AdamMlpInIdeal.main_arg2)
          ∧ r.2.mem ((c.tc : Thread Cert.AdamMlpInIdeal.nD Cert.AdamMlpInIdeal.τ).loc Cert.AdamMlpInIdeal.main_arg3) = m ((c.tc : Thread Cert.AdamMlpInIdeal.nD Cert.AdamMlpInIdeal.τ).loc Cert.AdamMlpInIdeal.main_arg3))
      ∧ θ_run (Cert.RefAdamMlpInIdeal.defs (F := Ideal)) (onTc (τ := Cert.RefAdamMlpInIdeal.τ) (Cert.RefAdamMlpInIdeal.main (F := Ideal))) ⟨m', fun _ => 0, g'⟩ (fun r => ∀ c : Dev Cert.RefAdamMlpInIdeal.nD,
          r.2.mem ((c.tc : Thread Cert.RefAdamMlpInIdeal.nD Cert.RefAdamMlpInIdeal.τ).loc Cert.RefAdamMlpInIdeal.main_v24) = v0 c
          ∧ r.2.mem ((c.tc : Thread Cert.RefAdamMlpInIdeal.nD Cert.RefAdamMlpInIdeal.τ).loc Cert.RefAdamMlpInIdeal.main_v25) = v1 c
          ∧ r.2.mem ((c.tc : Thread Cert.RefAdamMlpInIdeal.nD Cert.RefAdamMlpInIdeal.τ).loc Cert.RefAdamMlpInIdeal.main_v26) = v2 c
          ∧ r.2.mem ((c.tc : Thread Cert.RefAdamMlpInIdeal.nD Cert.RefAdamMlpInIdeal.τ).loc Cert.RefAdamMlpInIdeal.main_arg0) = m' ((c.tc : Thread Cert.RefAdamMlpInIdeal.nD Cert.RefAdamMlpInIdeal.τ).loc Cert.RefAdamMlpInIdeal.main_arg0)
          ∧ r.2.mem ((c.tc : Thread Cert.RefAdamMlpInIdeal.nD Cert.RefAdamMlpInIdeal.τ).loc Cert.RefAdamMlpInIdeal.main_arg1) = m' ((c.tc : Thread Cert.RefAdamMlpInIdeal.nD Cert.RefAdamMlpInIdeal.τ).loc Cert.RefAdamMlpInIdeal.main_arg1)
          ∧ r.2.mem ((c.tc : Thread Cert.RefAdamMlpInIdeal.nD Cert.RefAdamMlpInIdeal.τ).loc Cert.RefAdamMlpInIdeal.main_arg2) = m' ((c.tc : Thread Cert.RefAdamMlpInIdeal.nD Cert.RefAdamMlpInIdeal.τ).loc Cert.RefAdamMlpInIdeal.main_arg2)
          ∧ r.2.mem ((c.tc : Thread Cert.RefAdamMlpInIdeal.nD Cert.RefAdamMlpInIdeal.τ).loc Cert.RefAdamMlpInIdeal.main_arg3) = m' ((c.tc : Thread Cert.RefAdamMlpInIdeal.nD Cert.RefAdamMlpInIdeal.τ).loc Cert.RefAdamMlpInIdeal.main_arg3))

def preserves_AdamMlpOut_AdamMlpOutIdeal : Prop :=
  True

def algebraic_AdamMlpOutIdeal_RefAdamMlpOutIdeal [hAdamMlpOutIdeal : Cert.AdamMlpOutIdeal.Facts] [hRefAdamMlpOutIdeal : Cert.RefAdamMlpOutIdeal.Facts] : Prop :=
  ∀ (m : (ℓ : Loc Cert.AdamMlpOutIdeal.nD Cert.AdamMlpOutIdeal.τ Cert.AdamMlpOutIdeal.sig) → Buf (Elt Ideal) ℓ) (g : Dev Cert.AdamMlpOutIdeal.nD → PrngReg)
    (m' : (ℓ : Loc Cert.RefAdamMlpOutIdeal.nD Cert.RefAdamMlpOutIdeal.τ Cert.RefAdamMlpOutIdeal.sig) → Buf (Elt Ideal) ℓ) (g' : Dev Cert.RefAdamMlpOutIdeal.nD → PrngReg), Pre_AdamMlpOutIdeal m →
    (∀ c : Dev Cert.AdamMlpOutIdeal.nD,
      m' ((c.tc : Thread Cert.RefAdamMlpOutIdeal.nD Cert.RefAdamMlpOutIdeal.τ).loc Cert.RefAdamMlpOutIdeal.main_arg0) = m ((c.tc : Thread Cert.AdamMlpOutIdeal.nD Cert.AdamMlpOutIdeal.τ).loc Cert.AdamMlpOutIdeal.main_arg0)
      ∧ m' ((c.tc : Thread Cert.RefAdamMlpOutIdeal.nD Cert.RefAdamMlpOutIdeal.τ).loc Cert.RefAdamMlpOutIdeal.main_arg1) = m ((c.tc : Thread Cert.AdamMlpOutIdeal.nD Cert.AdamMlpOutIdeal.τ).loc Cert.AdamMlpOutIdeal.main_arg1)
      ∧ m' ((c.tc : Thread Cert.RefAdamMlpOutIdeal.nD Cert.RefAdamMlpOutIdeal.τ).loc Cert.RefAdamMlpOutIdeal.main_arg2) = m ((c.tc : Thread Cert.AdamMlpOutIdeal.nD Cert.AdamMlpOutIdeal.τ).loc Cert.AdamMlpOutIdeal.main_arg2)
      ∧ m' ((c.tc : Thread Cert.RefAdamMlpOutIdeal.nD Cert.RefAdamMlpOutIdeal.τ).loc Cert.RefAdamMlpOutIdeal.main_arg3) = m ((c.tc : Thread Cert.AdamMlpOutIdeal.nD Cert.AdamMlpOutIdeal.τ).loc Cert.AdamMlpOutIdeal.main_arg3)) →
    ∃ (v0 : (c : Dev Cert.AdamMlpOutIdeal.nD) → Buf (Elt Ideal) ((c.tc : Thread Cert.AdamMlpOutIdeal.nD Cert.AdamMlpOutIdeal.τ).loc Cert.AdamMlpOutIdeal.main_v4_0)) (v1 : (c : Dev Cert.AdamMlpOutIdeal.nD) → Buf (Elt Ideal) ((c.tc : Thread Cert.AdamMlpOutIdeal.nD Cert.AdamMlpOutIdeal.τ).loc Cert.AdamMlpOutIdeal.main_v4_1)) (v2 : (c : Dev Cert.AdamMlpOutIdeal.nD) → Buf (Elt Ideal) ((c.tc : Thread Cert.AdamMlpOutIdeal.nD Cert.AdamMlpOutIdeal.τ).loc Cert.AdamMlpOutIdeal.main_v4_2)),
      θ_run (Cert.AdamMlpOutIdeal.defs (F := Ideal)) (onTc (τ := Cert.AdamMlpOutIdeal.τ) (Cert.AdamMlpOutIdeal.main (F := Ideal))) ⟨m, fun _ => 0, g⟩ (fun r => ∀ c : Dev Cert.AdamMlpOutIdeal.nD,
          r.2.mem ((c.tc : Thread Cert.AdamMlpOutIdeal.nD Cert.AdamMlpOutIdeal.τ).loc Cert.AdamMlpOutIdeal.main_v4_0) = v0 c
          ∧ r.2.mem ((c.tc : Thread Cert.AdamMlpOutIdeal.nD Cert.AdamMlpOutIdeal.τ).loc Cert.AdamMlpOutIdeal.main_v4_1) = v1 c
          ∧ r.2.mem ((c.tc : Thread Cert.AdamMlpOutIdeal.nD Cert.AdamMlpOutIdeal.τ).loc Cert.AdamMlpOutIdeal.main_v4_2) = v2 c
          ∧ r.2.mem ((c.tc : Thread Cert.AdamMlpOutIdeal.nD Cert.AdamMlpOutIdeal.τ).loc Cert.AdamMlpOutIdeal.main_arg0) = m ((c.tc : Thread Cert.AdamMlpOutIdeal.nD Cert.AdamMlpOutIdeal.τ).loc Cert.AdamMlpOutIdeal.main_arg0)
          ∧ r.2.mem ((c.tc : Thread Cert.AdamMlpOutIdeal.nD Cert.AdamMlpOutIdeal.τ).loc Cert.AdamMlpOutIdeal.main_arg1) = m ((c.tc : Thread Cert.AdamMlpOutIdeal.nD Cert.AdamMlpOutIdeal.τ).loc Cert.AdamMlpOutIdeal.main_arg1)
          ∧ r.2.mem ((c.tc : Thread Cert.AdamMlpOutIdeal.nD Cert.AdamMlpOutIdeal.τ).loc Cert.AdamMlpOutIdeal.main_arg2) = m ((c.tc : Thread Cert.AdamMlpOutIdeal.nD Cert.AdamMlpOutIdeal.τ).loc Cert.AdamMlpOutIdeal.main_arg2)
          ∧ r.2.mem ((c.tc : Thread Cert.AdamMlpOutIdeal.nD Cert.AdamMlpOutIdeal.τ).loc Cert.AdamMlpOutIdeal.main_arg3) = m ((c.tc : Thread Cert.AdamMlpOutIdeal.nD Cert.AdamMlpOutIdeal.τ).loc Cert.AdamMlpOutIdeal.main_arg3))
      ∧ θ_run (Cert.RefAdamMlpOutIdeal.defs (F := Ideal)) (onTc (τ := Cert.RefAdamMlpOutIdeal.τ) (Cert.RefAdamMlpOutIdeal.main (F := Ideal))) ⟨m', fun _ => 0, g'⟩ (fun r => ∀ c : Dev Cert.RefAdamMlpOutIdeal.nD,
          r.2.mem ((c.tc : Thread Cert.RefAdamMlpOutIdeal.nD Cert.RefAdamMlpOutIdeal.τ).loc Cert.RefAdamMlpOutIdeal.main_v24) = v0 c
          ∧ r.2.mem ((c.tc : Thread Cert.RefAdamMlpOutIdeal.nD Cert.RefAdamMlpOutIdeal.τ).loc Cert.RefAdamMlpOutIdeal.main_v25) = v1 c
          ∧ r.2.mem ((c.tc : Thread Cert.RefAdamMlpOutIdeal.nD Cert.RefAdamMlpOutIdeal.τ).loc Cert.RefAdamMlpOutIdeal.main_v26) = v2 c
          ∧ r.2.mem ((c.tc : Thread Cert.RefAdamMlpOutIdeal.nD Cert.RefAdamMlpOutIdeal.τ).loc Cert.RefAdamMlpOutIdeal.main_arg0) = m' ((c.tc : Thread Cert.RefAdamMlpOutIdeal.nD Cert.RefAdamMlpOutIdeal.τ).loc Cert.RefAdamMlpOutIdeal.main_arg0)
          ∧ r.2.mem ((c.tc : Thread Cert.RefAdamMlpOutIdeal.nD Cert.RefAdamMlpOutIdeal.τ).loc Cert.RefAdamMlpOutIdeal.main_arg1) = m' ((c.tc : Thread Cert.RefAdamMlpOutIdeal.nD Cert.RefAdamMlpOutIdeal.τ).loc Cert.RefAdamMlpOutIdeal.main_arg1)
          ∧ r.2.mem ((c.tc : Thread Cert.RefAdamMlpOutIdeal.nD Cert.RefAdamMlpOutIdeal.τ).loc Cert.RefAdamMlpOutIdeal.main_arg2) = m' ((c.tc : Thread Cert.RefAdamMlpOutIdeal.nD Cert.RefAdamMlpOutIdeal.τ).loc Cert.RefAdamMlpOutIdeal.main_arg2)
          ∧ r.2.mem ((c.tc : Thread Cert.RefAdamMlpOutIdeal.nD Cert.RefAdamMlpOutIdeal.τ).loc Cert.RefAdamMlpOutIdeal.main_arg3) = m' ((c.tc : Thread Cert.RefAdamMlpOutIdeal.nD Cert.RefAdamMlpOutIdeal.τ).loc Cert.RefAdamMlpOutIdeal.main_arg3))

def preserves_AdamOut_AdamOutIdeal : Prop :=
  True

def algebraic_AdamOutIdeal_RefAdamOutIdeal [hAdamOutIdeal : Cert.AdamOutIdeal.Facts] [hRefAdamOutIdeal : Cert.RefAdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.RefAdamOutIdeal.nD Cert.RefAdamOutIdeal.τ Cert.RefAdamOutIdeal.sig) → Buf (Elt Ideal) ℓ) (g' : Dev Cert.RefAdamOutIdeal.nD → PrngReg), Pre_AdamOutIdeal m →
    (∀ c : Dev Cert.AdamOutIdeal.nD,
      m' ((c.tc : Thread Cert.RefAdamOutIdeal.nD Cert.RefAdamOutIdeal.τ).loc Cert.RefAdamOutIdeal.main_arg0) = m ((c.tc : Thread Cert.AdamOutIdeal.nD Cert.AdamOutIdeal.τ).loc Cert.AdamOutIdeal.main_arg0)
      ∧ m' ((c.tc : Thread Cert.RefAdamOutIdeal.nD Cert.RefAdamOutIdeal.τ).loc Cert.RefAdamOutIdeal.main_arg1) = m ((c.tc : Thread Cert.AdamOutIdeal.nD Cert.AdamOutIdeal.τ).loc Cert.AdamOutIdeal.main_arg1)
      ∧ m' ((c.tc : Thread Cert.RefAdamOutIdeal.nD Cert.RefAdamOutIdeal.τ).loc Cert.RefAdamOutIdeal.main_arg2) = m ((c.tc : Thread Cert.AdamOutIdeal.nD Cert.AdamOutIdeal.τ).loc Cert.AdamOutIdeal.main_arg2)
      ∧ m' ((c.tc : Thread Cert.RefAdamOutIdeal.nD Cert.RefAdamOutIdeal.τ).loc Cert.RefAdamOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.RefAdamOutIdeal.defs (F := Ideal)) (onTc (τ := Cert.RefAdamOutIdeal.τ) (Cert.RefAdamOutIdeal.main (F := Ideal))) ⟨m', fun _ => 0, g'⟩ (fun r => ∀ c : Dev Cert.RefAdamOutIdeal.nD,
          r.2.mem ((c.tc : Thread Cert.RefAdamOutIdeal.nD Cert.RefAdamOutIdeal.τ).loc Cert.RefAdamOutIdeal.main_v24) = v0 c
          ∧ r.2.mem ((c.tc : Thread Cert.RefAdamOutIdeal.nD Cert.RefAdamOutIdeal.τ).loc Cert.RefAdamOutIdeal.main_v25) = v1 c
          ∧ r.2.mem ((c.tc : Thread Cert.RefAdamOutIdeal.nD Cert.RefAdamOutIdeal.τ).loc Cert.RefAdamOutIdeal.main_v26) = v2 c
          ∧ r.2.mem ((c.tc : Thread Cert.RefAdamOutIdeal.nD Cert.RefAdamOutIdeal.τ).loc Cert.RefAdamOutIdeal.main_arg0) = m' ((c.tc : Thread Cert.RefAdamOutIdeal.nD Cert.RefAdamOutIdeal.τ).loc Cert.RefAdamOutIdeal.main_arg0)
          ∧ r.2.mem ((c.tc : Thread Cert.RefAdamOutIdeal.nD Cert.RefAdamOutIdeal.τ).loc Cert.RefAdamOutIdeal.main_arg1) = m' ((c.tc : Thread Cert.RefAdamOutIdeal.nD Cert.RefAdamOutIdeal.τ).loc Cert.RefAdamOutIdeal.main_arg1)
          ∧ r.2.mem ((c.tc : Thread Cert.RefAdamOutIdeal.nD Cert.RefAdamOutIdeal.τ).loc Cert.RefAdamOutIdeal.main_arg2) = m' ((c.tc : Thread Cert.RefAdamOutIdeal.nD Cert.RefAdamOutIdeal.τ).loc Cert.RefAdamOutIdeal.main_arg2)
          ∧ r.2.mem ((c.tc : Thread Cert.RefAdamOutIdeal.nD Cert.RefAdamOutIdeal.τ).loc Cert.RefAdamOutIdeal.main_arg3) = m' ((c.tc : Thread Cert.RefAdamOutIdeal.nD Cert.RefAdamOutIdeal.τ).loc Cert.RefAdamOutIdeal.main_arg3))

def preserves_AdamBranch_AdamBranchIdeal : Prop :=
  True

def algebraic_AdamBranchIdeal_RefAdamBranchIdeal [hAdamBranchIdeal : Cert.AdamBranchIdeal.Facts] [hRefAdamBranchIdeal : Cert.RefAdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.RefAdamBranchIdeal.nD Cert.RefAdamBranchIdeal.τ Cert.RefAdamBranchIdeal.sig) → Buf (Elt Ideal) ℓ) (g' : Dev Cert.RefAdamBranchIdeal.nD → PrngReg), Pre_AdamBranchIdeal m →
    (∀ c : Dev Cert.AdamBranchIdeal.nD,
      m' ((c.tc : Thread Cert.RefAdamBranchIdeal.nD Cert.RefAdamBranchIdeal.τ).loc Cert.RefAdamBranchIdeal.main_arg0) = m ((c.tc : Thread Cert.AdamBranchIdeal.nD Cert.AdamBranchIdeal.τ).loc Cert.AdamBranchIdeal.main_arg0)
      ∧ m' ((c.tc : Thread Cert.RefAdamBranchIdeal.nD Cert.RefAdamBranchIdeal.τ).loc Cert.RefAdamBranchIdeal.main_arg1) = m ((c.tc : Thread Cert.AdamBranchIdeal.nD Cert.AdamBranchIdeal.τ).loc Cert.AdamBranchIdeal.main_arg1)
      ∧ m' ((c.tc : Thread Cert.RefAdamBranchIdeal.nD Cert.RefAdamBranchIdeal.τ).loc Cert.RefAdamBranchIdeal.main_arg2) = m ((c.tc : Thread Cert.AdamBranchIdeal.nD Cert.AdamBranchIdeal.τ).loc Cert.AdamBranchIdeal.main_arg2)
      ∧ m' ((c.tc : Thread Cert.RefAdamBranchIdeal.nD Cert.RefAdamBranchIdeal.τ).loc Cert.RefAdamBranchIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v4_0)) (v1 : (c : Dev Cert.AdamBranchIdeal.nD) → Buf (Elt Ideal) ((c.tc : Thread Cert.AdamBranchIdeal.nD Cert.AdamBranchIdeal.τ).loc Cert.AdamBranchIdeal.main_v4_1)) (v2 : (c : Dev Cert.AdamBranchIdeal.nD) → Buf (Elt Ideal) ((c.tc : Thread Cert.AdamBranchIdeal.nD Cert.AdamBranchIdeal.τ).loc Cert.AdamBranchIdeal.main_v4_2)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v4_0) = v0 c
          ∧ r.2.mem ((c.tc : Thread Cert.AdamBranchIdeal.nD Cert.AdamBranchIdeal.τ).loc Cert.AdamBranchIdeal.main_v4_1) = v1 c
          ∧ r.2.mem ((c.tc : Thread Cert.AdamBranchIdeal.nD Cert.AdamBranchIdeal.τ).loc Cert.AdamBranchIdeal.main_v4_2) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.RefAdamBranchIdeal.defs (F := Ideal)) (onTc (τ := Cert.RefAdamBranchIdeal.τ) (Cert.RefAdamBranchIdeal.main (F := Ideal))) ⟨m', fun _ => 0, g'⟩ (fun r => ∀ c : Dev Cert.RefAdamBranchIdeal.nD,
          r.2.mem ((c.tc : Thread Cert.RefAdamBranchIdeal.nD Cert.RefAdamBranchIdeal.τ).loc Cert.RefAdamBranchIdeal.main_v24) = v0 c
          ∧ r.2.mem ((c.tc : Thread Cert.RefAdamBranchIdeal.nD Cert.RefAdamBranchIdeal.τ).loc Cert.RefAdamBranchIdeal.main_v25) = v1 c
          ∧ r.2.mem ((c.tc : Thread Cert.RefAdamBranchIdeal.nD Cert.RefAdamBranchIdeal.τ).loc Cert.RefAdamBranchIdeal.main_v26) = v2 c
          ∧ r.2.mem ((c.tc : Thread Cert.RefAdamBranchIdeal.nD Cert.RefAdamBranchIdeal.τ).loc Cert.RefAdamBranchIdeal.main_arg0) = m' ((c.tc : Thread Cert.RefAdamBranchIdeal.nD Cert.RefAdamBranchIdeal.τ).loc Cert.RefAdamBranchIdeal.main_arg0)
          ∧ r.2.mem ((c.tc : Thread Cert.RefAdamBranchIdeal.nD Cert.RefAdamBranchIdeal.τ).loc Cert.RefAdamBranchIdeal.main_arg1) = m' ((c.tc : Thread Cert.RefAdamBranchIdeal.nD Cert.RefAdamBranchIdeal.τ).loc Cert.RefAdamBranchIdeal.main_arg1)
          ∧ r.2.mem ((c.tc : Thread Cert.RefAdamBranchIdeal.nD Cert.RefAdamBranchIdeal.τ).loc Cert.RefAdamBranchIdeal.main_arg2) = m' ((c.tc : Thread Cert.RefAdamBranchIdeal.nD Cert.RefAdamBranchIdeal.τ).loc Cert.RefAdamBranchIdeal.main_arg2)
          ∧ r.2.mem ((c.tc : Thread Cert.RefAdamBranchIdeal.nD Cert.RefAdamBranchIdeal.τ).loc Cert.RefAdamBranchIdeal.main_arg3) = m' ((c.tc : Thread Cert.RefAdamBranchIdeal.nD Cert.RefAdamBranchIdeal.τ).loc Cert.RefAdamBranchIdeal.main_arg3))

def preserves_AdamGlu_AdamGluIdeal : Prop :=
  True

def algebraic_AdamGluIdeal_RefAdamGluIdeal [hAdamGluIdeal : Cert.AdamGluIdeal.Facts] [hRefAdamGluIdeal : Cert.RefAdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.RefAdamGluIdeal.nD Cert.RefAdamGluIdeal.τ Cert.RefAdamGluIdeal.sig) → Buf (Elt Ideal) ℓ) (g' : Dev Cert.RefAdamGluIdeal.nD → PrngReg), Pre_AdamGluIdeal m →
    (∀ c : Dev Cert.AdamGluIdeal.nD,
      m' ((c.tc : Thread Cert.RefAdamGluIdeal.nD Cert.RefAdamGluIdeal.τ).loc Cert.RefAdamGluIdeal.main_arg0) = m ((c.tc : Thread Cert.AdamGluIdeal.nD Cert.AdamGluIdeal.τ).loc Cert.AdamGluIdeal.main_arg0)
      ∧ m' ((c.tc : Thread Cert.RefAdamGluIdeal.nD Cert.RefAdamGluIdeal.τ).loc Cert.RefAdamGluIdeal.main_arg1) = m ((c.tc : Thread Cert.AdamGluIdeal.nD Cert.AdamGluIdeal.τ).loc Cert.AdamGluIdeal.main_arg1)
      ∧ m' ((c.tc : Thread Cert.RefAdamGluIdeal.nD Cert.RefAdamGluIdeal.τ).loc Cert.RefAdamGluIdeal.main_arg2) = m ((c.tc : Thread Cert.AdamGluIdeal.nD Cert.AdamGluIdeal.τ).loc Cert.AdamGluIdeal.main_arg2)
      ∧ m' ((c.tc : Thread Cert.RefAdamGluIdeal.nD Cert.RefAdamGluIdeal.τ).loc Cert.RefAdamGluIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v4_0)) (v1 : (c : Dev Cert.AdamGluIdeal.nD) → Buf (Elt Ideal) ((c.tc : Thread Cert.AdamGluIdeal.nD Cert.AdamGluIdeal.τ).loc Cert.AdamGluIdeal.main_v4_1)) (v2 : (c : Dev Cert.AdamGluIdeal.nD) → Buf (Elt Ideal) ((c.tc : Thread Cert.AdamGluIdeal.nD Cert.AdamGluIdeal.τ).loc Cert.AdamGluIdeal.main_v4_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v4_0) = v0 c
          ∧ r.2.mem ((c.tc : Thread Cert.AdamGluIdeal.nD Cert.AdamGluIdeal.τ).loc Cert.AdamGluIdeal.main_v4_1) = v1 c
          ∧ r.2.mem ((c.tc : Thread Cert.AdamGluIdeal.nD Cert.AdamGluIdeal.τ).loc Cert.AdamGluIdeal.main_v4_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.RefAdamGluIdeal.defs (F := Ideal)) (onTc (τ := Cert.RefAdamGluIdeal.τ) (Cert.RefAdamGluIdeal.main (F := Ideal))) ⟨m', fun _ => 0, g'⟩ (fun r => ∀ c : Dev Cert.RefAdamGluIdeal.nD,
          r.2.mem ((c.tc : Thread Cert.RefAdamGluIdeal.nD Cert.RefAdamGluIdeal.τ).loc Cert.RefAdamGluIdeal.main_v24) = v0 c
          ∧ r.2.mem ((c.tc : Thread Cert.RefAdamGluIdeal.nD Cert.RefAdamGluIdeal.τ).loc Cert.RefAdamGluIdeal.main_v25) = v1 c
          ∧ r.2.mem ((c.tc : Thread Cert.RefAdamGluIdeal.nD Cert.RefAdamGluIdeal.τ).loc Cert.RefAdamGluIdeal.main_v26) = v2 c
          ∧ r.2.mem ((c.tc : Thread Cert.RefAdamGluIdeal.nD Cert.RefAdamGluIdeal.τ).loc Cert.RefAdamGluIdeal.main_arg0) = m' ((c.tc : Thread Cert.RefAdamGluIdeal.nD Cert.RefAdamGluIdeal.τ).loc Cert.RefAdamGluIdeal.main_arg0)
          ∧ r.2.mem ((c.tc : Thread Cert.RefAdamGluIdeal.nD Cert.RefAdamGluIdeal.τ).loc Cert.RefAdamGluIdeal.main_arg1) = m' ((c.tc : Thread Cert.RefAdamGluIdeal.nD Cert.RefAdamGluIdeal.τ).loc Cert.RefAdamGluIdeal.main_arg1)
          ∧ r.2.mem ((c.tc : Thread Cert.RefAdamGluIdeal.nD Cert.RefAdamGluIdeal.τ).loc Cert.RefAdamGluIdeal.main_arg2) = m' ((c.tc : Thread Cert.RefAdamGluIdeal.nD Cert.RefAdamGluIdeal.τ).loc Cert.RefAdamGluIdeal.main_arg2)
          ∧ r.2.mem ((c.tc : Thread Cert.RefAdamGluIdeal.nD Cert.RefAdamGluIdeal.τ).loc Cert.RefAdamGluIdeal.main_arg3) = m' ((c.tc : Thread Cert.RefAdamGluIdeal.nD Cert.RefAdamGluIdeal.τ).loc Cert.RefAdamGluIdeal.main_arg3))

def preserves_AdamUq_AdamUqIdeal : Prop :=
  True

def algebraic_AdamUqIdeal_RefAdamUqIdeal [hAdamUqIdeal : Cert.AdamUqIdeal.Facts] [hRefAdamUqIdeal : Cert.RefAdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg)
    (m' : (ℓ : Loc Cert.RefAdamUqIdeal.nD Cert.RefAdamUqIdeal.τ Cert.RefAdamUqIdeal.sig) → Buf (Elt Ideal) ℓ) (g' : Dev Cert.RefAdamUqIdeal.nD → PrngReg), Pre_AdamUqIdeal m →
    (∀ c : Dev Cert.AdamUqIdeal.nD,
      m' ((c.tc : Thread Cert.RefAdamUqIdeal.nD Cert.RefAdamUqIdeal.τ).loc Cert.RefAdamUqIdeal.main_arg0) = m ((c.tc : Thread Cert.AdamUqIdeal.nD Cert.AdamUqIdeal.τ).loc Cert.AdamUqIdeal.main_arg0)
      ∧ m' ((c.tc : Thread Cert.RefAdamUqIdeal.nD Cert.RefAdamUqIdeal.τ).loc Cert.RefAdamUqIdeal.main_arg1) = m ((c.tc : Thread Cert.AdamUqIdeal.nD Cert.AdamUqIdeal.τ).loc Cert.AdamUqIdeal.main_arg1)
      ∧ m' ((c.tc : Thread Cert.RefAdamUqIdeal.nD Cert.RefAdamUqIdeal.τ).loc Cert.RefAdamUqIdeal.main_arg2) = m ((c.tc : Thread Cert.AdamUqIdeal.nD Cert.AdamUqIdeal.τ).loc Cert.AdamUqIdeal.main_arg2)
      ∧ m' ((c.tc : Thread Cert.RefAdamUqIdeal.nD Cert.RefAdamUqIdeal.τ).loc Cert.RefAdamUqIdeal.main_arg3) = m ((c.tc : Thread Cert.AdamUqIdeal.nD Cert.AdamUqIdeal.τ).loc Cert.AdamUqIdeal.main_arg3)) →
    ∃ (v0 : (c : Dev Cert.AdamUqIdeal.nD) → Buf (Elt Ideal) ((c.tc : Thread Cert.AdamUqIdeal.nD Cert.AdamUqIdeal.τ).loc Cert.AdamUqIdeal.main_v4_0)) (v1 : (c : Dev Cert.AdamUqIdeal.nD) → Buf (Elt Ideal) ((c.tc : Thread Cert.AdamUqIdeal.nD Cert.AdamUqIdeal.τ).loc Cert.AdamUqIdeal.main_v4_1)) (v2 : (c : Dev Cert.AdamUqIdeal.nD) → Buf (Elt Ideal) ((c.tc : Thread Cert.AdamUqIdeal.nD Cert.AdamUqIdeal.τ).loc Cert.AdamUqIdeal.main_v4_2)),
      θ_run (Cert.AdamUqIdeal.defs (F := Ideal)) (onTc (τ := Cert.AdamUqIdeal.τ) (Cert.AdamUqIdeal.main (F := Ideal))) ⟨m, fun _ => 0, g⟩ (fun r => ∀ c : Dev Cert.AdamUqIdeal.nD,
          r.2.mem ((c.tc : Thread Cert.AdamUqIdeal.nD Cert.AdamUqIdeal.τ).loc Cert.AdamUqIdeal.main_v4_0) = v0 c
          ∧ r.2.mem ((c.tc : Thread Cert.AdamUqIdeal.nD Cert.AdamUqIdeal.τ).loc Cert.AdamUqIdeal.main_v4_1) = v1 c
          ∧ r.2.mem ((c.tc : Thread Cert.AdamUqIdeal.nD Cert.AdamUqIdeal.τ).loc Cert.AdamUqIdeal.main_v4_2) = v2 c
          ∧ r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
          ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
          ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
          ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ θ_run (Cert.RefAdamUqIdeal.defs (F := Ideal)) (onTc (τ := Cert.RefAdamUqIdeal.τ) (Cert.RefAdamUqIdeal.main (F := Ideal))) ⟨m', fun _ => 0, g'⟩ (fun r => ∀ c : Dev Cert.RefAdamUqIdeal.nD,
          r.2.mem ((c.tc : Thread Cert.RefAdamUqIdeal.nD Cert.RefAdamUqIdeal.τ).loc Cert.RefAdamUqIdeal.main_v24) = v0 c
          ∧ r.2.mem ((c.tc : Thread Cert.RefAdamUqIdeal.nD Cert.RefAdamUqIdeal.τ).loc Cert.RefAdamUqIdeal.main_v25) = v1 c
          ∧ r.2.mem ((c.tc : Thread Cert.RefAdamUqIdeal.nD Cert.RefAdamUqIdeal.τ).loc Cert.RefAdamUqIdeal.main_v26) = v2 c
          ∧ r.2.mem ((c.tc : Thread Cert.RefAdamUqIdeal.nD Cert.RefAdamUqIdeal.τ).loc Cert.RefAdamUqIdeal.main_arg0) = m' ((c.tc : Thread Cert.RefAdamUqIdeal.nD Cert.RefAdamUqIdeal.τ).loc Cert.RefAdamUqIdeal.main_arg0)
          ∧ r.2.mem ((c.tc : Thread Cert.RefAdamUqIdeal.nD Cert.RefAdamUqIdeal.τ).loc Cert.RefAdamUqIdeal.main_arg1) = m' ((c.tc : Thread Cert.RefAdamUqIdeal.nD Cert.RefAdamUqIdeal.τ).loc Cert.RefAdamUqIdeal.main_arg1)
          ∧ r.2.mem ((c.tc : Thread Cert.RefAdamUqIdeal.nD Cert.RefAdamUqIdeal.τ).loc Cert.RefAdamUqIdeal.main_arg2) = m' ((c.tc : Thread Cert.RefAdamUqIdeal.nD Cert.RefAdamUqIdeal.τ).loc Cert.RefAdamUqIdeal.main_arg2)
          ∧ r.2.mem ((c.tc : Thread Cert.RefAdamUqIdeal.nD Cert.RefAdamUqIdeal.τ).loc Cert.RefAdamUqIdeal.main_arg3) = m' ((c.tc : Thread Cert.RefAdamUqIdeal.nD Cert.RefAdamUqIdeal.τ).loc Cert.RefAdamUqIdeal.main_arg3))

def preserves_AdamUkv_AdamUkvIdeal : Prop :=
  True

def algebraic_AdamUkvIdeal_RefAdamUkvIdeal [hAdamUkvIdeal : Cert.AdamUkvIdeal.Facts] [hRefAdamUkvIdeal : Cert.RefAdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg)
    (m' : (ℓ : Loc Cert.RefAdamUkvIdeal.nD Cert.RefAdamUkvIdeal.τ Cert.RefAdamUkvIdeal.sig) → Buf (Elt Ideal) ℓ) (g' : Dev Cert.RefAdamUkvIdeal.nD → PrngReg), Pre_AdamUkvIdeal m →
    (∀ c : Dev Cert.AdamUkvIdeal.nD,
      m' ((c.tc : Thread Cert.RefAdamUkvIdeal.nD Cert.RefAdamUkvIdeal.τ).loc Cert.RefAdamUkvIdeal.main_arg0) = m ((c.tc : Thread Cert.AdamUkvIdeal.nD Cert.AdamUkvIdeal.τ).loc Cert.AdamUkvIdeal.main_arg0)
      ∧ m' ((c.tc : Thread Cert.RefAdamUkvIdeal.nD Cert.RefAdamUkvIdeal.τ).loc Cert.RefAdamUkvIdeal.main_arg1) = m ((c.tc : Thread Cert.AdamUkvIdeal.nD Cert.AdamUkvIdeal.τ).loc Cert.AdamUkvIdeal.main_arg1)
      ∧ m' ((c.tc : Thread Cert.RefAdamUkvIdeal.nD Cert.RefAdamUkvIdeal.τ).loc Cert.RefAdamUkvIdeal.main_arg2) = m ((c.tc : Thread Cert.AdamUkvIdeal.nD Cert.AdamUkvIdeal.τ).loc Cert.AdamUkvIdeal.main_arg2)
      ∧ m' ((c.tc : Thread Cert.RefAdamUkvIdeal.nD Cert.RefAdamUkvIdeal.τ).loc Cert.RefAdamUkvIdeal.main_arg3) = m ((c.tc : Thread Cert.AdamUkvIdeal.nD Cert.AdamUkvIdeal.τ).loc Cert.AdamUkvIdeal.main_arg3)) →
    ∃ (v0 : (c : Dev Cert.AdamUkvIdeal.nD) → Buf (Elt Ideal) ((c.tc : Thread Cert.AdamUkvIdeal.nD Cert.AdamUkvIdeal.τ).loc Cert.AdamUkvIdeal.main_v4_0)) (v1 : (c : Dev Cert.AdamUkvIdeal.nD) → Buf (Elt Ideal) ((c.tc : Thread Cert.AdamUkvIdeal.nD Cert.AdamUkvIdeal.τ).loc Cert.AdamUkvIdeal.main_v4_1)) (v2 : (c : Dev Cert.AdamUkvIdeal.nD) → Buf (Elt Ideal) ((c.tc : Thread Cert.AdamUkvIdeal.nD Cert.AdamUkvIdeal.τ).loc Cert.AdamUkvIdeal.main_v4_2)),
      θ_run (Cert.AdamUkvIdeal.defs (F := Ideal)) (onTc (τ := Cert.AdamUkvIdeal.τ) (Cert.AdamUkvIdeal.main (F := Ideal))) ⟨m, fun _ => 0, g⟩ (fun r => ∀ c : Dev Cert.AdamUkvIdeal.nD,
          r.2.mem ((c.tc : Thread Cert.AdamUkvIdeal.nD Cert.AdamUkvIdeal.τ).loc Cert.AdamUkvIdeal.main_v4_0) = v0 c
          ∧ r.2.mem ((c.tc : Thread Cert.AdamUkvIdeal.nD Cert.AdamUkvIdeal.τ).loc Cert.AdamUkvIdeal.main_v4_1) = v1 c
          ∧ r.2.mem ((c.tc : Thread Cert.AdamUkvIdeal.nD Cert.AdamUkvIdeal.τ).loc Cert.AdamUkvIdeal.main_v4_2) = v2 c
          ∧ r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
          ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
          ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
          ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ θ_run (Cert.RefAdamUkvIdeal.defs (F := Ideal)) (onTc (τ := Cert.RefAdamUkvIdeal.τ) (Cert.RefAdamUkvIdeal.main (F := Ideal))) ⟨m', fun _ => 0, g'⟩ (fun r => ∀ c : Dev Cert.RefAdamUkvIdeal.nD,
          r.2.mem ((c.tc : Thread Cert.RefAdamUkvIdeal.nD Cert.RefAdamUkvIdeal.τ).loc Cert.RefAdamUkvIdeal.main_v24) = v0 c
          ∧ r.2.mem ((c.tc : Thread Cert.RefAdamUkvIdeal.nD Cert.RefAdamUkvIdeal.τ).loc Cert.RefAdamUkvIdeal.main_v25) = v1 c
          ∧ r.2.mem ((c.tc : Thread Cert.RefAdamUkvIdeal.nD Cert.RefAdamUkvIdeal.τ).loc Cert.RefAdamUkvIdeal.main_v26) = v2 c
          ∧ r.2.mem ((c.tc : Thread Cert.RefAdamUkvIdeal.nD Cert.RefAdamUkvIdeal.τ).loc Cert.RefAdamUkvIdeal.main_arg0) = m' ((c.tc : Thread Cert.RefAdamUkvIdeal.nD Cert.RefAdamUkvIdeal.τ).loc Cert.RefAdamUkvIdeal.main_arg0)
          ∧ r.2.mem ((c.tc : Thread Cert.RefAdamUkvIdeal.nD Cert.RefAdamUkvIdeal.τ).loc Cert.RefAdamUkvIdeal.main_arg1) = m' ((c.tc : Thread Cert.RefAdamUkvIdeal.nD Cert.RefAdamUkvIdeal.τ).loc Cert.RefAdamUkvIdeal.main_arg1)
          ∧ r.2.mem ((c.tc : Thread Cert.RefAdamUkvIdeal.nD Cert.RefAdamUkvIdeal.τ).loc Cert.RefAdamUkvIdeal.main_arg2) = m' ((c.tc : Thread Cert.RefAdamUkvIdeal.nD Cert.RefAdamUkvIdeal.τ).loc Cert.RefAdamUkvIdeal.main_arg2)
          ∧ r.2.mem ((c.tc : Thread Cert.RefAdamUkvIdeal.nD Cert.RefAdamUkvIdeal.τ).loc Cert.RefAdamUkvIdeal.main_arg3) = m' ((c.tc : Thread Cert.RefAdamUkvIdeal.nD Cert.RefAdamUkvIdeal.τ).loc Cert.RefAdamUkvIdeal.main_arg3))

def Claim : Prop :=
  ∃ (hKernel : Cert.Kernel.Facts) (hKernelIdeal : Cert.KernelIdeal.Facts) (hReferenceIdeal : Cert.ReferenceIdeal.Facts) (hAttnFwd : Cert.AttnFwd.Facts) (hAttnFwdIdeal : Cert.AttnFwdIdeal.Facts) (hRefAttnFwdIdeal : Cert.RefAttnFwdIdeal.Facts) (hInFwd : Cert.InFwd.Facts) (hInFwdIdeal : Cert.InFwdIdeal.Facts) (hRefInFwdIdeal : Cert.RefInFwdIdeal.Facts) (hInDa : Cert.InDa.Facts) (hInDaIdeal : Cert.InDaIdeal.Facts) (hRefInDaIdeal : Cert.RefInDaIdeal.Facts) (hInDb : Cert.InDb.Facts) (hInDbIdeal : Cert.InDbIdeal.Facts) (hRefInDbIdeal : Cert.RefInDbIdeal.Facts) (hOutFwd : Cert.OutFwd.Facts) (hOutFwdIdeal : Cert.OutFwdIdeal.Facts) (hRefOutFwdIdeal : Cert.RefOutFwdIdeal.Facts) (hOutDa : Cert.OutDa.Facts) (hOutDaIdeal : Cert.OutDaIdeal.Facts) (hRefOutDaIdeal : Cert.RefOutDaIdeal.Facts) (hOutDb : Cert.OutDb.Facts) (hOutDbIdeal : Cert.OutDbIdeal.Facts) (hRefOutDbIdeal : Cert.RefOutDbIdeal.Facts) (hSmallFwd : Cert.SmallFwd.Facts) (hSmallFwdIdeal : Cert.SmallFwdIdeal.Facts) (hRefSmallFwdIdeal : Cert.RefSmallFwdIdeal.Facts) (hSmallDa : Cert.SmallDa.Facts) (hSmallDaIdeal : Cert.SmallDaIdeal.Facts) (hRefSmallDaIdeal : Cert.RefSmallDaIdeal.Facts) (hSmallDb : Cert.SmallDb.Facts) (hSmallDbIdeal : Cert.SmallDbIdeal.Facts) (hRefSmallDbIdeal : Cert.RefSmallDbIdeal.Facts) (hMergeFwd : Cert.MergeFwd.Facts) (hMergeFwdIdeal : Cert.MergeFwdIdeal.Facts) (hRefMergeFwdIdeal : Cert.RefMergeFwdIdeal.Facts) (hMergeDa : Cert.MergeDa.Facts) (hMergeDaIdeal : Cert.MergeDaIdeal.Facts) (hRefMergeDaIdeal : Cert.RefMergeDaIdeal.Facts) (hMergeDb : Cert.MergeDb.Facts) (hMergeDbIdeal : Cert.MergeDbIdeal.Facts) (hRefMergeDbIdeal : Cert.RefMergeDbIdeal.Facts) (hBranchFwd : Cert.BranchFwd.Facts) (hBranchFwdIdeal : Cert.BranchFwdIdeal.Facts) (hRefBranchFwdIdeal : Cert.RefBranchFwdIdeal.Facts) (hBranchDa : Cert.BranchDa.Facts) (hBranchDaIdeal : Cert.BranchDaIdeal.Facts) (hRefBranchDaIdeal : Cert.RefBranchDaIdeal.Facts) (hBranchDb : Cert.BranchDb.Facts) (hBranchDbIdeal : Cert.BranchDbIdeal.Facts) (hRefBranchDbIdeal : Cert.RefBranchDbIdeal.Facts) (hNormFwd : Cert.NormFwd.Facts) (hNormFwdIdeal : Cert.NormFwdIdeal.Facts) (hRefNormFwdIdeal : Cert.RefNormFwdIdeal.Facts) (hNormBwd : Cert.NormBwd.Facts) (hNormBwdIdeal : Cert.NormBwdIdeal.Facts) (hRefNormBwdIdeal : Cert.RefNormBwdIdeal.Facts) (hLoss : Cert.Loss.Facts) (hLossIdeal : Cert.LossIdeal.Facts) (hRefLossIdeal : Cert.RefLossIdeal.Facts) (hAdamSmall : Cert.AdamSmall.Facts) (hAdamSmallIdeal : Cert.AdamSmallIdeal.Facts) (hRefAdamSmallIdeal : Cert.RefAdamSmallIdeal.Facts) (hAdamIn : Cert.AdamIn.Facts) (hAdamInIdeal : Cert.AdamInIdeal.Facts) (hRefAdamInIdeal : Cert.RefAdamInIdeal.Facts) (hAdamMlpIn : Cert.AdamMlpIn.Facts) (hAdamMlpInIdeal : Cert.AdamMlpInIdeal.Facts) (hRefAdamMlpInIdeal : Cert.RefAdamMlpInIdeal.Facts) (hAdamMlpOut : Cert.AdamMlpOut.Facts) (hAdamMlpOutIdeal : Cert.AdamMlpOutIdeal.Facts) (hRefAdamMlpOutIdeal : Cert.RefAdamMlpOutIdeal.Facts) (hAdamOut : Cert.AdamOut.Facts) (hAdamOutIdeal : Cert.AdamOutIdeal.Facts) (hRefAdamOutIdeal : Cert.RefAdamOutIdeal.Facts) (hAdamBranch : Cert.AdamBranch.Facts) (hAdamBranchIdeal : Cert.AdamBranchIdeal.Facts) (hRefAdamBranchIdeal : Cert.RefAdamBranchIdeal.Facts) (hAdamGlu : Cert.AdamGlu.Facts) (hAdamGluIdeal : Cert.AdamGluIdeal.Facts) (hRefAdamGluIdeal : Cert.RefAdamGluIdeal.Facts) (hAdamUq : Cert.AdamUq.Facts) (hAdamUqIdeal : Cert.AdamUqIdeal.Facts) (hRefAdamUqIdeal : Cert.RefAdamUqIdeal.Facts) (hAdamUkv : Cert.AdamUkv.Facts) (hAdamUkvIdeal : Cert.AdamUkvIdeal.Facts) (hRefAdamUkvIdeal : Cert.RefAdamUkvIdeal.Facts) (hPre_finite : Cert.Pre_finite.Facts) (hPre_finite_fwd : Cert.Pre_finite_fwd.Facts) (hPre_finite_norm : Cert.Pre_finite_norm.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_AttnFwd (hAttnFwd := hAttnFwd)
    ∧ quiescent_AttnFwdIdeal (hAttnFwdIdeal := hAttnFwdIdeal)
    ∧ quiescent_AttnFwdIdeal_pre_finite_fwd (hAttnFwdIdeal := hAttnFwdIdeal) (hPre_finite_fwd := hPre_finite_fwd)
    ∧ quiescent_RefAttnFwdIdeal (hRefAttnFwdIdeal := hRefAttnFwdIdeal)
    ∧ quiescent_RefAttnFwdIdeal_pre_finite_fwd (hRefAttnFwdIdeal := hRefAttnFwdIdeal) (hPre_finite_fwd := hPre_finite_fwd)
    ∧ quiescent_InFwd (hInFwd := hInFwd)
    ∧ quiescent_InFwdIdeal (hInFwdIdeal := hInFwdIdeal)
    ∧ quiescent_RefInFwdIdeal (hRefInFwdIdeal := hRefInFwdIdeal)
    ∧ quiescent_InDa (hInDa := hInDa)
    ∧ quiescent_InDaIdeal (hInDaIdeal := hInDaIdeal)
    ∧ quiescent_RefInDaIdeal (hRefInDaIdeal := hRefInDaIdeal)
    ∧ quiescent_InDb (hInDb := hInDb)
    ∧ quiescent_InDbIdeal (hInDbIdeal := hInDbIdeal)
    ∧ quiescent_RefInDbIdeal (hRefInDbIdeal := hRefInDbIdeal)
    ∧ quiescent_OutFwd (hOutFwd := hOutFwd)
    ∧ quiescent_OutFwdIdeal (hOutFwdIdeal := hOutFwdIdeal)
    ∧ quiescent_RefOutFwdIdeal (hRefOutFwdIdeal := hRefOutFwdIdeal)
    ∧ quiescent_OutDa (hOutDa := hOutDa)
    ∧ quiescent_OutDaIdeal (hOutDaIdeal := hOutDaIdeal)
    ∧ quiescent_RefOutDaIdeal (hRefOutDaIdeal := hRefOutDaIdeal)
    ∧ quiescent_OutDb (hOutDb := hOutDb)
    ∧ quiescent_OutDbIdeal (hOutDbIdeal := hOutDbIdeal)
    ∧ quiescent_RefOutDbIdeal (hRefOutDbIdeal := hRefOutDbIdeal)
    ∧ quiescent_SmallFwd (hSmallFwd := hSmallFwd)
    ∧ quiescent_SmallFwdIdeal (hSmallFwdIdeal := hSmallFwdIdeal)
    ∧ quiescent_RefSmallFwdIdeal (hRefSmallFwdIdeal := hRefSmallFwdIdeal)
    ∧ quiescent_SmallDa (hSmallDa := hSmallDa)
    ∧ quiescent_SmallDaIdeal (hSmallDaIdeal := hSmallDaIdeal)
    ∧ quiescent_RefSmallDaIdeal (hRefSmallDaIdeal := hRefSmallDaIdeal)
    ∧ quiescent_SmallDb (hSmallDb := hSmallDb)
    ∧ quiescent_SmallDbIdeal (hSmallDbIdeal := hSmallDbIdeal)
    ∧ quiescent_RefSmallDbIdeal (hRefSmallDbIdeal := hRefSmallDbIdeal)
    ∧ quiescent_MergeFwd (hMergeFwd := hMergeFwd)
    ∧ quiescent_MergeFwdIdeal (hMergeFwdIdeal := hMergeFwdIdeal)
    ∧ quiescent_RefMergeFwdIdeal (hRefMergeFwdIdeal := hRefMergeFwdIdeal)
    ∧ quiescent_MergeDa (hMergeDa := hMergeDa)
    ∧ quiescent_MergeDaIdeal (hMergeDaIdeal := hMergeDaIdeal)
    ∧ quiescent_RefMergeDaIdeal (hRefMergeDaIdeal := hRefMergeDaIdeal)
    ∧ quiescent_MergeDb (hMergeDb := hMergeDb)
    ∧ quiescent_MergeDbIdeal (hMergeDbIdeal := hMergeDbIdeal)
    ∧ quiescent_RefMergeDbIdeal (hRefMergeDbIdeal := hRefMergeDbIdeal)
    ∧ quiescent_BranchFwd (hBranchFwd := hBranchFwd)
    ∧ quiescent_BranchFwdIdeal (hBranchFwdIdeal := hBranchFwdIdeal)
    ∧ quiescent_RefBranchFwdIdeal (hRefBranchFwdIdeal := hRefBranchFwdIdeal)
    ∧ quiescent_BranchDa (hBranchDa := hBranchDa)
    ∧ quiescent_BranchDaIdeal (hBranchDaIdeal := hBranchDaIdeal)
    ∧ quiescent_RefBranchDaIdeal (hRefBranchDaIdeal := hRefBranchDaIdeal)
    ∧ quiescent_BranchDb (hBranchDb := hBranchDb)
    ∧ quiescent_BranchDbIdeal (hBranchDbIdeal := hBranchDbIdeal)
    ∧ quiescent_RefBranchDbIdeal (hRefBranchDbIdeal := hRefBranchDbIdeal)
    ∧ quiescent_NormFwd (hNormFwd := hNormFwd)
    ∧ quiescent_NormFwdIdeal (hNormFwdIdeal := hNormFwdIdeal)
    ∧ quiescent_RefNormFwdIdeal (hRefNormFwdIdeal := hRefNormFwdIdeal)
    ∧ quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_RefNormBwdIdeal (hRefNormBwdIdeal := hRefNormBwdIdeal)
    ∧ quiescent_RefNormBwdIdeal_pre_finite_norm (hRefNormBwdIdeal := hRefNormBwdIdeal) (hPre_finite_norm := hPre_finite_norm)
    ∧ quiescent_Loss (hLoss := hLoss)
    ∧ quiescent_LossIdeal (hLossIdeal := hLossIdeal)
    ∧ quiescent_RefLossIdeal (hRefLossIdeal := hRefLossIdeal)
    ∧ quiescent_AdamSmall (hAdamSmall := hAdamSmall)
    ∧ quiescent_AdamSmallIdeal (hAdamSmallIdeal := hAdamSmallIdeal)
    ∧ quiescent_RefAdamSmallIdeal (hRefAdamSmallIdeal := hRefAdamSmallIdeal)
    ∧ quiescent_AdamIn (hAdamIn := hAdamIn)
    ∧ quiescent_AdamInIdeal (hAdamInIdeal := hAdamInIdeal)
    ∧ quiescent_RefAdamInIdeal (hRefAdamInIdeal := hRefAdamInIdeal)
    ∧ quiescent_AdamMlpIn (hAdamMlpIn := hAdamMlpIn)
    ∧ quiescent_AdamMlpInIdeal (hAdamMlpInIdeal := hAdamMlpInIdeal)
    ∧ quiescent_RefAdamMlpInIdeal (hRefAdamMlpInIdeal := hRefAdamMlpInIdeal)
    ∧ quiescent_AdamMlpOut (hAdamMlpOut := hAdamMlpOut)
    ∧ quiescent_AdamMlpOutIdeal (hAdamMlpOutIdeal := hAdamMlpOutIdeal)
    ∧ quiescent_RefAdamMlpOutIdeal (hRefAdamMlpOutIdeal := hRefAdamMlpOutIdeal)
    ∧ quiescent_AdamOut (hAdamOut := hAdamOut)
    ∧ quiescent_AdamOutIdeal (hAdamOutIdeal := hAdamOutIdeal)
    ∧ quiescent_RefAdamOutIdeal (hRefAdamOutIdeal := hRefAdamOutIdeal)
    ∧ quiescent_AdamBranch (hAdamBranch := hAdamBranch)
    ∧ quiescent_AdamBranchIdeal (hAdamBranchIdeal := hAdamBranchIdeal)
    ∧ quiescent_RefAdamBranchIdeal (hRefAdamBranchIdeal := hRefAdamBranchIdeal)
    ∧ quiescent_AdamGlu (hAdamGlu := hAdamGlu)
    ∧ quiescent_AdamGluIdeal (hAdamGluIdeal := hAdamGluIdeal)
    ∧ quiescent_RefAdamGluIdeal (hRefAdamGluIdeal := hRefAdamGluIdeal)
    ∧ quiescent_AdamUq (hAdamUq := hAdamUq)
    ∧ quiescent_AdamUqIdeal (hAdamUqIdeal := hAdamUqIdeal)
    ∧ quiescent_RefAdamUqIdeal (hRefAdamUqIdeal := hRefAdamUqIdeal)
    ∧ quiescent_AdamUkv (hAdamUkv := hAdamUkv)
    ∧ quiescent_AdamUkvIdeal (hAdamUkvIdeal := hAdamUkvIdeal)
    ∧ quiescent_RefAdamUkvIdeal (hRefAdamUkvIdeal := hRefAdamUkvIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_AttnFwd_AttnFwdIdeal
    ∧ algebraic_AttnFwdIdeal_RefAttnFwdIdeal_pre_finite_fwd (hAttnFwdIdeal := hAttnFwdIdeal) (hRefAttnFwdIdeal := hRefAttnFwdIdeal) (hPre_finite_fwd := hPre_finite_fwd)
    ∧ preserves_InFwd_InFwdIdeal
    ∧ algebraic_InFwdIdeal_RefInFwdIdeal (hInFwdIdeal := hInFwdIdeal) (hRefInFwdIdeal := hRefInFwdIdeal)
    ∧ preserves_InDa_InDaIdeal
    ∧ algebraic_InDaIdeal_RefInDaIdeal (hInDaIdeal := hInDaIdeal) (hRefInDaIdeal := hRefInDaIdeal)
    ∧ preserves_InDb_InDbIdeal
    ∧ algebraic_InDbIdeal_RefInDbIdeal (hInDbIdeal := hInDbIdeal) (hRefInDbIdeal := hRefInDbIdeal)
    ∧ preserves_OutFwd_OutFwdIdeal
    ∧ algebraic_OutFwdIdeal_RefOutFwdIdeal (hOutFwdIdeal := hOutFwdIdeal) (hRefOutFwdIdeal := hRefOutFwdIdeal)
    ∧ preserves_OutDa_OutDaIdeal
    ∧ algebraic_OutDaIdeal_RefOutDaIdeal (hOutDaIdeal := hOutDaIdeal) (hRefOutDaIdeal := hRefOutDaIdeal)
    ∧ preserves_OutDb_OutDbIdeal
    ∧ algebraic_OutDbIdeal_RefOutDbIdeal (hOutDbIdeal := hOutDbIdeal) (hRefOutDbIdeal := hRefOutDbIdeal)
    ∧ preserves_SmallFwd_SmallFwdIdeal
    ∧ algebraic_SmallFwdIdeal_RefSmallFwdIdeal (hSmallFwdIdeal := hSmallFwdIdeal) (hRefSmallFwdIdeal := hRefSmallFwdIdeal)
    ∧ preserves_SmallDa_SmallDaIdeal
    ∧ algebraic_SmallDaIdeal_RefSmallDaIdeal (hSmallDaIdeal := hSmallDaIdeal) (hRefSmallDaIdeal := hRefSmallDaIdeal)
    ∧ preserves_SmallDb_SmallDbIdeal
    ∧ algebraic_SmallDbIdeal_RefSmallDbIdeal (hSmallDbIdeal := hSmallDbIdeal) (hRefSmallDbIdeal := hRefSmallDbIdeal)
    ∧ preserves_MergeFwd_MergeFwdIdeal
    ∧ algebraic_MergeFwdIdeal_RefMergeFwdIdeal (hMergeFwdIdeal := hMergeFwdIdeal) (hRefMergeFwdIdeal := hRefMergeFwdIdeal)
    ∧ preserves_MergeDa_MergeDaIdeal
    ∧ algebraic_MergeDaIdeal_RefMergeDaIdeal (hMergeDaIdeal := hMergeDaIdeal) (hRefMergeDaIdeal := hRefMergeDaIdeal)
    ∧ preserves_MergeDb_MergeDbIdeal
    ∧ algebraic_MergeDbIdeal_RefMergeDbIdeal (hMergeDbIdeal := hMergeDbIdeal) (hRefMergeDbIdeal := hRefMergeDbIdeal)
    ∧ preserves_BranchFwd_BranchFwdIdeal
    ∧ algebraic_BranchFwdIdeal_RefBranchFwdIdeal (hBranchFwdIdeal := hBranchFwdIdeal) (hRefBranchFwdIdeal := hRefBranchFwdIdeal)
    ∧ preserves_BranchDa_BranchDaIdeal
    ∧ algebraic_BranchDaIdeal_RefBranchDaIdeal (hBranchDaIdeal := hBranchDaIdeal) (hRefBranchDaIdeal := hRefBranchDaIdeal)
    ∧ preserves_BranchDb_BranchDbIdeal
    ∧ algebraic_BranchDbIdeal_RefBranchDbIdeal (hBranchDbIdeal := hBranchDbIdeal) (hRefBranchDbIdeal := hRefBranchDbIdeal)
    ∧ preserves_NormFwd_NormFwdIdeal
    ∧ algebraic_NormFwdIdeal_RefNormFwdIdeal (hNormFwdIdeal := hNormFwdIdeal) (hRefNormFwdIdeal := hRefNormFwdIdeal)
    ∧ preserves_NormBwd_NormBwdIdeal
    ∧ algebraic_NormBwdIdeal_RefNormBwdIdeal_pre_finite_norm (hNormBwdIdeal := hNormBwdIdeal) (hRefNormBwdIdeal := hRefNormBwdIdeal) (hPre_finite_norm := hPre_finite_norm)
    ∧ preserves_Loss_LossIdeal
    ∧ algebraic_LossIdeal_RefLossIdeal (hLossIdeal := hLossIdeal) (hRefLossIdeal := hRefLossIdeal)
    ∧ preserves_AdamSmall_AdamSmallIdeal
    ∧ algebraic_AdamSmallIdeal_RefAdamSmallIdeal (hAdamSmallIdeal := hAdamSmallIdeal) (hRefAdamSmallIdeal := hRefAdamSmallIdeal)
    ∧ preserves_AdamIn_AdamInIdeal
    ∧ algebraic_AdamInIdeal_RefAdamInIdeal (hAdamInIdeal := hAdamInIdeal) (hRefAdamInIdeal := hRefAdamInIdeal)
    ∧ preserves_AdamMlpIn_AdamMlpInIdeal
    ∧ algebraic_AdamMlpInIdeal_RefAdamMlpInIdeal (hAdamMlpInIdeal := hAdamMlpInIdeal) (hRefAdamMlpInIdeal := hRefAdamMlpInIdeal)
    ∧ preserves_AdamMlpOut_AdamMlpOutIdeal
    ∧ algebraic_AdamMlpOutIdeal_RefAdamMlpOutIdeal (hAdamMlpOutIdeal := hAdamMlpOutIdeal) (hRefAdamMlpOutIdeal := hRefAdamMlpOutIdeal)
    ∧ preserves_AdamOut_AdamOutIdeal
    ∧ algebraic_AdamOutIdeal_RefAdamOutIdeal (hAdamOutIdeal := hAdamOutIdeal) (hRefAdamOutIdeal := hRefAdamOutIdeal)
    ∧ preserves_AdamBranch_AdamBranchIdeal
    ∧ algebraic_AdamBranchIdeal_RefAdamBranchIdeal (hAdamBranchIdeal := hAdamBranchIdeal) (hRefAdamBranchIdeal := hRefAdamBranchIdeal)
    ∧ preserves_AdamGlu_AdamGluIdeal
    ∧ algebraic_AdamGluIdeal_RefAdamGluIdeal (hAdamGluIdeal := hAdamGluIdeal) (hRefAdamGluIdeal := hRefAdamGluIdeal)
    ∧ preserves_AdamUq_AdamUqIdeal
    ∧ algebraic_AdamUqIdeal_RefAdamUqIdeal (hAdamUqIdeal := hAdamUqIdeal) (hRefAdamUqIdeal := hRefAdamUqIdeal)
    ∧ preserves_AdamUkv_AdamUkvIdeal
    ∧ algebraic_AdamUkvIdeal_RefAdamUkvIdeal (hAdamUkvIdeal := hAdamUkvIdeal) (hRefAdamUkvIdeal := hRefAdamUkvIdeal)
-- ==== Pre_finite.lean ====
abbrev S8192x4x192 : Shape := ⟨3, ![8192, 4, 192]⟩
abbrev S8192x4x128 : Shape := ⟨3, ![8192, 4, 128]⟩
abbrev S_ : Shape := ⟨0, ![]⟩

class Facts : Prop where
  bcast_S_S8192x4x192 : S_.BroadcastsInDim S8192x4x192 (![] : Fin 0 → Fin S8192x4x192.rank)
  bcast_S_S8192x4x128 : S_.BroadcastsInDim S8192x4x128 (![] : Fin 0 → Fin S8192x4x128.rank)

variable [Facts]

def fn {F : FTy → Type} [FloatOps F] (main_arg0 : FVec F S8192x4x192 .f32) (main_arg1 : FVec F S8192x4x192 .f32) (main_arg2 : FVec F S8192x4x128 .f32) (main_arg3 : FVec F S8192x4x128 .f32) : IVec S8192x4x192 1 × IVec S8192x4x192 1 × IVec S8192x4x128 1 × IVec S8192x4x128 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_v3 : FVec F S8192x4x192 .f32 := Host.absf main_arg1
  let main_cst_0 : FVec F S_ .f32 := constant S_ .f32 0x7F800000#32
  let main_v4 : FVec F S8192x4x192 .f32 := broadcastInDim S8192x4x192 ![] bcast_S_S8192x4x192 main_cst_0
  let main_v5 : IVec S8192x4x192 1 := cmpf .olt main_v3 main_v4
  let main_v6 : FVec F S8192x4x128 .f32 := Host.absf main_arg2
  let main_cst_1 : FVec F S_ .f32 := constant S_ .f32 0x7F800000#32
  let main_v7 : FVec F S8192x4x128 .f32 := broadcastInDim S8192x4x128 ![] bcast_S_S8192x4x128 main_cst_1
  let main_v8 : IVec S8192x4x128 1 := cmpf .olt main_v6 main_v7
  let main_v9 : FVec F S8192x4x128 .f32 := Host.absf main_arg3
  let main_cst_2 : FVec F S_ .f32 := constant S_ .f32 0x7F800000#32
  let main_v10 : FVec F S8192x4x128 .f32 := broadcastInDim S8192x4x128 ![] bcast_S_S8192x4x128 main_cst_2
  let main_v11 : IVec S8192x4x128 1 := cmpf .olt main_v9 main_v10
  (main_v2, main_v5, main_v8, main_v11)
-- ==== Pre_finite_fwd.lean ====
abbrev S8192x4x192 : Shape := ⟨3, ![8192, 4, 192]⟩
abbrev S8192x4x128 : Shape := ⟨3, ![8192, 4, 128]⟩
abbrev S_ : Shape := ⟨0, ![]⟩

class Facts : Prop where
  bcast_S_S8192x4x192 : S_.BroadcastsInDim S8192x4x192 (![] : Fin 0 → Fin S8192x4x192.rank)
  bcast_S_S8192x4x128 : S_.BroadcastsInDim S8192x4x128 (![] : Fin 0 → Fin S8192x4x128.rank)

variable [Facts]

def fn {F : FTy → Type} [FloatOps F] (main_arg0 : FVec F S8192x4x192 .f32) (main_arg1 : FVec F S8192x4x192 .f32) (main_arg2 : FVec F S8192x4x128 .f32) : IVec S8192x4x192 1 × IVec S8192x4x192 1 × IVec S8192x4x128 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_v3 : FVec F S8192x4x192 .f32 := Host.absf main_arg1
  let main_cst_0 : FVec F S_ .f32 := constant S_ .f32 0x7F800000#32
  let main_v4 : FVec F S8192x4x192 .f32 := broadcastInDim S8192x4x192 ![] bcast_S_S8192x4x192 main_cst_0
  let main_v5 : IVec S8192x4x192 1 := cmpf .olt main_v3 main_v4
  let main_v6 : FVec F S8192x4x128 .f32 := Host.absf main_arg2
  let main_cst_1 : FVec F S_ .f32 := constant S_ .f32 0x7F800000#32
  let main_v7 : FVec F S8192x4x128 .f32 := broadcastInDim S8192x4x128 ![] bcast_S_S8192x4x128 main_cst_1
  let main_v8 : IVec S8192x4x128 1 := cmpf .olt main_v6 main_v7
  (main_v2, main_v5, main_v8)
-- ==== Pre_finite_norm.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)

variable [Facts]

def fn {F : FTy → Type} [FloatOps F] (main_arg0 : FVec F S8192x2048 .f32) (main_arg1 : FVec F S2048 .f32) (main_arg2 : FVec F S8192x2048 .f32) : IVec S8192x2048 1 × IVec S2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Kernel.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x8192x128 : Shape := ⟨3, ![4, 8192, 128]⟩
abbrev S4x8192x192 : Shape := ⟨3, ![4, 8192, 192]⟩
abbrev S1x1024x192 : Shape := ⟨3, ![1, 1024, 192]⟩
abbrev S1x1024x128 : Shape := ⟨3, ![1, 1024, 128]⟩
abbrev S1x1024x1 : Shape := ⟨3, ![1, 1024, 1]⟩
abbrev S1x8192x192 : Shape := ⟨3, ![1, 8192, 192]⟩
abbrev S1024x192 : Shape := ⟨2, ![1024, 192]⟩
abbrev S1024x128 : Shape := ⟨2, ![1024, 128]⟩
abbrev S8192x192 : Shape := ⟨2, ![8192, 192]⟩
abbrev S1024x1024 : Shape := ⟨2, ![1024, 1024]⟩
abbrev S1024x1 : Shape := ⟨2, ![1024, 1]⟩

abbrev nBuf : Space → Nat
  | .hbm => 33
  | .vmem => 20
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S4x8192x8192, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x8192, .f32⟩
  | .hbm, ⟨20, _⟩ => ⟨S4x8192x8192, .f32⟩
  | .hbm, ⟨21, _⟩ => ⟨S4x8192x128, .f32⟩
  | .hbm, ⟨22, _⟩ => ⟨S4x8192x192, .f32⟩
  | .hbm, ⟨23, _⟩ => ⟨S4x8192x192, .f32⟩
  | .hbm, ⟨24, _⟩ => ⟨S4x8192x128, .f32⟩
  | .hbm, ⟨25, _⟩ => ⟨S4x8192x128, .f32⟩
  | .hbm, ⟨26, _⟩ => ⟨S4x8192x128, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S4x8192x192, .f32⟩
  | .hbm, ⟨31, _⟩ => ⟨S4x8192x192, .f32⟩
  | .hbm, ⟨32, _⟩ => ⟨S4x8192x128, .f32⟩
  | .local _ .vmem, ⟨0, _⟩ => ⟨S1x1024x192, .f32⟩
  | .local _ .vmem, ⟨1, _⟩ => ⟨S1x1024x192, .f32⟩
  | .local _ .vmem, ⟨2, _⟩ => ⟨S1x1024x192, .f32⟩
  | .local _ .vmem, ⟨3, _⟩ => ⟨S1x1024x192, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x1, .f32⟩
  | .local _ .vmem, ⟨11, _⟩ => ⟨S1x1024x1, .f32⟩
  | .local _ .vmem, ⟨12, _⟩ => ⟨S1x8192x192, .f32⟩
  | .local _ .vmem, ⟨13, _⟩ => ⟨S1x8192x192, .f32⟩
  | .local _ .vmem, ⟨14, _⟩ => ⟨S1x1024x192, .f32⟩
  | .local _ .vmem, ⟨15, _⟩ => ⟨S1x1024x192, .f32⟩
  | .local _ .vmem, ⟨16, _⟩ => ⟨S1x1024x128, .f32⟩
  | .local _ .vmem, ⟨17, _⟩ => ⟨S1x1024x128, .f32⟩
  | .local _ .vmem, ⟨18, _⟩ => ⟨S1024x192, .f32⟩
  | .local _ .vmem, ⟨19, _⟩ => ⟨S1024x128, .f32⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v52 : BitVec 32 := Scalar.muli arg2 c1024_i32
  v52
def k0_off1 (i : grid0.Coords) : Fin 3 → Nat :=
  let c0_34 : Index := 0#32
  let arg2 : BitVec 32 := BitVec.ofNat 32 (i 2).val
  let c1024_i32 : BitVec 32 := 1024#32
  let v52 : BitVec 32 := Scalar.muli arg2 c1024_i32
  let v53 : BitVec 32 := v52
  let v54 : Index := Scalar.indexCast v53
  let c0_35 : Index := 0#32
  ![0, v54.toNat, 0]
def k0_cond3 (i : grid0.Coords) : BitVec 1 :=
  let arg2 : BitVec 32 := BitVec.ofNat 32 (i 2).val
  let c7_i32 : BitVec 32 := 7#32
  let v65 : BitVec 1 := Scalar.cmpi .eq arg2 c7_i32
  let v66 : BitVec 32 := Scalar.extui v65
  let c0_i32_39 : BitVec 32 := 0#32
  let v67 : BitVec 1 := Scalar.cmpi .ne v66 c0_i32_39
  v67

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x8192x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x8192x192 : Shape := ⟨3, ![4, 8192, 192]⟩
abbrev S4x8192x128 : Shape := ⟨3, ![4, 8192, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S4x8192x8192, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x8192x8192, .f32⟩
  | .hbm, ⟨12, _⟩ => ⟨S4x8192x8192, .i1⟩
  | .hbm, ⟨13, _⟩ => ⟨S4x8192x8192, .f32⟩
  | .hbm, ⟨14, _⟩ => ⟨S_, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S_, .f32⟩
  | .hbm, ⟨20, _⟩ => ⟨S4x8192, .f32⟩
  | .hbm, ⟨21, _⟩ => ⟨S4x8192, .i1⟩
  | .hbm, ⟨22, _⟩ => ⟨S_, .f32⟩
  | .hbm, ⟨23, _⟩ => ⟨S4x8192, .f32⟩
  | .hbm, ⟨24, _⟩ => ⟨S4x8192, .i1⟩
  | .hbm, ⟨25, _⟩ => ⟨S_, .f32⟩
  | .hbm, ⟨26, _⟩ => ⟨S4x8192, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S4x8192, .f32⟩
  | .hbm, ⟨32, _⟩ => ⟨S4x8192, .f32⟩
  | .hbm, ⟨33, _⟩ => ⟨S4x8192x1, .f32⟩
  | .hbm, ⟨34, _⟩ => ⟨S4x8192x8192, .f32⟩
  | .hbm, ⟨35, _⟩ => ⟨S4x8192x8192, .f32⟩
  | .hbm, ⟨36, _⟩ => ⟨S4x8192x8192, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S4x8192x8192, .f32⟩
  | .hbm, ⟨41, _⟩ => ⟨S4x8192x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x128x8192, .f32⟩
  | .hbm, ⟨47, _⟩ => ⟨S8192x4x128, .f32⟩
  | .hbm, ⟨48, _⟩ => ⟨S4x128x8192, .f32⟩
  | .hbm, ⟨49, _⟩ => ⟨S4x8192x8192, .f32⟩
  | .hbm, ⟨50, _⟩ => ⟨S4x128x8192, .f32⟩
  | .hbm, ⟨51, _⟩ => ⟨S8192x4x128, .f32⟩
  | .hbm, ⟨52, _⟩ => ⟨S4x8192x8192, .f32⟩
  | .hbm, ⟨53, _⟩ => ⟨S4x8192x8192, .f32⟩
  | .hbm, ⟨54, _⟩ => ⟨S4x8192x8192, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S4x8192x1, .f32⟩
  | .hbm, ⟨59, _⟩ => ⟨S4x8192x8192, .f32⟩
  | .hbm, ⟨60, _⟩ => ⟨S4x8192x8192, .f32⟩
  | .hbm, ⟨61, _⟩ => ⟨S_, .f32⟩
  | .hbm, ⟨62, _⟩ => ⟨S4x8192, .f32⟩
  | .hbm, ⟨63, _⟩ => ⟨S4x8192x8192, .f32⟩
  | .hbm, ⟨64, _⟩ => ⟨S4x8192x8192, .f32⟩
  | .hbm, ⟨65, _⟩ => ⟨S4x8192x8192, .f32⟩
  | .hbm, ⟨66, _⟩ => ⟨S_, .f32⟩
  | .hbm, ⟨67, _⟩ => ⟨S4x8192x8192, .f32⟩
  | .hbm, ⟨68, _⟩ => ⟨S4x8192x8192, .f32⟩
  | .hbm, ⟨69, _⟩ => ⟨S4x8192x192, .f32⟩
  | .hbm, ⟨70, _⟩ => ⟨S8192x4x192, .f32⟩
  | .hbm, ⟨71, _⟩ => ⟨S4x8192x192, .f32⟩
  | .hbm, ⟨72, _⟩ => ⟨S8192x4x192, .f32⟩
  | .hbm, ⟨73, _⟩ => ⟨S4x8192x192, .f32⟩
  | .hbm, ⟨74, _⟩ => ⟨S4x8192x192, .f32⟩
  | .hbm, ⟨75, _⟩ => ⟨S4x8192x128, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== AttnFwd.lean ====
abbrev S8192x4x192 : Shape := ⟨3, ![8192, 4, 192]⟩
abbrev S8192x4x128 : Shape := ⟨3, ![8192, 4, 128]⟩
abbrev S4x8192x192 : Shape := ⟨3, ![4, 8192, 192]⟩
abbrev S4x8192x128 : Shape := ⟨3, ![4, 8192, 128]⟩
abbrev S4x8192x1 : Shape := ⟨3, ![4, 8192, 1]⟩
abbrev S1x1024x192 : Shape := ⟨3, ![1, 1024, 192]⟩
abbrev S1x1024x128 : Shape := ⟨3, ![1, 1024, 128]⟩
abbrev S1x1024x1 : Shape := ⟨3, ![1, 1024, 1]⟩
abbrev S1024x1 : Shape := ⟨2, ![1024, 1]⟩
abbrev S1024x128 : Shape := ⟨2, ![1024, 128]⟩
abbrev S1024x192 : Shape := ⟨2, ![1024, 192]⟩
abbrev S1024x1024 : Shape := ⟨2, ![1024, 1024]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S4x8192x192, .f32⟩
  | .hbm, ⟨4, _⟩ => ⟨S4x8192x192, .f32⟩
  | .hbm, ⟨5, _⟩ => ⟨S4x8192x128, .f32⟩
  | .hbm, ⟨6, _⟩ => ⟨S4x8192x128, .f32⟩
  | .hbm, ⟨7, _⟩ => ⟨S4x8192x1, .f32⟩
  | .local _ .vmem, ⟨0, _⟩ => ⟨S1x1024x192, .f32⟩
  | .local _ .vmem, ⟨1, _⟩ => ⟨S1x1024x192, .f32⟩
  | .local _ .vmem, ⟨2, _⟩ => ⟨S1x1024x192, .f32⟩
  | .local _ .vmem, ⟨3, _⟩ => ⟨S1x1024x192, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v44 : BitVec 1 := Scalar.cmpi .eq arg2 c7_i32
  let v45 : BitVec 32 := Scalar.extui v44
  let c0_i32_25 : BitVec 32 := 0#32
  let v46 : BitVec 1 := Scalar.cmpi .ne v45 c0_i32_25
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefAttnFwdIdeal.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x8192x128 : Shape := ⟨3, ![4, 8192, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S4x8192x8192, .f32⟩
  | .hbm, ⟨4, _⟩ => ⟨S_, .f32⟩
  | .hbm, ⟨5, _⟩ => ⟨S4x8192x8192, .f32⟩
  | .hbm, ⟨6, _⟩ => ⟨S4x8192x8192, .f32⟩
  | .hbm, ⟨7, _⟩ => ⟨S4x8192x8192, .f32⟩
  | .hbm, ⟨8, _⟩ => ⟨S_, .f32⟩
  | .hbm, ⟨9, _⟩ => ⟨S4x8192x8192, .f32⟩
  | .hbm, ⟨10, _⟩ => ⟨S4x8192x8192, .f32⟩
  | .hbm, ⟨11, _⟩ => ⟨S_, .f32⟩
  | .hbm, ⟨12, _⟩ => ⟨S4x8192, .f32⟩
  | .hbm, ⟨13, _⟩ => ⟨S_, .f32⟩
  | .hbm, ⟨14, _⟩ => ⟨S4x8192, .f32⟩
  | .hbm, ⟨15, _⟩ => ⟨S4x8192, .f32⟩
  | .hbm, ⟨16, _⟩ => ⟨S4x8192x1, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S4x8192x8192, .f32⟩
  | .hbm, ⟨24, _⟩ => ⟨S4x8192x8192, .f32⟩
  | .hbm, ⟨25, _⟩ => ⟨S4x128x8192, .f32⟩
  | .hbm, ⟨26, _⟩ => ⟨S8192x4x128, .f32⟩
  | .hbm, ⟨27, _⟩ => ⟨S4x8192x128, .f32⟩
  | .hbm, ⟨28, _⟩ => ⟨S4x8192x8192, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S4x8192x1, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== InFwd.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S2048x8192, .bf16⟩
  | .hbm, ⟨3, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdIdeal.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S2048x8192, .bf16⟩
  | .hbm, ⟨3, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInFwdIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InDa.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S2048x8192, .bf16⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDaIdeal.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S2048x8192, .bf16⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDaIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .f32⟩
  | .hbm, ⟨4, _⟩ => ⟨S8192x2048, .f32⟩
  | .hbm, ⟨5, _⟩ => ⟨S2048x8192, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDb.lean ====
abbrev S8192x2048 : Shape := ⟨2, ![8192, 2048]⟩
abbrev S2048x8192 : Shape := ⟨2, ![2048, 8192]⟩
abbrev S8192x8192 : Shape := ⟨2, ![8192, 8192]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S2048x8192, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDbIdeal.lean ====
abbrev S8192x2048 : Shape := ⟨2, ![8192, 2048]⟩
abbrev S2048x8192 : Shape := ⟨2, ![2048, 8192]⟩
abbrev S8192x8192 : Shape := ⟨2, ![8192, 8192]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S2048x8192, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDbIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .f32⟩
  | .hbm, ⟨4, _⟩ => ⟨S8192x2048, .f32⟩
  | .hbm, ⟨5, _⟩ => ⟨S2048x8192, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutFwd.lean ====
abbrev S8192x8192 : Shape := ⟨2, ![8192, 8192]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x2048, .bf16⟩
  | .hbm, ⟨7, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutFwdIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== OutDa.lean ====
abbrev S8192x8192 : Shape := ⟨2, ![8192, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutDaIdeal.lean ====
abbrev S8192x8192 : Shape := ⟨2, ![8192, 8192]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutDb.lean ====
abbrev S8192x8192 : Shape := ⟨2, ![8192, 8192]⟩
abbrev S8192x2048 : Shape := ⟨2, ![8192, 2048]⟩
abbrev S_ : Shape := ⟨0, ![]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutDbIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== SmallFwd.lean ====
abbrev S8192x2048 : Shape := ⟨2, ![8192, 2048]⟩
abbrev S2048x4608 : Shape := ⟨2, ![2048, 4608]⟩
abbrev S8192x4608 : Shape := ⟨2, ![8192, 4608]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S2048x4608, .bf16⟩
  | .hbm, ⟨3, _⟩ => ⟨S8192x4608, .f32⟩
  | .local _ .vmem, ⟨0, _⟩ => ⟨S1024x2048, .f32⟩
  | .local _ .vmem, ⟨1, _⟩ => ⟨S1024x2048, .f32⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSmallFwdIdeal.lean ====
abbrev S8192x2048 : Shape := ⟨2, ![8192, 2048]⟩
abbrev S2048x4608 : Shape := ⟨2, ![2048, 4608]⟩
abbrev S8192x4608 : Shape := ⟨2, ![8192, 4608]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SmallDa.lean ====
abbrev S8192x2048 : Shape := ⟨2, ![8192, 2048]⟩
abbrev S2048x4608 : Shape := ⟨2, ![2048, 4608]⟩
abbrev S8192x4608 : Shape := ⟨2, ![8192, 4608]⟩
abbrev S1024x2304 : Shape := ⟨2, ![1024, 2304]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | .hbm, ⟨3, _⟩ => ⟨S2048x4608, .bf16⟩
  | .hbm, ⟨4, _⟩ => ⟨S8192x2048, .f32⟩
  | .local _ .vmem, ⟨0, _⟩ => ⟨S1024x2304, .f32⟩
  | .local _ .vmem, ⟨1, _⟩ => ⟨S1024x2304, .f32⟩
  | .local _ .vmem, ⟨2, _⟩ => ⟨S1024x2304, .bf16⟩
  | .local _ .vmem, ⟨3, _⟩ => ⟨S1024x2304, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSmallDaIdeal.lean ====
abbrev S8192x2048 : Shape := ⟨2, ![8192, 2048]⟩
abbrev S2048x4608 : Shape := ⟨2, ![2048, 4608]⟩
abbrev S8192x4608 : Shape := ⟨2, ![8192, 4608]⟩
abbrev S4608x2048 : Shape := ⟨2, ![4608, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | .hbm, ⟨3, _⟩ => ⟨S8192x4608, .f32⟩
  | .hbm, ⟨4, _⟩ => ⟨S4608x2048, .f32⟩
  | .hbm, ⟨5, _⟩ => ⟨S2048x4608, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SmallDb.lean ====
abbrev S8192x2048 : Shape := ⟨2, ![8192, 2048]⟩
abbrev S2048x4608 : Shape := ⟨2, ![2048, 4608]⟩
abbrev S8192x4608 : Shape := ⟨2, ![8192, 4608]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | .hbm, ⟨3, _⟩ => ⟨S2048x4608, .f32⟩
  | .local _ .vmem, ⟨0, _⟩ => ⟨S2048x1024, .f32⟩
  | .local _ .vmem, ⟨1, _⟩ => ⟨S2048x1024, .f32⟩
  | .local _ .vmem, ⟨2, _⟩ => ⟨S2048x768, .f32⟩
  | .local _ .vmem, ⟨3, _⟩ => ⟨S2048x768, .f32⟩
  | .local _ .vmem, ⟨4, _⟩ => ⟨S1024x768, .f32⟩
  | .local _ .vmem, ⟨5, _⟩ => ⟨S1024x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSmallDbIdeal.lean ====
abbrev S8192x2048 : Shape := ⟨2, ![8192, 2048]⟩
abbrev S2048x4608 : Shape := ⟨2, ![2048, 4608]⟩
abbrev S8192x4608 : Shape := ⟨2, ![8192, 4608]⟩
abbrev S4608x2048 : Shape := ⟨2, ![4608, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | .hbm, ⟨3, _⟩ => ⟨S8192x4608, .f32⟩
  | .hbm, ⟨4, _⟩ => ⟨S4608x2048, .f32⟩
  | .hbm, ⟨5, _⟩ => ⟨S2048x4608, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MergeFwd.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergeFwdIdeal.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMergeFwdIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MergeDa.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergeDaIdeal.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMergeDaIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MergeDb.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergeDbIdeal.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMergeDbIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BranchFwd.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S512x2048, .bf16⟩
  | .hbm, ⟨3, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBranchFwdIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchDa.lean ====
abbrev S8192x512 : Shape := ⟨2, ![8192, 512]⟩
abbrev S512x2048 : Shape := ⟨2, ![512, 2048]⟩
abbrev S8192x2048 : Shape := ⟨2, ![8192, 2048]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S512x2048, .bf16⟩
  | .hbm, ⟨4, _⟩ => ⟨S8192x512, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBranchDaIdeal.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .f32⟩
  | .hbm, ⟨4, _⟩ => ⟨S2048x512, .f32⟩
  | .hbm, ⟨5, _⟩ => ⟨S512x2048, .f32⟩
  | .hbm, ⟨6, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BranchDb.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S512x2048, .f32⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBranchDbIdeal.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .f32⟩
  | .hbm, ⟨4, _⟩ => ⟨S2048x512, .f32⟩
  | .hbm, ⟨5, _⟩ => ⟨S512x2048, .f32⟩
  | .hbm, ⟨6, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormFwd.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefNormFwdIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S8192x2048 : Shape := ⟨2, ![8192, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefNormBwdIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Loss.lean ====
abbrev S8192x2048 : Shape := ⟨2, ![8192, 2048]⟩
abbrev S8192x1 : Shape := ⟨2, ![8192, 1]⟩
abbrev S256x2048 : Shape := ⟨2, ![256, 2048]⟩
abbrev S256x1 : Shape := ⟨2, ![256, 1]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S256x2048, .f32⟩
  | .local _ .vmem, ⟨7, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefLossIdeal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x2048, .f32⟩
  | .hbm, ⟨35, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_cst_7 : Ref sig .tc := ⟨.hbm, 27, rfl⟩
abbrev main_cst_8 : Ref sig .tc := ⟨.hbm, 28, rfl⟩
abbrev main_v17 : Ref sig .tc := ⟨.hbm, 29, rfl⟩
abbrev main_v18 : Ref sig .tc := ⟨.hbm, 30, rfl⟩
abbrev main_cst_9 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== AdamSmall.lean ====
abbrev S1536x1024 : Shape := ⟨2, ![1536, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1536x1024, .f32⟩
  | .hbm, ⟨1, _⟩ => ⟨S1536x1024, .f32⟩
  | .hbm, ⟨2, _⟩ => ⟨S1536x1024, .f32⟩
  | .hbm, ⟨3, _⟩ => ⟨S1536x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamSmallIdeal.lean ====
abbrev S1536x1024 : Shape := ⟨2, ![1536, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x1024, .f32⟩
  | .hbm, ⟨1, _⟩ => ⟨S1536x1024, .f32⟩
  | .hbm, ⟨2, _⟩ => ⟨S1536x1024, .f32⟩
  | .hbm, ⟨3, _⟩ => ⟨S1536x1024, .f32⟩
  | .hbm, ⟨4, _⟩ => ⟨S_, .f32⟩
  | .hbm, ⟨5, _⟩ => ⟨S1536x1024, .f32⟩
  | .hbm, ⟨6, _⟩ => ⟨S1536x1024, .f32⟩
  | .hbm, ⟨7, _⟩ => ⟨S_, .f32⟩
  | .hbm, ⟨8, _⟩ => ⟨S1536x1024, .f32⟩
  | .hbm, ⟨9, _⟩ => ⟨S1536x1024, .f32⟩
  | .hbm, ⟨10, _⟩ => ⟨S1536x1024, .f32⟩
  | .hbm, ⟨11, _⟩ => ⟨S_, .f32⟩
  | .hbm, ⟨12, _⟩ => ⟨S1536x1024, .f32⟩
  | .hbm, ⟨13, _⟩ => ⟨S1536x1024, .f32⟩
  | .hbm, ⟨14, _⟩ => ⟨S1536x1024, .f32⟩
  | .hbm, ⟨15, _⟩ => ⟨S_, .f32⟩
  | .hbm, ⟨16, _⟩ => ⟨S1536x1024, .f32⟩
  | .hbm, ⟨17, _⟩ => ⟨S1536x1024, .f32⟩
  | .hbm, ⟨18, _⟩ => ⟨S1536x1024, .f32⟩
  | .hbm, ⟨19, _⟩ => ⟨S_, .f32⟩
  | .hbm, ⟨20, _⟩ => ⟨S1536x1024, .f32⟩
  | .hbm, ⟨21, _⟩ => ⟨S1536x1024, .f32⟩
  | .hbm, ⟨22, _⟩ => ⟨S_, .f32⟩
  | .hbm, ⟨23, _⟩ => ⟨S1536x1024, .f32⟩
  | .hbm, ⟨24, _⟩ => ⟨S1536x1024, .f32⟩
  | .hbm, ⟨25, _⟩ => ⟨S1536x1024, .f32⟩
  | .hbm, ⟨26, _⟩ => ⟨S_, .f32⟩
  | .hbm, ⟨27, _⟩ => ⟨S1536x1024, .f32⟩
  | .hbm, ⟨28, _⟩ => ⟨S1536x1024, .f32⟩
  | .hbm, ⟨29, _⟩ => ⟨S1536x1024, .f32⟩
  | .hbm, ⟨30, _⟩ => ⟨S_, .f32⟩
  | .hbm, ⟨31, _⟩ => ⟨S1536x1024, .f32⟩
  | .hbm, ⟨32, _⟩ => ⟨S1536x1024, .f32⟩
  | .hbm, ⟨33, _⟩ => ⟨S1536x1024, .f32⟩
  | .hbm, ⟨34, _⟩ => ⟨S_, .f32⟩
  | .hbm, ⟨35, _⟩ => ⟨S1536x1024, .f32⟩
  | .hbm, ⟨36, _⟩ => ⟨S1536x1024, .f32⟩
  | _, _ => ⟨S1536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S4x2048x1562 : Shape := ⟨3, ![4, 2048, 1562]⟩
abbrev S8192x1562 : Shape := ⟨2, ![8192, 1562]⟩
abbrev S256x1562 : Shape := ⟨2, ![256, 1562]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x1562, .f32⟩
  | .hbm, ⟨1, _⟩ => ⟨S4x2048x1562, .f32⟩
  | .hbm, ⟨2, _⟩ => ⟨S4x2048x1562, .f32⟩
  | .hbm, ⟨3, _⟩ => ⟨S4x2048x1562, .f32⟩
  | .hbm, ⟨4, _⟩ => ⟨S8192x1562, .f32⟩
  | .hbm, ⟨5, _⟩ => ⟨S8192x1562, .f32⟩
  | .hbm, ⟨6, _⟩ => ⟨S8192x1562, .f32⟩
  | .hbm, ⟨7, _⟩ => ⟨S8192x1562, .f32⟩
  | .hbm, ⟨8, _⟩ => ⟨S8192x1562, .f32⟩
  | .hbm, ⟨9, _⟩ => ⟨S8192x1562, .f32⟩
  | .hbm, ⟨10, _⟩ => ⟨S8192x1562, .f32⟩
  | .local _ .vmem, ⟨0, _⟩ => ⟨S256x1562, .f32⟩
  | .local _ .vmem, ⟨1, _⟩ => ⟨S256x1562, .f32⟩
  | .local _ .vmem, ⟨2, _⟩ => ⟨S256x1562, .f32⟩
  | .local _ .vmem, ⟨3, _⟩ => ⟨S256x1562, .f32⟩
  | .local _ .vmem, ⟨4, _⟩ => ⟨S256x1562, .f32⟩
  | .local _ .vmem, ⟨5, _⟩ => ⟨S256x1562, .f32⟩
  | .local _ .vmem, ⟨6, _⟩ => ⟨S256x1562, .f32⟩
  | .local _ .vmem, ⟨7, _⟩ => ⟨S256x1562, .f32⟩
  | .local _ .vmem, ⟨8, _⟩ => ⟨S256x1562, .f32⟩
  | .local _ .vmem, ⟨9, _⟩ => ⟨S256x1562, .f32⟩
  | .local _ .vmem, ⟨10, _⟩ => ⟨S256x1562, .f32⟩
  | .local _ .vmem, ⟨11, _⟩ => ⟨S256x1562, .f32⟩
  | .local _ .vmem, ⟨12, _⟩ => ⟨S256x1562, .f32⟩
  | .local _ .vmem, ⟨13, _⟩ => ⟨S256x1562, .f32⟩
  | _, _ => ⟨S4x2048x1562, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1562 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1562 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1562 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1562 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1562 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1562 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1562 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S4x2048x1562 : Shape := ⟨3, ![4, 2048, 1562]⟩
abbrev S8192x1562 : Shape := ⟨2, ![8192, 1562]⟩
abbrev S256x1562 : Shape := ⟨2, ![256, 1562]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x1562, .f32⟩
  | .hbm, ⟨1, _⟩ => ⟨S4x2048x1562, .f32⟩
  | .hbm, ⟨2, _⟩ => ⟨S4x2048x1562, .f32⟩
  | .hbm, ⟨3, _⟩ => ⟨S4x2048x1562, .f32⟩
  | .hbm, ⟨4, _⟩ => ⟨S8192x1562, .f32⟩
  | .hbm, ⟨5, _⟩ => ⟨S8192x1562, .f32⟩
  | .hbm, ⟨6, _⟩ => ⟨S8192x1562, .f32⟩
  | .hbm, ⟨7, _⟩ => ⟨S8192x1562, .f32⟩
  | .hbm, ⟨8, _⟩ => ⟨S8192x1562, .f32⟩
  | .hbm, ⟨9, _⟩ => ⟨S8192x1562, .f32⟩
  | .hbm, ⟨10, _⟩ => ⟨S8192x1562, .f32⟩
  | .local _ .vmem, ⟨0, _⟩ => ⟨S256x1562, .f32⟩
  | .local _ .vmem, ⟨1, _⟩ => ⟨S256x1562, .f32⟩
  | .local _ .vmem, ⟨2, _⟩ => ⟨S256x1562, .f32⟩
  | .local _ .vmem, ⟨3, _⟩ => ⟨S256x1562, .f32⟩
  | .local _ .vmem, ⟨4, _⟩ => ⟨S256x1562, .f32⟩
  | .local _ .vmem, ⟨5, _⟩ => ⟨S256x1562, .f32⟩
  | .local _ .vmem, ⟨6, _⟩ => ⟨S256x1562, .f32⟩
  | .local _ .vmem, ⟨7, _⟩ => ⟨S256x1562, .f32⟩
  | .local _ .vmem, ⟨8, _⟩ => ⟨S256x1562, .f32⟩
  | .local _ .vmem, ⟨9, _⟩ => ⟨S256x1562, .f32⟩
  | .local _ .vmem, ⟨10, _⟩ => ⟨S256x1562, .f32⟩
  | .local _ .vmem, ⟨11, _⟩ => ⟨S256x1562, .f32⟩
  | .local _ .vmem, ⟨12, _⟩ => ⟨S256x1562, .f32⟩
  | .local _ .vmem, ⟨13, _⟩ => ⟨S256x1562, .f32⟩
  | _, _ => ⟨S4x2048x1562, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1562 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1562 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1562 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1562 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1562 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1562 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1562 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamInIdeal.lean ====
abbrev S4x2048x1562 : Shape := ⟨3, ![4, 2048, 1562]⟩
abbrev S_ : Shape := ⟨0, ![]⟩
abbrev S8192x1562 : Shape := ⟨2, ![8192, 1562]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1562, .f32⟩
  | .hbm, ⟨1, _⟩ => ⟨S4x2048x1562, .f32⟩
  | .hbm, ⟨2, _⟩ => ⟨S4x2048x1562, .f32⟩
  | .hbm, ⟨3, _⟩ => ⟨S4x2048x1562, .f32⟩
  | .hbm, ⟨4, _⟩ => ⟨S_, .f32⟩
  | .hbm, ⟨5, _⟩ => ⟨S4x2048x1562, .f32⟩
  | .hbm, ⟨6, _⟩ => ⟨S4x2048x1562, .f32⟩
  | .hbm, ⟨7, _⟩ => ⟨S_, .f32⟩
  | .hbm, ⟨8, _⟩ => ⟨S4x2048x1562, .f32⟩
  | .hbm, ⟨9, _⟩ => ⟨S4x2048x1562, .f32⟩
  | .hbm, ⟨10, _⟩ => ⟨S4x2048x1562, .f32⟩
  | .hbm, ⟨11, _⟩ => ⟨S_, .f32⟩
  | .hbm, ⟨12, _⟩ => ⟨S4x2048x1562, .f32⟩
  | .hbm, ⟨13, _⟩ => ⟨S4x2048x1562, .f32⟩
  | .hbm, ⟨14, _⟩ => ⟨S4x2048x1562, .f32⟩
  | .hbm, ⟨15, _⟩ => ⟨S_, .f32⟩
  | .hbm, ⟨16, _⟩ => ⟨S4x2048x1562, .f32⟩
  | .hbm, ⟨17, _⟩ => ⟨S4x2048x1562, .f32⟩
  | .hbm, ⟨18, _⟩ => ⟨S4x2048x1562, .f32⟩
  | .hbm, ⟨19, _⟩ => ⟨S_, .f32⟩
  | .hbm, ⟨20, _⟩ => ⟨S4x2048x1562, .f32⟩
  | .hbm, ⟨21, _⟩ => ⟨S4x2048x1562, .f32⟩
  | .hbm, ⟨22, _⟩ => ⟨S_, .f32⟩
  | .hbm, ⟨23, _⟩ => ⟨S4x2048x1562, .f32⟩
  | .hbm, ⟨24, _⟩ => ⟨S4x2048x1562, .f32⟩
  | .hbm, ⟨25, _⟩ => ⟨S4x2048x1562, .f32⟩
  | .hbm, ⟨26, _⟩ => ⟨S_, .f32⟩
  | .hbm, ⟨27, _⟩ => ⟨S4x2048x1562, .f32⟩
  | .hbm, ⟨28, _⟩ => ⟨S4x2048x1562, .f32⟩
  | .hbm, ⟨29, _⟩ => ⟨S4x2048x1562, .f32⟩
  | .hbm, ⟨30, _⟩ => ⟨S_, .f32⟩
  | .hbm, ⟨31, _⟩ => ⟨S4x2048x1562, .f32⟩
  | .hbm, ⟨32, _⟩ => ⟨S4x2048x1562, .f32⟩
  | .hbm, ⟨33, _⟩ => ⟨S4x2048x1562, .f32⟩
  | .hbm, ⟨34, _⟩ => ⟨S_, .f32⟩
  | .hbm, ⟨35, _⟩ => ⟨S4x2048x1562, .f32⟩
  | .hbm, ⟨36, _⟩ => ⟨S4x2048x1562, .f32⟩
  | .hbm, ⟨37, _⟩ => ⟨S8192x1562, .f32⟩
  | .hbm, ⟨38, _⟩ => ⟨S8192x1562, .f32⟩
  | .hbm, ⟨39, _⟩ => ⟨S8192x1562, .f32⟩
  | _, _ => ⟨S4x2048x1562, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMlpIn.lean ====
abbrev S4x2048x1024 : Shape := ⟨3, ![4, 2048, 1024]⟩
abbrev S8192x1024 : Shape := ⟨2, ![8192, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpInIdeal.lean ====
abbrev S4x2048x1024 : Shape := ⟨3, ![4, 2048, 1024]⟩
abbrev S8192x1024 : Shape := ⟨2, ![8192, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamMlpInIdeal.lean ====
abbrev S4x2048x1024 : Shape := ⟨3, ![4, 2048, 1024]⟩
abbrev S_ : Shape := ⟨0, ![]⟩
abbrev S8192x1024 : Shape := ⟨2, ![8192, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x2048x1024, .f32⟩
  | .hbm, ⟨36, _⟩ => ⟨S4x2048x1024, .f32⟩
  | .hbm, ⟨37, _⟩ => ⟨S8192x1024, .f32⟩
  | .hbm, ⟨38, _⟩ => ⟨S8192x1024, .f32⟩
  | .hbm, ⟨39, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMlpOut.lean ====
abbrev S4x1024x2048 : Shape := ⟨3, ![4, 1024, 2048]⟩
abbrev S4096x2048 : Shape := ⟨2, ![4096, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpOutIdeal.lean ====
abbrev S4x1024x2048 : Shape := ⟨3, ![4, 1024, 2048]⟩
abbrev S4096x2048 : Shape := ⟨2, ![4096, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamMlpOutIdeal.lean ====
abbrev S4x1024x2048 : Shape := ⟨3, ![4, 1024, 2048]⟩
abbrev S_ : Shape := ⟨0, ![]⟩
abbrev S4096x2048 : Shape := ⟨2, ![4096, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S_, .f32⟩
  | .hbm, ⟨5, _⟩ => ⟨S4x1024x2048, .f32⟩
  | .hbm, ⟨6, _⟩ => ⟨S4x1024x2048, .f32⟩
  | .hbm, ⟨7, _⟩ => ⟨S_, .f32⟩
  | .hbm, ⟨8, _⟩ => ⟨S4x1024x2048, .f32⟩
  | .hbm, ⟨9, _⟩ => ⟨S4x1024x2048, .f32⟩
  | .hbm, ⟨10, _⟩ => ⟨S4x1024x2048, .f32⟩
  | .hbm, ⟨11, _⟩ => ⟨S_, .f32⟩
  | .hbm, ⟨12, _⟩ => ⟨S4x1024x2048, .f32⟩
  | .hbm, ⟨13, _⟩ => ⟨S4x1024x2048, .f32⟩
  | .hbm, ⟨14, _⟩ => ⟨S4x1024x2048, .f32⟩
  | .hbm, ⟨15, _⟩ => ⟨S_, .f32⟩
  | .hbm, ⟨16, _⟩ => ⟨S4x1024x2048, .f32⟩
  | .hbm, ⟨17, _⟩ => ⟨S4x1024x2048, .f32⟩
  | .hbm, ⟨18, _⟩ => ⟨S4x1024x2048, .f32⟩
  | .hbm, ⟨19, _⟩ => ⟨S_, .f32⟩
  | .hbm, ⟨20, _⟩ => ⟨S4x1024x2048, .f32⟩
  | .hbm, ⟨21, _⟩ => ⟨S4x1024x2048, .f32⟩
  | .hbm, ⟨22, _⟩ => ⟨S_, .f32⟩
  | .hbm, ⟨23, _⟩ => ⟨S4x1024x2048, .f32⟩
  | .hbm, ⟨24, _⟩ => ⟨S4x1024x2048, .f32⟩
  | .hbm, ⟨25, _⟩ => ⟨S4x1024x2048, .f32⟩
  | .hbm, ⟨26, _⟩ => ⟨S_, .f32⟩
  | .hbm, ⟨27, _⟩ => ⟨S4x1024x2048, .f32⟩
  | .hbm, ⟨28, _⟩ => ⟨S4x1024x2048, .f32⟩
  | .hbm, ⟨29, _⟩ => ⟨S4x1024x2048, .f32⟩
  | .hbm, ⟨30, _⟩ => ⟨S_, .f32⟩
  | .hbm, ⟨31, _⟩ => ⟨S4x1024x2048, .f32⟩
  | .hbm, ⟨32, _⟩ => ⟨S4x1024x2048, .f32⟩
  | .hbm, ⟨33, _⟩ => ⟨S4x1024x2048, .f32⟩
  | .hbm, ⟨34, _⟩ => ⟨S_, .f32⟩
  | .hbm, ⟨35, _⟩ => ⟨S4x1024x2048, .f32⟩
  | .hbm, ⟨36, _⟩ => ⟨S4x1024x2048, .f32⟩
  | .hbm, ⟨37, _⟩ => ⟨S4096x2048, .f32⟩
  | .hbm, ⟨38, _⟩ => ⟨S4096x2048, .f32⟩
  | .hbm, ⟨39, _⟩ => ⟨S4096x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S4x256x2048 : Shape := ⟨3, ![4, 256, 2048]⟩
abbrev S1024x2048 : Shape := ⟨2, ![1024, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S4x256x2048 : Shape := ⟨3, ![4, 256, 2048]⟩
abbrev S1024x2048 : Shape := ⟨2, ![1024, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamOutIdeal.lean ====
abbrev S4x256x2048 : Shape := ⟨3, ![4, 256, 2048]⟩
abbrev S_ : Shape := ⟨0, ![]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S_, .f32⟩
  | .hbm, ⟨5, _⟩ => ⟨S4x256x2048, .f32⟩
  | .hbm, ⟨6, _⟩ => ⟨S4x256x2048, .f32⟩
  | .hbm, ⟨7, _⟩ => ⟨S_, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S_, .f32⟩
  | .hbm, ⟨12, _⟩ => ⟨S4x256x2048, .f32⟩
  | .hbm, ⟨13, _⟩ => ⟨S4x256x2048, .f32⟩
  | .hbm, ⟨14, _⟩ => ⟨S4x256x2048, .f32⟩
  | .hbm, ⟨15, _⟩ => ⟨S_, .f32⟩
  | .hbm, ⟨16, _⟩ => ⟨S4x256x2048, .f32⟩
  | .hbm, ⟨17, _⟩ => ⟨S4x256x2048, .f32⟩
  | .hbm, ⟨18, _⟩ => ⟨S4x256x2048, .f32⟩
  | .hbm, ⟨19, _⟩ => ⟨S_, .f32⟩
  | .hbm, ⟨20, _⟩ => ⟨S4x256x2048, .f32⟩
  | .hbm, ⟨21, _⟩ => ⟨S4x256x2048, .f32⟩
  | .hbm, ⟨22, _⟩ => ⟨S_, .f32⟩
  | .hbm, ⟨23, _⟩ => ⟨S4x256x2048, .f32⟩
  | .hbm, ⟨24, _⟩ => ⟨S4x256x2048, .f32⟩
  | .hbm, ⟨25, _⟩ => ⟨S4x256x2048, .f32⟩
  | .hbm, ⟨26, _⟩ => ⟨S_, .f32⟩
  | .hbm, ⟨27, _⟩ => ⟨S4x256x2048, .f32⟩
  | .hbm, ⟨28, _⟩ => ⟨S4x256x2048, .f32⟩
  | .hbm, ⟨29, _⟩ => ⟨S4x256x2048, .f32⟩
  | .hbm, ⟨30, _⟩ => ⟨S_, .f32⟩
  | .hbm, ⟨31, _⟩ => ⟨S4x256x2048, .f32⟩
  | .hbm, ⟨32, _⟩ => ⟨S4x256x2048, .f32⟩
  | .hbm, ⟨33, _⟩ => ⟨S4x256x2048, .f32⟩
  | .hbm, ⟨34, _⟩ => ⟨S_, .f32⟩
  | .hbm, ⟨35, _⟩ => ⟨S4x256x2048, .f32⟩
  | .hbm, ⟨36, _⟩ => ⟨S4x256x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBranch.lean ====
abbrev S4x4x512x256 : Shape := ⟨4, ![4, 4, 512, 256]⟩
abbrev S8192x256 : Shape := ⟨2, ![8192, 256]⟩
abbrev S2048x256 : Shape := ⟨2, ![2048, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x4x512x256, .f32⟩
  | .hbm, ⟨1, _⟩ => ⟨S4x4x512x256, .f32⟩
  | .hbm, ⟨2, _⟩ => ⟨S4x4x512x256, .f32⟩
  | .hbm, ⟨3, _⟩ => ⟨S4x4x512x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | _, _ => ⟨S4x4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchIdeal.lean ====
abbrev S4x4x512x256 : Shape := ⟨4, ![4, 4, 512, 256]⟩
abbrev S8192x256 : Shape := ⟨2, ![8192, 256]⟩
abbrev S2048x256 : Shape := ⟨2, ![2048, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x4x512x256, .f32⟩
  | .hbm, ⟨1, _⟩ => ⟨S4x4x512x256, .f32⟩
  | .hbm, ⟨2, _⟩ => ⟨S4x4x512x256, .f32⟩
  | .hbm, ⟨3, _⟩ => ⟨S4x4x512x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | _, _ => ⟨S4x4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamBranchIdeal.lean ====
abbrev S4x4x512x256 : Shape := ⟨4, ![4, 4, 512, 256]⟩
abbrev S_ : Shape := ⟨0, ![]⟩
abbrev S8192x256 : Shape := ⟨2, ![8192, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x4x512x256, .f32⟩
  | .hbm, ⟨1, _⟩ => ⟨S4x4x512x256, .f32⟩
  | .hbm, ⟨2, _⟩ => ⟨S4x4x512x256, .f32⟩
  | .hbm, ⟨3, _⟩ => ⟨S4x4x512x256, .f32⟩
  | .hbm, ⟨4, _⟩ => ⟨S_, .f32⟩
  | .hbm, ⟨5, _⟩ => ⟨S4x4x512x256, .f32⟩
  | .hbm, ⟨6, _⟩ => ⟨S4x4x512x256, .f32⟩
  | .hbm, ⟨7, _⟩ => ⟨S_, .f32⟩
  | .hbm, ⟨8, _⟩ => ⟨S4x4x512x256, .f32⟩
  | .hbm, ⟨9, _⟩ => ⟨S4x4x512x256, .f32⟩
  | .hbm, ⟨10, _⟩ => ⟨S4x4x512x256, .f32⟩
  | .hbm, ⟨11, _⟩ => ⟨S_, .f32⟩
  | .hbm, ⟨12, _⟩ => ⟨S4x4x512x256, .f32⟩
  | .hbm, ⟨13, _⟩ => ⟨S4x4x512x256, .f32⟩
  | .hbm, ⟨14, _⟩ => ⟨S4x4x512x256, .f32⟩
  | .hbm, ⟨15, _⟩ => ⟨S_, .f32⟩
  | .hbm, ⟨16, _⟩ => ⟨S4x4x512x256, .f32⟩
  | .hbm, ⟨17, _⟩ => ⟨S4x4x512x256, .f32⟩
  | .hbm, ⟨18, _⟩ => ⟨S4x4x512x256, .f32⟩
  | .hbm, ⟨19, _⟩ => ⟨S_, .f32⟩
  | .hbm, ⟨20, _⟩ => ⟨S4x4x512x256, .f32⟩
  | .hbm, ⟨21, _⟩ => ⟨S4x4x512x256, .f32⟩
  | .hbm, ⟨22, _⟩ => ⟨S_, .f32⟩
  | .hbm, ⟨23, _⟩ => ⟨S4x4x512x256, .f32⟩
  | .hbm, ⟨24, _⟩ => ⟨S4x4x512x256, .f32⟩
  | .hbm, ⟨25, _⟩ => ⟨S4x4x512x256, .f32⟩
  | .hbm, ⟨26, _⟩ => ⟨S_, .f32⟩
  | .hbm, ⟨27, _⟩ => ⟨S4x4x512x256, .f32⟩
  | .hbm, ⟨28, _⟩ => ⟨S4x4x512x256, .f32⟩
  | .hbm, ⟨29, _⟩ => ⟨S4x4x512x256, .f32⟩
  | .hbm, ⟨30, _⟩ => ⟨S_, .f32⟩
  | .hbm, ⟨31, _⟩ => ⟨S4x4x512x256, .f32⟩
  | .hbm, ⟨32, _⟩ => ⟨S4x4x512x256, .f32⟩
  | .hbm, ⟨33, _⟩ => ⟨S4x4x512x256, .f32⟩
  | .hbm, ⟨34, _⟩ => ⟨S_, .f32⟩
  | .hbm, ⟨35, _⟩ => ⟨S4x4x512x256, .f32⟩
  | .hbm, ⟨36, _⟩ => ⟨S4x4x512x256, .f32⟩
  | .hbm, ⟨37, _⟩ => ⟨S8192x256, .f32⟩
  | .hbm, ⟨38, _⟩ => ⟨S8192x256, .f32⟩
  | .hbm, ⟨39, _⟩ => ⟨S8192x256, .f32⟩
  | _, _ => ⟨S4x4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGlu.lean ====
abbrev S4x64x512 : Shape := ⟨3, ![4, 64, 512]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x64x512, .f32⟩
  | .hbm, ⟨1, _⟩ => ⟨S4x64x512, .f32⟩
  | .hbm, ⟨2, _⟩ => ⟨S4x64x512, .f32⟩
  | .hbm, ⟨3, _⟩ => ⟨S4x64x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S4x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGluIdeal.lean ====
abbrev S4x64x512 : Shape := ⟨3, ![4, 64, 512]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x64x512, .f32⟩
  | .hbm, ⟨1, _⟩ => ⟨S4x64x512, .f32⟩
  | .hbm, ⟨2, _⟩ => ⟨S4x64x512, .f32⟩
  | .hbm, ⟨3, _⟩ => ⟨S4x64x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S4x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamGluIdeal.lean ====
abbrev S4x64x512 : Shape := ⟨3, ![4, 64, 512]⟩
abbrev S_ : Shape := ⟨0, ![]⟩
abbrev S256x512 : Shape := ⟨2, ![256, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x64x512, .f32⟩
  | .hbm, ⟨1, _⟩ => ⟨S4x64x512, .f32⟩
  | .hbm, ⟨2, _⟩ => ⟨S4x64x512, .f32⟩
  | .hbm, ⟨3, _⟩ => ⟨S4x64x512, .f32⟩
  | .hbm, ⟨4, _⟩ => ⟨S_, .f32⟩
  | .hbm, ⟨5, _⟩ => ⟨S4x64x512, .f32⟩
  | .hbm, ⟨6, _⟩ => ⟨S4x64x512, .f32⟩
  | .hbm, ⟨7, _⟩ => ⟨S_, .f32⟩
  | .hbm, ⟨8, _⟩ => ⟨S4x64x512, .f32⟩
  | .hbm, ⟨9, _⟩ => ⟨S4x64x512, .f32⟩
  | .hbm, ⟨10, _⟩ => ⟨S4x64x512, .f32⟩
  | .hbm, ⟨11, _⟩ => ⟨S_, .f32⟩
  | .hbm, ⟨12, _⟩ => ⟨S4x64x512, .f32⟩
  | .hbm, ⟨13, _⟩ => ⟨S4x64x512, .f32⟩
  | .hbm, ⟨14, _⟩ => ⟨S4x64x512, .f32⟩
  | .hbm, ⟨15, _⟩ => ⟨S_, .f32⟩
  | .hbm, ⟨16, _⟩ => ⟨S4x64x512, .f32⟩
  | .hbm, ⟨17, _⟩ => ⟨S4x64x512, .f32⟩
  | .hbm, ⟨18, _⟩ => ⟨S4x64x512, .f32⟩
  | .hbm, ⟨19, _⟩ => ⟨S_, .f32⟩
  | .hbm, ⟨20, _⟩ => ⟨S4x64x512, .f32⟩
  | .hbm, ⟨21, _⟩ => ⟨S4x64x512, .f32⟩
  | .hbm, ⟨22, _⟩ => ⟨S_, .f32⟩
  | .hbm, ⟨23, _⟩ => ⟨S4x64x512, .f32⟩
  | .hbm, ⟨24, _⟩ => ⟨S4x64x512, .f32⟩
  | .hbm, ⟨25, _⟩ => ⟨S4x64x512, .f32⟩
  | .hbm, ⟨26, _⟩ => ⟨S_, .f32⟩
  | .hbm, ⟨27, _⟩ => ⟨S4x64x512, .f32⟩
  | .hbm, ⟨28, _⟩ => ⟨S4x64x512, .f32⟩
  | .hbm, ⟨29, _⟩ => ⟨S4x64x512, .f32⟩
  | .hbm, ⟨30, _⟩ => ⟨S_, .f32⟩
  | .hbm, ⟨31, _⟩ => ⟨S4x64x512, .f32⟩
  | .hbm, ⟨32, _⟩ => ⟨S4x64x512, .f32⟩
  | .hbm, ⟨33, _⟩ => ⟨S4x64x512, .f32⟩
  | .hbm, ⟨34, _⟩ => ⟨S_, .f32⟩
  | .hbm, ⟨35, _⟩ => ⟨S4x64x512, .f32⟩
  | .hbm, ⟨36, _⟩ => ⟨S4x64x512, .f32⟩
  | .hbm, ⟨37, _⟩ => ⟨S256x512, .f32⟩
  | .hbm, ⟨38, _⟩ => ⟨S256x512, .f32⟩
  | .hbm, ⟨39, _⟩ => ⟨S256x512, .f32⟩
  | _, _ => ⟨S4x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUq.lean ====
abbrev S4x384x96 : Shape := ⟨3, ![4, 384, 96]⟩
abbrev S1536x96 : Shape := ⟨2, ![1536, 96]⟩

abbrev nBuf : Space → Nat
  | .hbm => 11
  | .vmem => 7
  | .smem => 0
  | _ => 0

abbrev bufTy : (tb : Table) → Fin (tcTables nBuf tb) → BufTy
  | .hbm, ⟨0, _⟩ => ⟨S4x384x96, .f32⟩
  | .hbm, ⟨1, _⟩ => ⟨S4x384x96, .f32⟩
  | .hbm, ⟨2, _⟩ => ⟨S4x384x96, .f32⟩
  | .hbm, ⟨3, _⟩ => ⟨S4x384x96, .f32⟩
  | .hbm, ⟨4, _⟩ => ⟨S1536x96, .f32⟩
  | .hbm, ⟨5, _⟩ => ⟨S1536x96, .f32⟩
  | .hbm, ⟨6, _⟩ => ⟨S1536x96, .f32⟩
  | .hbm, ⟨7, _⟩ => ⟨S1536x96, .f32⟩
  | .hbm, ⟨8, _⟩ => ⟨S1536x96, .f32⟩
  | .hbm, ⟨9, _⟩ => ⟨S1536x96, .f32⟩
  | .hbm, ⟨10, _⟩ => ⟨S1536x96, .f32⟩
  | .local _ .vmem, ⟨0, _⟩ => ⟨S1536x96, .f32⟩
  | .local _ .vmem, ⟨1, _⟩ => ⟨S1536x96, .f32⟩
  | .local _ .vmem, ⟨2, _⟩ => ⟨S1536x96, .f32⟩
  | .local _ .vmem, ⟨3, _⟩ => ⟨S1536x96, .f32⟩
  | .local _ .vmem, ⟨4, _⟩ => ⟨S1536x96, .f32⟩
  | .local _ .vmem, ⟨5, _⟩ => ⟨S1536x96, .f32⟩
  | .local _ .vmem, ⟨6, _⟩ => ⟨S1536x96, .f32⟩
  | _, _ => ⟨S4x384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1536x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1536x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1536x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1536x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1536x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1536x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1536x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamUqIdeal.lean ====
abbrev S4x384x96 : Shape := ⟨3, ![4, 384, 96]⟩
abbrev S1536x96 : Shape := ⟨2, ![1536, 96]⟩

abbrev nBuf : Space → Nat
  | .hbm => 11
  | .vmem => 7
  | .smem => 0
  | _ => 0

abbrev bufTy : (tb : Table) → Fin (tcTables nBuf tb) → BufTy
  | .hbm, ⟨0, _⟩ => ⟨S4x384x96, .f32⟩
  | .hbm, ⟨1, _⟩ => ⟨S4x384x96, .f32⟩
  | .hbm, ⟨2, _⟩ => ⟨S4x384x96, .f32⟩
  | .hbm, ⟨3, _⟩ => ⟨S4x384x96, .f32⟩
  | .hbm, ⟨4, _⟩ => ⟨S1536x96, .f32⟩
  | .hbm, ⟨5, _⟩ => ⟨S1536x96, .f32⟩
  | .hbm, ⟨6, _⟩ => ⟨S1536x96, .f32⟩
  | .hbm, ⟨7, _⟩ => ⟨S1536x96, .f32⟩
  | .hbm, ⟨8, _⟩ => ⟨S1536x96, .f32⟩
  | .hbm, ⟨9, _⟩ => ⟨S1536x96, .f32⟩
  | .hbm, ⟨10, _⟩ => ⟨S1536x96, .f32⟩
  | .local _ .vmem, ⟨0, _⟩ => ⟨S1536x96, .f32⟩
  | .local _ .vmem, ⟨1, _⟩ => ⟨S1536x96, .f32⟩
  | .local _ .vmem, ⟨2, _⟩ => ⟨S1536x96, .f32⟩
  | .local _ .vmem, ⟨3, _⟩ => ⟨S1536x96, .f32⟩
  | .local _ .vmem, ⟨4, _⟩ => ⟨S1536x96, .f32⟩
  | .local _ .vmem, ⟨5, _⟩ => ⟨S1536x96, .f32⟩
  | .local _ .vmem, ⟨6, _⟩ => ⟨S1536x96, .f32⟩
  | _, _ => ⟨S4x384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1536x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1536x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1536x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1536x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1536x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1536x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1536x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamUqIdeal.lean ====
abbrev S4x384x96 : Shape := ⟨3, ![4, 384, 96]⟩
abbrev S_ : Shape := ⟨0, ![]⟩
abbrev S1536x96 : Shape := ⟨2, ![1536, 96]⟩

abbrev nBuf : Space → Nat
  | .hbm => 40
  | .vmem => 0
  | .smem => 0
  | _ => 0

abbrev bufTy : (tb : Table) → Fin (tcTables nBuf tb) → BufTy
  | .hbm, ⟨0, _⟩ => ⟨S4x384x96, .f32⟩
  | .hbm, ⟨1, _⟩ => ⟨S4x384x96, .f32⟩
  | .hbm, ⟨2, _⟩ => ⟨S4x384x96, .f32⟩
  | .hbm, ⟨3, _⟩ => ⟨S4x384x96, .f32⟩
  | .hbm, ⟨4, _⟩ => ⟨S_, .f32⟩
  | .hbm, ⟨5, _⟩ => ⟨S4x384x96, .f32⟩
  | .hbm, ⟨6, _⟩ => ⟨S4x384x96, .f32⟩
  | .hbm, ⟨7, _⟩ => ⟨S_, .f32⟩
  | .hbm, ⟨8, _⟩ => ⟨S4x384x96, .f32⟩
  | .hbm, ⟨9, _⟩ => ⟨S4x384x96, .f32⟩
  | .hbm, ⟨10, _⟩ => ⟨S4x384x96, .f32⟩
  | .hbm, ⟨11, _⟩ => ⟨S_, .f32⟩
  | .hbm, ⟨12, _⟩ => ⟨S4x384x96, .f32⟩
  | .hbm, ⟨13, _⟩ => ⟨S4x384x96, .f32⟩
  | .hbm, ⟨14, _⟩ => ⟨S4x384x96, .f32⟩
  | .hbm, ⟨15, _⟩ => ⟨S_, .f32⟩
  | .hbm, ⟨16, _⟩ => ⟨S4x384x96, .f32⟩
  | .hbm, ⟨17, _⟩ => ⟨S4x384x96, .f32⟩
  | .hbm, ⟨18, _⟩ => ⟨S4x384x96, .f32⟩
  | .hbm, ⟨19, _⟩ => ⟨S_, .f32⟩
  | .hbm, ⟨20, _⟩ => ⟨S4x384x96, .f32⟩
  | .hbm, ⟨21, _⟩ => ⟨S4x384x96, .f32⟩
  | .hbm, ⟨22, _⟩ => ⟨S_, .f32⟩
  | .hbm, ⟨23, _⟩ => ⟨S4x384x96, .f32⟩
  | .hbm, ⟨24, _⟩ => ⟨S4x384x96, .f32⟩
  | .hbm, ⟨25, _⟩ => ⟨S4x384x96, .f32⟩
  | .hbm, ⟨26, _⟩ => ⟨S_, .f32⟩
  | .hbm, ⟨27, _⟩ => ⟨S4x384x96, .f32⟩
  | .hbm, ⟨28, _⟩ => ⟨S4x384x96, .f32⟩
  | .hbm, ⟨29, _⟩ => ⟨S4x384x96, .f32⟩
  | .hbm, ⟨30, _⟩ => ⟨S_, .f32⟩
  | .hbm, ⟨31, _⟩ => ⟨S4x384x96, .f32⟩
  | .hbm, ⟨32, _⟩ => ⟨S4x384x96, .f32⟩
  | .hbm, ⟨33, _⟩ => ⟨S4x384x96, .f32⟩
  | .hbm, ⟨34, _⟩ => ⟨S_, .f32⟩
  | .hbm, ⟨35, _⟩ => ⟨S4x384x96, .f32⟩
  | .hbm, ⟨36, _⟩ => ⟨S4x384x96, .f32⟩
  | .hbm, ⟨37, _⟩ => ⟨S1536x96, .f32⟩
  | .hbm, ⟨38, _⟩ => ⟨S1536x96, .f32⟩
  | .hbm, ⟨39, _⟩ => ⟨S1536x96, .f32⟩
  | _, _ => ⟨S4x384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUkv.lean ====
abbrev S4x512x128 : Shape := ⟨3, ![4, 512, 128]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamUkvIdeal.lean ====
abbrev S4x512x128 : Shape := ⟨3, ![4, 512, 128]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S_, .f32⟩
  | .hbm, ⟨5, _⟩ => ⟨S4x512x128, .f32⟩
  | .hbm, ⟨6, _⟩ => ⟨S4x512x128, .f32⟩
  | .hbm, ⟨7, _⟩ => ⟨S_, .f32⟩
  | .hbm, ⟨8, _⟩ => ⟨S4x512x128, .f32⟩
  | .hbm, ⟨9, _⟩ => ⟨S4x512x128, .f32⟩
  | .hbm, ⟨10, _⟩ => ⟨S4x512x128, .f32⟩
  | .hbm, ⟨11, _⟩ => ⟨S_, .f32⟩
  | .hbm, ⟨12, _⟩ => ⟨S4x512x128, .f32⟩
  | .hbm, ⟨13, _⟩ => ⟨S4x512x128, .f32⟩
  | .hbm, ⟨14, _⟩ => ⟨S4x512x128, .f32⟩
  | .hbm, ⟨15, _⟩ => ⟨S_, .f32⟩
  | .hbm, ⟨16, _⟩ => ⟨S4x512x128, .f32⟩
  | .hbm, ⟨17, _⟩ => ⟨S4x512x128, .f32⟩
  | .hbm, ⟨18, _⟩ => ⟨S4x512x128, .f32⟩
  | .hbm, ⟨19, _⟩ => ⟨S_, .f32⟩
  | .hbm, ⟨20, _⟩ => ⟨S4x512x128, .f32⟩
  | .hbm, ⟨21, _⟩ => ⟨S4x512x128, .f32⟩
  | .hbm, ⟨22, _⟩ => ⟨S_, .f32⟩
  | .hbm, ⟨23, _⟩ => ⟨S4x512x128, .f32⟩
  | .hbm, ⟨24, _⟩ => ⟨S4x512x128, .f32⟩
  | .hbm, ⟨25, _⟩ => ⟨S4x512x128, .f32⟩
  | .hbm, ⟨26, _⟩ => ⟨S_, .f32⟩
  | .hbm, ⟨27, _⟩ => ⟨S4x512x128, .f32⟩
  | .hbm, ⟨28, _⟩ => ⟨S4x512x128, .f32⟩
  | .hbm, ⟨29, _⟩ => ⟨S4x512x128, .f32⟩
  | .hbm, ⟨30, _⟩ => ⟨S_, .f32⟩
  | .hbm, ⟨31, _⟩ => ⟨S4x512x128, .f32⟩
  | .hbm, ⟨32, _⟩ => ⟨S4x512x128, .f32⟩
  | .hbm, ⟨33, _⟩ => ⟨S4x512x128, .f32⟩
  | .hbm, ⟨34, _⟩ => ⟨S_, .f32⟩
  | .hbm, ⟨35, _⟩ => ⟨S4x512x128, .f32⟩
  | .hbm, ⟨36, _⟩ => ⟨S4x512x128, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Softmax.lean ====
/-
  The equations between the two forms of the softmax's gradient, one query's row at a time, over extended reals that are
  real numbers: the kernel's weight `exp (s - (M + log l))` is `exp (s - M) / l`, and its score gradient
  `p * (dp - delta)` is the one that the derivative of the quotient gives.
-/
module

public import Idealize.ShloMosaic.PureOps.Ideal
public import Idealize.ShloMosaic.PureOps.Ideal.Laws
public import Idealize.ShloMosaic.Lib.IdealHost

@[expose] public section

noncomputable section

namespace Cert.Attn

open Idealize.ShloMosaic

/-- An extended real that is a real number. -/
def IsReal (x : EReal) : Prop := ∃ r : ℝ, x = (r : EReal)

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Products of reals are real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- Sums of reals are real. -/
theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- The float word of minus infinity. -/
theorem neg_inf : Ideal.ofBits .f32 0xFF800000#32 = ⊥ := by simp [Ideal.ofBits, Ideal.ieee]

/-- The maximum of real numbers, at least one of them, is a real number. -/
theorem IsReal.fold_max {ι : Type} (s : Finset ι) (hs : s.Nonempty) (f : ι → EReal) (h : ∀ i, IsReal (f i)) :
    IsReal (Finset.fold max ⊥ f s) := by
  classical
  induction hs using Finset.Nonempty.cons_induction with
  | singleton a => rw [Finset.fold_singleton, max_bot_right]; exact h a
  | cons a s ha hs ih =>
    rw [Finset.fold_cons]
    rcases max_choice (f a) (Finset.fold max ⊥ f s) with e | e
    · rw [e]; exact h a
    · rw [e]; exact ih

section
variable {n : ℕ} (hn : 0 < n) (S : Fin n → EReal) (M : EReal) (hS : ∀ j, IsReal (S j)) (hM : IsReal M)

/-- The exponentials' row sum is a positive real, and each of them is real. -/
theorem row_real (hn : 0 < n) (hS : ∀ j, IsReal (S j)) (hM : IsReal M) :
    ∃ (s : Fin n → ℝ) (a l : ℝ), 0 < l ∧ (∀ j, S j = (s j : EReal)) ∧ M = (a : EReal)
      ∧ (∀ j, Ideal.exp (S j - M) = ((Real.exp (s j - a) : ℝ) : EReal)) ∧ (∑ j, Ideal.exp (S j - M)) = (l : EReal)
      ∧ l = ∑ j, Real.exp (s j - a) := by
  choose s hs using hS
  obtain ⟨a, rfl⟩ := hM
  have he : ∀ j, Ideal.exp (S j - (a : EReal)) = ((Real.exp (s j - a) : ℝ) : EReal) := fun j => by
    rw [hs, ← EReal.coe_sub, Ideal.exp_coe]
  refine ⟨s, a, ∑ j, Real.exp (s j - a), ?_, hs, rfl, he, ?_, rfl⟩
  · exact Finset.sum_pos (fun j _ => Real.exp_pos _) ⟨⟨0, hn⟩, Finset.mem_univ _⟩
  · rw [coe_sum]; exact Finset.sum_congr rfl fun j _ => he j

/-- The weight: `exp (s - (M + log l)) = exp (s - M) / l`. -/
theorem row_weight (hn : 0 < n) (hS : ∀ j, IsReal (S j)) (hM : IsReal M) (j : Fin n) :
    Ideal.exp (S j - (M + Ideal.log (∑ k, Ideal.exp (S k - M))))
      = Ideal.div (Ideal.exp (S j - M)) (∑ k, Ideal.exp (S k - M)) := by
  obtain ⟨s, a, l, hl, hs, ha, he, hL, -⟩ := row_real S M hn hS hM
  rw [hL, he, Ideal.div_coe hl.ne', Ideal.log_coe, if_neg (not_le.mpr hl), ← EReal.coe_mul, hs, ha, ← EReal.coe_add,
    ← EReal.coe_sub, Ideal.exp_coe, ← sub_sub, Real.exp_sub, Real.exp_log hl, one_div, div_eq_mul_inv]

/-- The score gradient: `p * (dp - delta)`, with `delta` the product of the output's gradient with the output, is the
    derivative of the quotient. -/
theorem row_grad (hn : 0 < n) (hS : ∀ j, IsReal (S j)) (hM : IsReal M) {k : ℕ} (g : Fin k → EReal) (v : Fin n → Fin k → EReal)
    (hg : ∀ e, IsReal (g e)) (hv : ∀ j e, IsReal (v j e)) (j : Fin n) :
    Ideal.div (Ideal.exp (S j - M)) (∑ i, Ideal.exp (S i - M))
        * ((∑ e, g e * v j e) - ∑ e, g e * ∑ i, Ideal.div (Ideal.exp (S i - M)) (∑ i, Ideal.exp (S i - M)) * v i e)
      = (Ideal.div (∑ e, g e * v j e) (∑ i, Ideal.exp (S i - M))
          + -∑ i, (∑ e, g e * v i e) * Ideal.div 1 ((∑ i, Ideal.exp (S i - M)) * ∑ i, Ideal.exp (S i - M)) * Ideal.exp (S i - M))
        * Ideal.exp (S j - M) := by
  obtain ⟨s, a, l, hl, -, -, he, hL, -⟩ := row_real S M hn hS hM
  choose y hy using hg
  choose w hw using hv
  rw [hL]
  have one : (1 : EReal) = ((1 : ℝ) : EReal) := rfl
  simp only [he, hy, hw, one, ← EReal.coe_mul, ← coe_sum, Ideal.div_coe hl.ne', Ideal.div_coe (mul_pos hl hl).ne', ← EReal.coe_sub,
    ← EReal.coe_add, ← EReal.coe_neg]
  refine congrArg _ ?_
  have hd : (∑ e, y e * ∑ i, Real.exp (s i - a) * (1 / l) * w i e) = (∑ i, (∑ e, y e * w i e) * Real.exp (s i - a)) * (1 / l) := by
    simp only [Finset.mul_sum, Finset.sum_mul]
    rw [Finset.sum_comm]
    exact Finset.sum_congr rfl fun i _ => Finset.sum_congr rfl fun e _ => by ring
  have hq : (∑ i, (∑ e, y e * w i e) * (1 * (1 / (l * l))) * Real.exp (s i - a))
      = (∑ i, (∑ e, y e * w i e) * Real.exp (s i - a)) * (1 / l) * (1 / l) := by
    rw [Finset.sum_mul, Finset.sum_mul]
    exact Finset.sum_congr rfl fun i _ => by have := hl.ne'; field_simp
  rw [hd, hq]
  ring
end

end Cert.Attn

end
-- ==== Proof.OnlineSoftmax.lean ====
/-
  The forward pass's running softmax, one query's row at a time, over extended reals that are real numbers: after `n` key
  blocks the row's running maximum is some real `a`, and its two running sums are `∑ exp (x - a)` and `∑ exp (x - a) * v`
  over those blocks. Which real `a` is does not matter: the quotient of the two sums and `a` plus the first sum's logarithm
  do not depend on it.
-/
module

public import proofs.«01_k».proof.Proof.Softmax
public import Idealize.ShloMosaic.Lib.Pipeline.ValueKit.Acc

@[expose] public section

noncomputable section

namespace Cert.Attn

open Idealize.ShloMosaic

section
variable {K : ℕ} (x w : ℕ → Fin K → ℝ)

/-- The sum of `exp (x - a) * w` over the first `n` blocks. -/
def part (n : ℕ) (a : ℝ) : ℝ := ∑ p ∈ Finset.range n, ∑ k : Fin K, Real.exp (x p k - a) * w p k

/-- No blocks. -/
theorem part_zero (a : ℝ) : part x w 0 a = 0 := by simp [part]

/-- Moving the shift from `a` to `b` multiplies by `exp (a - b)`. -/
theorem part_shift (n : ℕ) (a b : ℝ) : Real.exp (a - b) * part x w n a = part x w n b := by
  simp only [part, Finset.mul_sum]
  refine Finset.sum_congr rfl fun p _ => Finset.sum_congr rfl fun k _ => ?_
  rw [← mul_assoc, ← Real.exp_add]
  congr 2
  ring

/-- One more block. -/
theorem part_succ (n : ℕ) (a : ℝ) : part x w (n + 1) a = part x w n a + ∑ k : Fin K, Real.exp (x n k - a) * w n k :=
  Finset.sum_range_succ _ n

/-- The step of a running sum, on the extended reals: rescale what was there and add the block's terms. -/
theorem online_step (n : ℕ) (a b : ℝ) (s u : Fin K → EReal) (hs : ∀ k, s k = (x n k : EReal)) (hu : ∀ k, u k = (w n k : EReal)) :
    Ideal.exp ((a : EReal) - (b : EReal)) * (part x w n a : EReal) + ∑ k : Fin K, Ideal.exp (s k - (b : EReal)) * u k
      = (part x w (n + 1) b : EReal) := by
  have h : ∀ k, Ideal.exp (s k - (b : EReal)) * u k = ((Real.exp (x n k - b) * w n k : ℝ) : EReal) := fun k => by
    rw [hs, hu, ← EReal.coe_sub, Ideal.exp_coe, ← EReal.coe_mul]
  rw [Finset.sum_congr rfl fun k _ => h k, ← coe_sum, ← EReal.coe_sub, Ideal.exp_coe, ← EReal.coe_mul, ← EReal.coe_add,
    part_shift, part_succ]
end

/-- The blocks together are the whole row. -/
theorem part_all {L : ℕ} (K n : ℕ) (hL : L = n * K) (y v : Fin L → ℝ) (x w : ℕ → Fin K → ℝ)
    (hx : ∀ (p : Fin n) (k : Fin K) (h : p.val * K + k.val < L), x p.val k = y ⟨p.val * K + k.val, h⟩)
    (hw : ∀ (p : Fin n) (k : Fin K) (h : p.val * K + k.val < L), w p.val k = v ⟨p.val * K + k.val, h⟩) (a : ℝ) :
    part x w n a = ∑ f : Fin L, Real.exp (y f - a) * v f := by
  unfold part
  rw [Finset.sum_range fun p => ∑ k : Fin K, Real.exp (x p k - a) * w p k]
  exact Fin.sum_mul_add_congr (fun p k h => by rw [hx p k h, hw p k h]) hL

section
variable {n : ℕ} (hn : 0 < n) (y v : Fin n → ℝ)

/-- A sum of exponentials with the shift taken out. -/
theorem shift_out (a : ℝ) : ∑ f, Real.exp (y f - a) * v f = Real.exp (-a) * ∑ f, Real.exp (y f) * v f := by
  rw [Finset.mul_sum]
  refine Finset.sum_congr rfl fun f _ => ?_
  rw [sub_eq_add_neg, Real.exp_add]; ring

/-- The row's whole sum of exponentials is positive. -/
theorem sum_pos (hn : 0 < n) (a : ℝ) : 0 < ∑ f : Fin n, Real.exp (y f - a) * 1 :=
  Finset.sum_pos (fun f _ => by positivity) ⟨⟨0, hn⟩, Finset.mem_univ _⟩

/-- The quotient of the two sums does not depend on the shift. -/
theorem quot_shift (a b : ℝ) :
    (∑ f, Real.exp (y f - a) * v f) / (∑ f, Real.exp (y f - a) * 1)
      = (∑ f, Real.exp (y f - b) * v f) / (∑ f, Real.exp (y f - b) * 1) := by
  rw [shift_out y v a, shift_out y v b, shift_out y (fun _ => 1) a, shift_out y (fun _ => 1) b,
    mul_div_mul_left _ _ (Real.exp_pos _).ne', mul_div_mul_left _ _ (Real.exp_pos _).ne']

/-- Neither does the shift plus the logarithm of the first. -/
theorem log_shift (hn : 0 < n) (a b : ℝ) :
    a + Real.log (∑ f, Real.exp (y f - a) * 1) = b + Real.log (∑ f, Real.exp (y f - b) * 1) := by
  have h : 0 < ∑ f : Fin n, Real.exp (y f) * 1 := Finset.sum_pos (fun f _ => by positivity) ⟨⟨0, hn⟩, Finset.mem_univ _⟩
  rw [shift_out y (fun _ => 1) a, shift_out y (fun _ => 1) b, Real.log_mul (Real.exp_pos _).ne' h.ne',
    Real.log_mul (Real.exp_pos _).ne' h.ne', Real.log_exp, Real.log_exp]
  ring
end

section
variable {n : ℕ} (S V : Fin n → EReal) (M : EReal)

/-- The output entry: the running sums' quotient is the softmax's weighted sum. -/
theorem online_out (hn : 0 < n) (hM : IsReal M) (y v : Fin n → ℝ) (hS : ∀ f, S f = (y f : EReal)) (hV : ∀ f, V f = (v f : EReal)) (a : ℝ) :
    Ideal.div ((∑ f, Real.exp (y f - a) * v f : ℝ) : EReal) ((∑ f, Real.exp (y f - a) * 1 : ℝ) : EReal)
      = ∑ f, Ideal.div (Ideal.exp (S f - M)) (∑ g, Ideal.exp (S g - M)) * V f := by
  obtain ⟨b, rfl⟩ := hM
  have he : ∀ f, Ideal.exp (S f - (b : EReal)) = ((Real.exp (y f - b) * 1 : ℝ) : EReal) := fun f => by
    rw [hS, ← EReal.coe_sub, Ideal.exp_coe, mul_one]
  have hl := (sum_pos y hn b).ne'
  rw [Finset.sum_congr rfl fun g _ => he g, ← coe_sum, Ideal.div_coe (sum_pos y hn a).ne']
  simp only [he, hV, Ideal.div_coe hl, ← EReal.coe_mul, ← coe_sum]
  refine congrArg _ ?_
  rw [mul_one_div, quot_shift y v a b, div_eq_mul_one_div, Finset.sum_mul]
  exact Finset.sum_congr rfl fun f _ => by ring

/-- The row's log-sum. -/
theorem online_lse (hn : 0 < n) (hM : IsReal M) (y : Fin n → ℝ) (hS : ∀ f, S f = (y f : EReal)) (a : ℝ) :
    (a : EReal) + Ideal.log ((∑ f, Real.exp (y f - a) * 1 : ℝ) : EReal) = M + Ideal.log (∑ g, Ideal.exp (S g - M)) := by
  obtain ⟨b, rfl⟩ := hM
  have he : ∀ f, Ideal.exp (S f - (b : EReal)) = ((Real.exp (y f - b) * 1 : ℝ) : EReal) := fun f => by
    rw [hS, ← EReal.coe_sub, Ideal.exp_coe, mul_one]
  rw [Finset.sum_congr rfl fun g _ => he g, ← coe_sum, Ideal.log_coe, Ideal.log_coe, if_neg (not_le.mpr (sum_pos y hn a)),
    if_neg (not_le.mpr (sum_pos y hn b)), ← EReal.coe_add, ← EReal.coe_add, log_shift y hn a b]
end

end Cert.Attn

end
-- ==== Proof.Payload.lean ====
/-
  What one grid point of the attention gradient's kernel computes, entry by entry over the extended reals: the tile of
  weights `exp (s * scale - lse)`, the tile of score gradients, and the three products added into the accumulators.
-/
module

public import proofs.«01_k».proof.Proof.Gen.KernelIdeal.Skeleton
public import proofs.«01_k».proof.Proof.Gen.KernelIdeal
public import Idealize.ShloMosaic.Lib.Pointwise

@[expose] public section

set_option maxRecDepth 16384

noncomputable section

namespace Cert.Attn

open Cert.KernelIdeal Cert.KernelIdeal.Gen Idealize.ShloMosaic

/-- The score scale: the float nearest to `1/√192`. -/
def scale : EReal := Ideal.ofBits .f32 0x3D93CD3A#32

variable (q k : Vec Ideal S1x1024x192 .f32) (dO v : Vec Ideal S1x1024x128 .f32) (lse dl : Vec Ideal S1x1024x1 .f32)

/-- The tile's weight of query `r` at key `s`. -/
def tileP (r s : Fin 1024) : EReal :=
  Ideal.exp ((∑ d : Fin 192, q (ix3 0 r d) * k (ix3 0 s d)) * scale - lse (ix3 0 r 0))

/-- The tile's score gradient of query `r` at key `s`, the weight given. -/
def tileDs (p : FVec Ideal S1024x1024 .f32) (r s : Fin 1024) : EReal :=
  p (ix2 r s) * ((∑ e : Fin 128, dO (ix3 0 r e) * v (ix3 0 s e)) - dl (ix3 0 r 0)) * scale

/-- The body's weights are `tileP`. -/
theorem pay9_eq (r s : Fin 1024) : k0_pay9 q k lse (ix2 r s) = tileP q k lse r s := by
  pointwise [k0_pay9, k0_pay6, k0_pay7, tileP, scale]

/-- The body adds the tile's share of the value gradient to what the scratch array held. -/
theorem pay10_eq (acc : Vec Ideal S1024x128 .f32) (s : Fin 1024) (e : Fin 128) :
    k0_pay10 q k dO lse acc (ix2 s e) = acc (ix2 s e) + ∑ r : Fin 1024, tileP q k lse r s * dO (ix3 0 r e) := by
  pointwise [k0_pay10, pay9_eq, k0_pay8]

/-- A read of the scratch array changes nothing. -/
theorem pay11_eq (x : FVec Ideal S1024x128 .f32) : k0_pay11 x = x := by
  funext j; pointwise [k0_pay11]

variable (p : FVec Ideal S1024x1024 .f32)

/-- The body's score gradients are `tileDs`. -/
theorem pay12_eq (r s : Fin 1024) : k0_pay12 (k0_pay8 dO) p v dl (ix2 r s) = tileDs dO v dl p r s := by
  pointwise [k0_pay12, k0_pay8, tileDs, scale]

/-- The body adds the tile's share of the key gradient to what the scratch array held. -/
theorem pay13_eq (acc : Vec Ideal S1024x192 .f32) (s : Fin 1024) (d : Fin 192) :
    k0_pay13 (k0_pay6 q) (k0_pay8 dO) p v dl acc (ix2 s d)
      = acc (ix2 s d) + ∑ r : Fin 1024, tileDs dO v dl p r s * q (ix3 0 r d) := by
  pointwise [k0_pay13, pay12_eq, k0_pay6]

/-- The body adds the tile's share of the query gradient to the rows it read. -/
theorem pay14_eq (acc : Vec Ideal S1x1024x192 .f32) (r : Fin 1024) (d : Fin 192) :
    k0_pay14 (k0_pay7 k) (k0_pay8 dO) p v dl acc (ix3 0 r d)
      = acc (ix3 0 r d) + ∑ s : Fin 1024, tileDs dO v dl p r s * k (ix3 0 s d) := by
  pointwise [k0_pay14, pay12_eq, k0_pay7]

end Cert.Attn

end
-- ==== Proof.Accumulators.lean ====
/-
  The two scratch accumulators (of the keys' and of the values' gradient) after each grid point: zeroed and added into at
  the first query block of a run of eight, added into at the others.
-/
module

public import proofs.«01_k».proof.Proof.Payload
public import proofs.«01_k».proof.Proof.Gen.KernelIdeal.Value
public import Idealize.ShloMosaic.Lib.Pipeline.ValueKit.Acc
public import Idealize.ShloMosaic.Lib.Pipeline.ValueKit.Geometry

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-- The weights of grid point `t`, as the kernel's payload of the point's blocks of the queries, the keys and the row log-sums. -/
abbrev ptP (t : Fin cfg0.N) : FVec Ideal S1024x1024 .f32 := k0_pay9 (iblk m c 0 t) (iblk m c 1 t) (iblk m c 4 t)

/-- What point `t` adds into the values' accumulator. -/
def addDv (t : Fin cfg0.N) (s : Fin 1024) (e : Fin 128) : EReal :=
  ∑ r : Fin 1024, tileP (iblk m c 0 t) (iblk m c 1 t) (iblk m c 4 t) r s * iblk m c 3 t (ix3 0 r e)

/-- The score gradient of point `t`'s tile. -/
def ptDs (t : Fin cfg0.N) (r s : Fin 1024) : EReal :=
  tileDs (iblk m c 3 t) (iblk m c 2 t) (iblk m c 5 t) (ptP m c t) r s

/-- What point `t` adds into the keys' accumulator. -/
def addDk (t : Fin cfg0.N) (s : Fin 1024) (d : Fin 192) : EReal :=
  ∑ r : Fin 1024, ptDs m c t r s * iblk m c 0 t (ix3 0 r d)

/-- The point before. -/
abbrev prev (t : Fin cfg0.N) := outsAt0 m c (t.val - 1) (Nat.lt_of_le_of_lt (Nat.sub_le _ _) t.isLt)

/-- The value gradient's scratch array is reset to zero. -/
theorem pay5_eq (j : S1024x128.Idx) : k0_pay5 (F := Ideal) j = 0 := by pointwise [k0_pay5]
/-- The key gradient's scratch array is reset to zero. -/
theorem pay4_eq (j : S1024x192.Idx) : k0_pay4 (F := Ideal) j = 0 := by pointwise [k0_pay4]

/-- The values' accumulator at the first query block of a run: the point's share alone. -/
theorem dv_first (t : Fin cfg0.N) (h1 : t.val % 8 = 0) (s : Fin 1024) (e : Fin 128) :
    (outsAt0 m c t.val t.isLt).2.2.2.2 (ix2 s e) = 0 + addDv m c t s e := by
  have h2 : ¬ t.val % 8 = 7 := by omega
  have h : (outsAt0 m c t.val t.isLt).2.2.2.2 = k0_pay11 (k0_pay10 (iblk m c 0 t) (iblk m c 1 t) (iblk m c 3 t) (iblk m c 4 t) (k0_pay5 (F := Ideal))) := by
    by_cases h0 : t.val % 64 = 0
    · rw [outsAt0_A m c t h0 h1 h2]; frame_out
    · rw [outsAt0_D m c t h0 h1 h2]; frame_out
  rw [h, pay11_eq, pay10_eq, pay5_eq]; rfl

/-- The values' accumulator at a later query block: what the point before left and the point's share. -/
theorem dv_step (t : Fin cfg0.N) (h1 : ¬ t.val % 8 = 0) (s : Fin 1024) (e : Fin 128) :
    (outsAt0 m c t.val t.isLt).2.2.2.2 (ix2 s e) = (prev m c t).2.2.2.2 (ix2 s e) + addDv m c t s e := by
  have h0 : ¬ t.val % 64 = 0 := by omega
  have h : (outsAt0 m c t.val t.isLt).2.2.2.2 = k0_pay11 (k0_pay10 (iblk m c 0 t) (iblk m c 1 t) (iblk m c 3 t) (iblk m c 4 t) (prev m c t).2.2.2.2) := by
    by_cases h2 : t.val % 8 = 7
    · rw [outsAt0_C m c t h0 h1 h2]; frame_out
      exact congrArg (fun x => k0_pay11 (k0_pay10 _ _ _ _ x)) (Memref.IsWhole.read_unread (Memref.isWhole_whole _) _)
    · rw [outsAt0_B m c t h0 h1 h2]; frame_out
      exact congrArg (fun x => k0_pay11 (k0_pay10 _ _ _ _ x)) (Memref.IsWhole.read_unread (Memref.isWhole_whole _) _)
  rw [h, pay11_eq, pay10_eq]; rfl

/-- The keys' accumulator at the first query block of a run. -/
theorem dk_first (t : Fin cfg0.N) (h1 : t.val % 8 = 0) (s : Fin 1024) (d : Fin 192) :
    (outsAt0 m c t.val t.isLt).2.2.2.1 (ix2 s d) = 0 + addDk m c t s d := by
  have h2 : ¬ t.val % 8 = 7 := by omega
  have h : (outsAt0 m c t.val t.isLt).2.2.2.1 = k0_pay13 (k0_pay6 (iblk m c 0 t)) (k0_pay8 (iblk m c 3 t)) (ptP m c t) (iblk m c 2 t) (iblk m c 5 t) (k0_pay4 (F := Ideal)) := by
    by_cases h0 : t.val % 64 = 0
    · rw [outsAt0_A m c t h0 h1 h2]; frame_out
    · rw [outsAt0_D m c t h0 h1 h2]; frame_out
  rw [h, pay13_eq, pay4_eq]; rfl

/-- The keys' accumulator at a later query block. -/
theorem dk_step (t : Fin cfg0.N) (h1 : ¬ t.val % 8 = 0) (s : Fin 1024) (d : Fin 192) :
    (outsAt0 m c t.val t.isLt).2.2.2.1 (ix2 s d) = (prev m c t).2.2.2.1 (ix2 s d) + addDk m c t s d := by
  have h0 : ¬ t.val % 64 = 0 := by omega
  have h : (outsAt0 m c t.val t.isLt).2.2.2.1 = k0_pay13 (k0_pay6 (iblk m c 0 t)) (k0_pay8 (iblk m c 3 t)) (ptP m c t) (iblk m c 2 t) (iblk m c 5 t) (prev m c t).2.2.2.1 := by
    by_cases h2 : t.val % 8 = 7
    · rw [outsAt0_C m c t h0 h1 h2]; frame_out
      exact congrArg (fun x => k0_pay13 _ _ _ _ _ x) (Memref.IsWhole.read_unread (Memref.isWhole_whole _) _)
    · rw [outsAt0_B m c t h0 h1 h2]; frame_out
      exact congrArg (fun x => k0_pay13 _ _ _ _ _ x) (Memref.IsWhole.read_unread (Memref.isWhole_whole _) _)
  rw [h, pay13_eq]; rfl

/-- At the last query block of a run the keys' and the values' gradient windows receive the accumulators. -/
theorem dk_out (t : Fin cfg0.N) (h2 : t.val % 8 = 7) (s : Fin 1024) (d : Fin 192) :
    (outsAt0 m c t.val t.isLt).2.1 (ix3 0 s d) = (outsAt0 m c t.val t.isLt).2.2.2.1 (ix2 s d) := by
  have h0 : ¬ t.val % 64 = 0 := by omega
  have h1 : ¬ t.val % 8 = 0 := by omega
  rw [outsAt0_C m c t h0 h1 h2]; frame_out
  pointwise [k0_pay1]

/-- At a key block's last query block the value gradient's output block is the scratch array. -/
theorem dv_out (t : Fin cfg0.N) (h2 : t.val % 8 = 7) (s : Fin 1024) (e : Fin 128) :
    (outsAt0 m c t.val t.isLt).2.2.1 (ix3 0 s e) = (outsAt0 m c t.val t.isLt).2.2.2.2 (ix2 s e) := by
  have h0 : ¬ t.val % 64 = 0 := by omega
  have h1 : ¬ t.val % 8 = 0 := by omega
  rw [outsAt0_C m c t h0 h1 h2]; frame_out
  pointwise [k0_pay2]

end Cert.Attn

end
-- ==== Proof.QueryRows.lean ====
/-
  The queries' gradient after each grid point: a whole head's array, zeroed at the head's first point, to whose 1024 rows of
  the point's query block every point adds its share.
-/
module

public import proofs.«01_k».proof.Proof.Accumulators
public import Idealize.ShloMosaic.Lib.WritesUnit
public import Idealize.ShloMosaic.Lib.Pipeline.ValueKit.Tiles

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-- The grid's third coordinate. -/
theorem coord2 : ∀ t : Fin cfg0.N, (grid0.coords t 2).val = t.val % 8 :=
  (by decide +kernel : ∀ t : Fin grid0.N, _)

/-- The rows of the resident query gradient that a grid point adds to. -/
theorem off_eq (t : Fin cfg0.N) : k0_off1 (grid0.coords t) = ![0, 1024 * (t.val % 8), 0] := by
  rw [k0_off1_eq, coord2]

/-- What point `t` adds to row `R` of the queries' gradient: nothing unless `R` is of its query block. -/
def addDq (t : Fin cfg0.N) (R : Fin 8192) (d : Fin 192) : EReal :=
  if R.val / 1024 = t.val % 8 then
    ∑ s : Fin 1024, ptDs m c t ⟨R.val % 1024, Nat.mod_lt _ (by decide)⟩ s * iblk m c 1 t (ix3 0 s d)
  else 0

/-- The resident query gradient is reset to zero. -/
theorem pay3_eq (j : S1x8192x192.Idx) : k0_pay3 (F := Ideal) j = 0 := by pointwise [k0_pay3]

/-- Row `R` of point `t`'s query block, as an index of the rows it stores. -/
abbrev rowIx (R : Fin 8192) (d : Fin 192) : S1x1024x192.Idx := ix3 0 ⟨R.val % 1024, Nat.mod_lt _ (by decide)⟩ d

/-- A row of the grid point's query block, as a row of the block's own. -/
theorem rowIx_at (t : Fin cfg0.N) (R : Fin 8192) (d : Fin 192) (hR : R.val / 1024 = t.val % 8) (a : Fin 3) :
    ((ix3 0 R d : S1x8192x192.Idx) a).val = (![0, 1024 * (t.val % 8), 0] : Fin 3 → ℕ) a + (rowIx R d a).val := by
  have := Nat.div_add_mod R.val 1024
  match a with
  | ⟨0, _⟩ => rfl
  | ⟨1, _⟩ => show R.val = 1024 * (t.val % 8) + R.val % 1024; omega
  | ⟨2, _⟩ => show d.val = 0 + d.val; omega

/-- A row outside the grid point's query block is none of the block's own. -/
theorem row_out (t : Fin cfg0.N) (R : Fin 8192) (d : Fin 192) (hR : ¬ R.val / 1024 = t.val % 8) :
    ((ix3 0 R d : S1x8192x192.Idx) 1).val < (![0, 1024 * (t.val % 8), 0] : Fin 3 → ℕ) 1
      ∨ (![0, 1024 * (t.val % 8), 0] : Fin 3 → ℕ) 1 + S1x1024x192.size 1 ≤ ((ix3 0 R d : S1x8192x192.Idx) 1).val := by
  show R.val < 1024 * (t.val % 8) ∨ 1024 * (t.val % 8) + 1024 ≤ R.val
  omega

/-- The rows a point stores, at row `R` of its block: what it loaded there and its share. -/
theorem rows_hit (t : Fin cfg0.N) (X : Vec Ideal S1x8192x192 .f32) (R : Fin 8192) (d : Fin 192) (hR : R.val / 1024 = t.val % 8) :
    k0_pay14 (k0_pay7 (iblk m c 1 t)) (k0_pay8 (iblk m c 3 t)) (ptP m c t) (iblk m c 2 t) (iblk m c 5 t)
        (View.ld X (Rect.unit (s := S1x8192x192) (k0_off1 (grid0.coords t)) S1x1024x192.size (k0_off1_inb (grid0.coords t))))
        (ix3 0 ⟨R.val % 1024, Nat.mod_lt _ (by decide)⟩ d)
      = X (ix3 0 R d) + addDq m c t R d := by
  rw [pay14_eq, addDq, if_pos hR]
  refine congrArg₂ (· + ·) (View.ld_unit_apply_of X _ _ _ _ (ix3 0 R d) ?_) rfl
  exact fun a => (rowIx_at t R d hR a).trans (congrArg (· + _) (congrFun (off_eq t) a).symm)

/-- The queries' gradient at a head's first point. -/
theorem dq_first (t : Fin cfg0.N) (h0 : t.val % 64 = 0) (R : Fin 8192) (d : Fin 192) :
    (outsAt0 m c t.val t.isLt).1 (ix3 0 R d) = 0 + addDq m c t R d := by
  have h1 : t.val % 8 = 0 := by omega
  have h2 : ¬ t.val % 8 = 7 := by omega
  rw [outsAt0_A m c t h0 h1 h2]; frame_out
  by_cases hR : R.val / 1024 = t.val % 8
  · rw [← pay3_eq (ix3 0 R d), ← rows_hit m c t _ R d hR]
    rw [← View.read_writes_junk_eq_canon (ms0_6 t).view]
    exact View.read_writes_cons_unit_of_mem _ _ _ _ _ _ _ (off_eq t) (rowIx_at t R d hR)
  · rw [addDq, if_neg hR, add_zero, ← View.read_writes_junk_eq_canon (ms0_6 t).view,
      View.read_writes_cons_unit_of_not_mem _ _ _ _ _ _ (off_eq t) 1 (row_out t R d hR), View.read_writes_junk_eq_canon,
      View.canon_cons_unit_lit (S := S1x8192x192) _ _ _ (by decide), pay3_eq]

/-- The queries' gradient at a later point. -/
theorem dq_step (t : Fin cfg0.N) (h0 : ¬ t.val % 64 = 0) (R : Fin 8192) (d : Fin 192) :
    (outsAt0 m c t.val t.isLt).1 (ix3 0 R d) = (prev m c t).1 (ix3 0 R d) + addDq m c t R d := by
  by_cases hR : R.val / 1024 = t.val % 8
  · rw [← rows_hit m c t _ R d hR]
    by_cases h1 : t.val % 8 = 0
    · rw [outsAt0_D m c t h0 h1 (by omega)]; frame_out
      exact View.read_writes_cons_unit_of_mem _ _ _ _ _ _ _ (off_eq t) (rowIx_at t R d hR)
    · by_cases h2 : t.val % 8 = 7
      · rw [outsAt0_C m c t h0 h1 h2]; frame_out
        exact View.read_writes_cons_unit_of_mem _ _ _ _ _ _ _ (off_eq t) (rowIx_at t R d hR)
      · rw [outsAt0_B m c t h0 h1 h2]; frame_out
        exact View.read_writes_cons_unit_of_mem _ _ _ _ _ _ _ (off_eq t) (rowIx_at t R d hR)
  · rw [addDq, if_neg hR, add_zero]
    have hk : ∀ (w : Memref sig .tc .vmem S1x8192x192 .f32) (hw : w.IsWhole) (X : Vec Ideal S1x8192x192 .f32) (P : Vec Ideal S1x1024x192 .f32),
        w.view.read (Elt Ideal) (w.view.writes (Elt Ideal) (hw.unread X)
          [⟨Rect.unit (s := S1x8192x192) (k0_off1 (grid0.coords t)) S1x1024x192.size (k0_off1_inb (grid0.coords t)), P⟩]) (ix3 0 R d) = X (ix3 0 R d) :=
      fun w hw X P => (View.read_writes_cons_unit_of_not_mem _ _ _ _ _ _ (off_eq t) 1 (row_out t R d hR)).trans
        (congrFun (Memref.IsWhole.read_unread hw X) _)
    by_cases h1 : t.val % 8 = 0
    · rw [outsAt0_D m c t h0 h1 (by omega)]; frame_out
      exact hk _ _ _ _
    · by_cases h2 : t.val % 8 = 7
      · rw [outsAt0_C m c t h0 h1 h2]; frame_out
        exact hk _ _ _ _
      · rw [outsAt0_B m c t h0 h1 h2]; frame_out
        exact hk _ _ _ _

end Cert.Attn

end
-- ==== Proof.Arrays.lean ====
/-
  What the kernel's three output arrays hold after the run, in terms of the six arrays the call is given: the weights
  `exp (s * scale - lse)`, the score gradient, and the three products of the attention's gradient over all 8192 rows.
-/
module

public import proofs.«01_k».proof.Proof.QueryRows

@[expose] public section

set_option maxRecDepth 16384

noncomputable section

namespace Cert.Attn

open Cert.KernelIdeal Cert.KernelIdeal.Gen Idealize.ShloMosaic Idealize.ShloMosaic.TcCoe Idealize.SL.Sem

/-! ## The mathematics, over the call's six arrays -/

section
variable (q k : Vec Ideal S4x8192x192 .f32) (v dO : Vec Ideal S4x8192x128 .f32) (lse dl : Vec Ideal S4x8192x1 .f32)

/-- The weight of query `i` at key `j` in head `h`. -/
def wt (h : Fin 4) (i j : Fin 8192) : EReal :=
  Ideal.exp ((∑ d : Fin 192, q (ix3 h i d) * k (ix3 h j d)) * scale - lse (ix3 h i 0))

/-- The gradient of the score of query `i` at key `j`. -/
def ds (h : Fin 4) (i j : Fin 8192) : EReal :=
  wt q k lse h i j * ((∑ e : Fin 128, dO (ix3 h i e) * v (ix3 h j e)) - dl (ix3 h i 0)) * scale

/-- The queries', the keys' and the values' gradients. -/
def gradQ (h : Fin 4) (i : Fin 8192) (d : Fin 192) : EReal := ∑ j : Fin 8192, ds q k v dO lse dl h i j * k (ix3 h j d)
/-- The key gradient: score gradients times queries, summed over the queries. -/
def gradK (h : Fin 4) (j : Fin 8192) (d : Fin 192) : EReal := ∑ i : Fin 8192, ds q k v dO lse dl h i j * q (ix3 h i d)
/-- The value gradient: weights times output gradients, summed over the queries. -/
def gradV (h : Fin 4) (j : Fin 8192) (e : Fin 128) : EReal := ∑ i : Fin 8192, wt q k lse h i j * dO (ix3 h i e)
end

variable (m : (ℓ : Loc nD τ sig) → Buf (Elt Ideal) ℓ) (c : Dev nD)

/-! ## The blocks at coordinates -/

/-- Which block of each array a grid point (head, key block, query block) works on. -/
theorem idx0 : ∀ t : Fin cfg0.N, win0_0.index t = ![t.val / 64, t.val % 8, 0] := (by decide +kernel : ∀ t : Fin grid0.N, _)
theorem idx1 : ∀ t : Fin cfg0.N, win0_1.index t = ![t.val / 64, t.val / 8 % 8, 0] := (by decide +kernel : ∀ t : Fin grid0.N, _)
theorem idx2 : ∀ t : Fin cfg0.N, win0_2.index t = ![t.val / 64, t.val / 8 % 8, 0] := (by decide +kernel : ∀ t : Fin grid0.N, _)
theorem idx3 : ∀ t : Fin cfg0.N, win0_3.index t = ![t.val / 64, t.val % 8, 0] := (by decide +kernel : ∀ t : Fin grid0.N, _)
theorem idx4 : ∀ t : Fin cfg0.N, win0_4.index t = ![t.val / 64, t.val % 8, 0] := (by decide +kernel : ∀ t : Fin grid0.N, _)
theorem idx5 : ∀ t : Fin cfg0.N, win0_5.index t = ![t.val / 64, t.val % 8, 0] := (by decide +kernel : ∀ t : Fin grid0.N, _)
theorem idx6 : ∀ t : Fin cfg0.N, win0_6.index t = ![t.val / 64, 0, 0] := (by decide +kernel : ∀ t : Fin grid0.N, _)
theorem idx7 : ∀ t : Fin cfg0.N, win0_7.index t = ![t.val / 64, t.val / 8 % 8, 0] := (by decide +kernel : ∀ t : Fin grid0.N, _)
theorem idx8 : ∀ t : Fin cfg0.N, win0_8.index t = ![t.val / 64, t.val / 8 % 8, 0] := (by decide +kernel : ∀ t : Fin grid0.N, _)

/-- There are 256 grid points. -/
theorem pt_lt (t : Fin cfg0.N) : t.val < 256 := lt_of_lt_of_eq t.isLt N_0

/-- Point `t`'s head, and the rows of its query and of its key block. -/
def hd (t : Fin cfg0.N) : Fin 4 := ⟨t.val / 64, by have := pt_lt t; omega⟩
/-- The array's row of a query block's row. -/
def qRow (t : Fin cfg0.N) (r : Fin 1024) : Fin 8192 := ⟨t.val % 8 * 1024 + r.val, by omega⟩
/-- The array's row of a key block's row. -/
def kRow (t : Fin cfg0.N) (s : Fin 1024) : Fin 8192 := ⟨t.val / 8 % 8 * 1024 + s.val, by omega⟩

/-- The six arrays the call is given, as the host's operations before it left them. -/
def Aq : Vec Ideal S4x8192x192 .f32 := V m c main_v15
/-- The keys the launch is given. -/
def Ak : Vec Ideal S4x8192x192 .f32 := V m c main_v16
/-- The values the launch is given. -/
def Av : Vec Ideal S4x8192x128 .f32 := V m c main_v17
/-- The output gradients the launch is given. -/
def Ado : Vec Ideal S4x8192x128 .f32 := V m c main_v18
/-- The row log-sums the launch is given. -/
def Alse : Vec Ideal S4x8192x1 .f32 := V m c main_v11
/-- The row sums of output times output gradient the launch is given. -/
def Adl : Vec Ideal S4x8192x1 .f32 := V m c main_v21

/-- Operand 0's block, of any array. -/
theorem blk0_of (A : Vec Ideal S4x8192x192 .f32) (t : Fin cfg0.N) (r : Fin 1024) (d : Fin 192) :
    ((cfg0.win 0).blk t).view.read (Elt Ideal) A (ix3 0 r d) = A (ix3 (hd t) (qRow t r) d) := by
  blk_ext [idx0 t, hd, qRow]
/-- Operand 0's block: the query rows. -/
theorem blk0 (t : Fin cfg0.N) (r : Fin 1024) (d : Fin 192) : iblk m c 0 t (ix3 0 r d) = Aq m c (ix3 (hd t) (qRow t r) d) :=
  blk0_of (Aq m c) t r d

/-- Operand 1's block, of any array. -/
theorem blk1_of (A : Vec Ideal S4x8192x192 .f32) (t : Fin cfg0.N) (r : Fin 1024) (d : Fin 192) :
    ((cfg0.win 1).blk t).view.read (Elt Ideal) A (ix3 0 r d) = A (ix3 (hd t) (kRow t r) d) := by
  blk_ext [idx1 t, hd, kRow]
/-- Operand 1's block: the key rows. -/
theorem blk1 (t : Fin cfg0.N) (r : Fin 1024) (d : Fin 192) : iblk m c 1 t (ix3 0 r d) = Ak m c (ix3 (hd t) (kRow t r) d) :=
  blk1_of (Ak m c) t r d

/-- Operand 2's block, of any array. -/
theorem blk2_of (A : Vec Ideal S4x8192x128 .f32) (t : Fin cfg0.N) (r : Fin 1024) (e : Fin 128) :
    ((cfg0.win 2).blk t).view.read (Elt Ideal) A (ix3 0 r e) = A (ix3 (hd t) (kRow t r) e) := by
  blk_ext [idx2 t, hd, kRow]
/-- Operand 2's block: the value rows. -/
theorem blk2 (t : Fin cfg0.N) (r : Fin 1024) (e : Fin 128) : iblk m c 2 t (ix3 0 r e) = Av m c (ix3 (hd t) (kRow t r) e) :=
  blk2_of (Av m c) t r e

/-- Operand 3's block, of any array. -/
theorem blk3_of (A : Vec Ideal S4x8192x128 .f32) (t : Fin cfg0.N) (r : Fin 1024) (e : Fin 128) :
    ((cfg0.win 3).blk t).view.read (Elt Ideal) A (ix3 0 r e) = A (ix3 (hd t) (qRow t r) e) := by
  blk_ext [idx3 t, hd, qRow]
/-- Operand 3's block: the output gradient's rows. -/
theorem blk3 (t : Fin cfg0.N) (r : Fin 1024) (e : Fin 128) : iblk m c 3 t (ix3 0 r e) = Ado m c (ix3 (hd t) (qRow t r) e) :=
  blk3_of (Ado m c) t r e

/-- Operand 4's block, of any array. -/
theorem blk4_of (A : Vec Ideal S4x8192x1 .f32) (t : Fin cfg0.N) (r : Fin 1024) :
    ((cfg0.win 4).blk t).view.read (Elt Ideal) A (ix3 0 r 0) = A (ix3 (hd t) (qRow t r) 0) := by
  blk_ext [idx4 t, hd, qRow]
/-- Operand 4's block: the query rows' log-sums. -/
theorem blk4 (t : Fin cfg0.N) (r : Fin 1024) : iblk m c 4 t (ix3 0 r 0) = Alse m c (ix3 (hd t) (qRow t r) 0) :=
  blk4_of (Alse m c) t r

/-- Operand 5's block, of any array. -/
theorem blk5_of (A : Vec Ideal S4x8192x1 .f32) (t : Fin cfg0.N) (r : Fin 1024) :
    ((cfg0.win 5).blk t).view.read (Elt Ideal) A (ix3 0 r 0) = A (ix3 (hd t) (qRow t r) 0) := by
  blk_ext [idx5 t, hd, qRow]
/-- Operand 5's block: the query rows' deltas. -/
theorem blk5 (t : Fin cfg0.N) (r : Fin 1024) : iblk m c 5 t (ix3 0 r 0) = Adl m c (ix3 (hd t) (qRow t r) 0) :=
  blk5_of (Adl m c) t r

end Cert.Attn

end
-- ==== Proof.Sums.lean ====
/-
  The kernel's three output arrays after the run: each run of grid points adds up its tiles to the full sum over the 8192
  rows, so the arrays hold the attention's gradients of the call's six arrays.
-/
module

public import proofs.«01_k».proof.Proof.Arrays

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-- The weight and the score gradient of the call's arrays. -/
def W : Fin 4 → Fin 8192 → Fin 8192 → EReal := wt (Aq m c) (Ak m c) (Alse m c)
/-- The score gradients of the launch's arrays. -/
def D : Fin 4 → Fin 8192 → Fin 8192 → EReal := ds (Aq m c) (Ak m c) (Av m c) (Ado m c) (Alse m c) (Adl m c)

/-- A tile's weights are the weights at the tile's rows. -/
theorem tileP_at (t : Fin cfg0.N) (r s : Fin 1024) :
    tileP (iblk m c 0 t) (iblk m c 1 t) (iblk m c 4 t) r s = W m c (hd t) (qRow t r) (kRow t s) := by
  rw [tileP, W, wt, blk4 m c t r]
  simp only [blk0 m c t, blk1 m c t]

/-- A grid point's score gradients are those of the arrays. -/
theorem ptDs_at (t : Fin cfg0.N) (r s : Fin 1024) : ptDs m c t r s = D m c (hd t) (qRow t r) (kRow t s) := by
  rw [ptDs, tileDs, ptP, pay9_eq, tileP_at, blk5 m c t r, D, ds]
  simp only [blk2 m c t, blk3 m c t]
  rfl

/-- What a grid point adds to the value gradient. -/
theorem addDv_at (t : Fin cfg0.N) (s : Fin 1024) (e : Fin 128) :
    addDv m c t s e = ∑ r : Fin 1024, W m c (hd t) (qRow t r) (kRow t s) * Ado m c (ix3 (hd t) (qRow t r) e) := by
  simp only [addDv, tileP_at, blk3 m c t]

/-- What a grid point adds to the key gradient. -/
theorem addDk_at (t : Fin cfg0.N) (s : Fin 1024) (d : Fin 192) :
    addDk m c t s d = ∑ r : Fin 1024, D m c (hd t) (qRow t r) (kRow t s) * Aq m c (ix3 (hd t) (qRow t r) d) := by
  simp only [addDk, ptDs_at, blk0 m c t]

/-- The point at place `s` of `t`'s run of eight: the same head and key block, query block `s`. -/
abbrev runPt (t : Fin cfg0.N) (s : Fin 8) : Fin cfg0.N :=
  ⟨8 * (t.val / 8) + s.val, by have := pt_lt t; exact lt_of_lt_of_eq (by omega) N_0.symm⟩

/-- The eight grid points of a key block share the head. -/
theorem hd_run (t : Fin cfg0.N) (s : Fin 8) : hd (runPt t s) = hd t := Fin.ext (by show (8 * (t.val / 8) + s.val) / 64 = t.val / 64; omega)
/-- They share the key rows. -/
theorem kRow_run (t : Fin cfg0.N) (s : Fin 8) (r : Fin 1024) : kRow (runPt t s) r = kRow t r :=
  Fin.ext (by show (8 * (t.val / 8) + s.val) / 8 % 8 * 1024 + r.val = t.val / 8 % 8 * 1024 + r.val; omega)
/-- They run through the query blocks. -/
theorem qRow_run (t : Fin cfg0.N) (s : Fin 8) (r : Fin 1024) : qRow (runPt t s) r = ⟨s.val * 1024 + r.val, by omega⟩ :=
  Fin.ext (by show (8 * (t.val / 8) + s.val) % 8 * 1024 + r.val = s.val * 1024 + r.val; omega)

/-- The values' accumulator at the end of a run is the gradient's sum over all queries. -/
theorem dv_sum (t : Fin cfg0.N) (ht : t.val % 8 = 7) (s : Fin 1024) (e : Fin 128) :
    (outsAt0 m c t.val t.isLt).2.2.2.2 (ix2 s e)
      = gradV (Aq m c) (Ak m c) (Ado m c) (Alse m c) (hd t) (kRow t s) e := by
  have h := Pipeline.eq_sum_fin_of_reset_step_apply_of_flush (fun n h (i : Fin 1024 × Fin 128) => (outsAt0 m c n h).2.2.2.2 (ix2 i.1 i.2)) 8
    (fun _ => (0 : EReal)) (fun t i => addDv m c t i.1 i.2) (fun t h i => dv_first m c t h i.1 i.2)
    (fun t h i => dv_step m c t h i.1 i.2) t ht (s, e)
  refine h.trans ?_
  rw [zero_add, gradV]
  refine Eq.trans (Finset.sum_congr rfl fun p _ => (addDv_at m c (runPt t p) s e)) ?_
  simp only [hd_run, kRow_run, qRow_run]
  exact Fin.sum_mul_add_fin 8 1024 (fun i : Fin 8192 => W m c (hd t) i (kRow t s) * Ado m c (ix3 (hd t) i e))

/-- The keys' likewise. -/
theorem dk_sum (t : Fin cfg0.N) (ht : t.val % 8 = 7) (s : Fin 1024) (d : Fin 192) :
    (outsAt0 m c t.val t.isLt).2.2.2.1 (ix2 s d)
      = gradK (Aq m c) (Ak m c) (Av m c) (Ado m c) (Alse m c) (Adl m c) (hd t) (kRow t s) d := by
  have h := Pipeline.eq_sum_fin_of_reset_step_apply_of_flush (fun n h (i : Fin 1024 × Fin 192) => (outsAt0 m c n h).2.2.2.1 (ix2 i.1 i.2)) 8
    (fun _ => (0 : EReal)) (fun t i => addDk m c t i.1 i.2) (fun t h i => dk_first m c t h i.1 i.2)
    (fun t h i => dk_step m c t h i.1 i.2) t ht (s, d)
  refine h.trans ?_
  rw [zero_add, gradK]
  refine Eq.trans (Finset.sum_congr rfl fun p _ => (addDk_at m c (runPt t p) s d)) ?_
  simp only [hd_run, kRow_run, qRow_run]
  exact Fin.sum_mul_add_fin 8 1024 (fun i : Fin 8192 => D m c (hd t) i (kRow t s) * Aq m c (ix3 (hd t) i d))

/-- The point at place `p` of head `t / 64`. -/
abbrev headPt (t : Fin cfg0.N) (p : Fin 64) : Fin cfg0.N :=
  ⟨64 * (t.val / 64) + p.val, by have := pt_lt t; exact lt_of_lt_of_eq (by omega) N_0.symm⟩

/-- What the head's point of key block `j` and query block `i` adds to row `R`. -/
theorem addDq_at (t : Fin cfg0.N) (j i : Fin 8) (R : Fin 8192) (d : Fin 192) (h : j.val * 8 + i.val < 64) :
    addDq m c (headPt t ⟨j.val * 8 + i.val, h⟩) R d
      = if i.val = R.val / 1024 then
          ∑ s : Fin 1024, D m c (hd t) R ⟨j.val * 1024 + s.val, by omega⟩ * Ak m c (ix3 (hd t) ⟨j.val * 1024 + s.val, by omega⟩ d)
        else 0 := by
  have hm : (headPt t ⟨j.val * 8 + i.val, h⟩).val % 8 = i.val := by show (64 * (t.val / 64) + (j.val * 8 + i.val)) % 8 = i.val; omega
  have hh : hd (headPt t ⟨j.val * 8 + i.val, h⟩) = hd t := Fin.ext (by show (64 * (t.val / 64) + (j.val * 8 + i.val)) / 64 = t.val / 64; omega)
  have hk : ∀ s, kRow (headPt t ⟨j.val * 8 + i.val, h⟩) s = ⟨j.val * 1024 + s.val, by omega⟩ := fun s =>
    Fin.ext (by show (64 * (t.val / 64) + (j.val * 8 + i.val)) / 8 % 8 * 1024 + s.val = j.val * 1024 + s.val; omega)
  rw [addDq, hm]
  by_cases e : i.val = R.val / 1024
  · have hq : qRow (headPt t ⟨j.val * 8 + i.val, h⟩) ⟨R.val % 1024, Nat.mod_lt _ (by decide)⟩ = R :=
      Fin.ext (by show (64 * (t.val / 64) + (j.val * 8 + i.val)) % 8 * 1024 + R.val % 1024 = R.val; omega)
    rw [if_pos e.symm, if_pos e]
    simp only [ptDs_at, blk1 m c _, hh, hk, hq]
  · rw [if_neg (fun h => e h.symm), if_neg e]

/-- The queries' gradient at the end of a head is the sum over all keys. -/
theorem dq_sum (t : Fin cfg0.N) (ht : t.val % 64 = 63) (R : Fin 8192) (d : Fin 192) :
    (outsAt0 m c t.val t.isLt).1 (ix3 0 R d)
      = gradQ (Aq m c) (Ak m c) (Av m c) (Ado m c) (Alse m c) (Adl m c) (hd t) R d := by
  have h := Pipeline.eq_sum_fin_of_reset_step_apply_of_flush (fun n h (i : Fin 8192 × Fin 192) => (outsAt0 m c n h).1 (ix3 0 i.1 i.2)) 64
    (fun _ => (0 : EReal)) (fun t i => addDq m c t i.1 i.2) (fun t h i => dq_first m c t h i.1 i.2)
    (fun t h i => dq_step m c t h i.1 i.2) t ht (R, d)
  refine h.trans ?_
  rw [zero_add, gradQ]
  refine (Fin.sum_mul_add_fin 8 8 (fun p : Fin 64 => addDq m c (headPt t p) R d)).symm.trans ?_
  refine Eq.trans (Finset.sum_congr rfl fun j _ => ?_)
    (Fin.sum_mul_add_fin 8 1024 (fun j : Fin 8192 => D m c (hd t) R j * Ak m c (ix3 (hd t) j d)))
  rw [Finset.sum_congr rfl fun i _ => addDq_at m c t j i R d (by omega)]
  have hR : R.val / 1024 < 8 := by omega
  rw [Finset.sum_eq_single (⟨R.val / 1024, hR⟩ : Fin 8)]
  · rw [if_pos rfl]
  · intro b _ hb
    rw [if_neg fun h => hb (Fin.ext h)]
  · intro h; exact absurd (Finset.mem_univ _) h

/-! ## The arrays after the run -/

/-- The three gradients of the call's arrays, as arrays. -/
def finQ : Vec Ideal S4x8192x192 .f32 := fun j => gradQ (Aq m c) (Ak m c) (Av m c) (Ado m c) (Alse m c) (Adl m c) (j 0) (j 1) (j 2)
/-- The key gradient's final array. -/
def finK : Vec Ideal S4x8192x192 .f32 := fun j => gradK (Aq m c) (Ak m c) (Av m c) (Ado m c) (Alse m c) (Adl m c) (j 0) (j 1) (j 2)
/-- The value gradient's final array. -/
def finV : Vec Ideal S4x8192x128 .f32 := fun j => gradV (Aq m c) (Ak m c) (Ado m c) (Alse m c) (j 0) (j 1) (j 2)

/-- The query gradient's block, of any array. -/
theorem blk6_of (A : Vec Ideal S4x8192x192 .f32) (t : Fin cfg0.N) (r : Fin 8192) (d : Fin 192) :
    ((cfg0.win 6).blk t).view.read (Elt Ideal) A (ix3 0 r d) = A (ix3 (hd t) r d) := by
  blk_ext [idx6 t, hd]

/-- What the query gradient's array holds at the end. -/
theorem final6 : (dats m 0 c).arrAt 6 cfg0.N = finQ m c := by
  refine (dats m 0 c).arrAt_eq_of_covers 6 _ (by decide +kernel) fun t hf y => ?_
  have ht : t.val % 64 = 63 := (flush0_6 t).mp hf
  rw [after0_6]
  obtain ⟨z, r, d, rfl⟩ : ∃ (z : Fin 1) (r : Fin 8192) (d : Fin 192), y = ix3 z r d := ⟨y 0, y 1, y 2, eq_ix3 y⟩
  obtain rfl : z = 0 := Subsingleton.elim _ _
  exact (dq_sum m c t ht r d).trans (blk6_of (finQ m c) t r d).symm

/-- The key gradient's block, of any array. -/
theorem blk7_of (A : Vec Ideal S4x8192x192 .f32) (t : Fin cfg0.N) (r : Fin 1024) (d : Fin 192) :
    ((cfg0.win 7).blk t).view.read (Elt Ideal) A (ix3 0 r d) = A (ix3 (hd t) (kRow t r) d) := by
  blk_ext [idx7 t, hd, kRow]

/-- What the key gradient's array holds at the end. -/
theorem final7 : (dats m 0 c).arrAt 7 cfg0.N = finK m c := by
  refine (dats m 0 c).arrAt_eq_of_covers 7 _ (by decide +kernel) fun t hf y => ?_
  have ht : t.val % 8 = 7 := (flush0_7 t).mp hf
  rw [after0_7]
  obtain ⟨z, r, d, rfl⟩ : ∃ (z : Fin 1) (r : Fin 1024) (d : Fin 192), y = ix3 z r d := ⟨y 0, y 1, y 2, eq_ix3 y⟩
  obtain rfl : z = 0 := Subsingleton.elim _ _
  exact (dk_out m c t ht r d).trans ((dk_sum m c t ht r d).trans (blk7_of (finK m c) t r d).symm)

/-- The value gradient's block, of any array. -/
theorem blk8_of (A : Vec Ideal S4x8192x128 .f32) (t : Fin cfg0.N) (r : Fin 1024) (d : Fin 128) :
    ((cfg0.win 8).blk t).view.read (Elt Ideal) A (ix3 0 r d) = A (ix3 (hd t) (kRow t r) d) := by
  blk_ext [idx8 t, hd, kRow]

/-- What the value gradient's array holds at the end. -/
theorem final8 : (dats m 0 c).arrAt 8 cfg0.N = finV m c := by
  refine (dats m 0 c).arrAt_eq_of_covers 8 _ (by decide +kernel) fun t hf y => ?_
  have ht : t.val % 8 = 7 := (flush0_8 t).mp hf
  rw [after0_8]
  obtain ⟨z, r, d, rfl⟩ : ∃ (z : Fin 1) (r : Fin 1024) (d : Fin 128), y = ix3 z r d := ⟨y 0, y 1, y 2, eq_ix3 y⟩
  obtain rfl : z = 0 := Subsingleton.elim _ _
  exact (dv_out m c t ht r d).trans ((dv_sum m c t ht r d).trans (blk8_of (finV m c) t r d).symm)

end Cert.Attn

end
-- ==== Proof.HostLines.lean ====
/-
  The six arrays the host's lines hand to the call, at an index, in terms of the program's four arguments: the transposed
  queries, keys, values and output gradients, each row's log-sum, and each row's `delta`.
-/
module

public import proofs.«01_k».proof.Proof.Arrays
public import Idealize.ShloMosaic.Lib.Pointwise
public import Idealize.ShloMosaic.Lib.StableHlo.ReadAt

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-- The program's four arguments. -/
abbrev X0 : Vec Ideal S8192x4x192 .f32 := m ((c : Thread nD τ).loc main_arg0)
abbrev X1 : Vec Ideal S8192x4x192 .f32 := m ((c : Thread nD τ).loc main_arg1)
abbrev X2 : Vec Ideal S8192x4x128 .f32 := m ((c : Thread nD τ).loc main_arg2)
abbrev X3 : Vec Ideal S8192x4x128 .f32 := m ((c : Thread nD τ).loc main_arg3)

/-- The host's lines before the call, one array after the other. -/
def hS (x0 x1 : FVec Ideal S8192x4x192 .f32) : FVec Ideal S4x8192x8192 .f32 :=
  mulf (Host.dotGeneral (F := Ideal) dot_S8192x4x192_S8192x4x192_S4x8192x8192_2_2_0_0_1_1 none x0 x1)
    (broadcastInDim S4x8192x8192 ![] bcast_S_S4x8192x8192 (constant (F := Ideal) S_ .f32 0x3D93CD3A#32))
/-- The row maxima. -/
def hM (x0 x1 : FVec Ideal S8192x4x192 .f32) : FVec Ideal S4x8192 .f32 :=
  Host.reduce FloatOps.maximumf (hS x0 x1) (constant (F := Ideal) S_ .f32 0xFF800000#32) reducesTo_S4x8192x8192_S4x8192_d2 h_S_
/-- The exponentials of the scores less the row maximum. -/
def hE (x0 x1 : FVec Ideal S8192x4x192 .f32) : FVec Ideal S4x8192x8192 .f32 :=
  Host.exp (subf (hS x0 x1) (broadcastInDim S4x8192x8192 ![0, 1, 2] bcast_S4x8192x1_S4x8192x8192_0_1_2
    (broadcastInDim S4x8192x1 ![0, 1] bcast_S4x8192_S4x8192x1_0_1 (hM x0 x1))))
/-- The row sums of the exponentials. -/
def hL (x0 x1 : FVec Ideal S8192x4x192 .f32) : FVec Ideal S4x8192 .f32 :=
  Host.reduceAdd (hE x0 x1) (constant (F := Ideal) S_ .f32 0x00000000#32) reducesTo_S4x8192x8192_S4x8192_d2 h_S_
/-- The row log-sums. -/
def hLse (x0 x1 : FVec Ideal S8192x4x192 .f32) : FVec Ideal S4x8192x1 .f32 :=
  addf (broadcastInDim S4x8192x1 ![0, 1] bcast_S4x8192_S4x8192x1_0_1 (hM x0 x1))
    (Host.log (broadcastInDim S4x8192x1 ![0, 1] bcast_S4x8192_S4x8192x1_0_1 (hL x0 x1)))

/-- The launch's log-sums are the host lines' of the arguments. -/
theorem Alse_eq : Alse m c = hLse (X0 m c) (X1 m c) := by
  unfold Alse V X0 X1
  after_results_simp
  unfold hLse hL hE hM hS
  rfl

/-- The attention's output, head first. -/
def hO (x0 x1 : FVec Ideal S8192x4x192 .f32) (x2 : FVec Ideal S8192x4x128 .f32) : FVec Ideal S4x8192x128 .f32 :=
  Host.dotGeneral (F := Ideal) dot_S4x8192x8192_S8192x4x128_S4x8192x128_2_0_1_2_0_1 none
    (Host.divf (hE x0 x1) (broadcastInDim S4x8192x8192 ![0, 1, 2] bcast_S4x8192x1_S4x8192x8192_0_1_2
      (broadcastInDim S4x8192x1 ![0, 1] bcast_S4x8192_S4x8192x1_0_1 (hL x0 x1)))) x2
/-- The row sums of output times output gradient. -/
def hDl (x0 x1 : FVec Ideal S8192x4x192 .f32) (x2 x3 : FVec Ideal S8192x4x128 .f32) : FVec Ideal S4x8192x1 .f32 :=
  broadcastInDim S4x8192x1 ![0, 1] bcast_S4x8192_S4x8192x1_0_1
    (Host.reduceAdd (mulf (transpose S4x8192x128 [1, 0, 2] x3 transposes_S8192x4x128_S4x8192x128_1_0_2) (hO x0 x1 x2))
      (constant (F := Ideal) S_ .f32 0x00000000#32) reducesTo_S4x8192x128_S4x8192_d2 h_S_)

/-- The launch's deltas are the host lines' of the arguments. -/
theorem Adl_eq : Adl m c = hDl (X0 m c) (X1 m c) (X2 m c) (X3 m c) := by
  unfold Adl V X0 X1 X2 X3
  after_results_simp
  unfold hDl hO hL hE hM hS
  rfl

end Cert.Attn

end
-- ==== Proof.HostAt.lean ====
/-
  The six arrays the host's lines hand to the call, at an index, in terms of the program's four arguments: the transposed
  queries, keys, values and output gradients, each row's log-sum, and each row's `delta`.
-/
module

public import proofs.«01_k».proof.Proof.HostLines
public import Idealize.ShloMosaic.Lib.Pointwise
public import Idealize.ShloMosaic.Lib.StableHlo.ReadAt

@[expose] public section

set_option maxRecDepth 16384

noncomputable section

namespace Cert.Attn

open Cert.KernelIdeal Cert.KernelIdeal.Gen Idealize.ShloMosaic Idealize.ShloMosaic.TcCoe Idealize.SL.Sem

section
variable (x0 x1 : FVec Ideal S8192x4x192 .f32) (x2 x3 : FVec Ideal S8192x4x128 .f32)

/-- A score. -/
theorem hS_at (h : Fin 4) (i j : Fin 8192) : hS x0 x1 (ix3 h i j) = (∑ d : Fin 192, x0 (ix3 i h d) * x1 (ix3 j h d)) * scale := by
  pointwise [hS, scale]

/-- An exponential. -/
theorem hE_at (h : Fin 4) (i j : Fin 8192) : hE x0 x1 (ix3 h i j) = Ideal.exp (hS x0 x1 (ix3 h i j) - hM x0 x1 (ix2 h i)) := by
  pointwise [hE]

/-- A row's sum of exponentials. -/
theorem hL_at (h : Fin 4) (i : Fin 8192) : hL x0 x1 (ix2 h i) = ∑ j : Fin 8192, hE x0 x1 (ix3 h i j) := by
  pointwise [hL]

/-- The log-sum line, of any maximum and any sum. -/
theorem lse_of (M L : FVec Ideal S4x8192 .f32) (h : Fin 4) (i : Fin 8192) :
    addf (F := Ideal) (broadcastInDim S4x8192x1 ![0, 1] bcast_S4x8192_S4x8192x1_0_1 M)
        (Host.log (broadcastInDim S4x8192x1 ![0, 1] bcast_S4x8192_S4x8192x1_0_1 L)) (ix3 h i 0)
      = M (ix2 h i) + Ideal.log (L (ix2 h i)) := by
  pointwise []

/-- A row's log-sum. -/
theorem hLse_at (h : Fin 4) (i : Fin 8192) : hLse x0 x1 (ix3 h i 0) = hM x0 x1 (ix2 h i) + Ideal.log (hL x0 x1 (ix2 h i)) :=
  lse_of (hM x0 x1) (hL x0 x1) h i

/-- An output entry. -/
theorem hO_at (h : Fin 4) (i : Fin 8192) (e : Fin 128) :
    hO x0 x1 x2 (ix3 h i e) = ∑ j : Fin 8192, Ideal.div (hE x0 x1 (ix3 h i j)) (hL x0 x1 (ix2 h i)) * x2 (ix3 j h e) := by
  pointwise [hO]

/-- A row's delta. -/
theorem hDl_at (h : Fin 4) (i : Fin 8192) :
    hDl x0 x1 x2 x3 (ix3 h i 0) = ∑ e : Fin 128, x3 (ix3 i h e) * hO x0 x1 x2 (ix3 h i e) := by
  pointwise [hDl]

/-- A row's maximum. -/
theorem hM_at (h : Fin 4) (i : Fin 8192) :
    hM x0 x1 (ix2 h i) = Finset.fold max (Ideal.ofBits .f32 0xFF800000#32) (fun j => hS x0 x1 (ix3 h i j)) Finset.univ := by
  pointwise [hM]
end

end Cert.Attn

end
-- ==== Proof.RefAt.lean ====
/-
  The reference's arrays at an index: the scores, their row maximum, the exponentials and their row sums, the score
  gradient that the derivative of the softmax gives, and the three products.
-/
module

public import proofs.«01_k».proof.Proof.Payload
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.Attn.Ref

open Cert.ReferenceIdeal Cert.ReferenceIdeal.Read Idealize.ShloMosaic

variable (x0 x1 : Vec Ideal S8192x4x192 .f32) (x2 x3 : Vec Ideal S8192x4x128 .f32)

/-- A score. -/
theorem s_at (h : Fin 4) (i j : Fin 8192) :
    val_main_v2 x0 x1 (ix3 h i j) = (∑ d : Fin 192, x0 (ix3 i h d) * x1 (ix3 j h d)) * scale := by
  pointwise [val_main_v2, val_main_v1, val_main_cst, val_main_v0, scale]

/-- A row's maximum. -/
theorem m_at (h : Fin 4) (i : Fin 8192) :
    val_main_v3 x0 x1 (ix2 h i) = Finset.fold max (Ideal.ofBits .f32 0xFF800000#32) (fun j => val_main_v2 x0 x1 (ix3 h i j)) Finset.univ := by
  pointwise [val_main_v3, val_main_cst_0]

/-- The maximum with minus infinity changes nothing. -/
theorem max_of (M : FVec Ideal S4x8192 .f32) (i : S4x8192.Idx) :
    maximumf (F := Ideal) (broadcastInDim S4x8192 ![] Gen.bcast_S_S4x8192 (constant (F := Ideal) S_ .f32 0xFF800000#32)) M i
      = max (Ideal.ofBits .f32 0xFF800000#32) (M i) := rfl

/-- The maximum that the exponentials use. -/
theorem m10_at (h : Fin 4) (i : Fin 8192) :
    val_main_v10 x0 x1 (ix2 h i) = max (Ideal.ofBits .f32 0xFF800000#32) (val_main_v3 x0 x1 (ix2 h i)) := by
  unfold val_main_v10 val_main_v9 val_main_cst_2
  exact max_of (val_main_v3 x0 x1) (ix2 h i)

/-- An exponential. -/
theorem e_at (h : Fin 4) (i j : Fin 8192) :
    val_main_v23 x0 x1 (ix3 h i j) = Ideal.exp (val_main_v2 x0 x1 (ix3 h i j) - val_main_v10 x0 x1 (ix2 h i)) := by
  pointwise [val_main_v23, val_main_v22, val_main_v21, val_main_v20]

/-- A row's sum of exponentials. -/
theorem l_at (h : Fin 4) (i : Fin 8192) :
    val_main_v24 x0 x1 (ix2 h i) = ∑ j : Fin 8192, val_main_v23 x0 x1 (ix3 h i j) := by
  pointwise [val_main_v24, val_main_cst_8]

/-- A weight. -/
theorem p_at (h : Fin 4) (i j : Fin 8192) :
    val_main_v27 x0 x1 (ix3 h i j) = Ideal.div (val_main_v23 x0 x1 (ix3 h i j)) (val_main_v24 x0 x1 (ix2 h i)) := by
  pointwise [val_main_v27, val_main_v26, val_main_v25]

/-- The gradient of a weight. -/
theorem dp_at (h : Fin 4) (i j : Fin 8192) :
    val_main_v34 x2 x3 (ix3 h i j) = ∑ e : Fin 128, x3 (ix3 i h e) * x2 (ix3 j h e) := by
  pointwise [val_main_v34, val_main_v33]

/-- The part of an exponential's gradient that comes through the numerator. -/
theorem v39_at (h : Fin 4) (i j : Fin 8192) :
    val_main_v39 x0 x1 x2 x3 (ix3 h i j) = val_main_v34 x2 x3 (ix3 h i j)
        * Ideal.div (Ideal.ofBits .f32 0x3F800000#32) (val_main_v24 x0 x1 (ix2 h i) * val_main_v24 x0 x1 (ix2 h i))
        * val_main_v23 x0 x1 (ix3 h i j) := by
  pointwise [val_main_v39, val_main_v38, val_main_v37, val_main_v30, val_main_v29, val_main_v28, val_main_v25, val_main_cst_9]

/-- The row sum that the quotient's derivative holds. -/
theorem v40_at (h : Fin 4) (i : Fin 8192) :
    val_main_v40 x0 x1 x2 x3 (ix2 h i) = ∑ j : Fin 8192, val_main_v39 x0 x1 x2 x3 (ix3 h i j) := by
  pointwise [val_main_v40, val_main_cst_10]

/-- The gradient of a row's sum. -/
theorem v45_at (h : Fin 4) (i : Fin 8192) :
    val_main_v45 x0 x1 x2 x3 (ix2 h i) = - val_main_v40 x0 x1 x2 x3 (ix2 h i) := by
  pointwise [val_main_v45, val_main_v42, val_main_v41, val_main_cst_11]
  exact Fin.sum_univ_one _

/-- The gradient of a score's product. -/
theorem v50_at (h : Fin 4) (i j : Fin 8192) :
    val_main_v50 x0 x1 x2 x3 (ix3 h i j) = (Ideal.div (val_main_v34 x2 x3 (ix3 h i j)) (val_main_v24 x0 x1 (ix2 h i))
      + val_main_v45 x0 x1 x2 x3 (ix2 h i)) * val_main_v23 x0 x1 (ix3 h i j) * scale := by
  pointwise [val_main_v50, val_main_v49, val_main_v48, val_main_v47, val_main_v46, val_main_v44, val_main_v43, val_main_v25, val_main_cst_12, scale]

/-- The query gradient. -/
theorem dq_at (h : Fin 4) (i : Fin 8192) (d : Fin 192) :
    val_main_v55 x0 x1 x2 x3 (ix3 h i d) = ∑ j : Fin 8192, val_main_v50 x0 x1 x2 x3 (ix3 h i j) * x1 (ix3 j h d) := by
  pointwise [val_main_v55, val_main_v54, val_main_v53]

/-- The key gradient. -/
theorem dk_at (h : Fin 4) (j : Fin 8192) (d : Fin 192) :
    val_main_v56 x0 x1 x2 x3 (ix3 h j d) = ∑ i : Fin 8192, val_main_v50 x0 x1 x2 x3 (ix3 h i j) * x0 (ix3 i h d) := by
  pointwise [val_main_v56, val_main_v52, val_main_v51]

/-- The value gradient. -/
theorem dv_at (h : Fin 4) (j : Fin 8192) (e : Fin 128) :
    val_main_v57 x0 x1 x3 (ix3 h j e) = ∑ i : Fin 8192, x3 (ix3 i h e) * val_main_v27 x0 x1 (ix3 h i j) := by
  pointwise [val_main_v57, val_main_v36, val_main_v35, val_main_v33]

end Cert.Attn.Ref

end
-- ==== Proof.Equation.lean ====
/-
  The kernel's three gradients are the reference's, where every argument is a real number.
-/
module

public import proofs.«01_k».proof.Proof.Sums
public import proofs.«01_k».proof.Proof.HostAt
public import proofs.«01_k».proof.Proof.RefAt
public import proofs.«01_k».proof.Proof.Softmax
public import proofs.«01_k».proof.Pre_finite

@[expose] public section

set_option maxRecDepth 16384

noncomputable section

namespace Cert.Attn

open Cert.KernelIdeal Cert.KernelIdeal.Gen Idealize.ShloMosaic Idealize.ShloMosaic.TcCoe Idealize.SL.Sem
open Cert.ReferenceIdeal.Read

/-- The score scale is a real number. -/
theorem scale_real : IsReal scale := by
  have h : scale ≠ ⊤ ∧ scale ≠ ⊥ := by
    unfold scale
    constructor <;> simp [Ideal.ofBits, Ideal.ieee]
    · rw [← EReal.coe_mul]; exact EReal.coe_ne_top _
    · rw [← EReal.coe_mul]; exact EReal.coe_ne_bot _
  exact ⟨_, (EReal.coe_toReal h.1 h.2).symm⟩

/-- `|x| < ∞` says that `x` is a real number. -/
theorem real_of_lt (x : EReal)
    (h : FloatOps.cmpf (F := Ideal) (φ := .f32) .olt (FloatOps.absf (F := Ideal) (φ := .f32) x) (FloatOps.ofBits .f32 0x7F800000#32) = 1#1) : IsReal x := by
  induction x with
  | coe r => exact ⟨r, rfl⟩
  | bot => simp [FloatOps.cmpf, FloatOps.absf, Ideal.cmp, Ideal.ofBits, Ideal.ieee] at h
  | top => simp [FloatOps.cmpf, FloatOps.absf, Ideal.cmp, Ideal.ofBits, Ideal.ieee] at h

section
variable (x0 x1 : Vec Ideal S8192x4x192 .f32) (x2 x3 : Vec Ideal S8192x4x128 .f32)
  (h0 : ∀ j, IsReal (x0 j)) (h1 : ∀ j, IsReal (x1 j)) (h2 : ∀ j, IsReal (x2 j)) (h3 : ∀ j, IsReal (x3 j))

/-- The two programs' scores, row maxima, exponentials and row sums are the same. -/
theorem s_eq (h : Fin 4) (i j : Fin 8192) : val_main_v2 x0 x1 (ix3 h i j) = hS x0 x1 (ix3 h i j) :=
  (Ref.s_at x0 x1 h i j).trans (hS_at x0 x1 h i j).symm

/-- The reference's row maximum is the host's. -/
theorem m_eq (h : Fin 4) (i : Fin 8192) : val_main_v10 x0 x1 (ix2 h i) = hM x0 x1 (ix2 h i) := by
  rw [Ref.m10_at, Ref.m_at, hM_at, neg_inf, max_bot_left]
  simp only [s_eq]

/-- The reference's exponentials are the host's. -/
theorem e_eq (h : Fin 4) (i j : Fin 8192) : val_main_v23 x0 x1 (ix3 h i j) = hE x0 x1 (ix3 h i j) := by
  rw [Ref.e_at, hE_at, s_eq, m_eq]

/-- The reference's row sum is the host's. -/
theorem l_eq (h : Fin 4) (i : Fin 8192) : val_main_v24 x0 x1 (ix2 h i) = hL x0 x1 (ix2 h i) := by
  rw [Ref.l_at, hL_at]
  simp only [e_eq]

include h0 h1 in
/-- Scores of real queries and keys are real. -/
theorem hS_real (h : Fin 4) (i j : Fin 8192) : IsReal (hS x0 x1 (ix3 h i j)) := by
  rw [hS_at]
  exact (IsReal.sum _ _ fun d => (h0 _).mul (h1 _)).mul scale_real

include h0 h1 in
/-- So are their row maxima. -/
theorem hM_real (h : Fin 4) (i : Fin 8192) : IsReal (hM x0 x1 (ix2 h i)) := by
  rw [hM_at, neg_inf]
  exact IsReal.fold_max _ ⟨0, Finset.mem_univ _⟩ _ fun j => hS_real x0 x1 h0 h1 h i j

include h0 h1 in
/-- The weights. -/
theorem weight_eq (h : Fin 4) (i j : Fin 8192) :
    Ideal.exp (hS x0 x1 (ix3 h i j) - hLse x0 x1 (ix3 h i 0)) = val_main_v27 x0 x1 (ix3 h i j) := by
  rw [Ref.p_at, e_eq, l_eq, hLse_at, hL_at]
  simp only [hE_at]
  exact row_weight (fun j => hS x0 x1 (ix3 h i j)) _ (by decide) (fun j => hS_real x0 x1 h0 h1 h i j) (hM_real x0 x1 h0 h1 h i) j

include h0 h1 h2 h3 in
/-- The score gradients. -/
theorem grad_eq (h : Fin 4) (i j : Fin 8192) :
    Ideal.exp (hS x0 x1 (ix3 h i j) - hLse x0 x1 (ix3 h i 0))
        * ((∑ e : Fin 128, x3 (ix3 i h e) * x2 (ix3 j h e)) - hDl x0 x1 x2 x3 (ix3 h i 0)) * scale
      = val_main_v50 x0 x1 x2 x3 (ix3 h i j) := by
  rw [weight_eq x0 x1 h0 h1, Ref.p_at, Ref.v50_at, Ref.v45_at, Ref.v40_at, hDl_at]
  simp only [Ref.v39_at, Ref.dp_at, e_eq, l_eq, hO_at, hL_at, Ideal.ofBits_one_f32]
  simp only [hE_at]
  exact congrArg (· * scale) (row_grad (fun j => hS x0 x1 (ix3 h i j)) _ (by decide) (fun j => hS_real x0 x1 h0 h1 h i j) (hM_real x0 x1 h0 h1 h i)
    (fun e => x3 (ix3 i h e)) (fun j e => x2 (ix3 j h e)) (fun e => h3 _) (fun j e => h2 _) j)
end

/-! ## The three arrays -/

section
variable (m : (ℓ : Loc nD τ sig) → Buf (Elt Ideal) ℓ) (c : Dev nD)

/-- The launch's queries are the argument, head first. -/
theorem Aq_at (h : Fin 4) (i : Fin 8192) (d : Fin 192) : Aq m c (ix3 h i d) = X0 m c (ix3 i h d) := by
  unfold Aq V X0; after_reads_at
/-- The launch's keys are the argument, head first. -/
theorem Ak_at (h : Fin 4) (i : Fin 8192) (d : Fin 192) : Ak m c (ix3 h i d) = X1 m c (ix3 i h d) := by
  unfold Ak V X1; after_reads_at
/-- The launch's values are the argument, head first. -/
theorem Av_at (h : Fin 4) (i : Fin 8192) (d : Fin 128) : Av m c (ix3 h i d) = X2 m c (ix3 i h d) := by
  unfold Av V X2; after_reads_at
/-- The launch's output gradients are the argument, head first. -/
theorem Ado_at (h : Fin 4) (i : Fin 8192) (d : Fin 128) : Ado m c (ix3 h i d) = X3 m c (ix3 i h d) := by
  unfold Ado V X3; after_reads_at

variable (h0 : ∀ j, IsReal (X0 m c j)) (h1 : ∀ j, IsReal (X1 m c j)) (h2 : ∀ j, IsReal (X2 m c j)) (h3 : ∀ j, IsReal (X3 m c j))

include h0 h1 in
/-- The kernel's weights are the reference's softmax. -/
theorem W_eq (h : Fin 4) (i j : Fin 8192) : W m c h i j = val_main_v27 (X0 m c) (X1 m c) (ix3 h i j) := by
  rw [← weight_eq _ _ h0 h1, W, wt, Alse_eq, hS_at]
  simp only [Aq_at, Ak_at]

include h0 h1 h2 h3 in
/-- The kernel's score gradients are the reference's. -/
theorem D_eq (h : Fin 4) (i j : Fin 8192) : D m c h i j = val_main_v50 (X0 m c) (X1 m c) (X2 m c) (X3 m c) (ix3 h i j) := by
  rw [← grad_eq _ _ _ _ h0 h1 h2 h3, D, ds, wt, Alse_eq, Adl_eq, hS_at]
  simp only [Aq_at, Ak_at, Av_at, Ado_at]

include h0 h1 h2 h3 in
/-- The query gradient the kernel leaves is the reference's. -/
theorem finQ_eq : finQ m c = val_main_v55 (X0 m c) (X1 m c) (X2 m c) (X3 m c) := by
  funext j
  obtain ⟨h, i, d, rfl⟩ : ∃ (h : Fin 4) (i : Fin 8192) (d : Fin 192), j = ix3 h i d := ⟨j 0, j 1, j 2, eq_ix3 j⟩
  refine Eq.trans ?_ (Ref.dq_at _ _ _ _ h i d).symm
  show (∑ k : Fin 8192, D m c h i k * Ak m c (ix3 h k d)) = _
  exact Finset.sum_congr rfl fun k _ => congrArg₂ (· * ·) (D_eq m c h0 h1 h2 h3 h i k) (Ak_at m c h k d)

include h0 h1 h2 h3 in
/-- The key gradient the kernel leaves is the reference's. -/
theorem finK_eq : finK m c = val_main_v56 (X0 m c) (X1 m c) (X2 m c) (X3 m c) := by
  funext j
  obtain ⟨h, i, d, rfl⟩ : ∃ (h : Fin 4) (i : Fin 8192) (d : Fin 192), j = ix3 h i d := ⟨j 0, j 1, j 2, eq_ix3 j⟩
  refine Eq.trans ?_ (Ref.dk_at _ _ _ _ h i d).symm
  show (∑ k : Fin 8192, D m c h k i * Aq m c (ix3 h k d)) = _
  exact Finset.sum_congr rfl fun k _ => congrArg₂ (· * ·) (D_eq m c h0 h1 h2 h3 h k i) (Aq_at m c h k d)

include h0 h1 in
/-- The value gradient the kernel leaves is the reference's. -/
theorem finV_eq : finV m c = val_main_v57 (X0 m c) (X1 m c) (X3 m c) := by
  funext j
  obtain ⟨h, i, d, rfl⟩ : ∃ (h : Fin 4) (i : Fin 8192) (d : Fin 128), j = ix3 h i d := ⟨j 0, j 1, j 2, eq_ix3 j⟩
  refine Eq.trans ?_ (Ref.dv_at _ _ _ h i d).symm
  show (∑ k : Fin 8192, W m c h k i * Ado m c (ix3 h k d)) = _
  exact Finset.sum_congr rfl fun k _ => (mul_comm _ _).trans (congrArg₂ (· * ·) (Ado_at m c h k d) (W_eq m c h0 h1 h k i))

/-- `finite` of the arguments says that each of their entries is a real number. -/
theorem finite_real [Cert.Pre_finite.Facts] (x0 x1 : Vec Ideal S8192x4x192 .f32) (x2 x3 : Vec Ideal S8192x4x128 .f32)
    (h : (Cert.Pre_finite.fn (F := Ideal) x0 x1 x2 x3).1 = (fun _ => 1#1)
      ∧ (Cert.Pre_finite.fn (F := Ideal) x0 x1 x2 x3).2.1 = (fun _ => 1#1)
      ∧ (Cert.Pre_finite.fn (F := Ideal) x0 x1 x2 x3).2.2.1 = (fun _ => 1#1)
      ∧ (Cert.Pre_finite.fn (F := Ideal) x0 x1 x2 x3).2.2.2 = (fun _ => 1#1)) :
    (∀ j, IsReal (x0 j)) ∧ (∀ j, IsReal (x1 j)) ∧ (∀ j, IsReal (x2 j)) ∧ (∀ j, IsReal (x3 j)) :=
  ⟨fun j => real_of_lt _ (congrFun h.1 j), fun j => real_of_lt _ (congrFun h.2.1 j), fun j => real_of_lt _ (congrFun h.2.2.1 j),
    fun j => real_of_lt _ (congrFun h.2.2.2 j)⟩
end

end Cert.Attn

end
-- ==== Proof.AttnFwdPayload.lean ====
/-
  The attention's forward call: what its body computes of one block of queries and one block of keys and values, entry by
  entry, on the running maximum, the running sum of exponentials and the running weighted sum.
-/
module

public import proofs.«01_k».proof.Proof.OnlineSoftmax
public import proofs.«01_k».proof.Proof.Equation
public import proofs.«01_k».proof.Proof.Gen.AttnFwdIdeal.Value
public import Idealize.ShloMosaic.Lib.Pipeline.ValueKit.Acc
public import Idealize.ShloMosaic.Lib.Pipeline.ValueKit.Geometry
public import Idealize.ShloMosaic.Lib.Pointwise

@[expose] public section

set_option maxRecDepth 16384

noncomputable section

namespace Cert.AttnFwdVal

open Cert.AttnFwdIdeal Cert.AttnFwdIdeal.Gen Idealize.ShloMosaic Idealize.ShloMosaic.TcCoe Idealize.SL.Sem
open Cert.Attn (scale IsReal)

section
variable (q k : Vec Ideal S1x1024x192 .f32) (v : Vec Ideal S1x1024x128 .f32) (mm l : Vec Ideal S1024x1 .f32)
  (acc : Vec Ideal S1024x128 .f32)

/-- The tile's score of query `r` at key `s`. -/
def score (r s : Fin 1024) : EReal := (∑ d : Fin 192, q (ix3 0 r d) * k (ix3 0 s d)) * scale

/-- The body's scores. -/
theorem pay8_eq (r s : Fin 1024) : k0_pay8 (F := Ideal) q k (ix2 r s) = score q k r s := by
  pointwise [k0_pay8, score, scale]

/-- The new running maximum. -/
theorem pay9_eq (r : Fin 1024) : k0_pay9 (F := Ideal) q k mm (ix2 r 0)
    = max (mm (ix2 r 0)) (Finset.fold max (Ideal.ofBits .f32 0xFF800000#32) (fun s => score q k r s) Finset.univ) := by
  pointwise [k0_pay9, pay8_eq]

/-- The factor that rescales the running sums. -/
theorem pay10_eq (r : Fin 1024) : k0_pay10 (F := Ideal) q k mm (ix2 r 0)
    = Ideal.exp (mm (ix2 r 0) - k0_pay9 q k mm (ix2 r 0)) := by
  pointwise [k0_pay10]

/-- The tile's exponentials. -/
theorem pay11_eq (r s : Fin 1024) : k0_pay11 (F := Ideal) q k mm (ix2 r s)
    = Ideal.exp (score q k r s - k0_pay9 q k mm (ix2 r 0)) := by
  rw [← pay8_eq]
  pointwise [k0_pay11]

/-- The new running sum of exponentials. -/
theorem pay12_eq (r : Fin 1024) : k0_pay12 (F := Ideal) q k mm l (ix2 r 0)
    = Ideal.exp (mm (ix2 r 0) - k0_pay9 q k mm (ix2 r 0)) * l (ix2 r 0)
      + ∑ s : Fin 1024, Ideal.exp (score q k r s - k0_pay9 q k mm (ix2 r 0)) := by
  rw [← pay10_eq, Finset.sum_congr rfl fun s _ => (pay11_eq q k mm r s).symm]
  pointwise [k0_pay12]

/-- The new running weighted sum. -/
theorem pay1_eq (r : Fin 1024) (e : Fin 128) :
    k0_pay1 (F := Ideal) (k0_pay11 q k mm) (k0_pay13 q k mm acc) v (ix2 r e)
    = Ideal.exp (mm (ix2 r 0) - k0_pay9 q k mm (ix2 r 0)) * acc (ix2 r e)
      + ∑ s : Fin 1024, Ideal.exp (score q k r s - k0_pay9 q k mm (ix2 r 0)) * v (ix3 0 s e) := by
  rw [← pay10_eq, Finset.sum_congr rfl fun s _ => congrArg (· * v (ix3 0 s e)) (pay11_eq q k mm r s).symm]
  pointwise [k0_pay1, k0_pay13]

/-- A store of the running maximum changes nothing. -/
theorem pay2_eq (x : FVec Ideal S1024x1 .f32) : k0_pay2 x = x := by
  funext j; pointwise [k0_pay2]

/-- The output row: the weighted sum over the sum. -/
theorem pay3_eq (r : Fin 1024) (e : Fin 128) :
    k0_pay3 (F := Ideal) acc l (ix3 0 r e) = Ideal.div (acc (ix2 r e)) (l (ix2 r 0)) := by
  pointwise [k0_pay3]

/-- The row's log-sum. -/
theorem pay4_eq (r : Fin 1024) : k0_pay4 (F := Ideal) mm l (ix3 0 r 0) = mm (ix2 r 0) + Ideal.log (l (ix2 r 0)) := by
  pointwise [k0_pay4]

/-- The maximum starts at the literal, the two sums at zero. -/
theorem pay5_eq (j : S1024x1.Idx) : k0_pay5 (F := Ideal) j = Ideal.ofBits .f32 0xF149F2CA#32 := by pointwise [k0_pay5]
/-- The sum of exponentials. -/
theorem pay6_eq (j : S1024x1.Idx) : k0_pay6 (F := Ideal) j = 0 := by pointwise [k0_pay6]
/-- The weighted sum. -/
theorem pay7_eq (j : S1024x128.Idx) : k0_pay7 (F := Ideal) j = 0 := by pointwise [k0_pay7]

/-- The literal is a real number, and nothing more about it is used. -/
theorem start_real : IsReal (Ideal.ofBits .f32 0xF149F2CA#32) := by
  refine ⟨-(13234890 * 2 ^ 76), ?_⟩
  simp [Ideal.ofBits, Ideal.ieee, EReal.coe_mul, EReal.coe_pow]
end

end Cert.AttnFwdVal

end
-- ==== Proof.AttnFwdPoint.lean ====
/-
  The attention's forward call, one grid point at a time: the running maximum, the running sum of exponentials and the
  running weighted sum of the values, and what the last key block writes.
-/
module

public import proofs.«01_k».proof.Proof.AttnFwdPayload

@[expose] public section

set_option maxRecDepth 16384

noncomputable section

namespace Cert.AttnFwdVal

open Cert.AttnFwdIdeal Cert.AttnFwdIdeal.Gen Idealize.ShloMosaic Idealize.ShloMosaic.TcCoe Idealize.SL.Sem

variable (m : (ℓ : Loc nD τ sig) → Buf (Elt Ideal) ℓ) (c : Dev nD)

/-- What the point before left. -/
abbrev prev (t : Fin cfg0.N) := outsAt0 m c (t.val - 1) (Nat.lt_of_le_of_lt (Nat.sub_le _ _) t.isLt)

/-- The running maximum after a run's first key block, which starts afresh. -/
theorem max_first (t : Fin cfg0.N) (h0 : t.val % 8 = 0) : (outsAt0 m c t.val t.isLt).2.2.1
    = k0_pay2 (k0_pay9 (iblk m c 0 t) (iblk m c 1 t) (k0_pay5 (F := Ideal))) := by
  have h1 : ¬ t.val % 8 = 7 := by omega
  rw [outsAt0_A m c t h0 h1]; frame_out

/-- The running maximum after a later key block, from what the point before left. -/
theorem max_step (t : Fin cfg0.N) (h0 : ¬ t.val % 8 = 0) : (outsAt0 m c t.val t.isLt).2.2.1
    = k0_pay2 (k0_pay9 (iblk m c 0 t) (iblk m c 1 t) (prev m c t).2.2.1) := by
  by_cases h1 : t.val % 8 = 7
  · rw [outsAt0_C m c t h0 h1]; frame_out
    exact congrArg (fun x => k0_pay2 (k0_pay9 _ _ x)) (Memref.IsWhole.read_unread (Memref.isWhole_whole _) _)
  · rw [outsAt0_B m c t h0 h1]; frame_out
    exact congrArg (fun x => k0_pay2 (k0_pay9 _ _ x)) (Memref.IsWhole.read_unread (Memref.isWhole_whole _) _)

/-- The running sum of exponentials after a run's first key block, which starts afresh. -/
theorem sum_first (t : Fin cfg0.N) (h0 : t.val % 8 = 0) : (outsAt0 m c t.val t.isLt).2.2.2.1
    = k0_pay12 (iblk m c 0 t) (iblk m c 1 t) (k0_pay5 (F := Ideal)) (k0_pay6 (F := Ideal)) := by
  have h1 : ¬ t.val % 8 = 7 := by omega
  rw [outsAt0_A m c t h0 h1]; frame_out

/-- The running sum of exponentials after a later key block, from what the point before left. -/
theorem sum_step (t : Fin cfg0.N) (h0 : ¬ t.val % 8 = 0) : (outsAt0 m c t.val t.isLt).2.2.2.1
    = k0_pay12 (iblk m c 0 t) (iblk m c 1 t) (prev m c t).2.2.1 (prev m c t).2.2.2.1 := by
  by_cases h1 : t.val % 8 = 7
  · rw [outsAt0_C m c t h0 h1]; frame_out
    exact congrArg₂ (fun x y => k0_pay12 _ _ x y)
      (Memref.IsWhole.read_unread (Memref.isWhole_whole _) _) (Memref.IsWhole.read_unread (Memref.isWhole_whole _) _)
  · rw [outsAt0_B m c t h0 h1]; frame_out
    exact congrArg₂ (fun x y => k0_pay12 _ _ x y)
      (Memref.IsWhole.read_unread (Memref.isWhole_whole _) _) (Memref.IsWhole.read_unread (Memref.isWhole_whole _) _)

/-- The running weighted sum after a run's first key block, which starts afresh. -/
theorem acc_first (t : Fin cfg0.N) (h0 : t.val % 8 = 0) : (outsAt0 m c t.val t.isLt).2.2.2.2
    = k0_pay1 (k0_pay11 (iblk m c 0 t) (iblk m c 1 t) (k0_pay5 (F := Ideal))) (k0_pay13 (iblk m c 0 t) (iblk m c 1 t) (k0_pay5 (F := Ideal)) (k0_pay7 (F := Ideal))) (iblk m c 2 t) := by
  have h1 : ¬ t.val % 8 = 7 := by omega
  rw [outsAt0_A m c t h0 h1]; frame_out

/-- The running weighted sum after a later key block, from what the point before left. -/
theorem acc_step (t : Fin cfg0.N) (h0 : ¬ t.val % 8 = 0) : (outsAt0 m c t.val t.isLt).2.2.2.2
    = k0_pay1 (k0_pay11 (iblk m c 0 t) (iblk m c 1 t) (prev m c t).2.2.1) (k0_pay13 (iblk m c 0 t) (iblk m c 1 t) (prev m c t).2.2.1 (prev m c t).2.2.2.2) (iblk m c 2 t) := by
  by_cases h1 : t.val % 8 = 7
  · rw [outsAt0_C m c t h0 h1]; frame_out
    exact congrArg₂ (fun x y => k0_pay1 (k0_pay11 _ _ x) (k0_pay13 _ _ x y) _)
      (Memref.IsWhole.read_unread (Memref.isWhole_whole _) _) (Memref.IsWhole.read_unread (Memref.isWhole_whole _) _)
  · rw [outsAt0_B m c t h0 h1]; frame_out
    exact congrArg₂ (fun x y => k0_pay1 (k0_pay11 _ _ x) (k0_pay13 _ _ x y) _)
      (Memref.IsWhole.read_unread (Memref.isWhole_whole _) _) (Memref.IsWhole.read_unread (Memref.isWhole_whole _) _)

/-- The last key block writes the quotient. -/
theorem out_o (t : Fin cfg0.N) (h1 : t.val % 8 = 7) (r : Fin 1024) (e : Fin 128) :
    (outsAt0 m c t.val t.isLt).1 (ix3 0 r e)
      = Ideal.div ((outsAt0 m c t.val t.isLt).2.2.2.2 (ix2 r e)) ((outsAt0 m c t.val t.isLt).2.2.2.1 (ix2 r 0)) := by
  have h0 : ¬ t.val % 8 = 0 := by omega
  rw [outsAt0_C m c t h0 h1]; frame_out
  exact pay3_eq _ _ r e

/-- And the log-sum. -/
theorem out_lse (t : Fin cfg0.N) (h1 : t.val % 8 = 7) (r : Fin 1024) :
    (outsAt0 m c t.val t.isLt).2.1 (ix3 0 r 0)
      = (outsAt0 m c t.val t.isLt).2.2.1 (ix2 r 0) + Ideal.log ((outsAt0 m c t.val t.isLt).2.2.2.1 (ix2 r 0)) := by
  have h0 : ¬ t.val % 8 = 0 := by omega
  rw [outsAt0_C m c t h0 h1]; frame_out
  exact pay4_eq _ _ r

end Cert.AttnFwdVal

end
-- ==== Proof.AttnFwdRows.lean ====
/-
  The attention's forward call on finite arguments: after every grid point the three running arrays are the running softmax
  of the query rows over the key blocks seen so far.
-/
module

public import proofs.«01_k».proof.Proof.AttnFwdPoint
public import Idealize.ShloMosaic.Lib.StableHlo.ReadAt

@[expose] public section

set_option maxRecDepth 16384

noncomputable section

namespace Cert.AttnFwdVal

open Cert.AttnFwdIdeal Cert.AttnFwdIdeal.Gen Idealize.ShloMosaic Idealize.ShloMosaic.TcCoe Idealize.SL.Sem
open Cert.Attn (scale scale_real IsReal part part_zero online_step neg_inf)

/-- One query row's running maximum and sums after `n` key blocks: some real shift, and the two sums under it. -/
def Running (x : ℕ → Fin 1024 → ℝ) (w : Fin 128 → ℕ → Fin 1024 → ℝ) (n : ℕ) (mm l : EReal) (acc : Fin 128 → EReal) : Prop :=
  ∃ a : ℝ, mm = (a : EReal) ∧ l = (part x (fun _ _ => 1) n a : EReal) ∧ ∀ e, acc e = (part x (w e) n a : EReal)

/-- Before the first block. -/
theorem Running.start (x : ℕ → Fin 1024 → ℝ) (w : Fin 128 → ℕ → Fin 1024 → ℝ) :
    Running x w 0 (Ideal.ofBits .f32 0xF149F2CA#32) 0 fun _ => 0 := by
  obtain ⟨a, ha⟩ := start_real
  exact ⟨a, ha, by rw [part_zero, EReal.coe_zero], fun e => by rw [part_zero, EReal.coe_zero]⟩

/-- One block more. -/
theorem Running.step {x : ℕ → Fin 1024 → ℝ} {w : Fin 128 → ℕ → Fin 1024 → ℝ} {n : ℕ} {mm l : EReal} {acc : Fin 128 → EReal}
    (h : Running x w n mm l acc) (S : Fin 1024 → EReal) (U : Fin 128 → Fin 1024 → EReal)
    (hS : ∀ k, S k = (x n k : EReal)) (hU : ∀ e k, U e k = (w e n k : EReal)) {mm' l' : EReal} {acc' : Fin 128 → EReal}
    (hm : mm' = max mm (Finset.fold max (Ideal.ofBits .f32 0xFF800000#32) S Finset.univ))
    (hl : l' = Ideal.exp (mm - mm') * l + ∑ k, Ideal.exp (S k - mm'))
    (ha : ∀ e, acc' e = Ideal.exp (mm - mm') * acc e + ∑ k, Ideal.exp (S k - mm') * U e k) :
    Running x w (n + 1) mm' l' acc' := by
  obtain ⟨a, rfl, rfl, hacc⟩ := h
  have hf : IsReal (Finset.fold max ⊥ S Finset.univ) :=
    IsReal.fold_max _ ⟨0, Finset.mem_univ _⟩ _ fun k => ⟨_, hS k⟩
  rw [neg_inf] at hm
  obtain ⟨b, hb⟩ : IsReal mm' := by
    rcases max_choice (a : EReal) (Finset.fold max ⊥ S Finset.univ) with e | e
    · exact ⟨a, hm.trans e⟩
    · rw [hm, e]; exact hf
  subst hb
  refine ⟨b, rfl, ?_, fun e => ?_⟩
  · rw [hl, ← online_step x (fun _ _ => 1) n a b S (fun _ => 1) hS fun _ => EReal.coe_one.symm]
    simp only [mul_one]
  · rw [ha, hacc, online_step x (w e) n a b S (U e) hS (hU e)]

variable (m : (ℓ : Loc nD τ sig) → Buf (Elt Ideal) ℓ) (c : Dev nD)

/-- The program's three arguments. -/
abbrev X0 : Vec Ideal S8192x4x192 .f32 := m ((c : Thread nD τ).loc main_arg0)
/-- The keys. -/
abbrev X1 : Vec Ideal S8192x4x192 .f32 := m ((c : Thread nD τ).loc main_arg1)
/-- The values. -/
abbrev X2 : Vec Ideal S8192x4x128 .f32 := m ((c : Thread nD τ).loc main_arg2)

/-- The arrays the launch is given. -/
def Aq : Vec Ideal S4x8192x192 .f32 := V m c main_v0
/-- The keys, one head after the other. -/
def Ak : Vec Ideal S4x8192x192 .f32 := V m c main_v1
/-- The values, one head after the other. -/
def Av : Vec Ideal S4x8192x128 .f32 := V m c main_v2

/-- They are the arguments with the first two axes exchanged. -/
theorem Aq_at (h : Fin 4) (i : Fin 8192) (d : Fin 192) : Aq m c (ix3 h i d) = X0 m c (ix3 i h d) := by
  unfold Aq V X0; after_reads_at
/-- The keys. -/
theorem Ak_at (h : Fin 4) (i : Fin 8192) (d : Fin 192) : Ak m c (ix3 h i d) = X1 m c (ix3 i h d) := by
  unfold Ak V X1; after_reads_at
/-- The values. -/
theorem Av_at (h : Fin 4) (i : Fin 8192) (e : Fin 128) : Av m c (ix3 h i e) = X2 m c (ix3 i h e) := by
  unfold Av V X2; after_reads_at

/-- Which block of each array a grid point (head, query block, key block) works on. -/
theorem idx0 : ∀ t : Fin cfg0.N, win0_0.index t = ![t.val / 64, t.val / 8 % 8, 0] := (by decide +kernel : ∀ t : Fin grid0.N, _)
theorem idx1 : ∀ t : Fin cfg0.N, win0_1.index t = ![t.val / 64, t.val % 8, 0] := (by decide +kernel : ∀ t : Fin grid0.N, _)
theorem idx2 : ∀ t : Fin cfg0.N, win0_2.index t = ![t.val / 64, t.val % 8, 0] := (by decide +kernel : ∀ t : Fin grid0.N, _)

/-- There are 256 grid points. -/
theorem pt_lt (t : Fin cfg0.N) : t.val < 256 := lt_of_lt_of_eq t.isLt N_0

/-- A point's head. -/
def hd (t : Fin cfg0.N) : Fin 4 := ⟨t.val / 64, by have := pt_lt t; omega⟩
/-- The array's row of a query block's row. -/
def qRow (t : Fin cfg0.N) (r : Fin 1024) : Fin 8192 := ⟨t.val / 8 % 8 * 1024 + r.val, by omega⟩
/-- Row `k` of key block `p`. -/
def key (p : ℕ) (k : Fin 1024) : Fin 8192 := ⟨(p * 1024 + k.val) % 8192, Nat.mod_lt _ (by decide)⟩
/-- The array's row of a key block's row. -/
def kRow (t : Fin cfg0.N) (s : Fin 1024) : Fin 8192 := ⟨t.val % 8 * 1024 + s.val, by omega⟩

/-- The two names of a key block's row. -/
theorem kRow_eq (t : Fin cfg0.N) (s : Fin 1024) : kRow t s = key (t.val % 8) s :=
  Fin.ext (Nat.mod_eq_of_lt (by have := s.isLt; omega)).symm

/-- Operand 0's block, of any array. -/
theorem blk0_of (A : Vec Ideal S4x8192x192 .f32) (t : Fin cfg0.N) (r : Fin 1024) (d : Fin 192) :
    ((cfg0.win 0).blk t).view.read (Elt Ideal) A (ix3 0 r d) = A (ix3 (hd t) (qRow t r) d) := by
  blk_ext [idx0 t, hd, qRow]
/-- Operand 0's block: the query rows. -/
theorem blk0 (t : Fin cfg0.N) (r : Fin 1024) (d : Fin 192) : iblk m c 0 t (ix3 0 r d) = Aq m c (ix3 (hd t) (qRow t r) d) :=
  blk0_of (Aq m c) t r d
/-- Operand 1's block, of any array. -/
theorem blk1_of (A : Vec Ideal S4x8192x192 .f32) (t : Fin cfg0.N) (r : Fin 1024) (d : Fin 192) :
    ((cfg0.win 1).blk t).view.read (Elt Ideal) A (ix3 0 r d) = A (ix3 (hd t) (kRow t r) d) := by
  blk_ext [idx1 t, hd, kRow]
/-- Operand 1's block: the key rows. -/
theorem blk1 (t : Fin cfg0.N) (r : Fin 1024) (d : Fin 192) : iblk m c 1 t (ix3 0 r d) = Ak m c (ix3 (hd t) (kRow t r) d) :=
  blk1_of (Ak m c) t r d
/-- Operand 2's block, of any array. -/
theorem blk2_of (A : Vec Ideal S4x8192x128 .f32) (t : Fin cfg0.N) (r : Fin 1024) (e : Fin 128) :
    ((cfg0.win 2).blk t).view.read (Elt Ideal) A (ix3 0 r e) = A (ix3 (hd t) (kRow t r) e) := by
  blk_ext [idx2 t, hd, kRow]
/-- Operand 2's block: the value rows. -/
theorem blk2 (t : Fin cfg0.N) (r : Fin 1024) (e : Fin 128) : iblk m c 2 t (ix3 0 r e) = Av m c (ix3 (hd t) (kRow t r) e) :=
  blk2_of (Av m c) t r e

/-- The score of query `i` at key `j` in head `h`. -/
def sc (h : Fin 4) (i j : Fin 8192) : EReal := (∑ d : Fin 192, X0 m c (ix3 i h d) * X1 m c (ix3 j h d)) * scale

/-- A point's tile of scores. -/
theorem score_at (t : Fin cfg0.N) (r s : Fin 1024) :
    score (iblk m c 0 t) (iblk m c 1 t) r s = sc m c (hd t) (qRow t r) (key (t.val % 8) s) := by
  rw [← kRow_eq]
  unfold score sc
  exact congrArg (· * scale) (Finset.sum_congr rfl fun d _ => congrArg₂ (· * ·)
    ((blk0 m c t r d).trans (Aq_at m c _ _ d)) ((blk1 m c t s d).trans (Ak_at m c _ _ d)))

/-- A point's tile of values. -/
theorem value_at (t : Fin cfg0.N) (s : Fin 1024) (e : Fin 128) :
    iblk m c 2 t (ix3 0 s e) = X2 m c (ix3 (key (t.val % 8) s) (hd t) e) := by
  rw [← kRow_eq]
  exact (blk2 m c t s e).trans (Av_at m c _ _ e)

/-- The row's scores, block by block, as real numbers. -/
def xs (h : Fin 4) (i : Fin 8192) (p : ℕ) (k : Fin 1024) : ℝ := (sc m c h i (key p k)).toReal
/-- The values' column `e`. -/
def vs (h : Fin 4) (e : Fin 128) (p : ℕ) (k : Fin 1024) : ℝ := (X2 m c (ix3 (key p k) h e)).toReal

/-- A real number is its own real part. -/
theorem toReal_of {x : EReal} (h : IsReal x) : x = (x.toReal : EReal) := by obtain ⟨r, rfl⟩ := h; rfl

section
variable (h0 : ∀ j, IsReal (X0 m c j)) (h1 : ∀ j, IsReal (X1 m c j)) (h2 : ∀ j, IsReal (X2 m c j))

include h0 h1 in
/-- Scores of finite queries and keys are real. -/
theorem sc_real (h : Fin 4) (i j : Fin 8192) : IsReal (sc m c h i j) :=
  (IsReal.sum _ _ fun _ => (h0 _).mul (h1 _)).mul scale_real

/-- A query row's running softmax after point `t`. -/
def After (t : Fin cfg0.N) (r : Fin 1024) : Prop :=
  Running (xs m c (hd t) (qRow t r)) (fun e => vs m c (hd t) e) (t.val % 8 + 1)
    ((outsAt0 m c t.val t.isLt).2.2.1 (ix2 r 0)) ((outsAt0 m c t.val t.isLt).2.2.2.1 (ix2 r 0))
    (fun e => (outsAt0 m c t.val t.isLt).2.2.2.2 (ix2 r e))

include h0 h1 h2 in
/-- What one point does to a query row's running softmax. -/
theorem point_step (t : Fin cfg0.N) (r : Fin 1024) (mm l : Vec Ideal S1024x1 .f32) (acc : Vec Ideal S1024x128 .f32)
    (h : Running (xs m c (hd t) (qRow t r)) (fun e => vs m c (hd t) e) (t.val % 8) (mm (ix2 r 0)) (l (ix2 r 0)) (fun e => acc (ix2 r e)))
    (em : (outsAt0 m c t.val t.isLt).2.2.1 = k0_pay2 (k0_pay9 (iblk m c 0 t) (iblk m c 1 t) mm))
    (el : (outsAt0 m c t.val t.isLt).2.2.2.1 = k0_pay12 (iblk m c 0 t) (iblk m c 1 t) mm l)
    (ea : (outsAt0 m c t.val t.isLt).2.2.2.2 = k0_pay1 (k0_pay11 (iblk m c 0 t) (iblk m c 1 t) mm)
      (k0_pay13 (iblk m c 0 t) (iblk m c 1 t) mm acc) (iblk m c 2 t)) : After m c t r := by
  unfold After
  rw [em, el, ea, pay2_eq]
  refine h.step (fun s => score (iblk m c 0 t) (iblk m c 1 t) r s) (fun e s => iblk m c 2 t (ix3 0 s e)) (fun s => ?_)
    (fun e s => ?_) (pay9_eq _ _ mm r) (pay12_eq _ _ mm l r) (fun e => pay1_eq _ _ _ mm acc r e)
  · rw [score_at]; exact toReal_of (sc_real m c h0 h1 _ _ _)
  · rw [value_at]; exact toReal_of (h2 _)

include h0 h1 h2 in
/-- After every point the three running arrays are the running softmax. -/
theorem running (n : ℕ) (hn : n < cfg0.N) (r : Fin 1024) : After m c ⟨n, hn⟩ r := by
  induction n with
  | zero =>
    refine point_step m c h0 h1 h2 ⟨0, hn⟩ r _ _ _ ?_ (max_first m c ⟨0, hn⟩ rfl) (sum_first m c ⟨0, hn⟩ rfl) (acc_first m c ⟨0, hn⟩ rfl)
    simp only [pay5_eq, pay6_eq, pay7_eq]
    exact Running.start _ _
  | succ n ih =>
    by_cases hz : (n + 1) % 8 = 0
    · refine point_step m c h0 h1 h2 ⟨n + 1, hn⟩ r _ _ _ ?_ (max_first m c ⟨n + 1, hn⟩ hz) (sum_first m c ⟨n + 1, hn⟩ hz)
        (acc_first m c ⟨n + 1, hn⟩ hz)
      simp only [pay5_eq, pay6_eq, pay7_eq, hz]
      exact Running.start _ _
    · refine point_step m c h0 h1 h2 ⟨n + 1, hn⟩ r _ _ _ ?_ (max_step m c ⟨n + 1, hn⟩ hz) (sum_step m c ⟨n + 1, hn⟩ hz)
        (acc_step m c ⟨n + 1, hn⟩ hz)
      have b : n < cfg0.N := Nat.lt_of_succ_lt hn
      have e1 : hd ⟨n, b⟩ = hd ⟨n + 1, hn⟩ := Fin.ext (by show n / 64 = (n + 1) / 64; omega)
      have e2 : qRow ⟨n, b⟩ r = qRow ⟨n + 1, hn⟩ r := Fin.ext (by show n / 8 % 8 * 1024 + r.val = (n + 1) / 8 % 8 * 1024 + r.val; omega)
      have e3 : n % 8 + 1 = (n + 1) % 8 := by omega
      have p := ih b
      unfold After at p
      rw [e1, e2] at p
      exact e3 ▸ p
end

end Cert.AttnFwdVal

end
-- ==== Proof.AttnFwdEnd.lean ====
/-
  The attention's forward call on finite arguments: what its two arrays hold after the run.
-/
module

public import proofs.«01_k».proof.Proof.AttnFwdRows

@[expose] public section

set_option maxRecDepth 16384

noncomputable section

namespace Cert.AttnFwdVal

open Cert.AttnFwdIdeal Cert.AttnFwdIdeal.Gen Idealize.ShloMosaic Idealize.ShloMosaic.TcCoe Idealize.SL.Sem
open Cert.Attn (scale IsReal part_all online_out online_lse)

variable (m : (ℓ : Loc nD τ sig) → Buf (Elt Ideal) ℓ) (c : Dev nD)

/-- The score row's maximum. -/
def rowMax (h : Fin 4) (i : Fin 8192) : EReal := Finset.fold max ⊥ (fun j => sc m c h i j) Finset.univ

/-- The attention's output: the softmax of the scores times the values. -/
def outAt (h : Fin 4) (i : Fin 8192) (e : Fin 128) : EReal :=
  ∑ j : Fin 8192, Ideal.div (Ideal.exp (sc m c h i j - rowMax m c h i)) (∑ g : Fin 8192, Ideal.exp (sc m c h i g - rowMax m c h i))
    * X2 m c (ix3 j h e)
/-- The row's log-sum. -/
def lseAt (h : Fin 4) (i : Fin 8192) : EReal := Ideal.log (∑ j : Fin 8192, Ideal.exp (sc m c h i j))

/-- The call's two arrays. -/
def finO : Vec Ideal S4x8192x128 .f32 := fun i => outAt m c (i 0) (i 1) (i 2)
/-- The log-sums. -/
def finL : Vec Ideal S4x8192x1 .f32 := fun i => lseAt m c (i 0) (i 1)

section
variable (h0 : ∀ j, IsReal (X0 m c j)) (h1 : ∀ j, IsReal (X1 m c j)) (h2 : ∀ j, IsReal (X2 m c j))

include h0 h1 in
/-- The row's maximum is real. -/
theorem rowMax_real (h : Fin 4) (i : Fin 8192) : IsReal (rowMax m c h i) :=
  IsReal.fold_max _ ⟨0, Finset.mem_univ _⟩ _ fun j => sc_real m c h0 h1 h i j

/-- Row `k` of key block `p`, within the array. -/
theorem key_eq (p : Fin 8) (k : Fin 1024) (h : p.val * 1024 + k.val < 8192) : key p.val k = ⟨p.val * 1024 + k.val, h⟩ :=
  Fin.ext (Nat.mod_eq_of_lt h)

include h0 h1 h2 in
/-- After a row's last key block: the whole row's shifted sums. -/
theorem row_end (t : Fin cfg0.N) (ht : t.val % 8 = 7) (r : Fin 1024) : ∃ a : ℝ,
    (outsAt0 m c t.val t.isLt).2.2.1 (ix2 r 0) = (a : EReal)
    ∧ (outsAt0 m c t.val t.isLt).2.2.2.1 (ix2 r 0)
        = ((∑ j : Fin 8192, Real.exp ((sc m c (hd t) (qRow t r) j).toReal - a) * 1 : ℝ) : EReal)
    ∧ ∀ e, (outsAt0 m c t.val t.isLt).2.2.2.2 (ix2 r e)
        = ((∑ j : Fin 8192, Real.exp ((sc m c (hd t) (qRow t r) j).toReal - a) * (X2 m c (ix3 j (hd t) e)).toReal : ℝ) : EReal) := by
  have h := running m c h0 h1 h2 t.val t.isLt r
  unfold After Running at h
  rw [show (⟨t.val, t.isLt⟩ : Fin cfg0.N).val % 8 + 1 = 8 by show t.val % 8 + 1 = 8; omega] at h
  obtain ⟨a, e1, e2, e3⟩ := h
  refine ⟨a, e1, e2.trans (congrArg _ ?_), fun e => (e3 e).trans (congrArg _ ?_)⟩
  · exact part_all 1024 8 rfl (fun j => (sc m c (hd t) (qRow t r) j).toReal) (fun _ => 1) _ _
      (fun p k h => congrArg (fun j => (sc m c (hd t) (qRow t r) j).toReal) (key_eq p k h)) (fun _ _ _ => rfl) a
  · exact part_all 1024 8 rfl (fun j => (sc m c (hd t) (qRow t r) j).toReal) (fun j => (X2 m c (ix3 j (hd t) e)).toReal) _ _
      (fun p k h => congrArg (fun j => (sc m c (hd t) (qRow t r) j).toReal) (key_eq p k h))
      (fun p k h => congrArg (fun j => (X2 m c (ix3 j (hd t) e)).toReal) (key_eq p k h)) a

/-- Which block of the two results a grid point writes. -/
theorem idx3 : ∀ t : Fin cfg0.N, win0_3.index t = ![t.val / 64, t.val / 8 % 8, 0] := (by decide +kernel : ∀ t : Fin grid0.N, _)
theorem idx4 : ∀ t : Fin cfg0.N, win0_4.index t = ![t.val / 64, t.val / 8 % 8, 0] := (by decide +kernel : ∀ t : Fin grid0.N, _)

/-- The output's block, of any array. -/
theorem blk3_of (A : Vec Ideal S4x8192x128 .f32) (t : Fin cfg0.N) (r : Fin 1024) (e : Fin 128) :
    ((cfg0.win 3).blk t).view.read (Elt Ideal) A (ix3 0 r e) = A (ix3 (hd t) (qRow t r) e) := by
  blk_ext [idx3 t, hd, qRow]
/-- The log-sums' block, of any array. -/
theorem blk4_of (A : Vec Ideal S4x8192x1 .f32) (t : Fin cfg0.N) (r : Fin 1024) :
    ((cfg0.win 4).blk t).view.read (Elt Ideal) A (ix3 0 r 0) = A (ix3 (hd t) (qRow t r) 0) := by
  blk_ext [idx4 t, hd, qRow]

include h0 h1 h2 in
/-- What the output array holds at the end. -/
theorem final3 : (dats m 0 c).arrAt 3 cfg0.N = finO m c := by
  refine (dats m 0 c).arrAt_eq_of_covers 3 _ (by decide +kernel) fun t hf y => ?_
  have ht : t.val % 8 = 7 := (flush0_3 t).mp hf
  rw [after0_3]
  obtain ⟨z, r, e, rfl⟩ : ∃ (z : Fin 1) (r : Fin 1024) (e : Fin 128), y = ix3 z r e := ⟨y 0, y 1, y 2, eq_ix3 y⟩
  obtain rfl : z = 0 := Subsingleton.elim _ _
  obtain ⟨a, -, e2, e3⟩ := row_end m c h0 h1 h2 t ht r
  refine (out_o m c t ht r e).trans (Eq.trans ?_ (blk3_of (finO m c) t r e).symm)
  rw [e2, e3]
  exact online_out (fun j => sc m c (hd t) (qRow t r) j) (fun j => X2 m c (ix3 j (hd t) e)) (rowMax m c (hd t) (qRow t r)) (by decide)
    (rowMax_real m c h0 h1 _ _) _ _ (fun j => toReal_of (sc_real m c h0 h1 _ _ j)) (fun j => toReal_of (h2 _)) a

include h0 h1 h2 in
/-- What the log-sums' array holds at the end. -/
theorem final4 : (dats m 0 c).arrAt 4 cfg0.N = finL m c := by
  refine (dats m 0 c).arrAt_eq_of_covers 4 _ (by decide +kernel) fun t hf y => ?_
  have ht : t.val % 8 = 7 := (flush0_4 t).mp hf
  rw [after0_4]
  obtain ⟨z, r, e, rfl⟩ : ∃ (z : Fin 1) (r : Fin 1024) (e : Fin 1), y = ix3 z r e := ⟨y 0, y 1, y 2, eq_ix3 y⟩
  obtain rfl : z = 0 := Subsingleton.elim _ _
  obtain rfl : e = 0 := Subsingleton.elim _ _
  obtain ⟨a, e1, e2, -⟩ := row_end m c h0 h1 h2 t ht r
  refine (out_lse m c t ht r).trans (Eq.trans ?_ (blk4_of (finL m c) t r).symm)
  rw [e1, e2]
  refine (online_lse (fun j => sc m c (hd t) (qRow t r) j) 0 (by decide) ⟨0, EReal.coe_zero.symm⟩ _
    (fun j => toReal_of (sc_real m c h0 h1 _ _ j)) a).trans ?_
  simp only [sub_zero, zero_add]
  rfl
end

end Cert.AttnFwdVal

end
-- ==== Proof.AttnFwdRef.lean ====
/-
  The reference of the attention's forward call at an index: scores, row maximum, exponentials, weights, output, log-sum.
-/
module

public import proofs.«01_k».proof.Proof.Payload
public import proofs.«01_k».proof.Proof.Softmax
public import proofs.«01_k».proof.Proof.Gen.RefAttnFwdIdeal.Read
public import Idealize.ShloMosaic.Lib.Pointwise

@[expose] public section

set_option maxRecDepth 16384

noncomputable section

namespace Cert.AttnFwdVal

open Cert.RefAttnFwdIdeal Cert.RefAttnFwdIdeal.Read Idealize.ShloMosaic
open Cert.Attn (scale neg_inf)

variable (x0 x1 : Vec Ideal S8192x4x192 .f32) (x2 : Vec Ideal S8192x4x128 .f32)

/-- The reference's scores of the output. -/
theorem ref5 (h : Fin 4) (i j : Fin 8192) :
    val_main_v5 (F := Ideal) x0 x1 (ix3 h i j) = (∑ d : Fin 192, x0 (ix3 i h d) * x1 (ix3 j h d)) * scale := by
  pointwise [val_main_v5, val_main_v4, val_main_cst_0, val_main_v3, scale]
/-- The reference's scores of the log-sum. -/
theorem ref2 (h : Fin 4) (i j : Fin 8192) :
    val_main_v2 (F := Ideal) x0 x1 (ix3 h i j) = (∑ d : Fin 192, x0 (ix3 i h d) * x1 (ix3 j h d)) * scale := by
  pointwise [val_main_v2, val_main_v1, val_main_cst, val_main_v0, scale]
/-- The reference's row maximum, before its maximum with minus infinity. -/
theorem ref6 (h : Fin 4) (i : Fin 8192) : val_main_v6 (F := Ideal) x0 x1 (ix2 h i)
    = Finset.fold max (Ideal.ofBits .f32 0xFF800000#32) (fun j => val_main_v5 x0 x1 (ix3 h i j)) Finset.univ := by
  pointwise [val_main_v6, val_main_cst_1]
/-- The maximum with minus infinity, entry by entry. -/
theorem max_of (M : FVec Ideal S4x8192 .f32) (i : S4x8192.Idx) :
    maximumf (F := Ideal) (broadcastInDim S4x8192 ![] Gen.bcast_S_S4x8192 (constant (F := Ideal) S_ .f32 0xFF800000#32)) M i
      = max (Ideal.ofBits .f32 0xFF800000#32) (M i) := rfl
/-- The reference's row maximum. -/
theorem ref8 (h : Fin 4) (i : Fin 8192) : val_main_v8 (F := Ideal) x0 x1 (ix2 h i)
    = Finset.fold max ⊥ (fun j => val_main_v5 (F := Ideal) x0 x1 (ix3 h i j)) Finset.univ := by
  unfold val_main_v8 val_main_v7 val_main_cst_2
  rw [max_of, ref6, neg_inf, max_bot_left]
/-- The reference's exponentials. -/
theorem ref12 (h : Fin 4) (i j : Fin 8192) : val_main_v12 (F := Ideal) x0 x1 (ix3 h i j)
    = Ideal.exp (val_main_v5 x0 x1 (ix3 h i j) - val_main_v8 x0 x1 (ix2 h i)) := by
  pointwise [val_main_v12, val_main_v11, val_main_v10, val_main_v9]
/-- Their row sums. -/
theorem ref13 (h : Fin 4) (i : Fin 8192) :
    val_main_v13 (F := Ideal) x0 x1 (ix2 h i) = ∑ j : Fin 8192, val_main_v12 x0 x1 (ix3 h i j) := by
  pointwise [val_main_v13, val_main_cst_3]
/-- The reference's weights. -/
theorem ref16 (h : Fin 4) (i j : Fin 8192) :
    val_main_v16 (F := Ideal) x0 x1 (ix3 h i j) = Ideal.div (val_main_v12 x0 x1 (ix3 h i j)) (val_main_v13 x0 x1 (ix2 h i)) := by
  pointwise [val_main_v16, val_main_v15, val_main_v14]
/-- The reference's output. -/
theorem ref19 (h : Fin 4) (i : Fin 8192) (e : Fin 128) :
    val_main_v19 (F := Ideal) x0 x1 x2 (ix3 h i e) = ∑ j : Fin 8192, x2 (ix3 j h e) * val_main_v16 x0 x1 (ix3 h i j) := by
  pointwise [val_main_v19, val_main_v18, val_main_v17]
/-- The reference's sum of exponentials. -/
theorem ref21 (h : Fin 4) (i : Fin 8192) :
    val_main_v21 (F := Ideal) x0 x1 (ix2 h i) = ∑ j : Fin 8192, Ideal.exp (val_main_v2 x0 x1 (ix3 h i j)) := by
  pointwise [val_main_v21, val_main_cst_4, val_main_v20]
/-- The reference's log-sum. -/
theorem ref23 (h : Fin 4) (i : Fin 8192) :
    val_main_v23 (F := Ideal) x0 x1 (ix3 h i 0) = Ideal.log (val_main_v21 x0 x1 (ix2 h i)) := by
  pointwise [val_main_v23, val_main_v22]

end Cert.AttnFwdVal

end
-- ==== Proof.AttnFwdVal.lean ====
/-
  The attention's forward call computes, on finite arguments, the softmax attention of its three arguments and each row's
  log-sum.
-/
module

public import proofs.«01_k».proof.Proof.AttnFwdEnd
public import proofs.«01_k».proof.Proof.AttnFwdRef
public import proofs.«01_k».proof.Proof.Gen.RefAttnFwdIdeal.Run
public import proofs.«01_k».proof.Defs
public import proofs.«01_k».proof.Proof.Gen.AttnFwdIdeal
public import proofs.«01_k».proof.Proof.Gen.RefAttnFwdIdeal
public import Idealize.ShloMosaic.Lib.Quiescent
public import Idealize.ShloMosaic.Adequacy
public import Idealize.ShloMosaic.Init
public import Idealize.ShloMosaic.Lib.StableHlo.ReadAt

@[expose] public section

set_option maxRecDepth 16384

noncomputable section

namespace Cert.AttnFwdVal

open Cert.AttnFwdIdeal Cert.AttnFwdIdeal.Gen Idealize.ShloMosaic Idealize.ShloMosaic.TcCoe Idealize.SL.Sem
open Cert.Attn (IsReal real_of_lt)

variable (m : (ℓ : Loc nD τ sig) → Buf (Elt Ideal) ℓ) (c : Dev nD)

/-- The reference's output, of the call's own arguments. -/
theorem refO : Cert.RefAttnFwdIdeal.Read.val_main_v19 (F := Ideal) (X0 m c) (X1 m c) (X2 m c) = finO m c := by
  funext j
  obtain ⟨h, i, e, rfl⟩ : ∃ (h : Fin 4) (i : Fin 8192) (e : Fin 128), j = ix3 h i e := ⟨j 0, j 1, j 2, eq_ix3 j⟩
  rw [ref19]
  show _ = outAt m c h i e
  refine Finset.sum_congr rfl fun j _ => (mul_comm _ _).trans (congrArg (· * _) ?_)
  rw [ref16, ref13]
  simp only [ref12, ref8, ref5]
  rfl

/-- The reference's log-sums, of the call's own arguments. -/
theorem refL : Cert.RefAttnFwdIdeal.Read.val_main_v23 (F := Ideal) (X0 m c) (X1 m c) = finL m c := by
  funext j
  obtain ⟨h, i, z, rfl⟩ : ∃ (h : Fin 4) (i : Fin 8192) (z : Fin 1), j = ix3 h i z := ⟨j 0, j 1, j 2, eq_ix3 j⟩
  obtain rfl : z = 0 := Subsingleton.elim _ _
  rw [ref23, ref21]
  simp only [ref2]
  rfl

/-- The precondition's two side conditions: a scalar broadcasts to any shape. -/
theorem pre_facts : Cert.Pre_finite_fwd.Facts := ⟨by decide, by decide⟩

/-- `finite_fwd` of the arguments says that each of their entries is a real number. -/
theorem finite_real [Cert.Pre_finite_fwd.Facts] (x0 x1 : Vec Ideal S8192x4x192 .f32) (x2 : Vec Ideal S8192x4x128 .f32)
    (h : (Cert.Pre_finite_fwd.fn (F := Ideal) x0 x1 x2).1 = (fun _ => 1#1)
      ∧ (Cert.Pre_finite_fwd.fn (F := Ideal) x0 x1 x2).2.1 = (fun _ => 1#1)
      ∧ (Cert.Pre_finite_fwd.fn (F := Ideal) x0 x1 x2).2.2 = (fun _ => 1#1)) :
    (∀ j, IsReal (x0 j)) ∧ (∀ j, IsReal (x1 j)) ∧ (∀ j, IsReal (x2 j)) :=
  ⟨fun j => real_of_lt _ (congrFun h.1 j), fun j => real_of_lt _ (congrFun h.2.1 j), fun j => real_of_lt _ (congrFun h.2.2 j)⟩

/-- The reference runs, keeps its arguments and leaves every semaphore at zero (it has none). -/
theorem frame_ref : Cert.quiescent_RefAttnFwdIdeal := fun m ρ _ =>
  (θ_run Cert.RefAttnFwdIdeal.defs _ _).mono
    (fun r h => ⟨fun c => (h c).2.2, sem_eq_zero_of_no_sems rfl r.2⟩) (Cert.RefAttnFwdIdeal.Value.run m ρ)

/-- On finite arguments the call's two arrays are the reference's. -/
theorem values [Cert.Pre_finite_fwd.Facts] : Cert.algebraic_AttnFwdIdeal_RefAttnFwdIdeal_pre_finite_fwd := by
  intro m g m' g' hpre hm
  refine ⟨finO m, finL m, ?_, ?_⟩
  · refine (θ_run Cert.AttnFwdIdeal.defs _ _).mono (fun r h c => ?_) (Cert.AttnFwdIdeal.Value.run_blocks m g)
    obtain ⟨r0, r1, r2⟩ := finite_real _ _ _ (hpre c)
    exact ⟨(h c).1.trans (final3 m c r0 r1 r2), (h c).2.1.trans (final4 m c r0 r1 r2), (h c).2.2⟩
  · refine (θ_run Cert.RefAttnFwdIdeal.defs _ _).mono (fun r h c => ⟨(h c).1.trans ?_, (h c).2.1.trans ?_, (h c).2.2⟩)
      (Cert.RefAttnFwdIdeal.Value.run m' g')
    all_goals obtain ⟨e0, e1, e2⟩ := hm c
    · rw [Cert.RefAttnFwdIdeal.Read.val_main_v19_eq, e0, e1, e2]
      exact refO m c
    · rw [Cert.RefAttnFwdIdeal.Read.val_main_v23_eq, e0, e1]
      exact refL m c

end Cert.AttnFwdVal

end
-- ==== Proof.InFwdVal.lean ====
/-
  The product at the shape of the MLP's first one: each grid point computes one block over the whole of the summed axis,
  and the call's array ends up holding `∑ d, h i d * w d f`, which is what the reference's `h @ w` is.
-/
module

public import proofs.«01_k».proof.Proof.Gen.InFwdIdeal.Value
public import proofs.«01_k».proof.Proof.Gen.RefInFwdIdeal.Read
public import proofs.«01_k».proof.Defs
public import proofs.«01_k».proof.Proof.Gen.InFwdIdeal
public import proofs.«01_k».proof.Proof.Gen.RefInFwdIdeal
public import proofs.«01_k».proof.Proof.Gen.RefInFwdIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.InFwdVal

open Cert.InFwdIdeal Cert.InFwdIdeal.Gen Idealize.ShloMosaic Idealize.ShloMosaic.TcCoe Idealize.SL.Sem

/-- The product of two blocks at an entry. -/
theorem pay1_eq (a : FVec Ideal S1024x2048 .f32) (b : FVec Ideal S2048x1024 .bf16) (r s : Fin 1024) :
    k0_pay1 (F := Ideal) a b (ix2 r s) = ∑ k : Fin 2048, a (ix2 r k) * b (ix2 k s) := by
  pointwise [k0_pay1]

/-- What a grid point leaves in its output block, of any two input blocks. -/
theorem out_eq (a : FVec Ideal S1024x2048 .f32) (b : FVec Ideal S2048x1024 .bf16) (r s : Fin 1024) :
    out0_2 (F := Ideal) a b (ix2 r s) = ∑ k : Fin 2048, a (ix2 r k) * b (ix2 k s) := by
  rw [show out0_2 (F := Ideal) a b = k0_pay1 (F := Ideal) a b by unfold out0_2; frame_out]
  exact pay1_eq a b r s

variable (m : (ℓ : Loc nD τ sig) → Buf (Elt Ideal) ℓ) (c : Dev nD)

/-- There are 64 grid points. -/
theorem pt_lt (t : Fin cfg0.N) : t.val < 64 := lt_of_lt_of_eq t.isLt N_0

/-- Which block of the first operand a grid point reads. -/
theorem idx0 : ∀ t : Fin cfg0.N, win0_0.index t = ![t.val / 8, 0] := (by decide +kernel : ∀ t : Fin grid0.N, _)
/-- Which block of the second operand a grid point reads. -/
theorem idx1 : ∀ t : Fin cfg0.N, win0_1.index t = ![0, t.val % 8] := (by decide +kernel : ∀ t : Fin grid0.N, _)
/-- Which block of the output a grid point works on. -/
theorem idx2 : ∀ t : Fin cfg0.N, win0_2.index t = ![t.val / 8, t.val % 8] := (by decide +kernel : ∀ t : Fin grid0.N, _)

/-- The array's row and column of a block's. -/
def row (t : Fin cfg0.N) (r : Fin 1024) : Fin 8192 := ⟨t.val / 8 * 1024 + r.val, by have := pt_lt t; omega⟩
/-- The array's column of a block's. -/
def col (t : Fin cfg0.N) (s : Fin 1024) : Fin 8192 := ⟨t.val % 8 * 1024 + s.val, by omega⟩

/-- The left factor and the weight. -/
abbrev Ah : Vec Ideal S8192x2048 .f32 := m ((c : Thread nD τ).loc main_arg0)
/-- The weight. -/
abbrev Aw : Vec Ideal S2048x8192 .f32 := m ((c : Thread nD τ).loc main_arg1)

/-- A block of the first operand's array, read at an entry. -/
theorem blk0_of (A : Vec Ideal S8192x2048 .f32) (t : Fin cfg0.N) (r : Fin 1024) (k : Fin 2048) :
    ((cfg0.win 0).blk t).view.read (Elt Ideal) A (ix2 r k) = A (ix2 (row t r) k) := by
  blk_ext [idx0 t, row]
/-- The same of the array the launch is given. -/
theorem blk0 (t : Fin cfg0.N) (r : Fin 1024) (k : Fin 2048) : iblk m c 0 t (ix2 r k) = Ah m c (ix2 (row t r) k) :=
  (congrFun (congrArg (((cfg0.win 0).blk t).view.read (Elt Ideal)) (V_main_arg0 m c)) _).trans (blk0_of _ t r k)

/-- The host rounds the weight, which the ideal reading does not see. -/
theorem w_eq (i : S2048x8192.Idx) : V m c main_v0 i = Aw m c i := by
  unfold V; after_reads_at

/-- A block of the second operand's array, read at an entry. -/
theorem blk1_of (A : Vec Ideal S2048x8192 .bf16) (t : Fin cfg0.N) (k : Fin 2048) (s : Fin 1024) :
    ((cfg0.win 1).blk t).view.read (Elt Ideal) A (ix2 k s) = A (ix2 k (col t s)) := by
  blk_ext [idx1 t, col]
/-- The same of the array the launch is given. -/
theorem blk1 (t : Fin cfg0.N) (k : Fin 2048) (s : Fin 1024) : iblk m c 1 t (ix2 k s) = Aw m c (ix2 k (col t s)) :=
  (blk1_of (V m c main_v0) t k s).trans (w_eq m c _)

/-- The product. -/
def prod (h : Vec Ideal S8192x2048 .f32) (w : Vec Ideal S2048x8192 .f32) : Vec Ideal S8192x8192 .f32 := fun j =>
  ∑ d : Fin 2048, h (ix2 (j 0) d) * w (ix2 d (j 1))

/-- A block of an array of the output's shape, read at an entry. -/
theorem blk2_of (A : Vec Ideal S8192x8192 .f32) (t : Fin cfg0.N) (r s : Fin 1024) :
    ((cfg0.win 2).blk t).view.read (Elt Ideal) A (ix2 r s) = A (ix2 (row t r) (col t s)) := by
  blk_ext [idx2 t, row, col]

/-- A grid point's block of the output. -/
theorem out_at (t : Fin cfg0.N) :
    out0_2 (F := Ideal) (iblk m c 0 t) (iblk m c 1 t)
      = fun y => prod (Ah m c) (Aw m c) (ix2 (row t (y 0)) (col t (y 1))) := by
  funext y
  obtain ⟨r, s, rfl⟩ : ∃ (r s : Fin 1024), y = ix2 r s := ⟨y 0, y 1, eq_ix2 y⟩
  refine (out_eq (iblk m c 0 t) (iblk m c 1 t) r s).trans ?_
  exact Finset.sum_congr rfl fun k _ => congrArg₂ (· * ·) (blk0 m c t r k) (blk1 m c t k s)

/-- The array after the run. -/
theorem final : (dats m 0 c).arrAt 2 cfg0.N = prod (Ah m c) (Aw m c) := by
  refine (dats m 0 c).arrAt_eq_of_covers 2 _ (by decide +kernel) fun t hf y => ?_
  rw [after0_2, out_at m c t]
  obtain ⟨r, s, rfl⟩ : ∃ (r s : Fin 1024), y = ix2 r s := ⟨y 0, y 1, eq_ix2 y⟩
  exact (blk2_of (prod (Ah m c) (Aw m c)) t r s).symm

/-- The reference's product is the same array. -/
theorem ref_eq (h : Vec Ideal S8192x2048 .f32) (w : Vec Ideal S2048x8192 .f32) :
    Cert.RefInFwdIdeal.Read.val_main_v0 (F := Ideal) h w = prod h w := by
  funext i
  rw [Cert.RefInFwdIdeal.Read.val_main_v0_apply, prod]
  exact Finset.sum_congr rfl fun k _ => congrArg₂ (· * ·) (congrArg h (eq_ix2 _)) (congrArg w (eq_ix2 _))

/-- The reference runs, keeps its arguments and leaves every semaphore at zero (it has none). -/
theorem frame_ref : Cert.quiescent_RefInFwdIdeal := fun m ρ _ =>
  (θ_run Cert.RefInFwdIdeal.defs _ _).mono
    (fun r h => ⟨fun c => (h c).2, sem_eq_zero_of_no_sems rfl r.2⟩) (Cert.RefInFwdIdeal.Value.run m ρ)

/-- The call's array is the reference's product. -/
theorem values : Cert.algebraic_InFwdIdeal_RefInFwdIdeal := by
  intro m g m' g' _ hm
  refine ⟨fun c => prod (Ah m c) (Aw m c), ?_, ?_⟩
  · exact (θ_run Cert.InFwdIdeal.defs _ _).mono (fun r h c => ⟨(h c).1.trans (final m c), (h c).2⟩)
      (Cert.InFwdIdeal.Value.run_blocks m g)
  · refine (θ_run Cert.RefInFwdIdeal.defs _ _).mono (fun r h c => ⟨(h c).1.trans ?_, (h c).2⟩)
      (Cert.RefInFwdIdeal.Value.run m' g')
    obtain ⟨e0, e1⟩ := hm c
    rw [Cert.RefInFwdIdeal.Read.val_main_v0_eq, e0, e1]
    exact ref_eq _ _

end Cert.InFwdVal

end
-- ==== Proof.Tiles.lean ====
/-
  A sum added up in tiles, one grid point after another: shared by the matrix products whose grid runs through the summed
  axis last.
-/
module

public import Idealize.ShloMosaic.Lib.Pipeline.ValueKit.Acc
public import Idealize.ShloMosaic.Lib.Pipeline.ValueKit.Geometry
public import Idealize.ShloMosaic.PureOps.Ideal.Laws

@[expose] public section

noncomputable section

namespace Cert.Tiles

open Idealize.ShloMosaic

/-- The `k`-th index of tile `q` is one of the `n * b`. -/
theorem tile_lt {n b : ℕ} (q : Fin n) (k : Fin b) : q.val * b + k.val < n * b :=
  calc q.val * b + k.val < (q.val + 1) * b := by rw [Nat.succ_mul]; omega
    _ ≤ n * b := Nat.mul_le_mul_right b q.isLt

/-- A block's entry that the first of `n` grid points sets and the others add to is, after the last, the sum of the `n`
    points' tiles: the sum of `g` over all `n * b` indices, where `g` does not change within the `n` points. -/
theorem sum_of_tiles {N : ℕ} {ι : Type} (n b : ℕ) (hn : 0 < n) (out : (n : ℕ) → n < N → ι → EReal)
    (add : Fin N → ι → EReal) (first : ∀ (t : Fin N), t.val % n = 0 → ∀ i, out t.val t.isLt i = 0 + add t i)
    (step : ∀ (t : Fin N), ¬ t.val % n = 0 → ∀ i,
      out t.val t.isLt i = out (t.val - 1) (Nat.lt_of_le_of_lt (Nat.sub_le _ _) t.isLt) i + add t i)
    (g : Fin N → ι → Fin (n * b) → EReal)
    (hadd : ∀ t i, ∀ q : Fin n, t.val % n = q.val →
      add t i = ∑ k : Fin b, g t i ⟨q.val * b + k.val, tile_lt q k⟩)
    (hg : ∀ t t' : Fin N, t.val / n = t'.val / n → g t = g t')
    (t : Fin N) (ht : t.val % n = n - 1) (i : ι) : out t.val t.isLt i = ∑ f : Fin (n * b), g t i f := by
  haveI : NeZero n := ⟨hn.ne'⟩
  refine (Pipeline.eq_sum_fin_of_reset_step_apply_of_flush out n (fun _ => (0 : EReal)) add first step t ht i).trans ?_
  rw [zero_add]
  refine Eq.trans (Finset.sum_congr rfl fun p _ => ?_) (Fin.sum_mul_add_fin n b (g t i))
  refine (hadd _ i p (by rw [Nat.mul_add_mod]; exact Nat.mod_eq_of_lt p.isLt)).trans ?_
  rw [hg _ t (show (n * (t.val / n) + p.val) / n = t.val / n by
    rw [Nat.mul_add_div hn, Nat.div_eq_of_lt p.isLt, Nat.add_zero])]

/-- Four tiles of 2048. -/
theorem sum_of_four {N : ℕ} {ι : Type} (out : (n : ℕ) → n < N → ι → EReal) (add : Fin N → ι → EReal)
    (first : ∀ (t : Fin N), t.val % 4 = 0 → ∀ i, out t.val t.isLt i = 0 + add t i)
    (step : ∀ (t : Fin N), ¬ t.val % 4 = 0 → ∀ i,
      out t.val t.isLt i = out (t.val - 1) (Nat.lt_of_le_of_lt (Nat.sub_le _ _) t.isLt) i + add t i)
    (g : Fin N → ι → Fin 8192 → EReal)
    (hadd : ∀ t i, add t i = ∑ k : Fin 2048, g t i ⟨t.val % 4 * 2048 + k.val, by omega⟩)
    (hg : ∀ t t' : Fin N, t.val / 4 = t'.val / 4 → g t = g t')
    (t : Fin N) (ht : t.val % 4 = 3) (i : ι) : out t.val t.isLt i = ∑ f : Fin 8192, g t i f :=
  sum_of_tiles 4 2048 (by decide) out add first step g
    (fun t i q hq => (hadd t i).trans (by simp only [hq])) hg t ht i

/-- Two tiles of 2304. -/
theorem sum_of_two {N : ℕ} {ι : Type} (out : (n : ℕ) → n < N → ι → EReal) (add : Fin N → ι → EReal)
    (first : ∀ (t : Fin N), t.val % 2 = 0 → ∀ i, out t.val t.isLt i = 0 + add t i)
    (step : ∀ (t : Fin N), ¬ t.val % 2 = 0 → ∀ i,
      out t.val t.isLt i = out (t.val - 1) (Nat.lt_of_le_of_lt (Nat.sub_le _ _) t.isLt) i + add t i)
    (g : Fin N → ι → Fin 4608 → EReal)
    (hadd : ∀ t i, add t i = ∑ k : Fin 2304, g t i ⟨t.val % 2 * 2304 + k.val, by omega⟩)
    (hg : ∀ t t' : Fin N, t.val / 2 = t'.val / 2 → g t = g t')
    (t : Fin N) (ht : t.val % 2 = 1) (i : ι) : out t.val t.isLt i = ∑ f : Fin 4608, g t i f :=
  sum_of_tiles 2 2304 (by decide) out add first step g
    (fun t i q hq => (hadd t i).trans (by simp only [hq])) hg t ht i

end Cert.Tiles

end
-- ==== Proof.InDaVal.lean ====
/-
  The product's gradient in its left factor, at the shape of the MLP's first product: the call adds up four tiles of
  2048 columns, and its array ends up holding `∑ f, ct r f * w d f`, which is what the derivative of `h @ w` is.
-/
module

public import proofs.«01_k».proof.Proof.Tiles
public import proofs.«01_k».proof.Proof.Gen.InDaIdeal.Value
public import proofs.«01_k».proof.Proof.Gen.RefInDaIdeal.Read
public import proofs.«01_k».proof.Defs
public import proofs.«01_k».proof.Proof.Gen.InDaIdeal
public import proofs.«01_k».proof.Proof.Gen.RefInDaIdeal
public import proofs.«01_k».proof.Proof.Gen.RefInDaIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.InDaVal

open Cert.InDaIdeal Cert.InDaIdeal.Gen Idealize.ShloMosaic Idealize.ShloMosaic.TcCoe Idealize.SL.Sem

/-- The product of two blocks, the second transposed, at an entry. -/
def tile (a : FVec Ideal S1024x2048 .f32) (b : FVec Ideal S1024x2048 .bf16) (r s : Fin 1024) : EReal :=
  ∑ k : Fin 2048, a (ix2 r k) * b (ix2 s k)

/-- The body's product is that one. -/
theorem pay1_eq (a : FVec Ideal S1024x2048 .f32) (b : FVec Ideal S1024x2048 .bf16) (r s : Fin 1024) :
    k0_pay1 (F := Ideal) a b (ix2 r s) = tile a b r s := by
  pointwise [k0_pay1, tile]

/-- The later tiles add their product to what the block held. -/
theorem pay2_eq (a : FVec Ideal S1024x2048 .f32) (b : FVec Ideal S1024x2048 .bf16) (x : FVec Ideal S1024x1024 .f32)
    (r s : Fin 1024) : k0_pay2 (F := Ideal) a b x (ix2 r s) = x (ix2 r s) + tile a b r s := by
  rw [← pay1_eq]; pointwise [k0_pay2]

variable (m : (ℓ : Loc nD τ sig) → Buf (Elt Ideal) ℓ) (c : Dev nD)

/-- What a grid point adds to its output block. -/
def add (t : Fin cfg0.N) (r s : Fin 1024) : EReal := tile (iblk m c 0 t) (iblk m c 1 t) r s

/-- The first of a block's four tiles sets the block to the tile's product. -/
theorem first (t : Fin cfg0.N) (h0 : t.val % 4 = 0) (r s : Fin 1024) :
    outsAt0 m c t.val t.isLt (ix2 r s) = 0 + add m c t r s := by
  rw [outsAt0_A m c t h0 (by omega)]; frame_out
  rw [pay1_eq, zero_add]; rfl

/-- The other three add theirs. -/
theorem step (t : Fin cfg0.N) (h0 : ¬ t.val % 4 = 0) (r s : Fin 1024) :
    outsAt0 m c t.val t.isLt (ix2 r s)
      = outsAt0 m c (t.val - 1) (Nat.lt_of_le_of_lt (Nat.sub_le _ _) t.isLt) (ix2 r s) + add m c t r s := by
  rw [outsAt0_B m c t h0 (by omega)]; frame_out
  rw [pay2_eq]; rfl

/-- There are 64 grid points. -/
theorem pt_lt (t : Fin cfg0.N) : t.val < 64 := lt_of_lt_of_eq t.isLt N_0

/-- Which block of the first operand a grid point reads. -/
theorem idx0 : ∀ t : Fin cfg0.N, win0_0.index t = ![t.val / 8, t.val % 4] := (by decide +kernel : ∀ t : Fin grid0.N, _)
/-- Which block of the second operand a grid point reads. -/
theorem idx1 : ∀ t : Fin cfg0.N, win0_1.index t = ![t.val / 4 % 2, t.val % 4] := (by decide +kernel : ∀ t : Fin grid0.N, _)
/-- Which block of the output a grid point works on. -/
theorem idx2 : ∀ t : Fin cfg0.N, win0_2.index t = ![t.val / 8, t.val / 4 % 2] := (by decide +kernel : ∀ t : Fin grid0.N, _)

/-- The array's row, column and summation index of a block's. -/
def row (t : Fin cfg0.N) (r : Fin 1024) : Fin 8192 := ⟨t.val / 8 * 1024 + r.val, by have := pt_lt t; omega⟩
/-- The array's column of a block's. -/
def col (t : Fin cfg0.N) (s : Fin 1024) : Fin 2048 := ⟨t.val / 4 % 2 * 1024 + s.val, by omega⟩
/-- The summation index of a block's. -/
def con (t : Fin cfg0.N) (k : Fin 2048) : Fin 8192 := ⟨t.val % 4 * 2048 + k.val, by omega⟩

/-- The gradient of the output, and the rounded weight the launch is given. -/
abbrev Act : Vec Ideal S8192x8192 .f32 := m ((c : Thread nD τ).loc main_arg2)
/-- The weight. -/
abbrev Aw : Vec Ideal S2048x8192 .f32 := m ((c : Thread nD τ).loc main_arg1)

/-- A block of the first operand's array, read at an entry. -/
theorem blk0_of (A : Vec Ideal S8192x8192 .f32) (t : Fin cfg0.N) (r : Fin 1024) (k : Fin 2048) :
    ((cfg0.win 0).blk t).view.read (Elt Ideal) A (ix2 r k) = A (ix2 (row t r) (con t k)) := by
  blk_ext [idx0 t, row, con]
/-- The same of the array the launch is given. -/
theorem blk0 (t : Fin cfg0.N) (r : Fin 1024) (k : Fin 2048) :
    iblk m c 0 t (ix2 r k) = Act m c (ix2 (row t r) (con t k)) :=
  (congrFun (congrArg (((cfg0.win 0).blk t).view.read (Elt Ideal)) (V_main_arg2 m c)) _).trans (blk0_of _ t r k)

/-- The host rounds the weight, which the ideal reading does not see. -/
theorem w_eq (i : S2048x8192.Idx) : V m c main_v0 i = Aw m c i := by
  unfold V; after_reads_at

/-- A block of the second operand's array, read at an entry. -/
theorem blk1_of (A : Vec Ideal S2048x8192 .bf16) (t : Fin cfg0.N) (s : Fin 1024) (k : Fin 2048) :
    ((cfg0.win 1).blk t).view.read (Elt Ideal) A (ix2 s k) = A (ix2 (col t s) (con t k)) := by
  blk_ext [idx1 t, col, con]
/-- The same of the array the launch is given. -/
theorem blk1 (t : Fin cfg0.N) (s : Fin 1024) (k : Fin 2048) :
    iblk m c 1 t (ix2 s k) = Aw m c (ix2 (col t s) (con t k)) :=
  (blk1_of (V m c main_v0) t s k).trans (w_eq m c _)

/-- The gradient: the output's gradient times the weight, summed over the columns. -/
def grad (ct : Vec Ideal S8192x8192 .f32) (w : Vec Ideal S2048x8192 .f32) : Vec Ideal S8192x2048 .f32 := fun j =>
  ∑ f : Fin 8192, ct (ix2 (j 0) f) * w (ix2 (j 1) f)

/-- What a grid point adds, by the whole arrays' entries. -/
theorem add_at (t : Fin cfg0.N) (r s : Fin 1024) :
    add m c t r s = ∑ k : Fin 2048, Act m c (ix2 (row t r) (con t k)) * Aw m c (ix2 (col t s) (con t k)) := by
  simp only [add, tile, blk0 m c t, blk1 m c t]

/-- After the last tile the block holds the whole sum. -/
theorem sum (t : Fin cfg0.N) (ht : t.val % 4 = 3) (r s : Fin 1024) :
    outsAt0 m c t.val t.isLt (ix2 r s) = grad (Act m c) (Aw m c) (ix2 (row t r) (col t s)) := by
  refine Tiles.sum_of_four (fun n h (i : Fin 1024 × Fin 1024) => outsAt0 m c n h (ix2 i.1 i.2)) (fun t i => add m c t i.1 i.2)
    (fun t h i => first m c t h i.1 i.2) (fun t h i => step m c t h i.1 i.2)
    (fun t i f => Act m c (ix2 (row t i.1) f) * Aw m c (ix2 (col t i.2) f)) (fun t i => add_at m c t i.1 i.2)
    (fun t t' h => ?_) t ht (r, s)
  have e0 : row t = row t' := funext fun r => Fin.ext (by simp only [row]; omega)
  have e1 : col t = col t' := funext fun s => Fin.ext (by simp only [col]; omega)
  rw [e0, e1]

/-- A block of an array of the output's shape, read at an entry. -/
theorem blk2_of (A : Vec Ideal S8192x2048 .f32) (t : Fin cfg0.N) (r s : Fin 1024) :
    ((cfg0.win 2).blk t).view.read (Elt Ideal) A (ix2 r s) = A (ix2 (row t r) (col t s)) := by
  blk_ext [idx2 t, row, col]

/-- The array after the run. -/
theorem final : (dats m 0 c).arrAt 2 cfg0.N = grad (Act m c) (Aw m c) := by
  refine (dats m 0 c).arrAt_eq_of_covers 2 _ (by decide +kernel) fun t hf y => ?_
  rw [after0_2]
  obtain ⟨r, s, rfl⟩ : ∃ (r s : Fin 1024), y = ix2 r s := ⟨y 0, y 1, eq_ix2 y⟩
  exact (sum m c t ((flush0_2 t).mp hf) r s).trans (blk2_of _ t r s).symm

/-- The reference's derivative is the same array. -/
theorem ref_eq (w : Vec Ideal S2048x8192 .f32) (ct : Vec Ideal S8192x8192 .f32) :
    Cert.RefInDaIdeal.Read.val_main_v3 (F := Ideal) w ct = grad ct w := by
  funext i
  rw [Cert.RefInDaIdeal.Read.val_main_v3_apply, grad]
  exact Finset.sum_congr rfl fun k _ => congrArg₂ (· * ·) (congrArg ct (eq_ix2 _)) (congrArg w (eq_ix2 _))

/-- The reference runs, keeps its arguments and leaves every semaphore at zero (it has none). -/
theorem frame_ref : Cert.quiescent_RefInDaIdeal := fun m ρ _ =>
  (θ_run Cert.RefInDaIdeal.defs _ _).mono
    (fun r h => ⟨fun c => (h c).2, sem_eq_zero_of_no_sems rfl r.2⟩) (Cert.RefInDaIdeal.Value.run m ρ)

/-- The call's array is the reference's gradient. -/
theorem values : Cert.algebraic_InDaIdeal_RefInDaIdeal := by
  intro m g m' g' _ hm
  refine ⟨fun c => grad (Act m c) (Aw m c), ?_, ?_⟩
  · exact (θ_run Cert.InDaIdeal.defs _ _).mono (fun r h c => ⟨(h c).1.trans (final m c), (h c).2⟩)
      (Cert.InDaIdeal.Value.run_blocks m g)
  · refine (θ_run Cert.RefInDaIdeal.defs _ _).mono (fun r h c => ⟨(h c).1.trans ?_, (h c).2⟩)
      (Cert.RefInDaIdeal.Value.run m' g')
    obtain ⟨e0, e1, e2⟩ := hm c
    rw [Cert.RefInDaIdeal.Read.val_main_v3_eq, e1, e2]
    exact ref_eq _ _

end Cert.InDaVal

end
-- ==== Proof.InDbVal.lean ====
/-
  The product's gradient in its right factor, at the shape of the MLP's first product: the call adds up four tiles of
  2048 rows, and its array ends up holding `∑ i, h i d * ct i f`, which is what the derivative of `h @ w` is.
-/
module

public import proofs.«01_k».proof.Proof.Tiles
public import proofs.«01_k».proof.Proof.Gen.InDbIdeal.Value
public import proofs.«01_k».proof.Proof.Gen.RefInDbIdeal.Read
public import proofs.«01_k».proof.Defs
public import proofs.«01_k».proof.Proof.Gen.InDbIdeal
public import proofs.«01_k».proof.Proof.Gen.RefInDbIdeal
public import proofs.«01_k».proof.Proof.Gen.RefInDbIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.InDbVal

open Cert.InDbIdeal Cert.InDbIdeal.Gen Idealize.ShloMosaic Idealize.ShloMosaic.TcCoe Idealize.SL.Sem

/-- The product of two blocks, the first transposed, at an entry. -/
def tile (a : FVec Ideal S2048x1024 .f32) (b : FVec Ideal S2048x1024 .f32) (r s : Fin 1024) : EReal :=
  ∑ k : Fin 2048, a (ix2 k r) * b (ix2 k s)

/-- The body's product is that one. -/
theorem pay1_eq (a : FVec Ideal S2048x1024 .f32) (b : FVec Ideal S2048x1024 .f32) (r s : Fin 1024) :
    k0_pay1 (F := Ideal) a b (ix2 r s) = tile a b r s := by
  pointwise [k0_pay1, tile]

/-- The later tiles add their product to what the block held. -/
theorem pay2_eq (a : FVec Ideal S2048x1024 .f32) (b : FVec Ideal S2048x1024 .f32) (x : FVec Ideal S1024x1024 .f32)
    (r s : Fin 1024) : k0_pay2 (F := Ideal) a b x (ix2 r s) = x (ix2 r s) + tile a b r s := by
  rw [← pay1_eq]; pointwise [k0_pay2]

variable (m : (ℓ : Loc nD τ sig) → Buf (Elt Ideal) ℓ) (c : Dev nD)

/-- What a grid point adds to its output block. -/
def add (t : Fin cfg0.N) (r s : Fin 1024) : EReal := tile (iblk m c 0 t) (iblk m c 1 t) r s

/-- The first of a block's four tiles sets the block to the tile's product. -/
theorem first (t : Fin cfg0.N) (h0 : t.val % 4 = 0) (r s : Fin 1024) :
    outsAt0 m c t.val t.isLt (ix2 r s) = 0 + add m c t r s := by
  rw [outsAt0_A m c t h0 (by omega)]; frame_out
  rw [pay1_eq, zero_add]; rfl

/-- The other three add theirs. -/
theorem step (t : Fin cfg0.N) (h0 : ¬ t.val % 4 = 0) (r s : Fin 1024) :
    outsAt0 m c t.val t.isLt (ix2 r s)
      = outsAt0 m c (t.val - 1) (Nat.lt_of_le_of_lt (Nat.sub_le _ _) t.isLt) (ix2 r s) + add m c t r s := by
  rw [outsAt0_B m c t h0 (by omega)]; frame_out
  rw [pay2_eq]; rfl

/-- There are 64 grid points. -/
theorem pt_lt (t : Fin cfg0.N) : t.val < 64 := lt_of_lt_of_eq t.isLt N_0

/-- Which block of the first operand a grid point reads. -/
theorem idx0 : ∀ t : Fin cfg0.N, win0_0.index t = ![t.val % 4, t.val / 32] := (by decide +kernel : ∀ t : Fin grid0.N, _)
/-- Which block of the second operand a grid point reads. -/
theorem idx1 : ∀ t : Fin cfg0.N, win0_1.index t = ![t.val % 4, t.val / 4 % 8] := (by decide +kernel : ∀ t : Fin grid0.N, _)
/-- Which block of the output a grid point works on. -/
theorem idx2 : ∀ t : Fin cfg0.N, win0_2.index t = ![t.val / 32, t.val / 4 % 8] := (by decide +kernel : ∀ t : Fin grid0.N, _)

/-- The array's row, column and summation index of a block's. -/
def row (t : Fin cfg0.N) (r : Fin 1024) : Fin 2048 := ⟨t.val / 32 * 1024 + r.val, by have := pt_lt t; omega⟩
/-- The array's column of a block's. -/
def col (t : Fin cfg0.N) (s : Fin 1024) : Fin 8192 := ⟨t.val / 4 % 8 * 1024 + s.val, by omega⟩
/-- The summation index of a block's. -/
def con (t : Fin cfg0.N) (k : Fin 2048) : Fin 8192 := ⟨t.val % 4 * 2048 + k.val, by omega⟩

/-- The left factor and the gradient of the output. -/
abbrev Ah : Vec Ideal S8192x2048 .f32 := m ((c : Thread nD τ).loc main_arg0)
/-- The gradient of the output. -/
abbrev Act : Vec Ideal S8192x8192 .f32 := m ((c : Thread nD τ).loc main_arg2)

/-- A block of the first operand's array, read at an entry. -/
theorem blk0_of (A : Vec Ideal S8192x2048 .f32) (t : Fin cfg0.N) (k : Fin 2048) (r : Fin 1024) :
    ((cfg0.win 0).blk t).view.read (Elt Ideal) A (ix2 k r) = A (ix2 (con t k) (row t r)) := by
  blk_ext [idx0 t, row, con]
/-- The same of the array the launch is given. -/
theorem blk0 (t : Fin cfg0.N) (k : Fin 2048) (r : Fin 1024) :
    iblk m c 0 t (ix2 k r) = Ah m c (ix2 (con t k) (row t r)) :=
  (congrFun (congrArg (((cfg0.win 0).blk t).view.read (Elt Ideal)) (V_main_arg0 m c)) _).trans (blk0_of _ t k r)

/-- A block of the second operand's array, read at an entry. -/
theorem blk1_of (A : Vec Ideal S8192x8192 .f32) (t : Fin cfg0.N) (k : Fin 2048) (s : Fin 1024) :
    ((cfg0.win 1).blk t).view.read (Elt Ideal) A (ix2 k s) = A (ix2 (con t k) (col t s)) := by
  blk_ext [idx1 t, col, con]
/-- The same of the array the launch is given. -/
theorem blk1 (t : Fin cfg0.N) (k : Fin 2048) (s : Fin 1024) :
    iblk m c 1 t (ix2 k s) = Act m c (ix2 (con t k) (col t s)) :=
  (congrFun (congrArg (((cfg0.win 1).blk t).view.read (Elt Ideal)) (V_main_arg2 m c)) _).trans (blk1_of _ t k s)

/-- The gradient: the output's gradient times the left factor, summed over the rows. -/
def grad (h : Vec Ideal S8192x2048 .f32) (ct : Vec Ideal S8192x8192 .f32) : Vec Ideal S2048x8192 .f32 := fun j =>
  ∑ i : Fin 8192, h (ix2 i (j 0)) * ct (ix2 i (j 1))

/-- What a grid point adds, by the whole arrays' entries. -/
theorem add_at (t : Fin cfg0.N) (r s : Fin 1024) :
    add m c t r s = ∑ k : Fin 2048, Ah m c (ix2 (con t k) (row t r)) * Act m c (ix2 (con t k) (col t s)) := by
  simp only [add, tile, blk0 m c t, blk1 m c t]

/-- After the last tile the block holds the whole sum. -/
theorem sum (t : Fin cfg0.N) (ht : t.val % 4 = 3) (r s : Fin 1024) :
    outsAt0 m c t.val t.isLt (ix2 r s) = grad (Ah m c) (Act m c) (ix2 (row t r) (col t s)) := by
  refine Tiles.sum_of_four (fun n h (i : Fin 1024 × Fin 1024) => outsAt0 m c n h (ix2 i.1 i.2)) (fun t i => add m c t i.1 i.2)
    (fun t h i => first m c t h i.1 i.2) (fun t h i => step m c t h i.1 i.2)
    (fun t i f => Ah m c (ix2 f (row t i.1)) * Act m c (ix2 f (col t i.2))) (fun t i => add_at m c t i.1 i.2)
    (fun t t' h => ?_) t ht (r, s)
  have e0 : row t = row t' := funext fun r => Fin.ext (by simp only [row]; omega)
  have e1 : col t = col t' := funext fun s => Fin.ext (by simp only [col]; omega)
  rw [e0, e1]

/-- A block of an array of the output's shape, read at an entry. -/
theorem blk2_of (A : Vec Ideal S2048x8192 .f32) (t : Fin cfg0.N) (r s : Fin 1024) :
    ((cfg0.win 2).blk t).view.read (Elt Ideal) A (ix2 r s) = A (ix2 (row t r) (col t s)) := by
  blk_ext [idx2 t, row, col]

/-- The array after the run. -/
theorem final : (dats m 0 c).arrAt 2 cfg0.N = grad (Ah m c) (Act m c) := by
  refine (dats m 0 c).arrAt_eq_of_covers 2 _ (by decide +kernel) fun t hf y => ?_
  rw [after0_2]
  obtain ⟨r, s, rfl⟩ : ∃ (r s : Fin 1024), y = ix2 r s := ⟨y 0, y 1, eq_ix2 y⟩
  exact (sum m c t ((flush0_2 t).mp hf) r s).trans (blk2_of _ t r s).symm

/-- The reference's derivative is the same array. -/
theorem ref_eq (h : Vec Ideal S8192x2048 .f32) (ct : Vec Ideal S8192x8192 .f32) :
    Cert.RefInDbIdeal.Read.val_main_v2 (F := Ideal) h ct = grad h ct := by
  funext i
  rw [Cert.RefInDbIdeal.Read.val_main_v2_apply, Cert.RefInDbIdeal.Read.val_main_v1_apply, grad]
  exact Finset.sum_congr rfl fun k _ =>
    (mul_comm _ _).trans (congrArg₂ (· * ·) (congrArg h (eq_ix2 _)) (congrArg ct (eq_ix2 _)))

/-- The reference runs, keeps its arguments and leaves every semaphore at zero (it has none). -/
theorem frame_ref : Cert.quiescent_RefInDbIdeal := fun m ρ _ =>
  (θ_run Cert.RefInDbIdeal.defs _ _).mono
    (fun r h => ⟨fun c => (h c).2, sem_eq_zero_of_no_sems rfl r.2⟩) (Cert.RefInDbIdeal.Value.run m ρ)

/-- The call's array is the reference's gradient. -/
theorem values : Cert.algebraic_InDbIdeal_RefInDbIdeal := by
  intro m g m' g' _ hm
  refine ⟨fun c => grad (Ah m c) (Act m c), ?_, ?_⟩
  · exact (θ_run Cert.InDbIdeal.defs _ _).mono (fun r h c => ⟨(h c).1.trans (final m c), (h c).2⟩)
      (Cert.InDbIdeal.Value.run_blocks m g)
  · refine (θ_run Cert.RefInDbIdeal.defs _ _).mono (fun r h c => ⟨(h c).1.trans ?_, (h c).2⟩)
      (Cert.RefInDbIdeal.Value.run m' g')
    obtain ⟨e0, e1, e2⟩ := hm c
    rw [Cert.RefInDbIdeal.Read.val_main_v2_eq, e0, e2]
    exact ref_eq _ _

end Cert.InDbVal

end
-- ==== Proof.OutFwdVal.lean ====
/-
  The MLP's second product, its squared relu before it: the call adds up four tiles of 2048 columns, and its array ends
  up holding `∑ f, relu (z i f) ^ 2 * w f d`, which is what the reference's `relu(z)² @ w` is.
-/
module

public import proofs.«01_k».proof.Proof.Tiles
public import proofs.«01_k».proof.Proof.Gen.OutFwdIdeal.Value
public import proofs.«01_k».proof.Proof.Gen.RefOutFwdIdeal.Read
public import proofs.«01_k».proof.Defs
public import proofs.«01_k».proof.Proof.Gen.OutFwdIdeal
public import proofs.«01_k».proof.Proof.Gen.RefOutFwdIdeal
public import proofs.«01_k».proof.Proof.Gen.RefOutFwdIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.OutFwdVal

open Cert.OutFwdIdeal Cert.OutFwdIdeal.Gen Idealize.ShloMosaic Idealize.ShloMosaic.TcCoe Idealize.SL.Sem

/-- The product of two blocks at an entry. -/
def tile (a : FVec Ideal S1024x2048 .f32) (b : FVec Ideal S2048x1024 .bf16) (r s : Fin 1024) : EReal :=
  ∑ k : Fin 2048, a (ix2 r k) * b (ix2 k s)

/-- The body's product is that one. -/
theorem pay1_eq (a : FVec Ideal S1024x2048 .f32) (b : FVec Ideal S2048x1024 .bf16) (r s : Fin 1024) :
    k0_pay1 (F := Ideal) a b (ix2 r s) = tile a b r s := by
  pointwise [k0_pay1, tile]

/-- The later tiles add their product to what the block held. -/
theorem pay2_eq (a : FVec Ideal S1024x2048 .f32) (b : FVec Ideal S2048x1024 .bf16) (x : FVec Ideal S1024x1024 .f32)
    (r s : Fin 1024) : k0_pay2 (F := Ideal) a b x (ix2 r s) = x (ix2 r s) + tile a b r s := by
  rw [← pay1_eq]; pointwise [k0_pay2]

variable (m : (ℓ : Loc nD τ sig) → Buf (Elt Ideal) ℓ) (c : Dev nD)

/-- What a grid point adds to its output block. -/
def add (t : Fin cfg0.N) (r s : Fin 1024) : EReal := tile (iblk m c 0 t) (iblk m c 1 t) r s

/-- The first of a block's four tiles sets the block to the tile's product. -/
theorem first (t : Fin cfg0.N) (h0 : t.val % 4 = 0) (r s : Fin 1024) :
    outsAt0 m c t.val t.isLt (ix2 r s) = 0 + add m c t r s := by
  rw [outsAt0_A m c t h0 (by omega)]; frame_out
  rw [pay1_eq, zero_add]; rfl

/-- The other three add theirs. -/
theorem step (t : Fin cfg0.N) (h0 : ¬ t.val % 4 = 0) (r s : Fin 1024) :
    outsAt0 m c t.val t.isLt (ix2 r s)
      = outsAt0 m c (t.val - 1) (Nat.lt_of_le_of_lt (Nat.sub_le _ _) t.isLt) (ix2 r s) + add m c t r s := by
  rw [outsAt0_B m c t h0 (by omega)]; frame_out
  rw [pay2_eq]; rfl

/-- There are 64 grid points. -/
theorem pt_lt (t : Fin cfg0.N) : t.val < 64 := lt_of_lt_of_eq t.isLt N_0

/-- Which block of the first operand a grid point reads. -/
theorem idx0 : ∀ t : Fin cfg0.N, win0_0.index t = ![t.val / 8, t.val % 4] := (by decide +kernel : ∀ t : Fin grid0.N, _)
/-- Which block of the second operand a grid point reads. -/
theorem idx1 : ∀ t : Fin cfg0.N, win0_1.index t = ![t.val % 4, t.val / 4 % 2] := (by decide +kernel : ∀ t : Fin grid0.N, _)
/-- Which block of the output a grid point works on. -/
theorem idx2 : ∀ t : Fin cfg0.N, win0_2.index t = ![t.val / 8, t.val / 4 % 2] := (by decide +kernel : ∀ t : Fin grid0.N, _)

/-- The array's row, column and summation index of a block's. -/
def row (t : Fin cfg0.N) (r : Fin 1024) : Fin 8192 := ⟨t.val / 8 * 1024 + r.val, by have := pt_lt t; omega⟩
/-- The array's column of a block's. -/
def col (t : Fin cfg0.N) (s : Fin 1024) : Fin 2048 := ⟨t.val / 4 % 2 * 1024 + s.val, by omega⟩
/-- The summation index of a block's. -/
def con (t : Fin cfg0.N) (k : Fin 2048) : Fin 8192 := ⟨t.val % 4 * 2048 + k.val, by omega⟩

/-- The array before the squared relu, and the weight. -/
abbrev Az : Vec Ideal S8192x8192 .f32 := m ((c : Thread nD τ).loc main_arg0)
/-- The weight. -/
abbrev Aw : Vec Ideal S8192x2048 .f32 := m ((c : Thread nD τ).loc main_arg1)

/-- The squared relu. -/
def sq (x : EReal) : EReal := max x 0 * max x 0

/-- The launch is given the squared relu of the argument. -/
theorem h_eq (i : S8192x8192.Idx) : V m c main_v1 i = sq (Az m c i) := by
  unfold V; after_reads_at
  rfl

/-- It is given the weight rounded, which the ideal reading does not see. -/
theorem w_eq (i : S8192x2048.Idx) : V m c main_v2 i = Aw m c i := by
  unfold V; after_reads_at

/-- A block of the first operand's array, read at an entry. -/
theorem blk0_of (A : Vec Ideal S8192x8192 .f32) (t : Fin cfg0.N) (r : Fin 1024) (k : Fin 2048) :
    ((cfg0.win 0).blk t).view.read (Elt Ideal) A (ix2 r k) = A (ix2 (row t r) (con t k)) := by
  blk_ext [idx0 t, row, con]
/-- The same of the array the launch is given. -/
theorem blk0 (t : Fin cfg0.N) (r : Fin 1024) (k : Fin 2048) :
    iblk m c 0 t (ix2 r k) = sq (Az m c (ix2 (row t r) (con t k))) :=
  (blk0_of (V m c main_v1) t r k).trans (h_eq m c _)

/-- A block of the second operand's array, read at an entry. -/
theorem blk1_of (A : Vec Ideal S8192x2048 .bf16) (t : Fin cfg0.N) (k : Fin 2048) (s : Fin 1024) :
    ((cfg0.win 1).blk t).view.read (Elt Ideal) A (ix2 k s) = A (ix2 (con t k) (col t s)) := by
  blk_ext [idx1 t, col, con]
/-- The same of the array the launch is given. -/
theorem blk1 (t : Fin cfg0.N) (k : Fin 2048) (s : Fin 1024) :
    iblk m c 1 t (ix2 k s) = Aw m c (ix2 (con t k) (col t s)) :=
  (blk1_of (V m c main_v2) t k s).trans (w_eq m c _)

/-- The product: the squared relu times the weight, summed over the hidden axis. -/
def prod (z : Vec Ideal S8192x8192 .f32) (w : Vec Ideal S8192x2048 .f32) : Vec Ideal S8192x2048 .f32 := fun j =>
  ∑ f : Fin 8192, sq (z (ix2 (j 0) f)) * w (ix2 f (j 1))

/-- What a grid point adds, by the whole arrays' entries. -/
theorem add_at (t : Fin cfg0.N) (r s : Fin 1024) :
    add m c t r s = ∑ k : Fin 2048, sq (Az m c (ix2 (row t r) (con t k))) * Aw m c (ix2 (con t k) (col t s)) := by
  simp only [add, tile, blk0 m c t, blk1 m c t]

/-- After the last tile the block holds the whole sum. -/
theorem sum (t : Fin cfg0.N) (ht : t.val % 4 = 3) (r s : Fin 1024) :
    outsAt0 m c t.val t.isLt (ix2 r s) = prod (Az m c) (Aw m c) (ix2 (row t r) (col t s)) := by
  refine Tiles.sum_of_four (fun n h (i : Fin 1024 × Fin 1024) => outsAt0 m c n h (ix2 i.1 i.2)) (fun t i => add m c t i.1 i.2)
    (fun t h i => first m c t h i.1 i.2) (fun t h i => step m c t h i.1 i.2)
    (fun t i f => sq (Az m c (ix2 (row t i.1) f)) * Aw m c (ix2 f (col t i.2))) (fun t i => add_at m c t i.1 i.2)
    (fun t t' h => ?_) t ht (r, s)
  have e0 : row t = row t' := funext fun r => Fin.ext (by simp only [row]; omega)
  have e1 : col t = col t' := funext fun s => Fin.ext (by simp only [col]; omega)
  rw [e0, e1]

/-- A block of an array of the output's shape, read at an entry. -/
theorem blk2_of (A : Vec Ideal S8192x2048 .f32) (t : Fin cfg0.N) (r s : Fin 1024) :
    ((cfg0.win 2).blk t).view.read (Elt Ideal) A (ix2 r s) = A (ix2 (row t r) (col t s)) := by
  blk_ext [idx2 t, row, col]

/-- The array after the run. -/
theorem final : (dats m 0 c).arrAt 2 cfg0.N = prod (Az m c) (Aw m c) := by
  refine (dats m 0 c).arrAt_eq_of_covers 2 _ (by decide +kernel) fun t hf y => ?_
  rw [after0_2]
  obtain ⟨r, s, rfl⟩ : ∃ (r s : Fin 1024), y = ix2 r s := ⟨y 0, y 1, eq_ix2 y⟩
  exact (sum m c t ((flush0_2 t).mp hf) r s).trans (blk2_of _ t r s).symm

/-- The reference's product is the same array. -/
theorem ref_eq (z : Vec Ideal S8192x8192 .f32) (w : Vec Ideal S8192x2048 .f32) :
    Cert.RefOutFwdIdeal.Read.val_main_v2 (F := Ideal) z w = prod z w := by
  funext i
  rw [Cert.RefOutFwdIdeal.Read.val_main_v2_apply, prod]
  refine Finset.sum_congr rfl fun k _ => congrArg₂ (· * ·) ?_ (congrArg w (eq_ix2 _))
  rw [Cert.RefOutFwdIdeal.Read.val_main_v1_apply, Cert.RefOutFwdIdeal.Read.val_main_v0_apply,
    Cert.RefOutFwdIdeal.Read.val_main_call0_v0_apply, Cert.RefOutFwdIdeal.Read.val_main_call0_cst_apply]
  show max _ (Ideal.ofBits .f32 0x00000000#32) * max _ (Ideal.ofBits .f32 0x00000000#32) = _
  rw [Ideal.ofBits_zero_f32]
  exact congrArg sq (congrArg z (eq_ix2 _))

/-- The reference runs, keeps its arguments and leaves every semaphore at zero (it has none). -/
theorem frame_ref : Cert.quiescent_RefOutFwdIdeal := fun m ρ _ =>
  (θ_run Cert.RefOutFwdIdeal.defs _ _).mono
    (fun r h => ⟨fun c => (h c).2, sem_eq_zero_of_no_sems rfl r.2⟩) (Cert.RefOutFwdIdeal.Value.run m ρ)

/-- The call's array is the reference's product. -/
theorem values : Cert.algebraic_OutFwdIdeal_RefOutFwdIdeal := by
  intro m g m' g' _ hm
  refine ⟨fun c => prod (Az m c) (Aw m c), ?_, ?_⟩
  · exact (θ_run Cert.OutFwdIdeal.defs _ _).mono (fun r h c => ⟨(h c).1.trans (final m c), (h c).2⟩)
      (Cert.OutFwdIdeal.Value.run_blocks m g)
  · refine (θ_run Cert.RefOutFwdIdeal.defs _ _).mono (fun r h c => ⟨(h c).1.trans ?_, (h c).2⟩)
      (Cert.RefOutFwdIdeal.Value.run m' g')
    obtain ⟨e0, e1⟩ := hm c
    rw [Cert.RefOutFwdIdeal.Read.val_main_v2_eq, e0, e1]
    exact ref_eq _ _

end Cert.OutFwdVal

end
-- ==== Proof.OutDaVal.lean ====
/-
  The second product's gradient in its left factor: each grid point computes one block over the whole of the summed axis,
  and the call's array ends up holding `∑ d, ct i d * w f d`, which is what the derivative of `a @ w` is.
-/
module

public import proofs.«01_k».proof.Proof.Gen.OutDaIdeal.Value
public import proofs.«01_k».proof.Proof.Gen.RefOutDaIdeal.Read
public import proofs.«01_k».proof.Defs
public import proofs.«01_k».proof.Proof.Gen.OutDaIdeal
public import proofs.«01_k».proof.Proof.Gen.RefOutDaIdeal
public import proofs.«01_k».proof.Proof.Gen.RefOutDaIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.OutDaVal

open Cert.OutDaIdeal Cert.OutDaIdeal.Gen Idealize.ShloMosaic Idealize.ShloMosaic.TcCoe Idealize.SL.Sem

/-- The product of two blocks, the second transposed, at an entry. -/
theorem pay1_eq (a : FVec Ideal S1024x2048 .f32) (b : FVec Ideal S1024x2048 .bf16) (r s : Fin 1024) :
    k0_pay1 (F := Ideal) a b (ix2 r s) = ∑ k : Fin 2048, a (ix2 r k) * b (ix2 s k) := by
  pointwise [k0_pay1]

/-- What a grid point leaves in its output block, of any two input blocks. -/
theorem out_eq (a : FVec Ideal S1024x2048 .f32) (b : FVec Ideal S1024x2048 .bf16) (r s : Fin 1024) :
    out0_2 (F := Ideal) a b (ix2 r s) = ∑ k : Fin 2048, a (ix2 r k) * b (ix2 s k) := by
  rw [show out0_2 (F := Ideal) a b = k0_pay1 (F := Ideal) a b by unfold out0_2; frame_out]
  exact pay1_eq a b r s

variable (m : (ℓ : Loc nD τ sig) → Buf (Elt Ideal) ℓ) (c : Dev nD)

/-- There are 64 grid points. -/
theorem pt_lt (t : Fin cfg0.N) : t.val < 64 := lt_of_lt_of_eq t.isLt N_0

/-- Which block of the first operand a grid point reads. -/
theorem idx0 : ∀ t : Fin cfg0.N, win0_0.index t = ![t.val / 8, 0] := (by decide +kernel : ∀ t : Fin grid0.N, _)
/-- Which block of the second operand a grid point reads. -/
theorem idx1 : ∀ t : Fin cfg0.N, win0_1.index t = ![t.val % 8, 0] := (by decide +kernel : ∀ t : Fin grid0.N, _)
/-- Which block of the output a grid point works on. -/
theorem idx2 : ∀ t : Fin cfg0.N, win0_2.index t = ![t.val / 8, t.val % 8] := (by decide +kernel : ∀ t : Fin grid0.N, _)

/-- The array's row and column of a block's. -/
def row (t : Fin cfg0.N) (r : Fin 1024) : Fin 8192 := ⟨t.val / 8 * 1024 + r.val, by have := pt_lt t; omega⟩
/-- The array's column of a block's. -/
def col (t : Fin cfg0.N) (s : Fin 1024) : Fin 8192 := ⟨t.val % 8 * 1024 + s.val, by omega⟩

/-- The gradient of the output, and the weight. -/
abbrev Act : Vec Ideal S8192x2048 .f32 := m ((c : Thread nD τ).loc main_arg2)
/-- The weight. -/
abbrev Aw : Vec Ideal S8192x2048 .f32 := m ((c : Thread nD τ).loc main_arg1)

/-- A block of the first operand's array, read at an entry. -/
theorem blk0_of (A : Vec Ideal S8192x2048 .f32) (t : Fin cfg0.N) (r : Fin 1024) (k : Fin 2048) :
    ((cfg0.win 0).blk t).view.read (Elt Ideal) A (ix2 r k) = A (ix2 (row t r) k) := by
  blk_ext [idx0 t, row]
/-- The same of the array the launch is given. -/
theorem blk0 (t : Fin cfg0.N) (r : Fin 1024) (k : Fin 2048) : iblk m c 0 t (ix2 r k) = Act m c (ix2 (row t r) k) :=
  (congrFun (congrArg (((cfg0.win 0).blk t).view.read (Elt Ideal)) (V_main_arg2 m c)) _).trans (blk0_of _ t r k)

/-- The host rounds the weight, which the ideal reading does not see. -/
theorem w_eq (i : S8192x2048.Idx) : V m c main_v0 i = Aw m c i := by
  unfold V; after_reads_at

/-- A block of the second operand's array, read at an entry. -/
theorem blk1_of (A : Vec Ideal S8192x2048 .bf16) (t : Fin cfg0.N) (s : Fin 1024) (k : Fin 2048) :
    ((cfg0.win 1).blk t).view.read (Elt Ideal) A (ix2 s k) = A (ix2 (col t s) k) := by
  blk_ext [idx1 t, col]
/-- The same of the array the launch is given. -/
theorem blk1 (t : Fin cfg0.N) (s : Fin 1024) (k : Fin 2048) : iblk m c 1 t (ix2 s k) = Aw m c (ix2 (col t s) k) :=
  (blk1_of (V m c main_v0) t s k).trans (w_eq m c _)

/-- The gradient: the output's gradient times the weight, summed over the columns. -/
def grad (ct : Vec Ideal S8192x2048 .f32) (w : Vec Ideal S8192x2048 .f32) : Vec Ideal S8192x8192 .f32 := fun j =>
  ∑ d : Fin 2048, ct (ix2 (j 0) d) * w (ix2 (j 1) d)

/-- A block of an array of the output's shape, read at an entry. -/
theorem blk2_of (A : Vec Ideal S8192x8192 .f32) (t : Fin cfg0.N) (r s : Fin 1024) :
    ((cfg0.win 2).blk t).view.read (Elt Ideal) A (ix2 r s) = A (ix2 (row t r) (col t s)) := by
  blk_ext [idx2 t, row, col]

/-- A grid point's block of the output. -/
theorem out_at (t : Fin cfg0.N) :
    out0_2 (F := Ideal) (iblk m c 0 t) (iblk m c 1 t)
      = fun y => grad (Act m c) (Aw m c) (ix2 (row t (y 0)) (col t (y 1))) := by
  funext y
  obtain ⟨r, s, rfl⟩ : ∃ (r s : Fin 1024), y = ix2 r s := ⟨y 0, y 1, eq_ix2 y⟩
  refine (out_eq (iblk m c 0 t) (iblk m c 1 t) r s).trans ?_
  exact Finset.sum_congr rfl fun k _ => congrArg₂ (· * ·) (blk0 m c t r k) (blk1 m c t s k)

/-- The array after the run. -/
theorem final : (dats m 0 c).arrAt 2 cfg0.N = grad (Act m c) (Aw m c) := by
  refine (dats m 0 c).arrAt_eq_of_covers 2 _ (by decide +kernel) fun t hf y => ?_
  rw [after0_2, out_at m c t]
  obtain ⟨r, s, rfl⟩ : ∃ (r s : Fin 1024), y = ix2 r s := ⟨y 0, y 1, eq_ix2 y⟩
  exact (blk2_of (grad (Act m c) (Aw m c)) t r s).symm

/-- The reference's derivative is the same array. -/
theorem ref_eq (ct : Vec Ideal S8192x2048 .f32) (w : Vec Ideal S8192x2048 .f32) :
    Cert.RefOutDaIdeal.Read.val_main_v1 (F := Ideal) w ct = grad ct w := by
  funext i
  rw [Cert.RefOutDaIdeal.Read.val_main_v1_apply, grad]
  exact Finset.sum_congr rfl fun k _ => congrArg₂ (· * ·) (congrArg ct (eq_ix2 _)) (congrArg w (eq_ix2 _))

/-- The reference runs, keeps its arguments and leaves every semaphore at zero (it has none). -/
theorem frame_ref : Cert.quiescent_RefOutDaIdeal := fun m ρ _ =>
  (θ_run Cert.RefOutDaIdeal.defs _ _).mono
    (fun r h => ⟨fun c => (h c).2, sem_eq_zero_of_no_sems rfl r.2⟩) (Cert.RefOutDaIdeal.Value.run m ρ)

/-- The call's array is the reference's gradient. -/
theorem values : Cert.algebraic_OutDaIdeal_RefOutDaIdeal := by
  intro m g m' g' _ hm
  refine ⟨fun c => grad (Act m c) (Aw m c), ?_, ?_⟩
  · exact (θ_run Cert.OutDaIdeal.defs _ _).mono (fun r h c => ⟨(h c).1.trans (final m c), (h c).2⟩)
      (Cert.OutDaIdeal.Value.run_blocks m g)
  · refine (θ_run Cert.RefOutDaIdeal.defs _ _).mono (fun r h c => ⟨(h c).1.trans ?_, (h c).2⟩)
      (Cert.RefOutDaIdeal.Value.run m' g')
    obtain ⟨e0, e1, e2⟩ := hm c
    rw [Cert.RefOutDaIdeal.Read.val_main_v1_eq, e1, e2]
    exact ref_eq _ _

end Cert.OutDaVal

end
-- ==== Proof.OutDbVal.lean ====
/-
  The second product's gradient in its weight, the MLP's squared relu before it: the call adds up four tiles of
  2048 rows, and its array ends up holding `∑ i, relu (z i f) ^ 2 * ct i d`, which is what the derivative of `relu(z)² @ w` is.
-/
module

public import proofs.«01_k».proof.Proof.Tiles
public import proofs.«01_k».proof.Proof.Gen.OutDbIdeal.Value
public import proofs.«01_k».proof.Proof.Gen.RefOutDbIdeal.Read
public import proofs.«01_k».proof.Defs
public import proofs.«01_k».proof.Proof.Gen.OutDbIdeal
public import proofs.«01_k».proof.Proof.Gen.RefOutDbIdeal
public import proofs.«01_k».proof.Proof.Gen.RefOutDbIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.OutDbVal

open Cert.OutDbIdeal Cert.OutDbIdeal.Gen Idealize.ShloMosaic Idealize.ShloMosaic.TcCoe Idealize.SL.Sem

/-- The product of two blocks, the first transposed, at an entry. -/
def tile (a : FVec Ideal S2048x1024 .f32) (b : FVec Ideal S2048x1024 .f32) (r s : Fin 1024) : EReal :=
  ∑ k : Fin 2048, a (ix2 k r) * b (ix2 k s)

/-- The body's product is that one. -/
theorem pay1_eq (a : FVec Ideal S2048x1024 .f32) (b : FVec Ideal S2048x1024 .f32) (r s : Fin 1024) :
    k0_pay1 (F := Ideal) a b (ix2 r s) = tile a b r s := by
  pointwise [k0_pay1, tile]

/-- The later tiles add their product to what the block held. -/
theorem pay2_eq (a : FVec Ideal S2048x1024 .f32) (b : FVec Ideal S2048x1024 .f32) (x : FVec Ideal S1024x1024 .f32)
    (r s : Fin 1024) : k0_pay2 (F := Ideal) a b x (ix2 r s) = x (ix2 r s) + tile a b r s := by
  rw [← pay1_eq]; pointwise [k0_pay2]

variable (m : (ℓ : Loc nD τ sig) → Buf (Elt Ideal) ℓ) (c : Dev nD)

/-- What a grid point adds to its output block. -/
def add (t : Fin cfg0.N) (r s : Fin 1024) : EReal := tile (iblk m c 0 t) (iblk m c 1 t) r s

/-- The first of a block's four tiles sets the block to the tile's product. -/
theorem first (t : Fin cfg0.N) (h0 : t.val % 4 = 0) (r s : Fin 1024) :
    outsAt0 m c t.val t.isLt (ix2 r s) = 0 + add m c t r s := by
  rw [outsAt0_A m c t h0 (by omega)]; frame_out
  rw [pay1_eq, zero_add]; rfl

/-- The other three add theirs. -/
theorem step (t : Fin cfg0.N) (h0 : ¬ t.val % 4 = 0) (r s : Fin 1024) :
    outsAt0 m c t.val t.isLt (ix2 r s)
      = outsAt0 m c (t.val - 1) (Nat.lt_of_le_of_lt (Nat.sub_le _ _) t.isLt) (ix2 r s) + add m c t r s := by
  rw [outsAt0_B m c t h0 (by omega)]; frame_out
  rw [pay2_eq]; rfl

/-- There are 64 grid points. -/
theorem pt_lt (t : Fin cfg0.N) : t.val < 64 := lt_of_lt_of_eq t.isLt N_0

/-- Which block of the first operand a grid point reads. -/
theorem idx0 : ∀ t : Fin cfg0.N, win0_0.index t = ![t.val % 4, t.val / 8] := (by decide +kernel : ∀ t : Fin grid0.N, _)
/-- Which block of the second operand a grid point reads. -/
theorem idx1 : ∀ t : Fin cfg0.N, win0_1.index t = ![t.val % 4, t.val / 4 % 2] := (by decide +kernel : ∀ t : Fin grid0.N, _)
/-- Which block of the output a grid point works on. -/
theorem idx2 : ∀ t : Fin cfg0.N, win0_2.index t = ![t.val / 8, t.val / 4 % 2] := (by decide +kernel : ∀ t : Fin grid0.N, _)

/-- The array's row, column and summation index of a block's. -/
def row (t : Fin cfg0.N) (r : Fin 1024) : Fin 8192 := ⟨t.val / 8 * 1024 + r.val, by have := pt_lt t; omega⟩
/-- The array's column of a block's. -/
def col (t : Fin cfg0.N) (s : Fin 1024) : Fin 2048 := ⟨t.val / 4 % 2 * 1024 + s.val, by omega⟩
/-- The summation index of a block's. -/
def con (t : Fin cfg0.N) (k : Fin 2048) : Fin 8192 := ⟨t.val % 4 * 2048 + k.val, by omega⟩

/-- The array before the squared relu and the gradient of the output. -/
abbrev Az : Vec Ideal S8192x8192 .f32 := m ((c : Thread nD τ).loc main_arg0)
/-- The gradient of the output. -/
abbrev Act : Vec Ideal S8192x2048 .f32 := m ((c : Thread nD τ).loc main_arg2)

/-- The squared relu. -/
def sq (x : EReal) : EReal := max x 0 * max x 0

/-- The launch is given the squared relu of the argument. -/
theorem h_eq (i : S8192x8192.Idx) : V m c main_v1 i = sq (Az m c i) := by
  unfold V; after_reads_at
  rfl

/-- A block of the first operand's array, read at an entry. -/
theorem blk0_of (A : Vec Ideal S8192x8192 .f32) (t : Fin cfg0.N) (k : Fin 2048) (r : Fin 1024) :
    ((cfg0.win 0).blk t).view.read (Elt Ideal) A (ix2 k r) = A (ix2 (con t k) (row t r)) := by
  blk_ext [idx0 t, row, con]
/-- The same of the array the launch is given. -/
theorem blk0 (t : Fin cfg0.N) (k : Fin 2048) (r : Fin 1024) :
    iblk m c 0 t (ix2 k r) = sq (Az m c (ix2 (con t k) (row t r))) :=
  (blk0_of (V m c main_v1) t k r).trans (h_eq m c _)

/-- A block of the second operand's array, read at an entry. -/
theorem blk1_of (A : Vec Ideal S8192x2048 .f32) (t : Fin cfg0.N) (k : Fin 2048) (s : Fin 1024) :
    ((cfg0.win 1).blk t).view.read (Elt Ideal) A (ix2 k s) = A (ix2 (con t k) (col t s)) := by
  blk_ext [idx1 t, col, con]
/-- The same of the array the launch is given. -/
theorem blk1 (t : Fin cfg0.N) (k : Fin 2048) (s : Fin 1024) :
    iblk m c 1 t (ix2 k s) = Act m c (ix2 (con t k) (col t s)) :=
  (congrFun (congrArg (((cfg0.win 1).blk t).view.read (Elt Ideal)) (V_main_arg2 m c)) _).trans (blk1_of _ t k s)

/-- The gradient: the output's gradient times the squared relu, summed over the rows. -/
def grad (z : Vec Ideal S8192x8192 .f32) (ct : Vec Ideal S8192x2048 .f32) : Vec Ideal S8192x2048 .f32 := fun j =>
  ∑ i : Fin 8192, sq (z (ix2 i (j 0))) * ct (ix2 i (j 1))

/-- What a grid point adds, by the whole arrays' entries. -/
theorem add_at (t : Fin cfg0.N) (r s : Fin 1024) :
    add m c t r s = ∑ k : Fin 2048, sq (Az m c (ix2 (con t k) (row t r))) * Act m c (ix2 (con t k) (col t s)) := by
  simp only [add, tile, blk0 m c t, blk1 m c t]

/-- After the last tile the block holds the whole sum. -/
theorem sum (t : Fin cfg0.N) (ht : t.val % 4 = 3) (r s : Fin 1024) :
    outsAt0 m c t.val t.isLt (ix2 r s) = grad (Az m c) (Act m c) (ix2 (row t r) (col t s)) := by
  refine Tiles.sum_of_four (fun n h (i : Fin 1024 × Fin 1024) => outsAt0 m c n h (ix2 i.1 i.2)) (fun t i => add m c t i.1 i.2)
    (fun t h i => first m c t h i.1 i.2) (fun t h i => step m c t h i.1 i.2)
    (fun t i f => sq (Az m c (ix2 f (row t i.1))) * Act m c (ix2 f (col t i.2))) (fun t i => add_at m c t i.1 i.2)
    (fun t t' h => ?_) t ht (r, s)
  have e0 : row t = row t' := funext fun r => Fin.ext (by simp only [row]; omega)
  have e1 : col t = col t' := funext fun s => Fin.ext (by simp only [col]; omega)
  rw [e0, e1]

/-- A block of an array of the output's shape, read at an entry. -/
theorem blk2_of (A : Vec Ideal S8192x2048 .f32) (t : Fin cfg0.N) (r s : Fin 1024) :
    ((cfg0.win 2).blk t).view.read (Elt Ideal) A (ix2 r s) = A (ix2 (row t r) (col t s)) := by
  blk_ext [idx2 t, row, col]

/-- The array after the run. -/
theorem final : (dats m 0 c).arrAt 2 cfg0.N = grad (Az m c) (Act m c) := by
  refine (dats m 0 c).arrAt_eq_of_covers 2 _ (by decide +kernel) fun t hf y => ?_
  rw [after0_2]
  obtain ⟨r, s, rfl⟩ : ∃ (r s : Fin 1024), y = ix2 r s := ⟨y 0, y 1, eq_ix2 y⟩
  exact (sum m c t ((flush0_2 t).mp hf) r s).trans (blk2_of _ t r s).symm

/-- The reference's derivative is the same array. -/
theorem ref_eq (z : Vec Ideal S8192x8192 .f32) (ct : Vec Ideal S8192x2048 .f32) :
    Cert.RefOutDbIdeal.Read.val_main_v4 (F := Ideal) z ct = grad z ct := by
  funext i
  rw [Cert.RefOutDbIdeal.Read.val_main_v4_apply, Cert.RefOutDbIdeal.Read.val_main_v3_apply, grad]
  refine Finset.sum_congr rfl fun k _ => (mul_comm _ _).trans (congrArg₂ (· * ·) ?_ (congrArg ct (eq_ix2 _)))
  rw [Cert.RefOutDbIdeal.Read.val_main_v1_apply, Cert.RefOutDbIdeal.Read.val_main_v0_apply,
    Cert.RefOutDbIdeal.Read.val_main_call0_v0_apply, Cert.RefOutDbIdeal.Read.val_main_call0_cst_apply]
  show max _ (Ideal.ofBits .f32 0x00000000#32) * max _ (Ideal.ofBits .f32 0x00000000#32) = _
  rw [Ideal.ofBits_zero_f32]
  exact congrArg sq (congrArg z (eq_ix2 _))

/-- The reference runs, keeps its arguments and leaves every semaphore at zero (it has none). -/
theorem frame_ref : Cert.quiescent_RefOutDbIdeal := fun m ρ _ =>
  (θ_run Cert.RefOutDbIdeal.defs _ _).mono
    (fun r h => ⟨fun c => (h c).2, sem_eq_zero_of_no_sems rfl r.2⟩) (Cert.RefOutDbIdeal.Value.run m ρ)

/-- The call's array is the reference's gradient. -/
theorem values : Cert.algebraic_OutDbIdeal_RefOutDbIdeal := by
  intro m g m' g' _ hm
  refine ⟨fun c => grad (Az m c) (Act m c), ?_, ?_⟩
  · exact (θ_run Cert.OutDbIdeal.defs _ _).mono (fun r h c => ⟨(h c).1.trans (final m c), (h c).2⟩)
      (Cert.OutDbIdeal.Value.run_blocks m g)
  · refine (θ_run Cert.RefOutDbIdeal.defs _ _).mono (fun r h c => ⟨(h c).1.trans ?_, (h c).2⟩)
      (Cert.RefOutDbIdeal.Value.run m' g')
    obtain ⟨e0, e1, e2⟩ := hm c
    rw [Cert.RefOutDbIdeal.Read.val_main_v4_eq, e0, e2]
    exact ref_eq _ _

end Cert.OutDbVal

end
-- ==== Proof.SmallFwdVal.lean ====
/-
  The product with the remaining columns of w_in: each grid point computes one block over the whole of the summed axis,
  and the call's array ends up holding `∑ d, h i d * w d f`, which is what the reference's `h @ w` is.
-/
module

public import proofs.«01_k».proof.Proof.Gen.SmallFwdIdeal.Value
public import proofs.«01_k».proof.Proof.Gen.RefSmallFwdIdeal.Read
public import proofs.«01_k».proof.Defs
public import proofs.«01_k».proof.Proof.Gen.SmallFwdIdeal
public import proofs.«01_k».proof.Proof.Gen.RefSmallFwdIdeal
public import proofs.«01_k».proof.Proof.Gen.RefSmallFwdIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.SmallFwdVal

open Cert.SmallFwdIdeal Cert.SmallFwdIdeal.Gen Idealize.ShloMosaic Idealize.ShloMosaic.TcCoe Idealize.SL.Sem

/-- The product of two blocks at an entry. -/
theorem pay1_eq (a : FVec Ideal S1024x2048 .f32) (b : FVec Ideal S2048x768 .bf16) (r : Fin 1024) (s : Fin 768) :
    k0_pay1 (F := Ideal) a b (ix2 r s) = ∑ k : Fin 2048, a (ix2 r k) * b (ix2 k s) := by
  pointwise [k0_pay1]

/-- What a grid point leaves in its output block, of any two input blocks. -/
theorem out_eq (a : FVec Ideal S1024x2048 .f32) (b : FVec Ideal S2048x768 .bf16) (r : Fin 1024) (s : Fin 768) :
    out0_2 (F := Ideal) a b (ix2 r s) = ∑ k : Fin 2048, a (ix2 r k) * b (ix2 k s) := by
  rw [show out0_2 (F := Ideal) a b = k0_pay1 (F := Ideal) a b by unfold out0_2; frame_out]
  exact pay1_eq a b r s

variable (m : (ℓ : Loc nD τ sig) → Buf (Elt Ideal) ℓ) (c : Dev nD)

/-- There are 48 grid points. -/
theorem pt_lt (t : Fin cfg0.N) : t.val < 48 := lt_of_lt_of_eq t.isLt N_0

/-- Which block of the first operand a grid point reads. -/
theorem idx0 : ∀ t : Fin cfg0.N, win0_0.index t = ![t.val / 6, 0] := (by decide +kernel : ∀ t : Fin grid0.N, _)
/-- Which block of the second operand a grid point reads. -/
theorem idx1 : ∀ t : Fin cfg0.N, win0_1.index t = ![0, t.val % 6] := (by decide +kernel : ∀ t : Fin grid0.N, _)
/-- Which block of the output a grid point works on. -/
theorem idx2 : ∀ t : Fin cfg0.N, win0_2.index t = ![t.val / 6, t.val % 6] := (by decide +kernel : ∀ t : Fin grid0.N, _)

/-- The array's row and column of a block's. -/
def row (t : Fin cfg0.N) (r : Fin 1024) : Fin 8192 := ⟨t.val / 6 * 1024 + r.val, by have := pt_lt t; omega⟩
/-- The array's column of a block's. -/
def col (t : Fin cfg0.N) (s : Fin 768) : Fin 4608 := ⟨t.val % 6 * 768 + s.val, by omega⟩

/-- The left factor and the weight. -/
abbrev Ah : Vec Ideal S8192x2048 .f32 := m ((c : Thread nD τ).loc main_arg0)
/-- The weight. -/
abbrev Aw : Vec Ideal S2048x4608 .f32 := m ((c : Thread nD τ).loc main_arg1)

/-- A block of the first operand's array, read at an entry. -/
theorem blk0_of (A : Vec Ideal S8192x2048 .f32) (t : Fin cfg0.N) (r : Fin 1024) (k : Fin 2048) :
    ((cfg0.win 0).blk t).view.read (Elt Ideal) A (ix2 r k) = A (ix2 (row t r) k) := by
  blk_ext [idx0 t, row]
/-- The same of the array the launch is given. -/
theorem blk0 (t : Fin cfg0.N) (r : Fin 1024) (k : Fin 2048) : iblk m c 0 t (ix2 r k) = Ah m c (ix2 (row t r) k) :=
  (congrFun (congrArg (((cfg0.win 0).blk t).view.read (Elt Ideal)) (V_main_arg0 m c)) _).trans (blk0_of _ t r k)

/-- The host rounds the weight, which the ideal reading does not see. -/
theorem w_eq (i : S2048x4608.Idx) : V m c main_v0 i = Aw m c i := by
  unfold V; after_reads_at

/-- A block of the second operand's array, read at an entry. -/
theorem blk1_of (A : Vec Ideal S2048x4608 .bf16) (t : Fin cfg0.N) (k : Fin 2048) (s : Fin 768) :
    ((cfg0.win 1).blk t).view.read (Elt Ideal) A (ix2 k s) = A (ix2 k (col t s)) := by
  blk_ext [idx1 t, col]
/-- The same of the array the launch is given. -/
theorem blk1 (t : Fin cfg0.N) (k : Fin 2048) (s : Fin 768) : iblk m c 1 t (ix2 k s) = Aw m c (ix2 k (col t s)) :=
  (blk1_of (V m c main_v0) t k s).trans (w_eq m c _)

/-- The product. -/
def prod (h : Vec Ideal S8192x2048 .f32) (w : Vec Ideal S2048x4608 .f32) : Vec Ideal S8192x4608 .f32 := fun j =>
  ∑ d : Fin 2048, h (ix2 (j 0) d) * w (ix2 d (j 1))

/-- A block of an array of the output's shape, read at an entry. -/
theorem blk2_of (A : Vec Ideal S8192x4608 .f32) (t : Fin cfg0.N) (r : Fin 1024) (s : Fin 768) :
    ((cfg0.win 2).blk t).view.read (Elt Ideal) A (ix2 r s) = A (ix2 (row t r) (col t s)) := by
  blk_ext [idx2 t, row, col]

/-- A grid point's block of the output. -/
theorem out_at (t : Fin cfg0.N) :
    out0_2 (F := Ideal) (iblk m c 0 t) (iblk m c 1 t)
      = fun y => prod (Ah m c) (Aw m c) (ix2 (row t (y 0)) (col t (y 1))) := by
  funext y
  obtain ⟨r, s, rfl⟩ : ∃ (r : Fin 1024) (s : Fin 768), y = ix2 r s := ⟨y 0, y 1, eq_ix2 y⟩
  refine (out_eq (iblk m c 0 t) (iblk m c 1 t) r s).trans ?_
  exact Finset.sum_congr rfl fun k _ => congrArg₂ (· * ·) (blk0 m c t r k) (blk1 m c t k s)

/-- The array after the run. -/
theorem final : (dats m 0 c).arrAt 2 cfg0.N = prod (Ah m c) (Aw m c) := by
  refine (dats m 0 c).arrAt_eq_of_covers 2 _ (by decide +kernel) fun t hf y => ?_
  rw [after0_2, out_at m c t]
  obtain ⟨r, s, rfl⟩ : ∃ (r : Fin 1024) (s : Fin 768), y = ix2 r s := ⟨y 0, y 1, eq_ix2 y⟩
  exact (blk2_of (prod (Ah m c) (Aw m c)) t r s).symm

/-- The reference's product is the same array. -/
theorem ref_eq (h : Vec Ideal S8192x2048 .f32) (w : Vec Ideal S2048x4608 .f32) :
    Cert.RefSmallFwdIdeal.Read.val_main_v0 (F := Ideal) h w = prod h w := by
  funext i
  rw [Cert.RefSmallFwdIdeal.Read.val_main_v0_apply, prod]
  exact Finset.sum_congr rfl fun k _ => congrArg₂ (· * ·) (congrArg h (eq_ix2 _)) (congrArg w (eq_ix2 _))

/-- The reference runs, keeps its arguments and leaves every semaphore at zero (it has none). -/
theorem frame_ref : Cert.quiescent_RefSmallFwdIdeal := fun m ρ _ =>
  (θ_run Cert.RefSmallFwdIdeal.defs _ _).mono
    (fun r h => ⟨fun c => (h c).2, sem_eq_zero_of_no_sems rfl r.2⟩) (Cert.RefSmallFwdIdeal.Value.run m ρ)

/-- The call's array is the reference's product. -/
theorem values : Cert.algebraic_SmallFwdIdeal_RefSmallFwdIdeal := by
  intro m g m' g' _ hm
  refine ⟨fun c => prod (Ah m c) (Aw m c), ?_, ?_⟩
  · exact (θ_run Cert.SmallFwdIdeal.defs _ _).mono (fun r h c => ⟨(h c).1.trans (final m c), (h c).2⟩)
      (Cert.SmallFwdIdeal.Value.run_blocks m g)
  · refine (θ_run Cert.RefSmallFwdIdeal.defs _ _).mono (fun r h c => ⟨(h c).1.trans ?_, (h c).2⟩)
      (Cert.RefSmallFwdIdeal.Value.run m' g')
    obtain ⟨e0, e1⟩ := hm c
    rw [Cert.RefSmallFwdIdeal.Read.val_main_v0_eq, e0, e1]
    exact ref_eq _ _

end Cert.SmallFwdVal

end
-- ==== Proof.SmallDaVal.lean ====
/-
  The product's gradient in its left factor, with the remaining columns of w_in: the call adds up two tiles of
  2304 columns, and its array ends up holding `∑ f, ct r f * w d f`, which is what the derivative of `h @ w` is.
-/
module

public import proofs.«01_k».proof.Proof.Tiles
public import proofs.«01_k».proof.Proof.Gen.SmallDaIdeal.Value
public import proofs.«01_k».proof.Proof.Gen.RefSmallDaIdeal.Read
public import proofs.«01_k».proof.Defs
public import proofs.«01_k».proof.Proof.Gen.SmallDaIdeal
public import proofs.«01_k».proof.Proof.Gen.RefSmallDaIdeal
public import proofs.«01_k».proof.Proof.Gen.RefSmallDaIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.SmallDaVal

open Cert.SmallDaIdeal Cert.SmallDaIdeal.Gen Idealize.ShloMosaic Idealize.ShloMosaic.TcCoe Idealize.SL.Sem

/-- The product of two blocks, the second transposed, at an entry. -/
def tile (a : FVec Ideal S1024x2304 .f32) (b : FVec Ideal S1024x2304 .bf16) (r s : Fin 1024) : EReal :=
  ∑ k : Fin 2304, a (ix2 r k) * b (ix2 s k)

/-- The body's product is that one. -/
theorem pay1_eq (a : FVec Ideal S1024x2304 .f32) (b : FVec Ideal S1024x2304 .bf16) (r s : Fin 1024) :
    k0_pay1 (F := Ideal) a b (ix2 r s) = tile a b r s := by
  pointwise [k0_pay1, tile]

/-- The later tiles add their product to what the block held. -/
theorem pay2_eq (a : FVec Ideal S1024x2304 .f32) (b : FVec Ideal S1024x2304 .bf16) (x : FVec Ideal S1024x1024 .f32)
    (r s : Fin 1024) : k0_pay2 (F := Ideal) a b x (ix2 r s) = x (ix2 r s) + tile a b r s := by
  rw [← pay1_eq]; pointwise [k0_pay2]

variable (m : (ℓ : Loc nD τ sig) → Buf (Elt Ideal) ℓ) (c : Dev nD)

/-- What a grid point adds to its output block. -/
def add (t : Fin cfg0.N) (r s : Fin 1024) : EReal := tile (iblk m c 0 t) (iblk m c 1 t) r s

/-- The first of a block's two tiles sets the block to the tile's product. -/
theorem first (t : Fin cfg0.N) (h0 : t.val % 2 = 0) (r s : Fin 1024) :
    outsAt0 m c t.val t.isLt (ix2 r s) = 0 + add m c t r s := by
  rw [outsAt0_A m c t h0 (by omega)]; frame_out
  rw [pay1_eq, zero_add]; rfl

/-- The other adds its own. -/
theorem step (t : Fin cfg0.N) (h0 : ¬ t.val % 2 = 0) (r s : Fin 1024) :
    outsAt0 m c t.val t.isLt (ix2 r s)
      = outsAt0 m c (t.val - 1) (Nat.lt_of_le_of_lt (Nat.sub_le _ _) t.isLt) (ix2 r s) + add m c t r s := by
  rw [outsAt0_B m c t h0 (by omega)]; frame_out
  rw [pay2_eq]; rfl

/-- There are 32 grid points. -/
theorem pt_lt (t : Fin cfg0.N) : t.val < 32 := lt_of_lt_of_eq t.isLt N_0

/-- Which block of the first operand a grid point reads. -/
theorem idx0 : ∀ t : Fin cfg0.N, win0_0.index t = ![t.val / 4, t.val % 2] := (by decide +kernel : ∀ t : Fin grid0.N, _)
/-- Which block of the second operand a grid point reads. -/
theorem idx1 : ∀ t : Fin cfg0.N, win0_1.index t = ![t.val / 2 % 2, t.val % 2] := (by decide +kernel : ∀ t : Fin grid0.N, _)
/-- Which block of the output a grid point works on. -/
theorem idx2 : ∀ t : Fin cfg0.N, win0_2.index t = ![t.val / 4, t.val / 2 % 2] := (by decide +kernel : ∀ t : Fin grid0.N, _)

/-- The array's row, column and summation index of a block's. -/
def row (t : Fin cfg0.N) (r : Fin 1024) : Fin 8192 := ⟨t.val / 4 * 1024 + r.val, by have := pt_lt t; omega⟩
/-- The array's column of a block's. -/
def col (t : Fin cfg0.N) (s : Fin 1024) : Fin 2048 := ⟨t.val / 2 % 2 * 1024 + s.val, by omega⟩
/-- The summation index of a block's. -/
def con (t : Fin cfg0.N) (k : Fin 2304) : Fin 4608 := ⟨t.val % 2 * 2304 + k.val, by omega⟩

/-- The gradient of the output, and the rounded weight the launch is given. -/
abbrev Act : Vec Ideal S8192x4608 .f32 := m ((c : Thread nD τ).loc main_arg2)
/-- The weight. -/
abbrev Aw : Vec Ideal S2048x4608 .f32 := m ((c : Thread nD τ).loc main_arg1)

/-- A block of the first operand's array, read at an entry. -/
theorem blk0_of (A : Vec Ideal S8192x4608 .f32) (t : Fin cfg0.N) (r : Fin 1024) (k : Fin 2304) :
    ((cfg0.win 0).blk t).view.read (Elt Ideal) A (ix2 r k) = A (ix2 (row t r) (con t k)) := by
  blk_ext [idx0 t, row, con]
/-- The same of the array the launch is given. -/
theorem blk0 (t : Fin cfg0.N) (r : Fin 1024) (k : Fin 2304) :
    iblk m c 0 t (ix2 r k) = Act m c (ix2 (row t r) (con t k)) :=
  (congrFun (congrArg (((cfg0.win 0).blk t).view.read (Elt Ideal)) (V_main_arg2 m c)) _).trans (blk0_of _ t r k)

/-- The host rounds the weight, which the ideal reading does not see. -/
theorem w_eq (i : S2048x4608.Idx) : V m c main_v0 i = Aw m c i := by
  unfold V; after_reads_at

/-- A block of the second operand's array, read at an entry. -/
theorem blk1_of (A : Vec Ideal S2048x4608 .bf16) (t : Fin cfg0.N) (s : Fin 1024) (k : Fin 2304) :
    ((cfg0.win 1).blk t).view.read (Elt Ideal) A (ix2 s k) = A (ix2 (col t s) (con t k)) := by
  blk_ext [idx1 t, col, con]
/-- The same of the array the launch is given. -/
theorem blk1 (t : Fin cfg0.N) (s : Fin 1024) (k : Fin 2304) :
    iblk m c 1 t (ix2 s k) = Aw m c (ix2 (col t s) (con t k)) :=
  (blk1_of (V m c main_v0) t s k).trans (w_eq m c _)

/-- The gradient: the output's gradient times the weight, summed over the columns. -/
def grad (ct : Vec Ideal S8192x4608 .f32) (w : Vec Ideal S2048x4608 .f32) : Vec Ideal S8192x2048 .f32 := fun j =>
  ∑ f : Fin 4608, ct (ix2 (j 0) f) * w (ix2 (j 1) f)

/-- What a grid point adds, by the whole arrays' entries. -/
theorem add_at (t : Fin cfg0.N) (r s : Fin 1024) :
    add m c t r s = ∑ k : Fin 2304, Act m c (ix2 (row t r) (con t k)) * Aw m c (ix2 (col t s) (con t k)) := by
  simp only [add, tile, blk0 m c t, blk1 m c t]

/-- After the last tile the block holds the whole sum. -/
theorem sum (t : Fin cfg0.N) (ht : t.val % 2 = 1) (r s : Fin 1024) :
    outsAt0 m c t.val t.isLt (ix2 r s) = grad (Act m c) (Aw m c) (ix2 (row t r) (col t s)) := by
  refine Tiles.sum_of_two (fun n h (i : Fin 1024 × Fin 1024) => outsAt0 m c n h (ix2 i.1 i.2)) (fun t i => add m c t i.1 i.2)
    (fun t h i => first m c t h i.1 i.2) (fun t h i => step m c t h i.1 i.2)
    (fun t i f => Act m c (ix2 (row t i.1) f) * Aw m c (ix2 (col t i.2) f)) (fun t i => add_at m c t i.1 i.2)
    (fun t t' h => ?_) t ht (r, s)
  have e0 : row t = row t' := funext fun r => Fin.ext (by simp only [row]; omega)
  have e1 : col t = col t' := funext fun s => Fin.ext (by simp only [col]; omega)
  rw [e0, e1]

/-- A block of an array of the output's shape, read at an entry. -/
theorem blk2_of (A : Vec Ideal S8192x2048 .f32) (t : Fin cfg0.N) (r s : Fin 1024) :
    ((cfg0.win 2).blk t).view.read (Elt Ideal) A (ix2 r s) = A (ix2 (row t r) (col t s)) := by
  blk_ext [idx2 t, row, col]

/-- The array after the run. -/
theorem final : (dats m 0 c).arrAt 2 cfg0.N = grad (Act m c) (Aw m c) := by
  refine (dats m 0 c).arrAt_eq_of_covers 2 _ (by decide +kernel) fun t hf y => ?_
  rw [after0_2]
  obtain ⟨r, s, rfl⟩ : ∃ (r s : Fin 1024), y = ix2 r s := ⟨y 0, y 1, eq_ix2 y⟩
  exact (sum m c t ((flush0_2 t).mp hf) r s).trans (blk2_of _ t r s).symm

/-- The reference's derivative is the same array. -/
theorem ref_eq (w : Vec Ideal S2048x4608 .f32) (ct : Vec Ideal S8192x4608 .f32) :
    Cert.RefSmallDaIdeal.Read.val_main_v3 (F := Ideal) w ct = grad ct w := by
  funext i
  rw [Cert.RefSmallDaIdeal.Read.val_main_v3_apply, grad]
  exact Finset.sum_congr rfl fun k _ => congrArg₂ (· * ·) (congrArg ct (eq_ix2 _)) (congrArg w (eq_ix2 _))

/-- The reference runs, keeps its arguments and leaves every semaphore at zero (it has none). -/
theorem frame_ref : Cert.quiescent_RefSmallDaIdeal := fun m ρ _ =>
  (θ_run Cert.RefSmallDaIdeal.defs _ _).mono
    (fun r h => ⟨fun c => (h c).2, sem_eq_zero_of_no_sems rfl r.2⟩) (Cert.RefSmallDaIdeal.Value.run m ρ)

/-- The call's array is the reference's gradient. -/
theorem values : Cert.algebraic_SmallDaIdeal_RefSmallDaIdeal := by
  intro m g m' g' _ hm
  refine ⟨fun c => grad (Act m c) (Aw m c), ?_, ?_⟩
  · exact (θ_run Cert.SmallDaIdeal.defs _ _).mono (fun r h c => ⟨(h c).1.trans (final m c), (h c).2⟩)
      (Cert.SmallDaIdeal.Value.run_blocks m g)
  · refine (θ_run Cert.RefSmallDaIdeal.defs _ _).mono (fun r h c => ⟨(h c).1.trans ?_, (h c).2⟩)
      (Cert.RefSmallDaIdeal.Value.run m' g')
    obtain ⟨e0, e1, e2⟩ := hm c
    rw [Cert.RefSmallDaIdeal.Read.val_main_v3_eq, e1, e2]
    exact ref_eq _ _

end Cert.SmallDaVal

end
-- ==== Proof.SmallDbVal.lean ====
/-
  The product's gradient in its right factor, with the remaining columns of w_in: the call adds up four tiles of
  2048 rows, and its array ends up holding `∑ i, h i d * ct i f`, which is what the derivative of `h @ w` is.
-/
module

public import proofs.«01_k».proof.Proof.Tiles
public import proofs.«01_k».proof.Proof.Gen.SmallDbIdeal.Value
public import proofs.«01_k».proof.Proof.Gen.RefSmallDbIdeal.Read
public import proofs.«01_k».proof.Defs
public import proofs.«01_k».proof.Proof.Gen.SmallDbIdeal
public import proofs.«01_k».proof.Proof.Gen.RefSmallDbIdeal
public import proofs.«01_k».proof.Proof.Gen.RefSmallDbIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.SmallDbVal

open Cert.SmallDbIdeal Cert.SmallDbIdeal.Gen Idealize.ShloMosaic Idealize.ShloMosaic.TcCoe Idealize.SL.Sem

/-- The product of two blocks, the first transposed, at an entry. -/
def tile (a : FVec Ideal S2048x1024 .f32) (b : FVec Ideal S2048x768 .f32) (r : Fin 1024) (s : Fin 768) : EReal :=
  ∑ k : Fin 2048, a (ix2 k r) * b (ix2 k s)

/-- The body's product is that one. -/
theorem pay1_eq (a : FVec Ideal S2048x1024 .f32) (b : FVec Ideal S2048x768 .f32) (r : Fin 1024) (s : Fin 768) :
    k0_pay1 (F := Ideal) a b (ix2 r s) = tile a b r s := by
  pointwise [k0_pay1, tile]

/-- The later tiles add their product to what the block held. -/
theorem pay2_eq (a : FVec Ideal S2048x1024 .f32) (b : FVec Ideal S2048x768 .f32) (x : FVec Ideal S1024x768 .f32)
    (r : Fin 1024) (s : Fin 768) : k0_pay2 (F := Ideal) a b x (ix2 r s) = x (ix2 r s) + tile a b r s := by
  rw [← pay1_eq]; pointwise [k0_pay2]

variable (m : (ℓ : Loc nD τ sig) → Buf (Elt Ideal) ℓ) (c : Dev nD)

/-- What a grid point adds to its output block. -/
def add (t : Fin cfg0.N) (r : Fin 1024) (s : Fin 768) : EReal := tile (iblk m c 0 t) (iblk m c 1 t) r s

/-- The first of a block's four tiles sets the block to the tile's product. -/
theorem first (t : Fin cfg0.N) (h0 : t.val % 4 = 0) (r : Fin 1024) (s : Fin 768) :
    outsAt0 m c t.val t.isLt (ix2 r s) = 0 + add m c t r s := by
  rw [outsAt0_A m c t h0 (by omega)]; frame_out
  rw [pay1_eq, zero_add]; rfl

/-- The other three add theirs. -/
theorem step (t : Fin cfg0.N) (h0 : ¬ t.val % 4 = 0) (r : Fin 1024) (s : Fin 768) :
    outsAt0 m c t.val t.isLt (ix2 r s)
      = outsAt0 m c (t.val - 1) (Nat.lt_of_le_of_lt (Nat.sub_le _ _) t.isLt) (ix2 r s) + add m c t r s := by
  rw [outsAt0_B m c t h0 (by omega)]; frame_out
  rw [pay2_eq]; rfl

/-- There are 48 grid points. -/
theorem pt_lt (t : Fin cfg0.N) : t.val < 48 := lt_of_lt_of_eq t.isLt N_0

/-- Which block of the first operand a grid point reads. -/
theorem idx0 : ∀ t : Fin cfg0.N, win0_0.index t = ![t.val % 4, t.val / 24] := (by decide +kernel : ∀ t : Fin grid0.N, _)
/-- Which block of the second operand a grid point reads. -/
theorem idx1 : ∀ t : Fin cfg0.N, win0_1.index t = ![t.val % 4, t.val / 4 % 6] := (by decide +kernel : ∀ t : Fin grid0.N, _)
/-- Which block of the output a grid point works on. -/
theorem idx2 : ∀ t : Fin cfg0.N, win0_2.index t = ![t.val / 24, t.val / 4 % 6] := (by decide +kernel : ∀ t : Fin grid0.N, _)

/-- The array's row, column and summation index of a block's. -/
def row (t : Fin cfg0.N) (r : Fin 1024) : Fin 2048 := ⟨t.val / 24 * 1024 + r.val, by have := pt_lt t; omega⟩
/-- The array's column of a block's. -/
def col (t : Fin cfg0.N) (s : Fin 768) : Fin 4608 := ⟨t.val / 4 % 6 * 768 + s.val, by omega⟩
/-- The summation index of a block's. -/
def con (t : Fin cfg0.N) (k : Fin 2048) : Fin 8192 := ⟨t.val % 4 * 2048 + k.val, by omega⟩

/-- The left factor and the gradient of the output. -/
abbrev Ah : Vec Ideal S8192x2048 .f32 := m ((c : Thread nD τ).loc main_arg0)
/-- The gradient of the output. -/
abbrev Act : Vec Ideal S8192x4608 .f32 := m ((c : Thread nD τ).loc main_arg2)

/-- A block of the first operand's array, read at an entry. -/
theorem blk0_of (A : Vec Ideal S8192x2048 .f32) (t : Fin cfg0.N) (k : Fin 2048) (r : Fin 1024) :
    ((cfg0.win 0).blk t).view.read (Elt Ideal) A (ix2 k r) = A (ix2 (con t k) (row t r)) := by
  blk_ext [idx0 t, row, con]
/-- The same of the array the launch is given. -/
theorem blk0 (t : Fin cfg0.N) (k : Fin 2048) (r : Fin 1024) :
    iblk m c 0 t (ix2 k r) = Ah m c (ix2 (con t k) (row t r)) :=
  (congrFun (congrArg (((cfg0.win 0).blk t).view.read (Elt Ideal)) (V_main_arg0 m c)) _).trans (blk0_of _ t k r)

/-- A block of the second operand's array, read at an entry. -/
theorem blk1_of (A : Vec Ideal S8192x4608 .f32) (t : Fin cfg0.N) (k : Fin 2048) (s : Fin 768) :
    ((cfg0.win 1).blk t).view.read (Elt Ideal) A (ix2 k s) = A (ix2 (con t k) (col t s)) := by
  blk_ext [idx1 t, col, con]
/-- The same of the array the launch is given. -/
theorem blk1 (t : Fin cfg0.N) (k : Fin 2048) (s : Fin 768) :
    iblk m c 1 t (ix2 k s) = Act m c (ix2 (con t k) (col t s)) :=
  (congrFun (congrArg (((cfg0.win 1).blk t).view.read (Elt Ideal)) (V_main_arg2 m c)) _).trans (blk1_of _ t k s)

/-- The gradient: the output's gradient times the left factor, summed over the rows. -/
def grad (h : Vec Ideal S8192x2048 .f32) (ct : Vec Ideal S8192x4608 .f32) : Vec Ideal S2048x4608 .f32 := fun j =>
  ∑ i : Fin 8192, h (ix2 i (j 0)) * ct (ix2 i (j 1))

/-- What a grid point adds, by the whole arrays' entries. -/
theorem add_at (t : Fin cfg0.N) (r : Fin 1024) (s : Fin 768) :
    add m c t r s = ∑ k : Fin 2048, Ah m c (ix2 (con t k) (row t r)) * Act m c (ix2 (con t k) (col t s)) := by
  simp only [add, tile, blk0 m c t, blk1 m c t]

/-- After the last tile the block holds the whole sum. -/
theorem sum (t : Fin cfg0.N) (ht : t.val % 4 = 3) (r : Fin 1024) (s : Fin 768) :
    outsAt0 m c t.val t.isLt (ix2 r s) = grad (Ah m c) (Act m c) (ix2 (row t r) (col t s)) := by
  refine Tiles.sum_of_four (fun n h (i : Fin 1024 × Fin 768) => outsAt0 m c n h (ix2 i.1 i.2)) (fun t i => add m c t i.1 i.2)
    (fun t h i => first m c t h i.1 i.2) (fun t h i => step m c t h i.1 i.2)
    (fun t i f => Ah m c (ix2 f (row t i.1)) * Act m c (ix2 f (col t i.2))) (fun t i => add_at m c t i.1 i.2)
    (fun t t' h => ?_) t ht (r, s)
  have e0 : row t = row t' := funext fun r => Fin.ext (by simp only [row]; omega)
  have e1 : col t = col t' := funext fun s => Fin.ext (by simp only [col]; omega)
  rw [e0, e1]

/-- A block of an array of the output's shape, read at an entry. -/
theorem blk2_of (A : Vec Ideal S2048x4608 .f32) (t : Fin cfg0.N) (r : Fin 1024) (s : Fin 768) :
    ((cfg0.win 2).blk t).view.read (Elt Ideal) A (ix2 r s) = A (ix2 (row t r) (col t s)) := by
  blk_ext [idx2 t, row, col]

/-- The array after the run. -/
theorem final : (dats m 0 c).arrAt 2 cfg0.N = grad (Ah m c) (Act m c) := by
  refine (dats m 0 c).arrAt_eq_of_covers 2 _ (by decide +kernel) fun t hf y => ?_
  rw [after0_2]
  obtain ⟨r, s, rfl⟩ : ∃ (r : Fin 1024) (s : Fin 768), y = ix2 r s := ⟨y 0, y 1, eq_ix2 y⟩
  exact (sum m c t ((flush0_2 t).mp hf) r s).trans (blk2_of _ t r s).symm

/-- The reference's derivative is the same array. -/
theorem ref_eq (h : Vec Ideal S8192x2048 .f32) (ct : Vec Ideal S8192x4608 .f32) :
    Cert.RefSmallDbIdeal.Read.val_main_v2 (F := Ideal) h ct = grad h ct := by
  funext i
  rw [Cert.RefSmallDbIdeal.Read.val_main_v2_apply, Cert.RefSmallDbIdeal.Read.val_main_v1_apply, grad]
  exact Finset.sum_congr rfl fun k _ =>
    (mul_comm _ _).trans (congrArg₂ (· * ·) (congrArg h (eq_ix2 _)) (congrArg ct (eq_ix2 _)))

/-- The reference runs, keeps its arguments and leaves every semaphore at zero (it has none). -/
theorem frame_ref : Cert.quiescent_RefSmallDbIdeal := fun m ρ _ =>
  (θ_run Cert.RefSmallDbIdeal.defs _ _).mono
    (fun r h => ⟨fun c => (h c).2, sem_eq_zero_of_no_sems rfl r.2⟩) (Cert.RefSmallDbIdeal.Value.run m ρ)

/-- The call's array is the reference's gradient. -/
theorem values : Cert.algebraic_SmallDbIdeal_RefSmallDbIdeal := by
  intro m g m' g' _ hm
  refine ⟨fun c => grad (Ah m c) (Act m c), ?_, ?_⟩
  · exact (θ_run Cert.SmallDbIdeal.defs _ _).mono (fun r h c => ⟨(h c).1.trans (final m c), (h c).2⟩)
      (Cert.SmallDbIdeal.Value.run_blocks m g)
  · refine (θ_run Cert.RefSmallDbIdeal.defs _ _).mono (fun r h c => ⟨(h c).1.trans ?_, (h c).2⟩)
      (Cert.RefSmallDbIdeal.Value.run m' g')
    obtain ⟨e0, e1, e2⟩ := hm c
    rw [Cert.RefSmallDbIdeal.Read.val_main_v2_eq, e0, e2]
    exact ref_eq _ _

end Cert.SmallDbVal

end
-- ==== Proof.MergeFwdVal.lean ====
/-
  The product by w_out, [8192, 2048] @ [2048, 2048]: each grid point computes one block over the whole of the summed
  axis, and the call's array ends up holding `∑ d, h i d * w d f`, which is what the reference's `h @ w` is.
-/
module

public import proofs.«01_k».proof.Proof.Gen.MergeFwdIdeal.Value
public import proofs.«01_k».proof.Proof.Gen.RefMergeFwdIdeal.Read
public import proofs.«01_k».proof.Defs
public import proofs.«01_k».proof.Proof.Gen.MergeFwdIdeal
public import proofs.«01_k».proof.Proof.Gen.RefMergeFwdIdeal
public import proofs.«01_k».proof.Proof.Gen.RefMergeFwdIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.MergeFwdVal

open Cert.MergeFwdIdeal Cert.MergeFwdIdeal.Gen Idealize.ShloMosaic Idealize.ShloMosaic.TcCoe Idealize.SL.Sem

/-- The product of two blocks at an entry. -/
theorem pay1_eq (a : FVec Ideal S1024x2048 .f32) (b : FVec Ideal S2048x1024 .bf16) (r s : Fin 1024) :
    k0_pay1 (F := Ideal) a b (ix2 r s) = ∑ k : Fin 2048, a (ix2 r k) * b (ix2 k s) := by
  pointwise [k0_pay1]

/-- What a grid point leaves in its output block, of any two input blocks. -/
theorem out_eq (a : FVec Ideal S1024x2048 .f32) (b : FVec Ideal S2048x1024 .bf16) (r s : Fin 1024) :
    out0_2 (F := Ideal) a b (ix2 r s) = ∑ k : Fin 2048, a (ix2 r k) * b (ix2 k s) := by
  rw [show out0_2 (F := Ideal) a b = k0_pay1 (F := Ideal) a b by unfold out0_2; frame_out]
  exact pay1_eq a b r s

variable (m : (ℓ : Loc nD τ sig) → Buf (Elt Ideal) ℓ) (c : Dev nD)

/-- There are 16 grid points. -/
theorem pt_lt (t : Fin cfg0.N) : t.val < 16 := lt_of_lt_of_eq t.isLt N_0

/-- Which block of the first operand a grid point reads. -/
theorem idx0 : ∀ t : Fin cfg0.N, win0_0.index t = ![t.val / 2, 0] := (by decide +kernel : ∀ t : Fin grid0.N, _)
/-- Which block of the second operand a grid point reads. -/
theorem idx1 : ∀ t : Fin cfg0.N, win0_1.index t = ![0, t.val % 2] := (by decide +kernel : ∀ t : Fin grid0.N, _)
/-- Which block of the output a grid point works on. -/
theorem idx2 : ∀ t : Fin cfg0.N, win0_2.index t = ![t.val / 2, t.val % 2] := (by decide +kernel : ∀ t : Fin grid0.N, _)

/-- The array's row and column of a block's. -/
def row (t : Fin cfg0.N) (r : Fin 1024) : Fin 8192 := ⟨t.val / 2 * 1024 + r.val, by have := pt_lt t; omega⟩
/-- The array's column of a block's. -/
def col (t : Fin cfg0.N) (s : Fin 1024) : Fin 2048 := ⟨t.val % 2 * 1024 + s.val, by omega⟩

/-- The left factor and the weight. -/
abbrev Ah : Vec Ideal S8192x2048 .f32 := m ((c : Thread nD τ).loc main_arg0)
/-- The weight. -/
abbrev Aw : Vec Ideal S2048x2048 .f32 := m ((c : Thread nD τ).loc main_arg1)

/-- A block of the first operand's array, read at an entry. -/
theorem blk0_of (A : Vec Ideal S8192x2048 .f32) (t : Fin cfg0.N) (r : Fin 1024) (k : Fin 2048) :
    ((cfg0.win 0).blk t).view.read (Elt Ideal) A (ix2 r k) = A (ix2 (row t r) k) := by
  blk_ext [idx0 t, row]
/-- The same of the array the launch is given. -/
theorem blk0 (t : Fin cfg0.N) (r : Fin 1024) (k : Fin 2048) : iblk m c 0 t (ix2 r k) = Ah m c (ix2 (row t r) k) :=
  (congrFun (congrArg (((cfg0.win 0).blk t).view.read (Elt Ideal)) (V_main_arg0 m c)) _).trans (blk0_of _ t r k)

/-- The host rounds the weight, which the ideal reading does not see. -/
theorem w_eq (i : S2048x2048.Idx) : V m c main_v0 i = Aw m c i := by
  unfold V; after_reads_at

/-- A block of the second operand's array, read at an entry. -/
theorem blk1_of (A : Vec Ideal S2048x2048 .bf16) (t : Fin cfg0.N) (k : Fin 2048) (s : Fin 1024) :
    ((cfg0.win 1).blk t).view.read (Elt Ideal) A (ix2 k s) = A (ix2 k (col t s)) := by
  blk_ext [idx1 t, col]
/-- The same of the array the launch is given. -/
theorem blk1 (t : Fin cfg0.N) (k : Fin 2048) (s : Fin 1024) : iblk m c 1 t (ix2 k s) = Aw m c (ix2 k (col t s)) :=
  (blk1_of (V m c main_v0) t k s).trans (w_eq m c _)

/-- The product. -/
def prod (h : Vec Ideal S8192x2048 .f32) (w : Vec Ideal S2048x2048 .f32) : Vec Ideal S8192x2048 .f32 := fun j =>
  ∑ d : Fin 2048, h (ix2 (j 0) d) * w (ix2 d (j 1))

/-- A block of an array of the output's shape, read at an entry. -/
theorem blk2_of (A : Vec Ideal S8192x2048 .f32) (t : Fin cfg0.N) (r s : Fin 1024) :
    ((cfg0.win 2).blk t).view.read (Elt Ideal) A (ix2 r s) = A (ix2 (row t r) (col t s)) := by
  blk_ext [idx2 t, row, col]

/-- A grid point's block of the output. -/
theorem out_at (t : Fin cfg0.N) :
    out0_2 (F := Ideal) (iblk m c 0 t) (iblk m c 1 t)
      = fun y => prod (Ah m c) (Aw m c) (ix2 (row t (y 0)) (col t (y 1))) := by
  funext y
  obtain ⟨r, s, rfl⟩ : ∃ (r s : Fin 1024), y = ix2 r s := ⟨y 0, y 1, eq_ix2 y⟩
  refine (out_eq (iblk m c 0 t) (iblk m c 1 t) r s).trans ?_
  exact Finset.sum_congr rfl fun k _ => congrArg₂ (· * ·) (blk0 m c t r k) (blk1 m c t k s)

/-- The array after the run. -/
theorem final : (dats m 0 c).arrAt 2 cfg0.N = prod (Ah m c) (Aw m c) := by
  refine (dats m 0 c).arrAt_eq_of_covers 2 _ (by decide +kernel) fun t hf y => ?_
  rw [after0_2, out_at m c t]
  obtain ⟨r, s, rfl⟩ : ∃ (r s : Fin 1024), y = ix2 r s := ⟨y 0, y 1, eq_ix2 y⟩
  exact (blk2_of (prod (Ah m c) (Aw m c)) t r s).symm

/-- The reference's product is the same array. -/
theorem ref_eq (h : Vec Ideal S8192x2048 .f32) (w : Vec Ideal S2048x2048 .f32) :
    Cert.RefMergeFwdIdeal.Read.val_main_v0 (F := Ideal) h w = prod h w := by
  funext i
  rw [Cert.RefMergeFwdIdeal.Read.val_main_v0_apply, prod]
  exact Finset.sum_congr rfl fun k _ => congrArg₂ (· * ·) (congrArg h (eq_ix2 _)) (congrArg w (eq_ix2 _))

/-- The reference runs, keeps its arguments and leaves every semaphore at zero (it has none). -/
theorem frame_ref : Cert.quiescent_RefMergeFwdIdeal := fun m ρ _ =>
  (θ_run Cert.RefMergeFwdIdeal.defs _ _).mono
    (fun r h => ⟨fun c => (h c).2, sem_eq_zero_of_no_sems rfl r.2⟩) (Cert.RefMergeFwdIdeal.Value.run m ρ)

/-- The call's array is the reference's product. -/
theorem values : Cert.algebraic_MergeFwdIdeal_RefMergeFwdIdeal := by
  intro m g m' g' _ hm
  refine ⟨fun c => prod (Ah m c) (Aw m c), ?_, ?_⟩
  · exact (θ_run Cert.MergeFwdIdeal.defs _ _).mono (fun r h c => ⟨(h c).1.trans (final m c), (h c).2⟩)
      (Cert.MergeFwdIdeal.Value.run_blocks m g)
  · refine (θ_run Cert.RefMergeFwdIdeal.defs _ _).mono (fun r h c => ⟨(h c).1.trans ?_, (h c).2⟩)
      (Cert.RefMergeFwdIdeal.Value.run m' g')
    obtain ⟨e0, e1⟩ := hm c
    rw [Cert.RefMergeFwdIdeal.Read.val_main_v0_eq, e0, e1]
    exact ref_eq _ _

end Cert.MergeFwdVal

end
-- ==== Proof.MergeDaVal.lean ====
/-
  The gradient in the left factor of the product by w_out: each grid point computes one block over the whole of the
  summed axis, and the call's array ends up holding `∑ d, ct i d * w f d`, which is what the derivative of `h @ w` is.
-/
module

public import proofs.«01_k».proof.Proof.Gen.MergeDaIdeal.Value
public import proofs.«01_k».proof.Proof.Gen.RefMergeDaIdeal.Read
public import proofs.«01_k».proof.Defs
public import proofs.«01_k».proof.Proof.Gen.MergeDaIdeal
public import proofs.«01_k».proof.Proof.Gen.RefMergeDaIdeal
public import proofs.«01_k».proof.Proof.Gen.RefMergeDaIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.MergeDaVal

open Cert.MergeDaIdeal Cert.MergeDaIdeal.Gen Idealize.ShloMosaic Idealize.ShloMosaic.TcCoe Idealize.SL.Sem

/-- The product of two blocks, the second transposed, at an entry. -/
theorem pay1_eq (a : FVec Ideal S1024x2048 .f32) (b : FVec Ideal S1024x2048 .bf16) (r s : Fin 1024) :
    k0_pay1 (F := Ideal) a b (ix2 r s) = ∑ k : Fin 2048, a (ix2 r k) * b (ix2 s k) := by
  pointwise [k0_pay1]

/-- What a grid point leaves in its output block, of any two input blocks. -/
theorem out_eq (a : FVec Ideal S1024x2048 .f32) (b : FVec Ideal S1024x2048 .bf16) (r s : Fin 1024) :
    out0_2 (F := Ideal) a b (ix2 r s) = ∑ k : Fin 2048, a (ix2 r k) * b (ix2 s k) := by
  rw [show out0_2 (F := Ideal) a b = k0_pay1 (F := Ideal) a b by unfold out0_2; frame_out]
  exact pay1_eq a b r s

variable (m : (ℓ : Loc nD τ sig) → Buf (Elt Ideal) ℓ) (c : Dev nD)

/-- There are 16 grid points. -/
theorem pt_lt (t : Fin cfg0.N) : t.val < 16 := lt_of_lt_of_eq t.isLt N_0

/-- Which block of the first operand a grid point reads. -/
theorem idx0 : ∀ t : Fin cfg0.N, win0_0.index t = ![t.val / 2, 0] := (by decide +kernel : ∀ t : Fin grid0.N, _)
/-- Which block of the second operand a grid point reads. -/
theorem idx1 : ∀ t : Fin cfg0.N, win0_1.index t = ![t.val % 2, 0] := (by decide +kernel : ∀ t : Fin grid0.N, _)
/-- Which block of the output a grid point works on. -/
theorem idx2 : ∀ t : Fin cfg0.N, win0_2.index t = ![t.val / 2, t.val % 2] := (by decide +kernel : ∀ t : Fin grid0.N, _)

/-- The array's row and column of a block's. -/
def row (t : Fin cfg0.N) (r : Fin 1024) : Fin 8192 := ⟨t.val / 2 * 1024 + r.val, by have := pt_lt t; omega⟩
/-- The array's column of a block's. -/
def col (t : Fin cfg0.N) (s : Fin 1024) : Fin 2048 := ⟨t.val % 2 * 1024 + s.val, by omega⟩

/-- The gradient of the output, and the weight. -/
abbrev Act : Vec Ideal S8192x2048 .f32 := m ((c : Thread nD τ).loc main_arg2)
/-- The weight. -/
abbrev Aw : Vec Ideal S2048x2048 .f32 := m ((c : Thread nD τ).loc main_arg1)

/-- A block of the first operand's array, read at an entry. -/
theorem blk0_of (A : Vec Ideal S8192x2048 .f32) (t : Fin cfg0.N) (r : Fin 1024) (k : Fin 2048) :
    ((cfg0.win 0).blk t).view.read (Elt Ideal) A (ix2 r k) = A (ix2 (row t r) k) := by
  blk_ext [idx0 t, row]
/-- The same of the array the launch is given. -/
theorem blk0 (t : Fin cfg0.N) (r : Fin 1024) (k : Fin 2048) : iblk m c 0 t (ix2 r k) = Act m c (ix2 (row t r) k) :=
  (congrFun (congrArg (((cfg0.win 0).blk t).view.read (Elt Ideal)) (V_main_arg2 m c)) _).trans (blk0_of _ t r k)

/-- The host rounds the weight, which the ideal reading does not see. -/
theorem w_eq (i : S2048x2048.Idx) : V m c main_v0 i = Aw m c i := by
  unfold V; after_reads_at

/-- A block of the second operand's array, read at an entry. -/
theorem blk1_of (A : Vec Ideal S2048x2048 .bf16) (t : Fin cfg0.N) (s : Fin 1024) (k : Fin 2048) :
    ((cfg0.win 1).blk t).view.read (Elt Ideal) A (ix2 s k) = A (ix2 (col t s) k) := by
  blk_ext [idx1 t, col]
/-- The same of the array the launch is given. -/
theorem blk1 (t : Fin cfg0.N) (s : Fin 1024) (k : Fin 2048) : iblk m c 1 t (ix2 s k) = Aw m c (ix2 (col t s) k) :=
  (blk1_of (V m c main_v0) t s k).trans (w_eq m c _)

/-- The gradient: the output's gradient times the weight, summed over the columns. -/
def grad (ct : Vec Ideal S8192x2048 .f32) (w : Vec Ideal S2048x2048 .f32) : Vec Ideal S8192x2048 .f32 := fun j =>
  ∑ d : Fin 2048, ct (ix2 (j 0) d) * w (ix2 (j 1) d)

/-- A block of an array of the output's shape, read at an entry. -/
theorem blk2_of (A : Vec Ideal S8192x2048 .f32) (t : Fin cfg0.N) (r s : Fin 1024) :
    ((cfg0.win 2).blk t).view.read (Elt Ideal) A (ix2 r s) = A (ix2 (row t r) (col t s)) := by
  blk_ext [idx2 t, row, col]

/-- A grid point's block of the output. -/
theorem out_at (t : Fin cfg0.N) :
    out0_2 (F := Ideal) (iblk m c 0 t) (iblk m c 1 t)
      = fun y => grad (Act m c) (Aw m c) (ix2 (row t (y 0)) (col t (y 1))) := by
  funext y
  obtain ⟨r, s, rfl⟩ : ∃ (r s : Fin 1024), y = ix2 r s := ⟨y 0, y 1, eq_ix2 y⟩
  refine (out_eq (iblk m c 0 t) (iblk m c 1 t) r s).trans ?_
  exact Finset.sum_congr rfl fun k _ => congrArg₂ (· * ·) (blk0 m c t r k) (blk1 m c t s k)

/-- The array after the run. -/
theorem final : (dats m 0 c).arrAt 2 cfg0.N = grad (Act m c) (Aw m c) := by
  refine (dats m 0 c).arrAt_eq_of_covers 2 _ (by decide +kernel) fun t hf y => ?_
  rw [after0_2, out_at m c t]
  obtain ⟨r, s, rfl⟩ : ∃ (r s : Fin 1024), y = ix2 r s := ⟨y 0, y 1, eq_ix2 y⟩
  exact (blk2_of (grad (Act m c) (Aw m c)) t r s).symm

/-- The reference's derivative is the same array. -/
theorem ref_eq (w : Vec Ideal S2048x2048 .f32) (ct : Vec Ideal S8192x2048 .f32) :
    Cert.RefMergeDaIdeal.Read.val_main_v3 (F := Ideal) w ct = grad ct w := by
  funext i
  rw [Cert.RefMergeDaIdeal.Read.val_main_v3_apply, grad]
  exact Finset.sum_congr rfl fun k _ => congrArg₂ (· * ·) (congrArg ct (eq_ix2 _)) (congrArg w (eq_ix2 _))

/-- The reference runs, keeps its arguments and leaves every semaphore at zero (it has none). -/
theorem frame_ref : Cert.quiescent_RefMergeDaIdeal := fun m ρ _ =>
  (θ_run Cert.RefMergeDaIdeal.defs _ _).mono
    (fun r h => ⟨fun c => (h c).2, sem_eq_zero_of_no_sems rfl r.2⟩) (Cert.RefMergeDaIdeal.Value.run m ρ)

/-- The call's array is the reference's gradient. -/
theorem values : Cert.algebraic_MergeDaIdeal_RefMergeDaIdeal := by
  intro m g m' g' _ hm
  refine ⟨fun c => grad (Act m c) (Aw m c), ?_, ?_⟩
  · exact (θ_run Cert.MergeDaIdeal.defs _ _).mono (fun r h c => ⟨(h c).1.trans (final m c), (h c).2⟩)
      (Cert.MergeDaIdeal.Value.run_blocks m g)
  · refine (θ_run Cert.RefMergeDaIdeal.defs _ _).mono (fun r h c => ⟨(h c).1.trans ?_, (h c).2⟩)
      (Cert.RefMergeDaIdeal.Value.run m' g')
    obtain ⟨e0, e1, e2⟩ := hm c
    rw [Cert.RefMergeDaIdeal.Read.val_main_v3_eq, e1, e2]
    exact ref_eq _ _

end Cert.MergeDaVal

end
-- ==== Proof.MergeDbVal.lean ====
/-
  The gradient in the right factor of the product by w_out: the call adds up four tiles of 2048 rows, and its array ends
  up holding `∑ i, h i d * ct i f`, which is what the derivative of `h @ w` is.
-/
module

public import proofs.«01_k».proof.Proof.Tiles
public import proofs.«01_k».proof.Proof.Gen.MergeDbIdeal.Value
public import proofs.«01_k».proof.Proof.Gen.RefMergeDbIdeal.Read
public import proofs.«01_k».proof.Defs
public import proofs.«01_k».proof.Proof.Gen.MergeDbIdeal
public import proofs.«01_k».proof.Proof.Gen.RefMergeDbIdeal
public import proofs.«01_k».proof.Proof.Gen.RefMergeDbIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.MergeDbVal

open Cert.MergeDbIdeal Cert.MergeDbIdeal.Gen Idealize.ShloMosaic Idealize.ShloMosaic.TcCoe Idealize.SL.Sem

/-- The product of two blocks, the first transposed, at an entry. -/
def tile (a : FVec Ideal S2048x1024 .f32) (b : FVec Ideal S2048x1024 .f32) (r s : Fin 1024) : EReal :=
  ∑ k : Fin 2048, a (ix2 k r) * b (ix2 k s)

/-- The body's product is that one. -/
theorem pay1_eq (a : FVec Ideal S2048x1024 .f32) (b : FVec Ideal S2048x1024 .f32) (r s : Fin 1024) :
    k0_pay1 (F := Ideal) a b (ix2 r s) = tile a b r s := by
  pointwise [k0_pay1, tile]

/-- The later tiles add their product to what the block held. -/
theorem pay2_eq (a : FVec Ideal S2048x1024 .f32) (b : FVec Ideal S2048x1024 .f32) (x : FVec Ideal S1024x1024 .f32)
    (r s : Fin 1024) : k0_pay2 (F := Ideal) a b x (ix2 r s) = x (ix2 r s) + tile a b r s := by
  rw [← pay1_eq]; pointwise [k0_pay2]

variable (m : (ℓ : Loc nD τ sig) → Buf (Elt Ideal) ℓ) (c : Dev nD)

/-- What a grid point adds to its output block. -/
def add (t : Fin cfg0.N) (r s : Fin 1024) : EReal := tile (iblk m c 0 t) (iblk m c 1 t) r s

/-- The first of a block's four tiles sets the block to the tile's product. -/
theorem first (t : Fin cfg0.N) (h0 : t.val % 4 = 0) (r s : Fin 1024) :
    outsAt0 m c t.val t.isLt (ix2 r s) = 0 + add m c t r s := by
  rw [outsAt0_A m c t h0 (by omega)]; frame_out
  rw [pay1_eq, zero_add]; rfl

/-- The other three add theirs. -/
theorem step (t : Fin cfg0.N) (h0 : ¬ t.val % 4 = 0) (r s : Fin 1024) :
    outsAt0 m c t.val t.isLt (ix2 r s)
      = outsAt0 m c (t.val - 1) (Nat.lt_of_le_of_lt (Nat.sub_le _ _) t.isLt) (ix2 r s) + add m c t r s := by
  rw [outsAt0_B m c t h0 (by omega)]; frame_out
  rw [pay2_eq]; rfl

/-- There are 16 grid points. -/
theorem pt_lt (t : Fin cfg0.N) : t.val < 16 := lt_of_lt_of_eq t.isLt N_0

/-- Which block of the first operand a grid point reads. -/
theorem idx0 : ∀ t : Fin cfg0.N, win0_0.index t = ![t.val % 4, t.val / 8] := (by decide +kernel : ∀ t : Fin grid0.N, _)
/-- Which block of the second operand a grid point reads. -/
theorem idx1 : ∀ t : Fin cfg0.N, win0_1.index t = ![t.val % 4, t.val / 4 % 2] := (by decide +kernel : ∀ t : Fin grid0.N, _)
/-- Which block of the output a grid point works on. -/
theorem idx2 : ∀ t : Fin cfg0.N, win0_2.index t = ![t.val / 8, t.val / 4 % 2] := (by decide +kernel : ∀ t : Fin grid0.N, _)

/-- The array's row, column and summation index of a block's. -/
def row (t : Fin cfg0.N) (r : Fin 1024) : Fin 2048 := ⟨t.val / 8 * 1024 + r.val, by have := pt_lt t; omega⟩
/-- The array's column of a block's. -/
def col (t : Fin cfg0.N) (s : Fin 1024) : Fin 2048 := ⟨t.val / 4 % 2 * 1024 + s.val, by omega⟩
/-- The summation index of a block's. -/
def con (t : Fin cfg0.N) (k : Fin 2048) : Fin 8192 := ⟨t.val % 4 * 2048 + k.val, by omega⟩

/-- The left factor and the gradient of the output. -/
abbrev Ah : Vec Ideal S8192x2048 .f32 := m ((c : Thread nD τ).loc main_arg0)
/-- The gradient of the output. -/
abbrev Act : Vec Ideal S8192x2048 .f32 := m ((c : Thread nD τ).loc main_arg2)

/-- A block of the first operand's array, read at an entry. -/
theorem blk0_of (A : Vec Ideal S8192x2048 .f32) (t : Fin cfg0.N) (k : Fin 2048) (r : Fin 1024) :
    ((cfg0.win 0).blk t).view.read (Elt Ideal) A (ix2 k r) = A (ix2 (con t k) (row t r)) := by
  blk_ext [idx0 t, row, con]
/-- The same of the array the launch is given. -/
theorem blk0 (t : Fin cfg0.N) (k : Fin 2048) (r : Fin 1024) :
    iblk m c 0 t (ix2 k r) = Ah m c (ix2 (con t k) (row t r)) :=
  (congrFun (congrArg (((cfg0.win 0).blk t).view.read (Elt Ideal)) (V_main_arg0 m c)) _).trans (blk0_of _ t k r)

/-- A block of the second operand's array, read at an entry. -/
theorem blk1_of (A : Vec Ideal S8192x2048 .f32) (t : Fin cfg0.N) (k : Fin 2048) (s : Fin 1024) :
    ((cfg0.win 1).blk t).view.read (Elt Ideal) A (ix2 k s) = A (ix2 (con t k) (col t s)) := by
  blk_ext [idx1 t, col, con]
/-- The same of the array the launch is given. -/
theorem blk1 (t : Fin cfg0.N) (k : Fin 2048) (s : Fin 1024) :
    iblk m c 1 t (ix2 k s) = Act m c (ix2 (con t k) (col t s)) :=
  (congrFun (congrArg (((cfg0.win 1).blk t).view.read (Elt Ideal)) (V_main_arg2 m c)) _).trans (blk1_of _ t k s)

/-- The gradient: the output's gradient times the left factor, summed over the rows. -/
def grad (h : Vec Ideal S8192x2048 .f32) (ct : Vec Ideal S8192x2048 .f32) : Vec Ideal S2048x2048 .f32 := fun j =>
  ∑ i : Fin 8192, h (ix2 i (j 0)) * ct (ix2 i (j 1))

/-- What a grid point adds, by the whole arrays' entries. -/
theorem add_at (t : Fin cfg0.N) (r s : Fin 1024) :
    add m c t r s = ∑ k : Fin 2048, Ah m c (ix2 (con t k) (row t r)) * Act m c (ix2 (con t k) (col t s)) := by
  simp only [add, tile, blk0 m c t, blk1 m c t]

/-- After the last tile the block holds the whole sum. -/
theorem sum (t : Fin cfg0.N) (ht : t.val % 4 = 3) (r s : Fin 1024) :
    outsAt0 m c t.val t.isLt (ix2 r s) = grad (Ah m c) (Act m c) (ix2 (row t r) (col t s)) := by
  refine Tiles.sum_of_four (fun n h (i : Fin 1024 × Fin 1024) => outsAt0 m c n h (ix2 i.1 i.2)) (fun t i => add m c t i.1 i.2)
    (fun t h i => first m c t h i.1 i.2) (fun t h i => step m c t h i.1 i.2)
    (fun t i f => Ah m c (ix2 f (row t i.1)) * Act m c (ix2 f (col t i.2))) (fun t i => add_at m c t i.1 i.2)
    (fun t t' h => ?_) t ht (r, s)
  have e0 : row t = row t' := funext fun r => Fin.ext (by simp only [row]; omega)
  have e1 : col t = col t' := funext fun s => Fin.ext (by simp only [col]; omega)
  rw [e0, e1]

/-- A block of an array of the output's shape, read at an entry. -/
theorem blk2_of (A : Vec Ideal S2048x2048 .f32) (t : Fin cfg0.N) (r s : Fin 1024) :
    ((cfg0.win 2).blk t).view.read (Elt Ideal) A (ix2 r s) = A (ix2 (row t r) (col t s)) := by
  blk_ext [idx2 t, row, col]

/-- The array after the run. -/
theorem final : (dats m 0 c).arrAt 2 cfg0.N = grad (Ah m c) (Act m c) := by
  refine (dats m 0 c).arrAt_eq_of_covers 2 _ (by decide +kernel) fun t hf y => ?_
  rw [after0_2]
  obtain ⟨r, s, rfl⟩ : ∃ (r s : Fin 1024), y = ix2 r s := ⟨y 0, y 1, eq_ix2 y⟩
  exact (sum m c t ((flush0_2 t).mp hf) r s).trans (blk2_of _ t r s).symm

/-- The reference's derivative is the same array. -/
theorem ref_eq (h : Vec Ideal S8192x2048 .f32) (ct : Vec Ideal S8192x2048 .f32) :
    Cert.RefMergeDbIdeal.Read.val_main_v2 (F := Ideal) h ct = grad h ct := by
  funext i
  rw [Cert.RefMergeDbIdeal.Read.val_main_v2_apply, Cert.RefMergeDbIdeal.Read.val_main_v1_apply, grad]
  exact Finset.sum_congr rfl fun k _ =>
    (mul_comm _ _).trans (congrArg₂ (· * ·) (congrArg h (eq_ix2 _)) (congrArg ct (eq_ix2 _)))

/-- The reference runs, keeps its arguments and leaves every semaphore at zero (it has none). -/
theorem frame_ref : Cert.quiescent_RefMergeDbIdeal := fun m ρ _ =>
  (θ_run Cert.RefMergeDbIdeal.defs _ _).mono
    (fun r h => ⟨fun c => (h c).2, sem_eq_zero_of_no_sems rfl r.2⟩) (Cert.RefMergeDbIdeal.Value.run m ρ)

/-- The call's array is the reference's gradient. -/
theorem values : Cert.algebraic_MergeDbIdeal_RefMergeDbIdeal := by
  intro m g m' g' _ hm
  refine ⟨fun c => grad (Ah m c) (Act m c), ?_, ?_⟩
  · exact (θ_run Cert.MergeDbIdeal.defs _ _).mono (fun r h c => ⟨(h c).1.trans (final m c), (h c).2⟩)
      (Cert.MergeDbIdeal.Value.run_blocks m g)
  · refine (θ_run Cert.RefMergeDbIdeal.defs _ _).mono (fun r h c => ⟨(h c).1.trans ?_, (h c).2⟩)
      (Cert.RefMergeDbIdeal.Value.run m' g')
    obtain ⟨e0, e1, e2⟩ := hm c
    rw [Cert.RefMergeDbIdeal.Read.val_main_v2_eq, e0, e2]
    exact ref_eq _ _

end Cert.MergeDbVal

end
-- ==== Proof.BranchFwdVal.lean ====
/-
  The product by one branch's w_branch, [8192, 512] @ [512, 2048]: each grid point computes one block over the whole of
  the summed axis, and the call's array ends up holding `∑ d, h i d * w d f`, which is what the reference's `h @ w` is.
-/
module

public import proofs.«01_k».proof.Proof.Gen.BranchFwdIdeal.Value
public import proofs.«01_k».proof.Proof.Gen.RefBranchFwdIdeal.Read
public import proofs.«01_k».proof.Defs
public import proofs.«01_k».proof.Proof.Gen.BranchFwdIdeal
public import proofs.«01_k».proof.Proof.Gen.RefBranchFwdIdeal
public import proofs.«01_k».proof.Proof.Gen.RefBranchFwdIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.BranchFwdVal

open Cert.BranchFwdIdeal Cert.BranchFwdIdeal.Gen Idealize.ShloMosaic Idealize.ShloMosaic.TcCoe Idealize.SL.Sem

/-- The product of two blocks at an entry. -/
theorem pay1_eq (a : FVec Ideal S1024x512 .f32) (b : FVec Ideal S512x1024 .bf16) (r s : Fin 1024) :
    k0_pay1 (F := Ideal) a b (ix2 r s) = ∑ k : Fin 512, a (ix2 r k) * b (ix2 k s) := by
  pointwise [k0_pay1]

/-- What a grid point leaves in its output block, of any two input blocks. -/
theorem out_eq (a : FVec Ideal S1024x512 .f32) (b : FVec Ideal S512x1024 .bf16) (r s : Fin 1024) :
    out0_2 (F := Ideal) a b (ix2 r s) = ∑ k : Fin 512, a (ix2 r k) * b (ix2 k s) := by
  rw [show out0_2 (F := Ideal) a b = k0_pay1 (F := Ideal) a b by unfold out0_2; frame_out]
  exact pay1_eq a b r s

variable (m : (ℓ : Loc nD τ sig) → Buf (Elt Ideal) ℓ) (c : Dev nD)

/-- There are 16 grid points. -/
theorem pt_lt (t : Fin cfg0.N) : t.val < 16 := lt_of_lt_of_eq t.isLt N_0

/-- Which block of the first operand a grid point reads. -/
theorem idx0 : ∀ t : Fin cfg0.N, win0_0.index t = ![t.val / 2, 0] := (by decide +kernel : ∀ t : Fin grid0.N, _)
/-- Which block of the second operand a grid point reads. -/
theorem idx1 : ∀ t : Fin cfg0.N, win0_1.index t = ![0, t.val % 2] := (by decide +kernel : ∀ t : Fin grid0.N, _)
/-- Which block of the output a grid point works on. -/
theorem idx2 : ∀ t : Fin cfg0.N, win0_2.index t = ![t.val / 2, t.val % 2] := (by decide +kernel : ∀ t : Fin grid0.N, _)

/-- The array's row and column of a block's. -/
def row (t : Fin cfg0.N) (r : Fin 1024) : Fin 8192 := ⟨t.val / 2 * 1024 + r.val, by have := pt_lt t; omega⟩
/-- The array's column of a block's. -/
def col (t : Fin cfg0.N) (s : Fin 1024) : Fin 2048 := ⟨t.val % 2 * 1024 + s.val, by omega⟩

/-- The left factor and the weight. -/
abbrev Ah : Vec Ideal S8192x512 .f32 := m ((c : Thread nD τ).loc main_arg0)
/-- The weight. -/
abbrev Aw : Vec Ideal S512x2048 .f32 := m ((c : Thread nD τ).loc main_arg1)

/-- A block of the first operand's array, read at an entry. -/
theorem blk0_of (A : Vec Ideal S8192x512 .f32) (t : Fin cfg0.N) (r : Fin 1024) (k : Fin 512) :
    ((cfg0.win 0).blk t).view.read (Elt Ideal) A (ix2 r k) = A (ix2 (row t r) k) := by
  blk_ext [idx0 t, row]
/-- The same of the array the launch is given. -/
theorem blk0 (t : Fin cfg0.N) (r : Fin 1024) (k : Fin 512) : iblk m c 0 t (ix2 r k) = Ah m c (ix2 (row t r) k) :=
  (congrFun (congrArg (((cfg0.win 0).blk t).view.read (Elt Ideal)) (V_main_arg0 m c)) _).trans (blk0_of _ t r k)

/-- The host rounds the weight, which the ideal reading does not see. -/
theorem w_eq (i : S512x2048.Idx) : V m c main_v0 i = Aw m c i := by
  unfold V; after_reads_at

/-- A block of the second operand's array, read at an entry. -/
theorem blk1_of (A : Vec Ideal S512x2048 .bf16) (t : Fin cfg0.N) (k : Fin 512) (s : Fin 1024) :
    ((cfg0.win 1).blk t).view.read (Elt Ideal) A (ix2 k s) = A (ix2 k (col t s)) := by
  blk_ext [idx1 t, col]
/-- The same of the array the launch is given. -/
theorem blk1 (t : Fin cfg0.N) (k : Fin 512) (s : Fin 1024) : iblk m c 1 t (ix2 k s) = Aw m c (ix2 k (col t s)) :=
  (blk1_of (V m c main_v0) t k s).trans (w_eq m c _)

/-- The product. -/
def prod (h : Vec Ideal S8192x512 .f32) (w : Vec Ideal S512x2048 .f32) : Vec Ideal S8192x2048 .f32 := fun j =>
  ∑ d : Fin 512, h (ix2 (j 0) d) * w (ix2 d (j 1))

/-- A block of an array of the output's shape, read at an entry. -/
theorem blk2_of (A : Vec Ideal S8192x2048 .f32) (t : Fin cfg0.N) (r s : Fin 1024) :
    ((cfg0.win 2).blk t).view.read (Elt Ideal) A (ix2 r s) = A (ix2 (row t r) (col t s)) := by
  blk_ext [idx2 t, row, col]

/-- A grid point's block of the output. -/
theorem out_at (t : Fin cfg0.N) :
    out0_2 (F := Ideal) (iblk m c 0 t) (iblk m c 1 t)
      = fun y => prod (Ah m c) (Aw m c) (ix2 (row t (y 0)) (col t (y 1))) := by
  funext y
  obtain ⟨r, s, rfl⟩ : ∃ (r s : Fin 1024), y = ix2 r s := ⟨y 0, y 1, eq_ix2 y⟩
  refine (out_eq (iblk m c 0 t) (iblk m c 1 t) r s).trans ?_
  exact Finset.sum_congr rfl fun k _ => congrArg₂ (· * ·) (blk0 m c t r k) (blk1 m c t k s)

/-- The array after the run. -/
theorem final : (dats m 0 c).arrAt 2 cfg0.N = prod (Ah m c) (Aw m c) := by
  refine (dats m 0 c).arrAt_eq_of_covers 2 _ (by decide +kernel) fun t hf y => ?_
  rw [after0_2, out_at m c t]
  obtain ⟨r, s, rfl⟩ : ∃ (r s : Fin 1024), y = ix2 r s := ⟨y 0, y 1, eq_ix2 y⟩
  exact (blk2_of (prod (Ah m c) (Aw m c)) t r s).symm

/-- The reference's product is the same array. -/
theorem ref_eq (h : Vec Ideal S8192x512 .f32) (w : Vec Ideal S512x2048 .f32) :
    Cert.RefBranchFwdIdeal.Read.val_main_v0 (F := Ideal) h w = prod h w := by
  funext i
  rw [Cert.RefBranchFwdIdeal.Read.val_main_v0_apply, prod]
  exact Finset.sum_congr rfl fun k _ => congrArg₂ (· * ·) (congrArg h (eq_ix2 _)) (congrArg w (eq_ix2 _))

/-- The reference runs, keeps its arguments and leaves every semaphore at zero (it has none). -/
theorem frame_ref : Cert.quiescent_RefBranchFwdIdeal := fun m ρ _ =>
  (θ_run Cert.RefBranchFwdIdeal.defs _ _).mono
    (fun r h => ⟨fun c => (h c).2, sem_eq_zero_of_no_sems rfl r.2⟩) (Cert.RefBranchFwdIdeal.Value.run m ρ)

/-- The call's array is the reference's product. -/
theorem values : Cert.algebraic_BranchFwdIdeal_RefBranchFwdIdeal := by
  intro m g m' g' _ hm
  refine ⟨fun c => prod (Ah m c) (Aw m c), ?_, ?_⟩
  · exact (θ_run Cert.BranchFwdIdeal.defs _ _).mono (fun r h c => ⟨(h c).1.trans (final m c), (h c).2⟩)
      (Cert.BranchFwdIdeal.Value.run_blocks m g)
  · refine (θ_run Cert.RefBranchFwdIdeal.defs _ _).mono (fun r h c => ⟨(h c).1.trans ?_, (h c).2⟩)
      (Cert.RefBranchFwdIdeal.Value.run m' g')
    obtain ⟨e0, e1⟩ := hm c
    rw [Cert.RefBranchFwdIdeal.Read.val_main_v0_eq, e0, e1]
    exact ref_eq _ _

end Cert.BranchFwdVal

end
-- ==== Proof.BranchDaVal.lean ====
/-
  The gradient in the left factor of the product by one branch's w_branch: each grid point computes one block over the
  whole of the summed axis, and the call's array ends up holding `∑ d, ct i d * w f d`, which is what the derivative is.
-/
module

public import proofs.«01_k».proof.Proof.Gen.BranchDaIdeal.Value
public import proofs.«01_k».proof.Proof.Gen.RefBranchDaIdeal.Read
public import proofs.«01_k».proof.Defs
public import proofs.«01_k».proof.Proof.Gen.BranchDaIdeal
public import proofs.«01_k».proof.Proof.Gen.RefBranchDaIdeal
public import proofs.«01_k».proof.Proof.Gen.RefBranchDaIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.BranchDaVal

open Cert.BranchDaIdeal Cert.BranchDaIdeal.Gen Idealize.ShloMosaic Idealize.ShloMosaic.TcCoe Idealize.SL.Sem

/-- The product of two blocks, the second transposed, at an entry. -/
theorem pay1_eq (a : FVec Ideal S1024x2048 .f32) (b : FVec Ideal S512x2048 .bf16) (r : Fin 1024) (s : Fin 512) :
    k0_pay1 (F := Ideal) a b (ix2 r s) = ∑ k : Fin 2048, a (ix2 r k) * b (ix2 s k) := by
  pointwise [k0_pay1]

/-- What a grid point leaves in its output block, of any two input blocks. -/
theorem out_eq (a : FVec Ideal S1024x2048 .f32) (b : FVec Ideal S512x2048 .bf16) (r : Fin 1024) (s : Fin 512) :
    out0_2 (F := Ideal) a b (ix2 r s) = ∑ k : Fin 2048, a (ix2 r k) * b (ix2 s k) := by
  rw [show out0_2 (F := Ideal) a b = k0_pay1 (F := Ideal) a b by unfold out0_2; frame_out]
  exact pay1_eq a b r s

variable (m : (ℓ : Loc nD τ sig) → Buf (Elt Ideal) ℓ) (c : Dev nD)

/-- There are 8 grid points. -/
theorem pt_lt (t : Fin cfg0.N) : t.val < 8 := lt_of_lt_of_eq t.isLt N_0

/-- Which block of the first operand a grid point reads. -/
theorem idx0 : ∀ t : Fin cfg0.N, win0_0.index t = ![t.val, 0] := (by decide +kernel : ∀ t : Fin grid0.N, _)
/-- Which block of the second operand a grid point reads. -/
theorem idx1 : ∀ t : Fin cfg0.N, win0_1.index t = ![0, 0] := (by decide +kernel : ∀ t : Fin grid0.N, _)
/-- Which block of the output a grid point works on. -/
theorem idx2 : ∀ t : Fin cfg0.N, win0_2.index t = ![t.val, 0] := (by decide +kernel : ∀ t : Fin grid0.N, _)

/-- The array's row and column of a block's. -/
def row (t : Fin cfg0.N) (r : Fin 1024) : Fin 8192 := ⟨t.val * 1024 + r.val, by have := pt_lt t; omega⟩
/-- The array's column of a block's. -/
def col (_ : Fin cfg0.N) (s : Fin 512) : Fin 512 := s

/-- The gradient of the output, and the weight. -/
abbrev Act : Vec Ideal S8192x2048 .f32 := m ((c : Thread nD τ).loc main_arg2)
/-- The weight. -/
abbrev Aw : Vec Ideal S512x2048 .f32 := m ((c : Thread nD τ).loc main_arg1)

/-- A block of the first operand's array, read at an entry. -/
theorem blk0_of (A : Vec Ideal S8192x2048 .f32) (t : Fin cfg0.N) (r : Fin 1024) (k : Fin 2048) :
    ((cfg0.win 0).blk t).view.read (Elt Ideal) A (ix2 r k) = A (ix2 (row t r) k) := by
  blk_ext [idx0 t, row]
/-- The same of the array the launch is given. -/
theorem blk0 (t : Fin cfg0.N) (r : Fin 1024) (k : Fin 2048) : iblk m c 0 t (ix2 r k) = Act m c (ix2 (row t r) k) :=
  (congrFun (congrArg (((cfg0.win 0).blk t).view.read (Elt Ideal)) (V_main_arg2 m c)) _).trans (blk0_of _ t r k)

/-- The host rounds the weight, which the ideal reading does not see. -/
theorem w_eq (i : S512x2048.Idx) : V m c main_v0 i = Aw m c i := by
  unfold V; after_reads_at

/-- A block of the second operand's array, read at an entry. -/
theorem blk1_of (A : Vec Ideal S512x2048 .bf16) (t : Fin cfg0.N) (s : Fin 512) (k : Fin 2048) :
    ((cfg0.win 1).blk t).view.read (Elt Ideal) A (ix2 s k) = A (ix2 (col t s) k) := by
  blk_ext [idx1 t, col]
/-- The same of the array the launch is given. -/
theorem blk1 (t : Fin cfg0.N) (s : Fin 512) (k : Fin 2048) : iblk m c 1 t (ix2 s k) = Aw m c (ix2 (col t s) k) :=
  (blk1_of (V m c main_v0) t s k).trans (w_eq m c _)

/-- The gradient: the output's gradient times the weight, summed over the columns. -/
def grad (ct : Vec Ideal S8192x2048 .f32) (w : Vec Ideal S512x2048 .f32) : Vec Ideal S8192x512 .f32 := fun j =>
  ∑ d : Fin 2048, ct (ix2 (j 0) d) * w (ix2 (j 1) d)

/-- A block of an array of the output's shape, read at an entry. -/
theorem blk2_of (A : Vec Ideal S8192x512 .f32) (t : Fin cfg0.N) (r : Fin 1024) (s : Fin 512) :
    ((cfg0.win 2).blk t).view.read (Elt Ideal) A (ix2 r s) = A (ix2 (row t r) (col t s)) := by
  blk_ext [idx2 t, row, col]

/-- A grid point's block of the output. -/
theorem out_at (t : Fin cfg0.N) :
    out0_2 (F := Ideal) (iblk m c 0 t) (iblk m c 1 t)
      = fun y => grad (Act m c) (Aw m c) (ix2 (row t (y 0)) (col t (y 1))) := by
  funext y
  obtain ⟨r, s, rfl⟩ : ∃ (r : Fin 1024) (s : Fin 512), y = ix2 r s := ⟨y 0, y 1, eq_ix2 y⟩
  refine (out_eq (iblk m c 0 t) (iblk m c 1 t) r s).trans ?_
  exact Finset.sum_congr rfl fun k _ => congrArg₂ (· * ·) (blk0 m c t r k) (blk1 m c t s k)

/-- The array after the run. -/
theorem final : (dats m 0 c).arrAt 2 cfg0.N = grad (Act m c) (Aw m c) := by
  refine (dats m 0 c).arrAt_eq_of_covers 2 _ (by decide +kernel) fun t hf y => ?_
  rw [after0_2, out_at m c t]
  obtain ⟨r, s, rfl⟩ : ∃ (r : Fin 1024) (s : Fin 512), y = ix2 r s := ⟨y 0, y 1, eq_ix2 y⟩
  exact (blk2_of (grad (Act m c) (Aw m c)) t r s).symm

/-- The reference's derivative is the same array. -/
theorem ref_eq (w : Vec Ideal S512x2048 .f32) (ct : Vec Ideal S8192x2048 .f32) :
    Cert.RefBranchDaIdeal.Read.val_main_v3 (F := Ideal) w ct = grad ct w := by
  funext i
  rw [Cert.RefBranchDaIdeal.Read.val_main_v3_apply, grad]
  exact Finset.sum_congr rfl fun k _ => congrArg₂ (· * ·) (congrArg ct (eq_ix2 _)) (congrArg w (eq_ix2 _))

/-- The reference runs, keeps its arguments and leaves every semaphore at zero (it has none). -/
theorem frame_ref : Cert.quiescent_RefBranchDaIdeal := fun m ρ _ =>
  (θ_run Cert.RefBranchDaIdeal.defs _ _).mono
    (fun r h => ⟨fun c => (h c).2, sem_eq_zero_of_no_sems rfl r.2⟩) (Cert.RefBranchDaIdeal.Value.run m ρ)

/-- The call's array is the reference's gradient. -/
theorem values : Cert.algebraic_BranchDaIdeal_RefBranchDaIdeal := by
  intro m g m' g' _ hm
  refine ⟨fun c => grad (Act m c) (Aw m c), ?_, ?_⟩
  · exact (θ_run Cert.BranchDaIdeal.defs _ _).mono (fun r h c => ⟨(h c).1.trans (final m c), (h c).2⟩)
      (Cert.BranchDaIdeal.Value.run_blocks m g)
  · refine (θ_run Cert.RefBranchDaIdeal.defs _ _).mono (fun r h c => ⟨(h c).1.trans ?_, (h c).2⟩)
      (Cert.RefBranchDaIdeal.Value.run m' g')
    obtain ⟨e0, e1, e2⟩ := hm c
    rw [Cert.RefBranchDaIdeal.Read.val_main_v3_eq, e1, e2]
    exact ref_eq _ _

end Cert.BranchDaVal

end
-- ==== Proof.BranchDbVal.lean ====
/-
  The gradient in the right factor of the product by one branch's w_branch: the call adds up four tiles of 2048 rows,
  and its array ends up holding `∑ i, h i d * ct i f`, which is what the derivative of `h @ w` is.
-/
module

public import proofs.«01_k».proof.Proof.Tiles
public import proofs.«01_k».proof.Proof.Gen.BranchDbIdeal.Value
public import proofs.«01_k».proof.Proof.Gen.RefBranchDbIdeal.Read
public import proofs.«01_k».proof.Defs
public import proofs.«01_k».proof.Proof.Gen.BranchDbIdeal
public import proofs.«01_k».proof.Proof.Gen.RefBranchDbIdeal
public import proofs.«01_k».proof.Proof.Gen.RefBranchDbIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.BranchDbVal

open Cert.BranchDbIdeal Cert.BranchDbIdeal.Gen Idealize.ShloMosaic Idealize.ShloMosaic.TcCoe Idealize.SL.Sem

/-- The product of two blocks, the first transposed, at an entry. -/
def tile (a : FVec Ideal S2048x512 .f32) (b : FVec Ideal S2048x1024 .f32) (r : Fin 512) (s : Fin 1024) : EReal :=
  ∑ k : Fin 2048, a (ix2 k r) * b (ix2 k s)

/-- The body's product is that one. -/
theorem pay1_eq (a : FVec Ideal S2048x512 .f32) (b : FVec Ideal S2048x1024 .f32) (r : Fin 512) (s : Fin 1024) :
    k0_pay1 (F := Ideal) a b (ix2 r s) = tile a b r s := by
  pointwise [k0_pay1, tile]

/-- The later tiles add their product to what the block held. -/
theorem pay2_eq (a : FVec Ideal S2048x512 .f32) (b : FVec Ideal S2048x1024 .f32) (x : FVec Ideal S512x1024 .f32)
    (r : Fin 512) (s : Fin 1024) : k0_pay2 (F := Ideal) a b x (ix2 r s) = x (ix2 r s) + tile a b r s := by
  rw [← pay1_eq]; pointwise [k0_pay2]

variable (m : (ℓ : Loc nD τ sig) → Buf (Elt Ideal) ℓ) (c : Dev nD)

/-- What a grid point adds to its output block. -/
def add (t : Fin cfg0.N) (r : Fin 512) (s : Fin 1024) : EReal := tile (iblk m c 0 t) (iblk m c 1 t) r s

/-- The first of a block's four tiles sets the block to the tile's product. -/
theorem first (t : Fin cfg0.N) (h0 : t.val % 4 = 0) (r : Fin 512) (s : Fin 1024) :
    outsAt0 m c t.val t.isLt (ix2 r s) = 0 + add m c t r s := by
  rw [outsAt0_A m c t h0 (by omega)]; frame_out
  rw [pay1_eq, zero_add]; rfl

/-- The other three add theirs. -/
theorem step (t : Fin cfg0.N) (h0 : ¬ t.val % 4 = 0) (r : Fin 512) (s : Fin 1024) :
    outsAt0 m c t.val t.isLt (ix2 r s)
      = outsAt0 m c (t.val - 1) (Nat.lt_of_le_of_lt (Nat.sub_le _ _) t.isLt) (ix2 r s) + add m c t r s := by
  rw [outsAt0_B m c t h0 (by omega)]; frame_out
  rw [pay2_eq]; rfl

/-- There are 8 grid points. -/
theorem pt_lt (t : Fin cfg0.N) : t.val < 8 := lt_of_lt_of_eq t.isLt N_0

/-- Which block of the first operand a grid point reads. -/
theorem idx0 : ∀ t : Fin cfg0.N, win0_0.index t = ![t.val % 4, 0] := (by decide +kernel : ∀ t : Fin grid0.N, _)
/-- Which block of the second operand a grid point reads. -/
theorem idx1 : ∀ t : Fin cfg0.N, win0_1.index t = ![t.val % 4, t.val / 4] := (by decide +kernel : ∀ t : Fin grid0.N, _)
/-- Which block of the output a grid point works on. -/
theorem idx2 : ∀ t : Fin cfg0.N, win0_2.index t = ![0, t.val / 4] := (by decide +kernel : ∀ t : Fin grid0.N, _)

/-- The array's row, column and summation index of a block's. -/
def row (_ : Fin cfg0.N) (r : Fin 512) : Fin 512 := r
/-- The array's column of a block's. -/
def col (t : Fin cfg0.N) (s : Fin 1024) : Fin 2048 := ⟨t.val / 4 * 1024 + s.val, by have := pt_lt t; omega⟩
/-- The summation index of a block's. -/
def con (t : Fin cfg0.N) (k : Fin 2048) : Fin 8192 := ⟨t.val % 4 * 2048 + k.val, by omega⟩

/-- The left factor and the gradient of the output. -/
abbrev Ah : Vec Ideal S8192x512 .f32 := m ((c : Thread nD τ).loc main_arg0)
/-- The gradient of the output. -/
abbrev Act : Vec Ideal S8192x2048 .f32 := m ((c : Thread nD τ).loc main_arg2)

/-- A block of the first operand's array, read at an entry. -/
theorem blk0_of (A : Vec Ideal S8192x512 .f32) (t : Fin cfg0.N) (k : Fin 2048) (r : Fin 512) :
    ((cfg0.win 0).blk t).view.read (Elt Ideal) A (ix2 k r) = A (ix2 (con t k) (row t r)) := by
  blk_ext [idx0 t, row, con]
/-- The same of the array the launch is given. -/
theorem blk0 (t : Fin cfg0.N) (k : Fin 2048) (r : Fin 512) :
    iblk m c 0 t (ix2 k r) = Ah m c (ix2 (con t k) (row t r)) :=
  (congrFun (congrArg (((cfg0.win 0).blk t).view.read (Elt Ideal)) (V_main_arg0 m c)) _).trans (blk0_of _ t k r)

/-- A block of the second operand's array, read at an entry. -/
theorem blk1_of (A : Vec Ideal S8192x2048 .f32) (t : Fin cfg0.N) (k : Fin 2048) (s : Fin 1024) :
    ((cfg0.win 1).blk t).view.read (Elt Ideal) A (ix2 k s) = A (ix2 (con t k) (col t s)) := by
  blk_ext [idx1 t, col, con]
/-- The same of the array the launch is given. -/
theorem blk1 (t : Fin cfg0.N) (k : Fin 2048) (s : Fin 1024) :
    iblk m c 1 t (ix2 k s) = Act m c (ix2 (con t k) (col t s)) :=
  (congrFun (congrArg (((cfg0.win 1).blk t).view.read (Elt Ideal)) (V_main_arg2 m c)) _).trans (blk1_of _ t k s)

/-- The gradient: the output's gradient times the left factor, summed over the rows. -/
def grad (h : Vec Ideal S8192x512 .f32) (ct : Vec Ideal S8192x2048 .f32) : Vec Ideal S512x2048 .f32 := fun j =>
  ∑ i : Fin 8192, h (ix2 i (j 0)) * ct (ix2 i (j 1))

/-- What a grid point adds, by the whole arrays' entries. -/
theorem add_at (t : Fin cfg0.N) (r : Fin 512) (s : Fin 1024) :
    add m c t r s = ∑ k : Fin 2048, Ah m c (ix2 (con t k) (row t r)) * Act m c (ix2 (con t k) (col t s)) := by
  simp only [add, tile, blk0 m c t, blk1 m c t]

/-- After the last tile the block holds the whole sum. -/
theorem sum (t : Fin cfg0.N) (ht : t.val % 4 = 3) (r : Fin 512) (s : Fin 1024) :
    outsAt0 m c t.val t.isLt (ix2 r s) = grad (Ah m c) (Act m c) (ix2 (row t r) (col t s)) := by
  refine Tiles.sum_of_four (fun n h (i : Fin 512 × Fin 1024) => outsAt0 m c n h (ix2 i.1 i.2)) (fun t i => add m c t i.1 i.2)
    (fun t h i => first m c t h i.1 i.2) (fun t h i => step m c t h i.1 i.2)
    (fun t i f => Ah m c (ix2 f (row t i.1)) * Act m c (ix2 f (col t i.2))) (fun t i => add_at m c t i.1 i.2)
    (fun t t' h => ?_) t ht (r, s)
  have e0 : row t = row t' := rfl
  have e1 : col t = col t' := funext fun s => Fin.ext (by simp only [col]; omega)
  rw [e0, e1]

/-- A block of an array of the output's shape, read at an entry. -/
theorem blk2_of (A : Vec Ideal S512x2048 .f32) (t : Fin cfg0.N) (r : Fin 512) (s : Fin 1024) :
    ((cfg0.win 2).blk t).view.read (Elt Ideal) A (ix2 r s) = A (ix2 (row t r) (col t s)) := by
  blk_ext [idx2 t, row, col]

/-- The array after the run. -/
theorem final : (dats m 0 c).arrAt 2 cfg0.N = grad (Ah m c) (Act m c) := by
  refine (dats m 0 c).arrAt_eq_of_covers 2 _ (by decide +kernel) fun t hf y => ?_
  rw [after0_2]
  obtain ⟨r, s, rfl⟩ : ∃ (r : Fin 512) (s : Fin 1024), y = ix2 r s := ⟨y 0, y 1, eq_ix2 y⟩
  exact (sum m c t ((flush0_2 t).mp hf) r s).trans (blk2_of _ t r s).symm

/-- The reference's derivative is the same array. -/
theorem ref_eq (h : Vec Ideal S8192x512 .f32) (ct : Vec Ideal S8192x2048 .f32) :
    Cert.RefBranchDbIdeal.Read.val_main_v2 (F := Ideal) h ct = grad h ct := by
  funext i
  rw [Cert.RefBranchDbIdeal.Read.val_main_v2_apply, Cert.RefBranchDbIdeal.Read.val_main_v1_apply, grad]
  exact Finset.sum_congr rfl fun k _ =>
    (mul_comm _ _).trans (congrArg₂ (· * ·) (congrArg h (eq_ix2 _)) (congrArg ct (eq_ix2 _)))

/-- The reference runs, keeps its arguments and leaves every semaphore at zero (it has none). -/
theorem frame_ref : Cert.quiescent_RefBranchDbIdeal := fun m ρ _ =>
  (θ_run Cert.RefBranchDbIdeal.defs _ _).mono
    (fun r h => ⟨fun c => (h c).2, sem_eq_zero_of_no_sems rfl r.2⟩) (Cert.RefBranchDbIdeal.Value.run m ρ)

/-- The call's array is the reference's gradient. -/
theorem values : Cert.algebraic_BranchDbIdeal_RefBranchDbIdeal := by
  intro m g m' g' _ hm
  refine ⟨fun c => grad (Ah m c) (Act m c), ?_, ?_⟩
  · exact (θ_run Cert.BranchDbIdeal.defs _ _).mono (fun r h c => ⟨(h c).1.trans (final m c), (h c).2⟩)
      (Cert.BranchDbIdeal.Value.run_blocks m g)
  · refine (θ_run Cert.RefBranchDbIdeal.defs _ _).mono (fun r h c => ⟨(h c).1.trans ?_, (h c).2⟩)
      (Cert.RefBranchDbIdeal.Value.run m' g')
    obtain ⟨e0, e1, e2⟩ := hm c
    rw [Cert.RefBranchDbIdeal.Read.val_main_v2_eq, e0, e2]
    exact ref_eq _ _

end Cert.BranchDbVal

end
-- ==== Proof.NormRow.lean ====
/-
  One row of the norm's gradient, on the reals: the derivative of `x * r(x)`, with `r(x)` one over the root of the mean
  square plus a small constant, written as the kernel writes it and as differentiating the reference's lines gives it.
-/
module

public import proofs.«01_k».proof.Proof.Softmax

@[expose] public section

noncomputable section

namespace Cert.NormRow

open Idealize.ShloMosaic
open Cert.Attn (IsReal coe_sum)

/-- The row's length, as the programs' float word. -/
def len : EReal := Ideal.ofBits .f32 0x45000000#32
/-- The constant added to the mean square. -/
def eps : EReal := Ideal.ofBits .f32 0x358637BD#32
/-- Minus one half. -/
def minusHalf : EReal := Ideal.ofBits .f32 0xBF000000#32

/-- The mean square plus the constant, from the sum of squares. -/
def ms (s : EReal) : EReal := Ideal.div s len + eps
/-- One over its root. -/
def rinv (s : EReal) : EReal := Ideal.rsqrt (ms s)

variable {n : ℕ}

/-- The gradient at an entry, as the kernel writes it: `x` the row, `g` the output's gradient times the gain. -/
def rowGrad (x g : Fin n → EReal) (j : Fin n) : EReal :=
  rinv (∑ k, x k * x k) * (g j - x j * rinv (∑ k, x k * x k) * Ideal.div (∑ k, g k * (x k * rinv (∑ k, x k * x k))) len)

/-- What every entry of the row gets through the mean square, per unit of `x`. -/
def through (x g : Fin n → EReal) : EReal :=
  Ideal.div ((∑ k, x k * g k) * (minusHalf * Ideal.div (rinv (∑ k, x k * x k)) (ms (∑ k, x k * x k)))) len

/-- The row's length is 2048. -/
theorem len_eq : len = ((2048 : ℝ) : EReal) := by
  simp [len, Ideal.ofBits, Ideal.ieee, ← EReal.coe_mul]; norm_num
/-- The half is a half. -/
theorem half_eq : minusHalf = ((-(1 / 2) : ℝ) : EReal) := by
  simp [minusHalf, Ideal.ofBits, Ideal.ieee, ← EReal.coe_mul]; norm_num
/-- The constant is a positive real. -/
theorem eps_pos : ∃ e : ℝ, 0 < e ∧ eps = (e : EReal) :=
  ⟨8796093 / 2 ^ 43, by norm_num, by simp [eps, Ideal.ofBits, Ideal.ieee, ← EReal.coe_mul]; norm_num⟩

/-- On the reals the two writings agree. -/
theorem rowGrad_eq (x g : Fin n → EReal) (hx : ∀ k, IsReal (x k)) (hg : ∀ k, IsReal (g k)) (j : Fin n) :
    rowGrad x g j = g j * rinv (∑ k, x k * x k) + x j * through x g + through x g * x j := by
  choose a ha using hx
  choose b hb using hg
  obtain ⟨e, he, hE⟩ := eps_pos
  obtain rfl : x = fun k => (a k : EReal) := funext ha
  obtain rfl : g = fun k => (b k : EReal) := funext hb
  have hs : ∑ k, (a k : EReal) * (a k : EReal) = ((∑ k, a k * a k : ℝ) : EReal) := by
    rw [coe_sum]; exact Finset.sum_congr rfl fun k _ => (EReal.coe_mul _ _).symm
  have hp : ∑ k, (a k : EReal) * (b k : EReal) = ((∑ k, a k * b k : ℝ) : EReal) := by
    rw [coe_sum]; exact Finset.sum_congr rfl fun k _ => (EReal.coe_mul _ _).symm
  set s : ℝ := ∑ k, a k * a k with hsd
  set p : ℝ := ∑ k, a k * b k with hpd
  have hs0 : 0 ≤ s := Finset.sum_nonneg fun k _ => mul_self_nonneg _
  have hM : 0 < s / 2048 + e := by positivity
  have hms : ms (s : EReal) = ((s / 2048 + e : ℝ) : EReal) := by
    rw [ms, len_eq, hE, Ideal.div_coe (by norm_num), ← EReal.coe_mul, ← EReal.coe_add]
    exact congrArg Real.toEReal (by ring)
  set r : ℝ := (Real.sqrt (s / 2048 + e))⁻¹ with hr
  have hinv : rinv (s : EReal) = (r : EReal) := by
    rw [rinv, hms, Ideal.rsqrt_coe, if_neg (not_lt.mpr hM.le), if_neg hM.ne']
  have hrr : r * r = (s / 2048 + e)⁻¹ := by
    rw [hr, ← mul_inv, Real.mul_self_sqrt hM.le]
  have hq : ∑ k, (b k : EReal) * ((a k : EReal) * (r : EReal)) = ((r * p : ℝ) : EReal) := by
    rw [hpd, Finset.mul_sum, coe_sum]
    refine Finset.sum_congr rfl fun k _ => ?_
    rw [← EReal.coe_mul, ← EReal.coe_mul]
    exact congrArg Real.toEReal (by ring)
  have ht : through (fun k => (a k : EReal)) (fun k => (b k : EReal)) = ((p * (-(1 / 2) * (r / (s / 2048 + e))) / 2048 : ℝ) : EReal) := by
    simp only [through, hs, hp, hinv, hms, len_eq, half_eq]
    rw [Ideal.div_coe hM.ne', ← EReal.coe_mul, ← EReal.coe_mul, ← EReal.coe_mul, Ideal.div_coe (by norm_num), ← EReal.coe_mul]
    exact congrArg Real.toEReal (by ring)
  rw [ht]
  simp only [rowGrad, hs, hinv, hq, len_eq]
  rw [Ideal.div_coe (by norm_num)]
  simp only [← EReal.coe_mul, ← EReal.coe_sub, ← EReal.coe_add]
  refine congrArg Real.toEReal ?_
  rw [div_eq_mul_inv r, ← hrr]
  ring

end Cert.NormRow

end
-- ==== Proof.NormFwdVal.lean ====
/-
  The norm: each row is multiplied by one over the root of its mean square (plus a small constant) and by the gain, as the
  reference does.
-/
module

public import proofs.«01_k».proof.Proof.NormRow
public import proofs.«01_k».proof.Proof.Gen.NormFwdIdeal.Value
public import proofs.«01_k».proof.Proof.Gen.RefNormFwdIdeal.Read
public import proofs.«01_k».proof.Defs
public import proofs.«01_k».proof.Proof.Gen.NormFwdIdeal
public import proofs.«01_k».proof.Proof.Gen.RefNormFwdIdeal
public import proofs.«01_k».proof.Proof.Gen.RefNormFwdIdeal.Run
public import Idealize.ShloMosaic.Lib.Quiescent
public import Idealize.ShloMosaic.Adequacy
public import Idealize.ShloMosaic.Init
public import Idealize.ShloMosaic.Lib.KernelVsHost
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.NormFwdVal

open Cert.NormFwdIdeal Cert.NormFwdIdeal.Gen Idealize.ShloMosaic Idealize.ShloMosaic.TcCoe Idealize.SL.Sem
open Cert.NormRow (len eps ms rinv)

/-- The body's block, at an entry. -/
theorem pay1_eq (x : FVec Ideal S256x2048 .f32) (g : FVec Ideal S1x2048 .f32) (r : Fin 256) (j : Fin 2048) :
    k0_pay1 (F := Ideal) x g (ix2 r j)
      = x (ix2 r j) * rinv (∑ k : Fin 2048, x (ix2 r k) * x (ix2 r k)) * g (ix2 0 j) := by
  pointwise [k0_pay1, rinv, ms, len, eps]

variable (m : (ℓ : Loc nD τ sig) → Buf (Elt Ideal) ℓ) (c : Dev nD)

/-- The activations as the program is given them. -/
abbrev X : Vec Ideal S8192x2048 .f32 := m ((c : Thread nD τ).loc main_arg0)
/-- The gain. -/
abbrev G : Vec Ideal S2048 .f32 := m ((c : Thread nD τ).loc main_arg1)

/-- A grid point's rows. -/
def row (t : Fin cfg0.N) (r : Fin 256) : Fin 8192 :=
  ⟨t.val * 256 + r.val, by have := lt_of_lt_of_eq t.isLt N_0; have := r.isLt; omega⟩

/-- The windows' blocks follow the grid. -/
theorem idx0 (t : Fin cfg0.N) : win0_0.index t = ![t.val, 0] :=
  (by decide +kernel : ∀ t : Fin grid0.N, win0_0.index t = ![t.val, 0]) t
/-- The gain is the same block at every point. -/
theorem idx1 (t : Fin cfg0.N) : win0_1.index t = ![0, 0] :=
  (by decide +kernel : ∀ t : Fin grid0.N, win0_1.index t = ![0, 0]) t
/-- The output's. -/
theorem idx2 (t : Fin cfg0.N) : win0_2.index t = ![t.val, 0] :=
  (by decide +kernel : ∀ t : Fin grid0.N, win0_2.index t = ![t.val, 0]) t

/-- A block of the activations, read at an entry. -/
theorem blk0_of (A : Vec Ideal S8192x2048 .f32) (t : Fin cfg0.N) (r : Fin 256) (k : Fin 2048) :
    ((cfg0.win 0).blk t).view.read (Elt Ideal) A (ix2 r k) = A (ix2 (row t r) k) := by
  blk_ext [idx0 t, row]
/-- The gain's block. -/
theorem blk1_of (A : Vec Ideal S1x2048 .f32) (t : Fin cfg0.N) (k : Fin 2048) :
    ((cfg0.win 1).blk t).view.read (Elt Ideal) A (ix2 0 k) = A (ix2 0 k) := by
  blk_ext [idx1 t]
/-- A block of the output. -/
theorem blk2_of (A : Vec Ideal S8192x2048 .f32) (t : Fin cfg0.N) (r : Fin 256) (k : Fin 2048) :
    ((cfg0.win 2).blk t).view.read (Elt Ideal) A (ix2 r k) = A (ix2 (row t r) k) := by
  blk_ext [idx2 t, row]

/-- The host gives the launch the gain as one row. -/
theorem g_eq (k : Fin 2048) : V m c main_v0 (ix2 0 k) = G m c (ix1 k) := by
  unfold V G; after_reads_at

/-- The block of the activations a grid point is given. -/
theorem blk0 (t : Fin cfg0.N) (r : Fin 256) (k : Fin 2048) : iblk m c 0 t (ix2 r k) = X m c (ix2 (row t r) k) :=
  (congrFun (congrArg (((cfg0.win 0).blk t).view.read (Elt Ideal)) (V_main_arg0 m c)) _).trans (blk0_of _ t r k)
/-- The gain it is given. -/
theorem blk1 (t : Fin cfg0.N) (k : Fin 2048) : iblk m c 1 t (ix2 0 k) = G m c (ix1 k) :=
  (blk1_of (V m c main_v0) t k).trans (g_eq m c k)

/-- The norm of a whole array. -/
def norm (x : Vec Ideal S8192x2048 .f32) (g : Vec Ideal S2048 .f32) : Vec Ideal S8192x2048 .f32 := fun j =>
  x (ix2 (j 0) (j 1)) * rinv (∑ k : Fin 2048, x (ix2 (j 0) k) * x (ix2 (j 0) k)) * g (ix1 (j 1))

/-- The array after the run. -/
theorem final : (dats m 0 c).arrAt 2 cfg0.N = norm (X m c) (G m c) := by
  refine (dats m 0 c).arrAt_eq_of_covers 2 _ (by decide +kernel) fun t hf y => ?_
  rw [after0_2, show out0_2 (F := Ideal) (iblk m c 0 t) (iblk m c 1 t) = k0_pay1 (iblk m c 0 t) (iblk m c 1 t) by
    unfold out0_2; frame_out]
  obtain ⟨r, j, rfl⟩ : ∃ (r : Fin 256) (j : Fin 2048), y = ix2 r j := ⟨y 0, y 1, eq_ix2 y⟩
  refine (pay1_eq _ _ r j).trans (Eq.trans ?_ (blk2_of (norm (X m c) (G m c)) t r j).symm)
  simp only [blk0 m c t, blk1 m c t]
  rfl

section
open Cert.RefNormFwdIdeal.Read
variable (x : Vec Ideal S8192x2048 .f32) (g : Vec Ideal S2048 .f32)

/-- The reference's reciprocal roots. -/
theorem ref7 (i : Fin 8192) :
    val_main_v7 (F := Ideal) x (ix2 i 0) = rinv (∑ k : Fin 2048, x (ix2 i k) * x (ix2 i k)) := by
  rw [val_main_v7_apply, val_main_v6_apply, val_main_v5_apply, val_main_v4_apply, val_main_v3_apply, val_main_v2_apply,
    val_main_v1_apply, val_main_cst_apply, val_main_cst_0_apply, val_main_cst_1_apply]
  show Ideal.rsqrt (Ideal.div (Ideal.ofBits .f32 0x00000000#32 + _) len + eps) = _
  rw [Ideal.ofBits_zero_f32, zero_add]
  refine congrArg rinv (Finset.sum_congr rfl fun k _ => ?_)
  have e : idx_main_v1 (idx_main_v2 (ix2 i 0)) k = ix2 i k := eq_ix2 _
  rw [e]
  rfl

/-- The reference's norm is the same array. -/
theorem ref_eq : val_main_v12 (F := Ideal) x g = norm x g := by
  funext i
  obtain ⟨r, j, rfl⟩ : ∃ (r : Fin 8192) (j : Fin 2048), i = ix2 r j := ⟨i 0, i 1, eq_ix2 i⟩
  rw [val_main_v12_apply, val_main_v11_apply, val_main_v10_apply, val_main_v9_apply, val_main_v8_apply]
  have e : idx_main_v8 (ix2 r j) = ix2 r 0 := eq_ix2 _
  have e' : idx_main_v10 (idx_main_v11 (ix2 r j)) = ix1 j := eq_ix1 _
  rw [e, e', ref7]
  rfl

end

/-- The reference runs, keeps its arguments and leaves every semaphore at zero (it has none). -/
theorem frame_ref : Cert.quiescent_RefNormFwdIdeal := fun m ρ _ =>
  (θ_run Cert.RefNormFwdIdeal.defs _ _).mono
    (fun r h => ⟨fun c => (h c).2, sem_eq_zero_of_no_sems rfl r.2⟩) (Cert.RefNormFwdIdeal.Value.run m ρ)

/-- The call's array is the reference's norm. -/
theorem values : Cert.algebraic_NormFwdIdeal_RefNormFwdIdeal := by
  intro m g m' g' _ hm
  refine ⟨fun c => norm (X m c) (G m c), ?_, ?_⟩
  · exact (θ_run Cert.NormFwdIdeal.defs _ _).mono (fun r h c => ⟨(h c).1.trans (final m c), (h c).2⟩)
      (Cert.NormFwdIdeal.Value.run_blocks m g)
  · refine (θ_run Cert.RefNormFwdIdeal.defs _ _).mono (fun r h c => ⟨(h c).1.trans ?_, (h c).2⟩)
      (Cert.RefNormFwdIdeal.Value.run m' g')
    obtain ⟨e0, e1⟩ := hm c
    rw [Cert.RefNormFwdIdeal.Read.val_main_v12_eq, e0, e1]
    exact ref_eq _ _

end Cert.NormFwdVal

end
-- ==== Proof.NormBwdVal.lean ====
/-
  The gradient of the norm in its argument: on finite arrays the call's block of rows is the derivative of the
  reference's lines, row by row.
-/
module

public import proofs.«01_k».proof.Proof.NormRow
public import proofs.«01_k».proof.Proof.Equation
public import proofs.«01_k».proof.Proof.Gen.NormBwdIdeal.Value
public import proofs.«01_k».proof.Proof.Gen.RefNormBwdIdeal.Read
public import proofs.«01_k».proof.Defs
public import proofs.«01_k».proof.Proof.Gen.NormBwdIdeal
public import proofs.«01_k».proof.Proof.Gen.RefNormBwdIdeal
public import proofs.«01_k».proof.Proof.Gen.RefNormBwdIdeal.Run
public import Idealize.ShloMosaic.Lib.Quiescent
public import Idealize.ShloMosaic.Adequacy
public import Idealize.ShloMosaic.Init
public import Idealize.ShloMosaic.Lib.KernelVsHost
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.NormBwdVal

open Cert.NormBwdIdeal Cert.NormBwdIdeal.Gen Idealize.ShloMosaic Idealize.ShloMosaic.TcCoe Idealize.SL.Sem
open Cert.NormRow (len eps ms rinv minusHalf rowGrad through rowGrad_eq)
open Cert.Attn (IsReal real_of_lt)

/-- The body's block, at an entry. -/
theorem pay4_eq (x d : FVec Ideal S256x2048 .f32) (g : FVec Ideal S1x2048 .f32) (r : Fin 256) (j : Fin 2048) :
    k0_pay4 (F := Ideal) x d g (ix2 r j)
      = rowGrad (fun k : Fin 2048 => x (ix2 r k)) (fun k => d (ix2 r k) * g (ix2 0 k)) j := by
  pointwise [k0_pay4, k0_pay3, k0_pay2, rowGrad, rinv, ms, len, eps]

variable (m : (ℓ : Loc nD τ sig) → Buf (Elt Ideal) ℓ) (c : Dev nD)

/-- The activations as the program is given them. -/
abbrev X : Vec Ideal S8192x2048 .f32 := m ((c : Thread nD τ).loc main_arg0)
/-- The gain. -/
abbrev G : Vec Ideal S2048 .f32 := m ((c : Thread nD τ).loc main_arg1)

/-- The gradient of the norm's output. -/
abbrev D : Vec Ideal S8192x2048 .f32 := m ((c : Thread nD τ).loc main_arg2)

/-- A grid point's rows. -/
def row (t : Fin cfg0.N) (r : Fin 256) : Fin 8192 :=
  ⟨t.val * 256 + r.val, by have := lt_of_lt_of_eq t.isLt N_0; have := r.isLt; omega⟩

/-- The windows' blocks follow the grid. -/
theorem idx0 (t : Fin cfg0.N) : win0_0.index t = ![t.val, 0] :=
  (by decide +kernel : ∀ t : Fin grid0.N, win0_0.index t = ![t.val, 0]) t
/-- The gain is the same block at every point. -/
theorem idx1 (t : Fin cfg0.N) : win0_1.index t = ![0, 0] :=
  (by decide +kernel : ∀ t : Fin grid0.N, win0_1.index t = ![0, 0]) t
/-- The output's gradient's. -/
theorem idx2 (t : Fin cfg0.N) : win0_2.index t = ![t.val, 0] :=
  (by decide +kernel : ∀ t : Fin grid0.N, win0_2.index t = ![t.val, 0]) t

/-- The result's. -/
theorem idx3 (t : Fin cfg0.N) : win0_3.index t = ![t.val, 0] :=
  (by decide +kernel : ∀ t : Fin grid0.N, win0_3.index t = ![t.val, 0]) t

/-- A block of the activations, read at an entry. -/
theorem blk0_of (A : Vec Ideal S8192x2048 .f32) (t : Fin cfg0.N) (r : Fin 256) (k : Fin 2048) :
    ((cfg0.win 0).blk t).view.read (Elt Ideal) A (ix2 r k) = A (ix2 (row t r) k) := by
  blk_ext [idx0 t, row]
/-- The gain's block. -/
theorem blk1_of (A : Vec Ideal S1x2048 .f32) (t : Fin cfg0.N) (k : Fin 2048) :
    ((cfg0.win 1).blk t).view.read (Elt Ideal) A (ix2 0 k) = A (ix2 0 k) := by
  blk_ext [idx1 t]
/-- A block of the output's gradient. -/
theorem blk2_of (A : Vec Ideal S8192x2048 .f32) (t : Fin cfg0.N) (r : Fin 256) (k : Fin 2048) :
    ((cfg0.win 2).blk t).view.read (Elt Ideal) A (ix2 r k) = A (ix2 (row t r) k) := by
  blk_ext [idx2 t, row]

/-- A block of the result. -/
theorem blk3_of (A : Vec Ideal S8192x2048 .f32) (t : Fin cfg0.N) (r : Fin 256) (k : Fin 2048) :
    ((cfg0.win 3).blk t).view.read (Elt Ideal) A (ix2 r k) = A (ix2 (row t r) k) := by
  blk_ext [idx3 t, row]

/-- The host gives the launch the gain as one row. -/
theorem g_eq (k : Fin 2048) : V m c main_v0 (ix2 0 k) = G m c (ix1 k) := by
  unfold V G; after_reads_at

/-- The block of the activations a grid point is given. -/
theorem blk0 (t : Fin cfg0.N) (r : Fin 256) (k : Fin 2048) : iblk m c 0 t (ix2 r k) = X m c (ix2 (row t r) k) :=
  (congrFun (congrArg (((cfg0.win 0).blk t).view.read (Elt Ideal)) (V_main_arg0 m c)) _).trans (blk0_of _ t r k)
/-- The gain it is given. -/
theorem blk1 (t : Fin cfg0.N) (k : Fin 2048) : iblk m c 1 t (ix2 0 k) = G m c (ix1 k) :=
  (blk1_of (V m c main_v0) t k).trans (g_eq m c k)

/-- The output's gradient it is given. -/
theorem blk2 (t : Fin cfg0.N) (r : Fin 256) (k : Fin 2048) : iblk m c 2 t (ix2 r k) = D m c (ix2 (row t r) k) :=
  (congrFun (congrArg (((cfg0.win 2).blk t).view.read (Elt Ideal)) (V_main_arg2 m c)) _).trans (blk2_of _ t r k)

/-- The gradient of a whole array. -/
def grad (x : Vec Ideal S8192x2048 .f32) (g : Vec Ideal S2048 .f32) (d : Vec Ideal S8192x2048 .f32) :
    Vec Ideal S8192x2048 .f32 := fun j =>
  rowGrad (fun k : Fin 2048 => x (ix2 (j 0) k)) (fun k => d (ix2 (j 0) k) * g (ix1 k)) (j 1)

/-- Both kinds of grid point, the first and the others, leave the same block of the result. -/
theorem out_at (t : Fin cfg0.N) :
    (outsAt0 m c t.val t.isLt).1 = k0_pay4 (F := Ideal) (iblk m c 0 t) (iblk m c 2 t) (iblk m c 1 t) := by
  by_cases h0 : t.val % 32 = 0
  · rw [outsAt0_A m c t h0]; frame_out
  · rw [outsAt0_B m c t h0]; frame_out

/-- The array after the run. -/
theorem final : (dats m 0 c).arrAt 3 cfg0.N = grad (X m c) (G m c) (D m c) := by
  refine (dats m 0 c).arrAt_eq_of_covers 3 _ (by decide +kernel) fun t hf y => ?_
  rw [after0_3, out_at]
  obtain ⟨r, j, rfl⟩ : ∃ (r : Fin 256) (j : Fin 2048), y = ix2 r j := ⟨y 0, y 1, eq_ix2 y⟩
  refine (pay4_eq _ _ _ r j).trans (Eq.trans ?_ (blk3_of (grad (X m c) (G m c) (D m c)) t r j).symm)
  simp only [blk0 m c t, blk1 m c t, blk2 m c t]
  rfl

section
open Cert.RefNormBwdIdeal.Read
variable (x : Vec Ideal S8192x2048 .f32) (g : Vec Ideal S2048 .f32) (d : Vec Ideal S8192x2048 .f32)

/-- The reference's mean squares, with the small constant. -/
theorem ref6 (i : Fin 8192) :
    val_main_v6 (F := Ideal) x (ix2 i 0) = ms (∑ k : Fin 2048, x (ix2 i k) * x (ix2 i k)) := by
  rw [val_main_v6_apply, val_main_v5_apply, val_main_v4_apply, val_main_v3_apply, val_main_v2_apply,
    val_main_v1_apply, val_main_cst_apply, val_main_cst_0_apply, val_main_cst_1_apply]
  show Ideal.div (Ideal.ofBits .f32 0x00000000#32 + _) len + eps = _
  rw [Ideal.ofBits_zero_f32, zero_add]
  refine congrArg ms (Finset.sum_congr rfl fun k _ => ?_)
  have e : idx_main_v1 (idx_main_v2 (ix2 i 0)) k = ix2 i k := eq_ix2 _
  rw [e]
  rfl

/-- The reference's reciprocal roots. -/
theorem ref7 (i : Fin 8192) :
    val_main_v7 (F := Ideal) x (ix2 i 0) = rinv (∑ k : Fin 2048, x (ix2 i k) * x (ix2 i k)) := by
  rw [val_main_v7_apply, ref6]; rfl

/-- The gradient times the gain. -/
theorem ref17 (i : Fin 8192) (k : Fin 2048) : val_main_v17 (F := Ideal) g d (ix2 i k) = d (ix2 i k) * g (ix1 k) := by
  rw [val_main_v17_apply, val_main_v16_apply, val_main_v13_apply]
  have e : idx_main_v13 (idx_main_v16 (ix2 i k)) = ix1 k := eq_ix1 _
  rw [e]; rfl

/-- What the reference's derivative passes through the mean square. -/
theorem ref26 (i : Fin 8192) : val_main_v26 (F := Ideal) x g d (ix1 i)
    = through (fun k : Fin 2048 => x (ix2 i k)) (fun k => d (ix2 i k) * g (ix1 k)) := by
  have e26 : ∀ k : Fin 1, idx_main_v26 (ix1 i) k = ix2 i 0 := fun k => by
    obtain rfl : k = 0 := Subsingleton.elim _ _
    exact eq_ix2 _
  have e20 : idx_main_v20 (ix2 i 0) = ix1 i := (eq_ix1 _).trans (congrArg ix1 (Fin.ext (by show i.val * 1 + 0 = i.val; omega)))
  have e19 : ∀ k : Fin 2048, idx_main_v19 (ix1 i) k = ix2 i k := fun k => eq_ix2 _
  rw [val_main_v26_apply, val_main_cst_5_apply]
  show Ideal.ofBits .f32 0x00000000#32 + _ = _
  rw [Ideal.ofBits_zero_f32, zero_add, Fin.sum_univ_one, e26, val_main_v25_apply, val_main_v24_apply, val_main_cst_4_apply,
    val_main_v23_apply, val_main_v20_apply, e20, val_main_v19_apply, val_main_cst_3_apply, val_main_v10_apply,
    val_main_v9_apply, val_main_cst_2_apply, val_main_v8_apply, ref7, ref6]
  simp only [e19, val_main_v18_apply, ref17]
  show Ideal.div ((Ideal.ofBits .f32 0x00000000#32 + _) * _) len = _
  rw [Ideal.ofBits_zero_f32, zero_add]
  rfl

/-- On finite arrays the reference's derivative is the same array. -/
theorem ref_eq (hx : ∀ j, IsReal (x j)) (hg : ∀ j, IsReal (g j)) (hd : ∀ j, IsReal (d j)) :
    val_main_v31 (F := Ideal) x g d = grad x g d := by
  funext i
  obtain ⟨r, j, rfl⟩ : ∃ (r : Fin 8192) (j : Fin 2048), i = ix2 r j := ⟨i 0, i 1, eq_ix2 i⟩
  have e21 : idx_main_v21 (ix2 r j) = ix2 r 0 := eq_ix2 _
  have e27 : idx_main_v27 (ix2 r j) = ix1 r := eq_ix1 _
  rw [val_main_v31_apply, val_main_v30_apply, val_main_v29_apply, val_main_v28_apply, val_main_v27_apply, val_main_v22_apply,
    val_main_v21_apply, e21, e27, ref26, ref7, ref17]
  exact (rowGrad_eq (fun k : Fin 2048 => x (ix2 r k)) (fun k => d (ix2 r k) * g (ix1 k)) (fun _ => hx _)
    (fun _ => (hd _).mul (hg _)) j).symm

end

/-- The precondition's two side conditions: a scalar broadcasts to any shape. -/
theorem pre_facts : Cert.Pre_finite_norm.Facts := ⟨by decide, by decide⟩

/-- `finite_norm` of the arguments says that each of their entries is a real number. -/
theorem finite_real [Cert.Pre_finite_norm.Facts] (x : Vec Ideal S8192x2048 .f32) (g : Vec Ideal S2048 .f32)
    (d : Vec Ideal S8192x2048 .f32)
    (h : (Cert.Pre_finite_norm.fn (F := Ideal) x g d).1 = (fun _ => 1#1)
      ∧ (Cert.Pre_finite_norm.fn (F := Ideal) x g d).2.1 = (fun _ => 1#1)
      ∧ (Cert.Pre_finite_norm.fn (F := Ideal) x g d).2.2 = (fun _ => 1#1)) :
    (∀ j, IsReal (x j)) ∧ (∀ j, IsReal (g j)) ∧ (∀ j, IsReal (d j)) :=
  ⟨fun j => real_of_lt _ (congrFun h.1 j), fun j => real_of_lt _ (congrFun h.2.1 j), fun j => real_of_lt _ (congrFun h.2.2 j)⟩

/-- The reference runs, keeps its arguments and leaves every semaphore at zero (it has none). -/
theorem frame_ref : Cert.quiescent_RefNormBwdIdeal := fun m ρ _ =>
  (θ_run Cert.RefNormBwdIdeal.defs _ _).mono
    (fun r h => ⟨fun c => (h c).2, sem_eq_zero_of_no_sems rfl r.2⟩) (Cert.RefNormBwdIdeal.Value.run m ρ)

/-- On finite arguments the call's gradient is the reference's. -/
theorem values [Cert.Pre_finite_norm.Facts] : Cert.algebraic_NormBwdIdeal_RefNormBwdIdeal_pre_finite_norm := by
  intro m g m' g' hpre hm
  refine ⟨fun c => grad (X m c) (G m c) (D m c), ?_, ?_⟩
  · exact (θ_run Cert.NormBwdIdeal.defs _ _).mono (fun r h c => ⟨(h c).1.trans (final m c), (h c).2.2⟩)
      (Cert.NormBwdIdeal.Value.run_blocks m g)
  · refine (θ_run Cert.RefNormBwdIdeal.defs _ _).mono (fun r h c => ⟨(h c).1.trans ?_, (h c).2⟩)
      (Cert.RefNormBwdIdeal.Value.run m' g')
    obtain ⟨e0, e1, e2⟩ := hm c
    obtain ⟨r0, r1, r2⟩ := finite_real _ _ _ (hpre c)
    rw [Cert.RefNormBwdIdeal.Read.val_main_v31_eq, e0, e1, e2]
    exact ref_eq _ _ _ r0 r1 r2

end Cert.NormBwdVal

end
-- ==== Proof.LossVal.lean ====
/-
  The loss head: each row's loss is half the mean of its squared differences from the target, and the gradient it starts
  the backward pass with is the derivative of the rows' sum.
-/
module

public import proofs.«01_k».proof.Proof.Gen.LossIdeal.Value
public import proofs.«01_k».proof.Proof.Gen.RefLossIdeal.Read
public import proofs.«01_k».proof.Defs
public import proofs.«01_k».proof.Proof.Gen.LossIdeal
public import proofs.«01_k».proof.Proof.Gen.RefLossIdeal
public import proofs.«01_k».proof.Proof.Gen.RefLossIdeal.Run
public import Idealize.ShloMosaic.Lib.Quiescent
public import Idealize.ShloMosaic.Adequacy
public import Idealize.ShloMosaic.Init
public import Idealize.ShloMosaic.Lib.KernelVsHost
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.LossVal

open Cert.LossIdeal Cert.LossIdeal.Gen Idealize.ShloMosaic Idealize.ShloMosaic.TcCoe Idealize.SL.Sem

/-- A row's loss, from the sum of its squared differences. -/
def rowLoss (s : EReal) : EReal := Ideal.ofBits .f32 0x3F000000#32 * Ideal.div s (Ideal.ofBits .f32 0x45000000#32)
/-- A squared difference. -/
def sq (y t : EReal) : EReal := (y - t) * (y - t)
/-- The gradient at an entry. -/
def slope (y t : EReal) : EReal := (y - t) * Ideal.ofBits .f32 0x3A000000#32

/-- The body's row losses, at an entry. -/
theorem pay2_eq (y t : FVec Ideal S256x2048 .f32) (r : Fin 256) (o : Fin 1) :
    k0_pay2 (F := Ideal) y t (ix2 r o) = rowLoss (∑ k : Fin 2048, sq (y (ix2 r k)) (t (ix2 r k))) := by
  pointwise [k0_pay2, k0_pay1, rowLoss, sq]

/-- The body's gradient, at an entry. -/
theorem pay3_eq (y t : FVec Ideal S256x2048 .f32) (j : S256x2048.Idx) :
    k0_pay3 (F := Ideal) y t j = slope (y j) (t j) := by
  pointwise [k0_pay3, k0_pay1, slope]

variable (m : (ℓ : Loc nD τ sig) → Buf (Elt Ideal) ℓ) (c : Dev nD)

/-- The stack's output and the target as the program is given them. -/
abbrev Y : Vec Ideal S8192x2048 .f32 := m ((c : Thread nD τ).loc main_arg0)
/-- The target. -/
abbrev T : Vec Ideal S8192x2048 .f32 := m ((c : Thread nD τ).loc main_arg1)

/-- A grid point's rows. -/
def row (t : Fin cfg0.N) (r : Fin 256) : Fin 8192 :=
  ⟨t.val * 256 + r.val, by have := lt_of_lt_of_eq t.isLt N_0; have := r.isLt; omega⟩

/-- The windows' blocks follow the grid. -/
theorem idx0 (t : Fin cfg0.N) : win0_0.index t = ![t.val, 0] :=
  (by decide +kernel : ∀ t : Fin grid0.N, win0_0.index t = ![t.val, 0]) t
/-- The target's. -/
theorem idx1 (t : Fin cfg0.N) : win0_1.index t = ![t.val, 0] :=
  (by decide +kernel : ∀ t : Fin grid0.N, win0_1.index t = ![t.val, 0]) t
/-- The row losses'. -/
theorem idx2 (t : Fin cfg0.N) : win0_2.index t = ![t.val, 0] :=
  (by decide +kernel : ∀ t : Fin grid0.N, win0_2.index t = ![t.val, 0]) t

/-- A block of the stack's output, read at an entry. -/
theorem blk0_of (A : Vec Ideal S8192x2048 .f32) (t : Fin cfg0.N) (r : Fin 256) (k : Fin 2048) :
    ((cfg0.win 0).blk t).view.read (Elt Ideal) A (ix2 r k) = A (ix2 (row t r) k) := by
  blk_ext [idx0 t, row]
/-- A block of the target. -/
theorem blk1_of (A : Vec Ideal S8192x2048 .f32) (t : Fin cfg0.N) (r : Fin 256) (k : Fin 2048) :
    ((cfg0.win 1).blk t).view.read (Elt Ideal) A (ix2 r k) = A (ix2 (row t r) k) := by
  blk_ext [idx1 t, row]
/-- A block of the row losses. -/
theorem blk2_of (A : Vec Ideal S8192x1 .f32) (t : Fin cfg0.N) (r : Fin 256) (o : Fin 1) :
    ((cfg0.win 2).blk t).view.read (Elt Ideal) A (ix2 r o) = A (ix2 (row t r) o) := by
  blk_ext [idx2 t, row]

/-- The block of the output a grid point is given. -/
theorem blk0 (t : Fin cfg0.N) (r : Fin 256) (k : Fin 2048) : iblk m c 0 t (ix2 r k) = Y m c (ix2 (row t r) k) :=
  (congrFun (congrArg (((cfg0.win 0).blk t).view.read (Elt Ideal)) (V_main_arg0 m c)) _).trans (blk0_of _ t r k)
/-- The block of the target. -/
theorem blk1 (t : Fin cfg0.N) (r : Fin 256) (k : Fin 2048) : iblk m c 1 t (ix2 r k) = T m c (ix2 (row t r) k) :=
  (congrFun (congrArg (((cfg0.win 1).blk t).view.read (Elt Ideal)) (V_main_arg1 m c)) _).trans (blk1_of _ t r k)

/-- The row losses of whole arrays. -/
def losses (y t : Vec Ideal S8192x2048 .f32) : Vec Ideal S8192x1 .f32 := fun j =>
  rowLoss (∑ k : Fin 2048, sq (y (ix2 (j 0) k)) (t (ix2 (j 0) k)))
/-- Their sum's gradient. -/
def slopes (y t : Vec Ideal S8192x2048 .f32) : Vec Ideal S8192x2048 .f32 := fun j => slope (y j) (t j)

/-- The array of row losses after the run. -/
theorem final2 : (dats m 0 c).arrAt 2 cfg0.N = losses (Y m c) (T m c) := by
  refine (dats m 0 c).arrAt_eq_of_covers 2 _ (by decide +kernel) fun t hf y => ?_
  rw [after0_2, show out0_2 (F := Ideal) (iblk m c 0 t) (iblk m c 1 t) = k0_pay2 (iblk m c 0 t) (iblk m c 1 t) by
    unfold out0_2; frame_out]
  obtain ⟨r, o, rfl⟩ : ∃ (r : Fin 256) (o : Fin 1), y = ix2 r o := ⟨y 0, y 1, eq_ix2 y⟩
  refine (pay2_eq _ _ r o).trans (Eq.trans ?_ (blk2_of (losses (Y m c) (T m c)) t r o).symm)
  exact congrArg rowLoss (Finset.sum_congr rfl fun k _ => congrArg₂ sq (blk0 m c t r k) (blk1 m c t r k))

/-- The gradient's array after the run. -/
theorem final3 : (dats m 0 c).arrAt 3 cfg0.N = slopes (Y m c) (T m c) := by
  refine (dats m 0 c).arrAt_eq_of_covers 3 _ (by decide +kernel) fun t hf y => ?_
  rw [after0_3, show out0_3 (F := Ideal) (iblk m c 0 t) (iblk m c 1 t) = k0_pay3 (iblk m c 0 t) (iblk m c 1 t) by
    unfold out0_3; frame_out]
  refine (pay3_eq _ _ y).trans (congrArg₂ slope ?_ ?_)
  · exact congrFun (congrArg (((cfg0.win 0).blk t).view.read (Elt Ideal)) (V_main_arg0 m c)) y
  · exact congrFun (congrArg (((cfg0.win 1).blk t).view.read (Elt Ideal)) (V_main_arg1 m c)) y

section
open Cert.RefLossIdeal.Read
variable (y t : Vec Ideal S8192x2048 .f32)

/-- The reference's row losses. -/
theorem ref7 : val_main_v7 (F := Ideal) y t = losses y t := by
  funext i
  rw [val_main_v7_apply, val_main_v6_apply, val_main_v5_apply, val_main_v3_apply, val_main_v2_apply, val_main_v4_apply,
    val_main_cst_apply, val_main_cst_0_apply, val_main_cst_1_apply]
  show Ideal.ofBits .f32 0x3F000000#32 * Ideal.div (Ideal.ofBits .f32 0x00000000#32 + _) (Ideal.ofBits .f32 0x45000000#32) = _
  rw [Ideal.ofBits_zero_f32, zero_add, losses, rowLoss]
  refine congrArg (fun s => _ * Ideal.div s _) (Finset.sum_congr rfl fun k _ => ?_)
  have e : idx_main_v2 (idx_main_v3 i) k = ix2 (i 0) k := eq_ix2 _
  rw [e]
  rfl

/-- Half of one, over the row's length, times two, is the kernel's one literal. -/
theorem lits : Ideal.div (Ideal.ofBits .f32 0x3F000000#32 * Ideal.ofBits .f32 0x3F800000#32) (Ideal.ofBits .f32 0x45000000#32)
    * Ideal.ofBits .f32 0x40000000#32 = Ideal.ofBits .f32 0x3A000000#32 := by
  have h1 : Ideal.ofBits .f32 0x3F000000#32 = ((1 / 2 : ℝ) : EReal) := by
    simp [Ideal.ofBits, Ideal.ieee, ← EReal.coe_mul]; norm_num
  have h2 : Ideal.ofBits .f32 0x45000000#32 = ((2048 : ℝ) : EReal) := by
    simp [Ideal.ofBits, Ideal.ieee, ← EReal.coe_mul]; norm_num
  have h3 : Ideal.ofBits .f32 0x40000000#32 = ((2 : ℝ) : EReal) := by
    simp [Ideal.ofBits, Ideal.ieee, ← EReal.coe_mul]; norm_num
  have h4 : Ideal.ofBits .f32 0x3A000000#32 = ((1 / 2048 : ℝ) : EReal) := by
    simp [Ideal.ofBits, Ideal.ieee, ← EReal.coe_mul]; norm_num
  rw [h1, h2, h3, h4, Ideal.ofBits_one_f32, mul_one, Ideal.div_coe (by norm_num), ← EReal.coe_mul]
  exact congrArg Real.toEReal (by norm_num)

/-- The reference's gradient. -/
theorem ref22 : val_main_v22 (F := Ideal) y t = slopes y t := by
  funext i
  rw [val_main_v22_apply, val_main_v21_apply, val_main_v20_apply, val_main_v19_apply, val_main_v18_apply, val_main_v17_apply,
    val_main_v11_apply, val_main_v10_apply, val_main_v8_apply, val_main_cst_2_apply, val_main_cst_7_apply,
    val_main_cst_8_apply, val_main_cst_9_apply]
  show Ideal.div (Ideal.ofBits .f32 0x3F000000#32 * Ideal.ofBits .f32 0x3F800000#32) (Ideal.ofBits .f32 0x45000000#32)
    * (Ideal.ofBits .f32 0x40000000#32 * (y i - t i)) = (y i - t i) * Ideal.ofBits .f32 0x3A000000#32
  rw [← mul_assoc, lits, mul_comm]
end

/-- The reference runs, keeps its arguments and leaves every semaphore at zero (it has none). -/
theorem frame_ref : Cert.quiescent_RefLossIdeal := fun m ρ _ =>
  (θ_run Cert.RefLossIdeal.defs _ _).mono
    (fun r h => ⟨fun c => (h c).2.2, sem_eq_zero_of_no_sems rfl r.2⟩) (Cert.RefLossIdeal.Value.run m ρ)

/-- The call's two arrays are the reference's. -/
theorem values : Cert.algebraic_LossIdeal_RefLossIdeal := by
  intro m g m' g' _ hm
  refine ⟨fun c => losses (Y m c) (T m c), fun c => slopes (Y m c) (T m c), ?_, ?_⟩
  · exact (θ_run Cert.LossIdeal.defs _ _).mono (fun r h c => ⟨(h c).1.trans (final2 m c), (h c).2.1.trans (final3 m c),
      (h c).2.2⟩) (Cert.LossIdeal.Value.run_blocks m g)
  · refine (θ_run Cert.RefLossIdeal.defs _ _).mono (fun r h c => ⟨(h c).1.trans ?_, (h c).2.1.trans ?_, (h c).2.2⟩)
      (Cert.RefLossIdeal.Value.run m' g')
    all_goals obtain ⟨e0, e1⟩ := hm c
    · rw [Cert.RefLossIdeal.Read.val_main_v7_eq, e0, e1]
      exact ref7 _ _
    · rw [Cert.RefLossIdeal.Read.val_main_v22_eq, e0, e1]
      exact ref22 _ _

end Cert.LossVal

end
-- ==== Proof.AdamStep.lean ====
/-
  One entry of the AdamW step: the new first and second moment and the weight's change, as the functions of the entry's
  weight, gradient and moments that both the call's body and reference.py's lines compute.
-/
module

public import Idealize.ShloMosaic.PureOps.Ideal
public import Idealize.ShloMosaic.PureOps.Ideal.Laws
public import Idealize.ShloMosaic.Lib.IdealHost

@[expose] public section

noncomputable section

namespace Cert.Adam

open Idealize.ShloMosaic

/-- A float literal. -/
abbrev lit (b : BitVec 32) : EReal := Ideal.ofBits .f32 b

/-- The new first moment: nine tenths of the old one and a tenth of the gradient. -/
def moment1 (g a : EReal) : EReal := lit 0x3F666666#32 * a + lit 0x3DCCCCCD#32 * g

/-- The new second moment, from the gradient's square. -/
def moment2 (g b : EReal) : EReal := lit 0x3F7FBE77#32 * b + lit 0x3A83126F#32 * (g * g)

/-- The weight's change: minus the rate times the corrected moments' quotient plus the decay. -/
def change (w g a b : EReal) : EReal :=
  lit 0xBA83126F#32 * (Ideal.div (Ideal.div (moment1 g a) (lit 0x3F26BD02#32))
      (Ideal.sqrt (Ideal.div (moment2 g b) (lit 0x3C231ACC#32)) + lit 0x322BCC77#32)
    + lit 0x3C23D70A#32 * w)

end Cert.Adam

end
-- ==== Proof.AdamSmallVal.lean ====
/-
  The AdamW step on the packed small weights: entry by entry the call computes reference.py's step.
-/
module

public import proofs.«01_k».proof.Proof.AdamStep
public import proofs.«01_k».proof.Proof.Gen.AdamSmallIdeal.Value
public import proofs.«01_k».proof.Proof.Gen.RefAdamSmallIdeal.Read
public import proofs.«01_k».proof.Defs
public import proofs.«01_k».proof.Proof.Gen.AdamSmallIdeal
public import proofs.«01_k».proof.Proof.Gen.RefAdamSmallIdeal
public import proofs.«01_k».proof.Proof.Gen.RefAdamSmallIdeal.Run
public import Idealize.ShloMosaic.Lib.Quiescent
public import Idealize.ShloMosaic.Adequacy
public import Idealize.ShloMosaic.Init

@[expose] public section

set_option maxRecDepth 16384

noncomputable section

namespace Cert.AdamSmallVal

open Cert.AdamSmallIdeal Cert.AdamSmallIdeal.Gen Idealize.ShloMosaic Idealize.ShloMosaic.TcCoe Idealize.SL.Sem

variable (w g a b : Vec Ideal S1536x1024 .f32)

/-- The step's changes, entry by entry. -/
def changes : Vec Ideal S1536x1024 .f32 := fun i => Adam.change (w i) (g i) (a i) (b i)
/-- The new first moments. -/
def moments1 : Vec Ideal S1536x1024 .f32 := fun i => Adam.moment1 (g i) (a i)
/-- The new second moments. -/
def moments2 : Vec Ideal S1536x1024 .f32 := fun i => Adam.moment2 (g i) (b i)

/-- The reference's changes. -/
theorem ref23 : Cert.RefAdamSmallIdeal.Read.val_main_v23 (F := Ideal) w g a b = changes w g a b := rfl
/-- The reference's first moments. -/
theorem ref4 : Cert.RefAdamSmallIdeal.Read.val_main_v4 (F := Ideal) g a = moments1 g a := rfl
/-- The reference's second moments. -/
theorem ref10 : Cert.RefAdamSmallIdeal.Read.val_main_v10 (F := Ideal) g b = moments2 g b := rfl

/-- The reference runs, keeps its arguments and leaves every semaphore at zero (it has none). -/
theorem frame_ref : Cert.quiescent_RefAdamSmallIdeal := fun m ρ _ =>
  (θ_run Cert.RefAdamSmallIdeal.defs _ _).mono
    (fun r h => ⟨fun c => (h c).2.2.2, sem_eq_zero_of_no_sems rfl r.2⟩) (Cert.RefAdamSmallIdeal.Value.run m ρ)

/-- The call's three arrays are the reference's. -/
theorem values : Cert.algebraic_AdamSmallIdeal_RefAdamSmallIdeal := by
  intro m g m' g' _ hm
  refine ⟨fun c => changes (m ((c : Thread nD τ).loc main_arg0)) (m ((c : Thread nD τ).loc main_arg1))
      (m ((c : Thread nD τ).loc main_arg2)) (m ((c : Thread nD τ).loc main_arg3)),
    fun c => moments1 (m ((c : Thread nD τ).loc main_arg1)) (m ((c : Thread nD τ).loc main_arg2)),
    fun c => moments2 (m ((c : Thread nD τ).loc main_arg1)) (m ((c : Thread nD τ).loc main_arg3)),
    Cert.AdamSmallIdeal.Value.run m g, ?_⟩
  refine (θ_run Cert.RefAdamSmallIdeal.defs _ _).mono (fun r h c => ⟨(h c).1.trans ?_, (h c).2.1.trans ?_, (h c).2.2.1.trans ?_,
    (h c).2.2.2⟩) (Cert.RefAdamSmallIdeal.Value.run m' g')
  all_goals obtain ⟨e0, e1, e2, e3⟩ := hm c
  · rw [Cert.RefAdamSmallIdeal.Read.val_main_v23_eq, e0, e1, e2, e3]
    exact ref23 _ _ _ _
  · rw [Cert.RefAdamSmallIdeal.Read.val_main_v4_eq, e1, e2]
    exact ref4 _ _
  · rw [Cert.RefAdamSmallIdeal.Read.val_main_v10_eq, e1, e3]
    exact ref10 _ _

end Cert.AdamSmallVal

end
-- ==== Proof.AdamInVal.lean ====
/-
  The AdamW step on the shard of w_in: entry by entry the call computes reference.py's step.
-/
module

public import proofs.«01_k».proof.Proof.AdamStep
public import proofs.«01_k».proof.Proof.Gen.AdamInIdeal.Value
public import proofs.«01_k».proof.Proof.Gen.RefAdamInIdeal.Read
public import proofs.«01_k».proof.Defs
public import proofs.«01_k».proof.Proof.Gen.AdamInIdeal
public import proofs.«01_k».proof.Proof.Gen.RefAdamInIdeal
public import proofs.«01_k».proof.Proof.Gen.RefAdamInIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.AdamInVal

open Cert.AdamInIdeal Cert.AdamInIdeal.Gen Idealize.ShloMosaic Idealize.ShloMosaic.TcCoe Idealize.SL.Sem

/-- The body's first moment, at an entry. -/
theorem pay2_eq (g a : FVec Ideal S256x1562 .f32) (y : S256x1562.Idx) : k0_pay2 (F := Ideal) g a y = Adam.moment1 (g y) (a y) := by
  pointwise [k0_pay2, k0_pay1, Adam.moment1]

/-- The body's second moment. -/
theorem pay3_eq (g b : FVec Ideal S256x1562 .f32) (y : S256x1562.Idx) : k0_pay3 (F := Ideal) g b y = Adam.moment2 (g y) (b y) := by
  pointwise [k0_pay3, k0_pay1, Adam.moment2]

/-- The body's change of the weight. -/
theorem pay4_eq (g a b w : FVec Ideal S256x1562 .f32) (y : S256x1562.Idx) :
    k0_pay4 (F := Ideal) g a b w y = Adam.change (w y) (g y) (a y) (b y) := by
  rw [Adam.change, ← pay2_eq, ← pay3_eq]
  pointwise [k0_pay4]

variable (m : (ℓ : Loc nD τ sig) → Buf (Elt Ideal) ℓ) (c : Dev nD)

/-- The weight, the gradient and the moments as the launch is given them: the argument's rows. -/
abbrev Aw : Vec Ideal S8192x1562 .f32 := V m c main_v0
/-- The gradient. -/
abbrev Ag : Vec Ideal S8192x1562 .f32 := V m c main_v1
/-- The first moment. -/
abbrev Aa : Vec Ideal S8192x1562 .f32 := V m c main_v2
/-- The second moment. -/
abbrev Ab : Vec Ideal S8192x1562 .f32 := V m c main_v3

/-- The array of changes after the run. -/
theorem final4 : (dats m 0 c).arrAt 4 cfg0.N = fun i => Adam.change (Aw m c i) (Ag m c i) (Aa m c i) (Ab m c i) := by
  refine (dats m 0 c).arrAt_eq_of_covers 4 _ (by decide +kernel) fun t hf y => ?_
  rw [after0_4, show out0_4 (F := Ideal) (iblk m c 0 t) (iblk m c 1 t) (iblk m c 2 t) (iblk m c 3 t)
    = k0_pay4 (iblk m c 1 t) (iblk m c 2 t) (iblk m c 3 t) (iblk m c 0 t) by unfold out0_4; frame_out]
  exact pay4_eq _ _ _ _ y

/-- The array of first moments. -/
theorem final5 : (dats m 0 c).arrAt 5 cfg0.N = fun i => Adam.moment1 (Ag m c i) (Aa m c i) := by
  refine (dats m 0 c).arrAt_eq_of_covers 5 _ (by decide +kernel) fun t hf y => ?_
  rw [after0_5, show out0_5 (F := Ideal) (iblk m c 0 t) (iblk m c 1 t) (iblk m c 2 t) (iblk m c 3 t)
    = k0_pay2 (iblk m c 1 t) (iblk m c 2 t) by unfold out0_5; frame_out]
  exact pay2_eq _ _ y

/-- The array of second moments. -/
theorem final6 : (dats m 0 c).arrAt 6 cfg0.N = fun i => Adam.moment2 (Ag m c i) (Ab m c i) := by
  refine (dats m 0 c).arrAt_eq_of_covers 6 _ (by decide +kernel) fun t hf y => ?_
  rw [after0_6, show out0_6 (F := Ideal) (iblk m c 0 t) (iblk m c 1 t) (iblk m c 2 t) (iblk m c 3 t)
    = k0_pay3 (iblk m c 1 t) (iblk m c 3 t) by unfold out0_6; frame_out]
  exact pay3_eq _ _ y

/-- An argument's rows, the leading axes taken together. -/
abbrev flat (x : Vec Ideal S4x2048x1562 .f32) : Vec Ideal S8192x1562 .f32 := shapeCast S8192x1562 x shapeCasts_S4x2048x1562_S8192x1562

/-- The launch's four arrays are the arguments' rows. -/
theorem Aw_eq : Aw m c = flat (m ((c : Thread nD τ).loc main_arg0)) := by
  unfold Aw V; after_results_simp; rfl
/-- The gradient's. -/
theorem Ag_eq : Ag m c = flat (m ((c : Thread nD τ).loc main_arg1)) := by
  unfold Ag V; after_results_simp; rfl
/-- The first moment's. -/
theorem Aa_eq : Aa m c = flat (m ((c : Thread nD τ).loc main_arg2)) := by
  unfold Aa V; after_results_simp; rfl
/-- The second moment's. -/
theorem Ab_eq : Ab m c = flat (m ((c : Thread nD τ).loc main_arg3)) := by
  unfold Ab V; after_results_simp; rfl

section
open Cert.RefAdamInIdeal.Read
variable (w g a b : Vec Ideal S4x2048x1562 .f32) (i : S8192x1562.Idx)

/-- The reference's first moments. -/
theorem ref25 : val_main_v25 (F := Ideal) g a i = Adam.moment1 (flat g i) (flat a i) := rfl
/-- The reference's second moments. -/
theorem ref26 : val_main_v26 (F := Ideal) g b i = Adam.moment2 (flat g i) (flat b i) := rfl
/-- The reference's changes. -/
theorem ref24 : val_main_v24 (F := Ideal) w g a b i = Adam.change (flat w i) (flat g i) (flat a i) (flat b i) := rfl
end

/-- The reference runs, keeps its arguments and leaves every semaphore at zero (it has none). -/
theorem frame_ref : Cert.quiescent_RefAdamInIdeal := fun m ρ _ =>
  (θ_run Cert.RefAdamInIdeal.defs _ _).mono
    (fun r h => ⟨fun c => (h c).2.2.2, sem_eq_zero_of_no_sems rfl r.2⟩) (Cert.RefAdamInIdeal.Value.run m ρ)

/-- The call's three arrays are the reference's. -/
theorem values : Cert.algebraic_AdamInIdeal_RefAdamInIdeal := by
  intro m g m' g' _ hm
  refine ⟨fun c i => Adam.change (Aw m c i) (Ag m c i) (Aa m c i) (Ab m c i), fun c i => Adam.moment1 (Ag m c i) (Aa m c i),
    fun c i => Adam.moment2 (Ag m c i) (Ab m c i), ?_, ?_⟩
  · exact (θ_run Cert.AdamInIdeal.defs _ _).mono (fun r h c => ⟨(h c).1.trans (final4 m c), (h c).2.1.trans (final5 m c),
      (h c).2.2.1.trans (final6 m c), (h c).2.2.2⟩) (Cert.AdamInIdeal.Value.run_blocks m g)
  · refine (θ_run Cert.RefAdamInIdeal.defs _ _).mono (fun r h c => ⟨(h c).1.trans ?_, (h c).2.1.trans ?_, (h c).2.2.1.trans ?_,
      (h c).2.2.2⟩) (Cert.RefAdamInIdeal.Value.run m' g')
    all_goals obtain ⟨e0, e1, e2, e3⟩ := hm c
    · rw [Cert.RefAdamInIdeal.Read.val_main_v24_eq, e0, e1, e2, e3]
      refine funext fun i => ?_
      show _ = Adam.change (Aw m c i) (Ag m c i) (Aa m c i) (Ab m c i)
      rw [Aw_eq, Ag_eq, Aa_eq, Ab_eq]
      exact ref24 _ _ _ _ i
    · rw [Cert.RefAdamInIdeal.Read.val_main_v25_eq, e1, e2]
      refine funext fun i => ?_
      show _ = Adam.moment1 (Ag m c i) (Aa m c i)
      rw [Ag_eq, Aa_eq]
      exact ref25 _ _ i
    · rw [Cert.RefAdamInIdeal.Read.val_main_v26_eq, e1, e3]
      refine funext fun i => ?_
      show _ = Adam.moment2 (Ag m c i) (Ab m c i)
      rw [Ag_eq, Ab_eq]
      exact ref26 _ _ i

end Cert.AdamInVal

end
-- ==== Proof.AdamMlpInVal.lean ====
/-
  The AdamW step on the shard of w_mlp_in: entry by entry the call computes reference.py's step.
-/
module

public import proofs.«01_k».proof.Proof.AdamStep
public import proofs.«01_k».proof.Proof.Gen.AdamMlpInIdeal.Value
public import proofs.«01_k».proof.Proof.Gen.RefAdamMlpInIdeal.Read
public import proofs.«01_k».proof.Defs
public import proofs.«01_k».proof.Proof.Gen.AdamMlpInIdeal
public import proofs.«01_k».proof.Proof.Gen.RefAdamMlpInIdeal
public import proofs.«01_k».proof.Proof.Gen.RefAdamMlpInIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.AdamMlpInVal

open Cert.AdamMlpInIdeal Cert.AdamMlpInIdeal.Gen Idealize.ShloMosaic Idealize.ShloMosaic.TcCoe Idealize.SL.Sem

/-- The body's first moment, at an entry. -/
theorem pay2_eq (g a : FVec Ideal S512x1024 .f32) (y : S512x1024.Idx) : k0_pay2 (F := Ideal) g a y = Adam.moment1 (g y) (a y) := by
  pointwise [k0_pay2, k0_pay1, Adam.moment1]

/-- The body's second moment. -/
theorem pay3_eq (g b : FVec Ideal S512x1024 .f32) (y : S512x1024.Idx) : k0_pay3 (F := Ideal) g b y = Adam.moment2 (g y) (b y) := by
  pointwise [k0_pay3, k0_pay1, Adam.moment2]

/-- The body's change of the weight. -/
theorem pay4_eq (g a b w : FVec Ideal S512x1024 .f32) (y : S512x1024.Idx) :
    k0_pay4 (F := Ideal) g a b w y = Adam.change (w y) (g y) (a y) (b y) := by
  rw [Adam.change, ← pay2_eq, ← pay3_eq]
  pointwise [k0_pay4]

variable (m : (ℓ : Loc nD τ sig) → Buf (Elt Ideal) ℓ) (c : Dev nD)

/-- The weight, the gradient and the moments as the launch is given them: the argument's rows. -/
abbrev Aw : Vec Ideal S8192x1024 .f32 := V m c main_v0
/-- The gradient. -/
abbrev Ag : Vec Ideal S8192x1024 .f32 := V m c main_v1
/-- The first moment. -/
abbrev Aa : Vec Ideal S8192x1024 .f32 := V m c main_v2
/-- The second moment. -/
abbrev Ab : Vec Ideal S8192x1024 .f32 := V m c main_v3

/-- The array of changes after the run. -/
theorem final4 : (dats m 0 c).arrAt 4 cfg0.N = fun i => Adam.change (Aw m c i) (Ag m c i) (Aa m c i) (Ab m c i) := by
  refine (dats m 0 c).arrAt_eq_of_covers 4 _ (by decide +kernel) fun t hf y => ?_
  rw [after0_4, show out0_4 (F := Ideal) (iblk m c 0 t) (iblk m c 1 t) (iblk m c 2 t) (iblk m c 3 t)
    = k0_pay4 (iblk m c 1 t) (iblk m c 2 t) (iblk m c 3 t) (iblk m c 0 t) by unfold out0_4; frame_out]
  exact pay4_eq _ _ _ _ y

/-- The array of first moments. -/
theorem final5 : (dats m 0 c).arrAt 5 cfg0.N = fun i => Adam.moment1 (Ag m c i) (Aa m c i) := by
  refine (dats m 0 c).arrAt_eq_of_covers 5 _ (by decide +kernel) fun t hf y => ?_
  rw [after0_5, show out0_5 (F := Ideal) (iblk m c 0 t) (iblk m c 1 t) (iblk m c 2 t) (iblk m c 3 t)
    = k0_pay2 (iblk m c 1 t) (iblk m c 2 t) by unfold out0_5; frame_out]
  exact pay2_eq _ _ y

/-- The array of second moments. -/
theorem final6 : (dats m 0 c).arrAt 6 cfg0.N = fun i => Adam.moment2 (Ag m c i) (Ab m c i) := by
  refine (dats m 0 c).arrAt_eq_of_covers 6 _ (by decide +kernel) fun t hf y => ?_
  rw [after0_6, show out0_6 (F := Ideal) (iblk m c 0 t) (iblk m c 1 t) (iblk m c 2 t) (iblk m c 3 t)
    = k0_pay3 (iblk m c 1 t) (iblk m c 3 t) by unfold out0_6; frame_out]
  exact pay3_eq _ _ y

/-- An argument's rows, the leading axes taken together. -/
abbrev flat (x : Vec Ideal S4x2048x1024 .f32) : Vec Ideal S8192x1024 .f32 := shapeCast S8192x1024 x shapeCasts_S4x2048x1024_S8192x1024

/-- The launch's four arrays are the arguments' rows. -/
theorem Aw_eq : Aw m c = flat (m ((c : Thread nD τ).loc main_arg0)) := by
  unfold Aw V; after_results_simp; rfl
/-- The gradient's. -/
theorem Ag_eq : Ag m c = flat (m ((c : Thread nD τ).loc main_arg1)) := by
  unfold Ag V; after_results_simp; rfl
/-- The first moment's. -/
theorem Aa_eq : Aa m c = flat (m ((c : Thread nD τ).loc main_arg2)) := by
  unfold Aa V; after_results_simp; rfl
/-- The second moment's. -/
theorem Ab_eq : Ab m c = flat (m ((c : Thread nD τ).loc main_arg3)) := by
  unfold Ab V; after_results_simp; rfl

section
open Cert.RefAdamMlpInIdeal.Read
variable (w g a b : Vec Ideal S4x2048x1024 .f32) (i : S8192x1024.Idx)

/-- The reference's first moments. -/
theorem ref25 : val_main_v25 (F := Ideal) g a i = Adam.moment1 (flat g i) (flat a i) := rfl
/-- The reference's second moments. -/
theorem ref26 : val_main_v26 (F := Ideal) g b i = Adam.moment2 (flat g i) (flat b i) := rfl
/-- The reference's changes. -/
theorem ref24 : val_main_v24 (F := Ideal) w g a b i = Adam.change (flat w i) (flat g i) (flat a i) (flat b i) := rfl
end

/-- The reference runs, keeps its arguments and leaves every semaphore at zero (it has none). -/
theorem frame_ref : Cert.quiescent_RefAdamMlpInIdeal := fun m ρ _ =>
  (θ_run Cert.RefAdamMlpInIdeal.defs _ _).mono
    (fun r h => ⟨fun c => (h c).2.2.2, sem_eq_zero_of_no_sems rfl r.2⟩) (Cert.RefAdamMlpInIdeal.Value.run m ρ)

/-- The call's three arrays are the reference's. -/
theorem values : Cert.algebraic_AdamMlpInIdeal_RefAdamMlpInIdeal := by
  intro m g m' g' _ hm
  refine ⟨fun c i => Adam.change (Aw m c i) (Ag m c i) (Aa m c i) (Ab m c i), fun c i => Adam.moment1 (Ag m c i) (Aa m c i),
    fun c i => Adam.moment2 (Ag m c i) (Ab m c i), ?_, ?_⟩
  · exact (θ_run Cert.AdamMlpInIdeal.defs _ _).mono (fun r h c => ⟨(h c).1.trans (final4 m c), (h c).2.1.trans (final5 m c),
      (h c).2.2.1.trans (final6 m c), (h c).2.2.2⟩) (Cert.AdamMlpInIdeal.Value.run_blocks m g)
  · refine (θ_run Cert.RefAdamMlpInIdeal.defs _ _).mono (fun r h c => ⟨(h c).1.trans ?_, (h c).2.1.trans ?_, (h c).2.2.1.trans ?_,
      (h c).2.2.2⟩) (Cert.RefAdamMlpInIdeal.Value.run m' g')
    all_goals obtain ⟨e0, e1, e2, e3⟩ := hm c
    · rw [Cert.RefAdamMlpInIdeal.Read.val_main_v24_eq, e0, e1, e2, e3]
      refine funext fun i => ?_
      show _ = Adam.change (Aw m c i) (Ag m c i) (Aa m c i) (Ab m c i)
      rw [Aw_eq, Ag_eq, Aa_eq, Ab_eq]
      exact ref24 _ _ _ _ i
    · rw [Cert.RefAdamMlpInIdeal.Read.val_main_v25_eq, e1, e2]
      refine funext fun i => ?_
      show _ = Adam.moment1 (Ag m c i) (Aa m c i)
      rw [Ag_eq, Aa_eq]
      exact ref25 _ _ i
    · rw [Cert.RefAdamMlpInIdeal.Read.val_main_v26_eq, e1, e3]
      refine funext fun i => ?_
      show _ = Adam.moment2 (Ag m c i) (Ab m c i)
      rw [Ag_eq, Ab_eq]
      exact ref26 _ _ i

end Cert.AdamMlpInVal

end
-- ==== Proof.AdamMlpOutVal.lean ====
/-
  The AdamW step on the shard of w_mlp_out: entry by entry the call computes reference.py's step.
-/
module

public import proofs.«01_k».proof.Proof.AdamStep
public import proofs.«01_k».proof.Proof.Gen.AdamMlpOutIdeal.Value
public import proofs.«01_k».proof.Proof.Gen.RefAdamMlpOutIdeal.Read
public import proofs.«01_k».proof.Defs
public import proofs.«01_k».proof.Proof.Gen.AdamMlpOutIdeal
public import proofs.«01_k».proof.Proof.Gen.RefAdamMlpOutIdeal
public import proofs.«01_k».proof.Proof.Gen.RefAdamMlpOutIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.AdamMlpOutVal

open Cert.AdamMlpOutIdeal Cert.AdamMlpOutIdeal.Gen Idealize.ShloMosaic Idealize.ShloMosaic.TcCoe Idealize.SL.Sem

/-- The body's first moment, at an entry. -/
theorem pay2_eq (g a : FVec Ideal S256x2048 .f32) (y : S256x2048.Idx) : k0_pay2 (F := Ideal) g a y = Adam.moment1 (g y) (a y) := by
  pointwise [k0_pay2, k0_pay1, Adam.moment1]

/-- The body's second moment. -/
theorem pay3_eq (g b : FVec Ideal S256x2048 .f32) (y : S256x2048.Idx) : k0_pay3 (F := Ideal) g b y = Adam.moment2 (g y) (b y) := by
  pointwise [k0_pay3, k0_pay1, Adam.moment2]

/-- The body's change of the weight. -/
theorem pay4_eq (g a b w : FVec Ideal S256x2048 .f32) (y : S256x2048.Idx) :
    k0_pay4 (F := Ideal) g a b w y = Adam.change (w y) (g y) (a y) (b y) := by
  rw [Adam.change, ← pay2_eq, ← pay3_eq]
  pointwise [k0_pay4]

variable (m : (ℓ : Loc nD τ sig) → Buf (Elt Ideal) ℓ) (c : Dev nD)

/-- The weight, the gradient and the moments as the launch is given them: the argument's rows. -/
abbrev Aw : Vec Ideal S4096x2048 .f32 := V m c main_v0
/-- The gradient. -/
abbrev Ag : Vec Ideal S4096x2048 .f32 := V m c main_v1
/-- The first moment. -/
abbrev Aa : Vec Ideal S4096x2048 .f32 := V m c main_v2
/-- The second moment. -/
abbrev Ab : Vec Ideal S4096x2048 .f32 := V m c main_v3

/-- The array of changes after the run. -/
theorem final4 : (dats m 0 c).arrAt 4 cfg0.N = fun i => Adam.change (Aw m c i) (Ag m c i) (Aa m c i) (Ab m c i) := by
  refine (dats m 0 c).arrAt_eq_of_covers 4 _ (by decide +kernel) fun t hf y => ?_
  rw [after0_4, show out0_4 (F := Ideal) (iblk m c 0 t) (iblk m c 1 t) (iblk m c 2 t) (iblk m c 3 t)
    = k0_pay4 (iblk m c 1 t) (iblk m c 2 t) (iblk m c 3 t) (iblk m c 0 t) by unfold out0_4; frame_out]
  exact pay4_eq _ _ _ _ y

/-- The array of first moments. -/
theorem final5 : (dats m 0 c).arrAt 5 cfg0.N = fun i => Adam.moment1 (Ag m c i) (Aa m c i) := by
  refine (dats m 0 c).arrAt_eq_of_covers 5 _ (by decide +kernel) fun t hf y => ?_
  rw [after0_5, show out0_5 (F := Ideal) (iblk m c 0 t) (iblk m c 1 t) (iblk m c 2 t) (iblk m c 3 t)
    = k0_pay2 (iblk m c 1 t) (iblk m c 2 t) by unfold out0_5; frame_out]
  exact pay2_eq _ _ y

/-- The array of second moments. -/
theorem final6 : (dats m 0 c).arrAt 6 cfg0.N = fun i => Adam.moment2 (Ag m c i) (Ab m c i) := by
  refine (dats m 0 c).arrAt_eq_of_covers 6 _ (by decide +kernel) fun t hf y => ?_
  rw [after0_6, show out0_6 (F := Ideal) (iblk m c 0 t) (iblk m c 1 t) (iblk m c 2 t) (iblk m c 3 t)
    = k0_pay3 (iblk m c 1 t) (iblk m c 3 t) by unfold out0_6; frame_out]
  exact pay3_eq _ _ y

/-- An argument's rows, the leading axes taken together. -/
abbrev flat (x : Vec Ideal S4x1024x2048 .f32) : Vec Ideal S4096x2048 .f32 := shapeCast S4096x2048 x shapeCasts_S4x1024x2048_S4096x2048

/-- The launch's four arrays are the arguments' rows. -/
theorem Aw_eq : Aw m c = flat (m ((c : Thread nD τ).loc main_arg0)) := by
  unfold Aw V; after_results_simp; rfl
/-- The gradient's. -/
theorem Ag_eq : Ag m c = flat (m ((c : Thread nD τ).loc main_arg1)) := by
  unfold Ag V; after_results_simp; rfl
/-- The first moment's. -/
theorem Aa_eq : Aa m c = flat (m ((c : Thread nD τ).loc main_arg2)) := by
  unfold Aa V; after_results_simp; rfl
/-- The second moment's. -/
theorem Ab_eq : Ab m c = flat (m ((c : Thread nD τ).loc main_arg3)) := by
  unfold Ab V; after_results_simp; rfl

section
open Cert.RefAdamMlpOutIdeal.Read
variable (w g a b : Vec Ideal S4x1024x2048 .f32) (i : S4096x2048.Idx)

/-- The reference's first moments. -/
theorem ref25 : val_main_v25 (F := Ideal) g a i = Adam.moment1 (flat g i) (flat a i) := rfl
/-- The reference's second moments. -/
theorem ref26 : val_main_v26 (F := Ideal) g b i = Adam.moment2 (flat g i) (flat b i) := rfl
/-- The reference's changes. -/
theorem ref24 : val_main_v24 (F := Ideal) w g a b i = Adam.change (flat w i) (flat g i) (flat a i) (flat b i) := rfl
end

/-- The reference runs, keeps its arguments and leaves every semaphore at zero (it has none). -/
theorem frame_ref : Cert.quiescent_RefAdamMlpOutIdeal := fun m ρ _ =>
  (θ_run Cert.RefAdamMlpOutIdeal.defs _ _).mono
    (fun r h => ⟨fun c => (h c).2.2.2, sem_eq_zero_of_no_sems rfl r.2⟩) (Cert.RefAdamMlpOutIdeal.Value.run m ρ)

/-- The call's three arrays are the reference's. -/
theorem values : Cert.algebraic_AdamMlpOutIdeal_RefAdamMlpOutIdeal := by
  intro m g m' g' _ hm
  refine ⟨fun c i => Adam.change (Aw m c i) (Ag m c i) (Aa m c i) (Ab m c i), fun c i => Adam.moment1 (Ag m c i) (Aa m c i),
    fun c i => Adam.moment2 (Ag m c i) (Ab m c i), ?_, ?_⟩
  · exact (θ_run Cert.AdamMlpOutIdeal.defs _ _).mono (fun r h c => ⟨(h c).1.trans (final4 m c), (h c).2.1.trans (final5 m c),
      (h c).2.2.1.trans (final6 m c), (h c).2.2.2⟩) (Cert.AdamMlpOutIdeal.Value.run_blocks m g)
  · refine (θ_run Cert.RefAdamMlpOutIdeal.defs _ _).mono (fun r h c => ⟨(h c).1.trans ?_, (h c).2.1.trans ?_, (h c).2.2.1.trans ?_,
      (h c).2.2.2⟩) (Cert.RefAdamMlpOutIdeal.Value.run m' g')
    all_goals obtain ⟨e0, e1, e2, e3⟩ := hm c
    · rw [Cert.RefAdamMlpOutIdeal.Read.val_main_v24_eq, e0, e1, e2, e3]
      refine funext fun i => ?_
      show _ = Adam.change (Aw m c i) (Ag m c i) (Aa m c i) (Ab m c i)
      rw [Aw_eq, Ag_eq, Aa_eq, Ab_eq]
      exact ref24 _ _ _ _ i
    · rw [Cert.RefAdamMlpOutIdeal.Read.val_main_v25_eq, e1, e2]
      refine funext fun i => ?_
      show _ = Adam.moment1 (Ag m c i) (Aa m c i)
      rw [Ag_eq, Aa_eq]
      exact ref25 _ _ i
    · rw [Cert.RefAdamMlpOutIdeal.Read.val_main_v26_eq, e1, e3]
      refine funext fun i => ?_
      show _ = Adam.moment2 (Ag m c i) (Ab m c i)
      rw [Ag_eq, Ab_eq]
      exact ref26 _ _ i

end Cert.AdamMlpOutVal

end
-- ==== Proof.AdamOutVal.lean ====
/-
  The AdamW step on the shard of w_out: entry by entry the call computes reference.py's step.
-/
module

public import proofs.«01_k».proof.Proof.AdamStep
public import proofs.«01_k».proof.Proof.Gen.AdamOutIdeal.Value
public import proofs.«01_k».proof.Proof.Gen.RefAdamOutIdeal.Read
public import proofs.«01_k».proof.Defs
public import proofs.«01_k».proof.Proof.Gen.AdamOutIdeal
public import proofs.«01_k».proof.Proof.Gen.RefAdamOutIdeal
public import proofs.«01_k».proof.Proof.Gen.RefAdamOutIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.AdamOutVal

open Cert.AdamOutIdeal Cert.AdamOutIdeal.Gen Idealize.ShloMosaic Idealize.ShloMosaic.TcCoe Idealize.SL.Sem

/-- The body's first moment, at an entry. -/
theorem pay2_eq (g a : FVec Ideal S256x2048 .f32) (y : S256x2048.Idx) : k0_pay2 (F := Ideal) g a y = Adam.moment1 (g y) (a y) := by
  pointwise [k0_pay2, k0_pay1, Adam.moment1]

/-- The body's second moment. -/
theorem pay3_eq (g b : FVec Ideal S256x2048 .f32) (y : S256x2048.Idx) : k0_pay3 (F := Ideal) g b y = Adam.moment2 (g y) (b y) := by
  pointwise [k0_pay3, k0_pay1, Adam.moment2]

/-- The body's change of the weight. -/
theorem pay4_eq (g a b w : FVec Ideal S256x2048 .f32) (y : S256x2048.Idx) :
    k0_pay4 (F := Ideal) g a b w y = Adam.change (w y) (g y) (a y) (b y) := by
  rw [Adam.change, ← pay2_eq, ← pay3_eq]
  pointwise [k0_pay4]

variable (m : (ℓ : Loc nD τ sig) → Buf (Elt Ideal) ℓ) (c : Dev nD)

/-- The weight, the gradient and the moments as the launch is given them: the argument's rows. -/
abbrev Aw : Vec Ideal S1024x2048 .f32 := V m c main_v0
/-- The gradient. -/
abbrev Ag : Vec Ideal S1024x2048 .f32 := V m c main_v1
/-- The first moment. -/
abbrev Aa : Vec Ideal S1024x2048 .f32 := V m c main_v2
/-- The second moment. -/
abbrev Ab : Vec Ideal S1024x2048 .f32 := V m c main_v3

/-- The array of changes after the run. -/
theorem final4 : (dats m 0 c).arrAt 4 cfg0.N = fun i => Adam.change (Aw m c i) (Ag m c i) (Aa m c i) (Ab m c i) := by
  refine (dats m 0 c).arrAt_eq_of_covers 4 _ (by decide +kernel) fun t hf y => ?_
  rw [after0_4, show out0_4 (F := Ideal) (iblk m c 0 t) (iblk m c 1 t) (iblk m c 2 t) (iblk m c 3 t)
    = k0_pay4 (iblk m c 1 t) (iblk m c 2 t) (iblk m c 3 t) (iblk m c 0 t) by unfold out0_4; frame_out]
  exact pay4_eq _ _ _ _ y

/-- The array of first moments. -/
theorem final5 : (dats m 0 c).arrAt 5 cfg0.N = fun i => Adam.moment1 (Ag m c i) (Aa m c i) := by
  refine (dats m 0 c).arrAt_eq_of_covers 5 _ (by decide +kernel) fun t hf y => ?_
  rw [after0_5, show out0_5 (F := Ideal) (iblk m c 0 t) (iblk m c 1 t) (iblk m c 2 t) (iblk m c 3 t)
    = k0_pay2 (iblk m c 1 t) (iblk m c 2 t) by unfold out0_5; frame_out]
  exact pay2_eq _ _ y

/-- The array of second moments. -/
theorem final6 : (dats m 0 c).arrAt 6 cfg0.N = fun i => Adam.moment2 (Ag m c i) (Ab m c i) := by
  refine (dats m 0 c).arrAt_eq_of_covers 6 _ (by decide +kernel) fun t hf y => ?_
  rw [after0_6, show out0_6 (F := Ideal) (iblk m c 0 t) (iblk m c 1 t) (iblk m c 2 t) (iblk m c 3 t)
    = k0_pay3 (iblk m c 1 t) (iblk m c 3 t) by unfold out0_6; frame_out]
  exact pay3_eq _ _ y

/-- An argument's rows, the leading axes taken together. -/
abbrev flat (x : Vec Ideal S4x256x2048 .f32) : Vec Ideal S1024x2048 .f32 := shapeCast S1024x2048 x shapeCasts_S4x256x2048_S1024x2048

/-- The launch's four arrays are the arguments' rows. -/
theorem Aw_eq : Aw m c = flat (m ((c : Thread nD τ).loc main_arg0)) := by
  unfold Aw V; after_results_simp; rfl
/-- The gradient's. -/
theorem Ag_eq : Ag m c = flat (m ((c : Thread nD τ).loc main_arg1)) := by
  unfold Ag V; after_results_simp; rfl
/-- The first moment's. -/
theorem Aa_eq : Aa m c = flat (m ((c : Thread nD τ).loc main_arg2)) := by
  unfold Aa V; after_results_simp; rfl
/-- The second moment's. -/
theorem Ab_eq : Ab m c = flat (m ((c : Thread nD τ).loc main_arg3)) := by
  unfold Ab V; after_results_simp; rfl

section
open Cert.RefAdamOutIdeal.Read
variable (w g a b : Vec Ideal S4x256x2048 .f32) (i : S1024x2048.Idx)

/-- The reference's first moments. -/
theorem ref25 : val_main_v25 (F := Ideal) g a i = Adam.moment1 (flat g i) (flat a i) := rfl
/-- The reference's second moments. -/
theorem ref26 : val_main_v26 (F := Ideal) g b i = Adam.moment2 (flat g i) (flat b i) := rfl
/-- The reference's changes. -/
theorem ref24 : val_main_v24 (F := Ideal) w g a b i = Adam.change (flat w i) (flat g i) (flat a i) (flat b i) := rfl
end

/-- The reference runs, keeps its arguments and leaves every semaphore at zero (it has none). -/
theorem frame_ref : Cert.quiescent_RefAdamOutIdeal := fun m ρ _ =>
  (θ_run Cert.RefAdamOutIdeal.defs _ _).mono
    (fun r h => ⟨fun c => (h c).2.2.2, sem_eq_zero_of_no_sems rfl r.2⟩) (Cert.RefAdamOutIdeal.Value.run m ρ)

/-- The call's three arrays are the reference's. -/
theorem values : Cert.algebraic_AdamOutIdeal_RefAdamOutIdeal := by
  intro m g m' g' _ hm
  refine ⟨fun c i => Adam.change (Aw m c i) (Ag m c i) (Aa m c i) (Ab m c i), fun c i => Adam.moment1 (Ag m c i) (Aa m c i),
    fun c i => Adam.moment2 (Ag m c i) (Ab m c i), ?_, ?_⟩
  · exact (θ_run Cert.AdamOutIdeal.defs _ _).mono (fun r h c => ⟨(h c).1.trans (final4 m c), (h c).2.1.trans (final5 m c),
      (h c).2.2.1.trans (final6 m c), (h c).2.2.2⟩) (Cert.AdamOutIdeal.Value.run_blocks m g)
  · refine (θ_run Cert.RefAdamOutIdeal.defs _ _).mono (fun r h c => ⟨(h c).1.trans ?_, (h c).2.1.trans ?_, (h c).2.2.1.trans ?_,
      (h c).2.2.2⟩) (Cert.RefAdamOutIdeal.Value.run m' g')
    all_goals obtain ⟨e0, e1, e2, e3⟩ := hm c
    · rw [Cert.RefAdamOutIdeal.Read.val_main_v24_eq, e0, e1, e2, e3]
      refine funext fun i => ?_
      show _ = Adam.change (Aw m c i) (Ag m c i) (Aa m c i) (Ab m c i)
      rw [Aw_eq, Ag_eq, Aa_eq, Ab_eq]
      exact ref24 _ _ _ _ i
    · rw [Cert.RefAdamOutIdeal.Read.val_main_v25_eq, e1, e2]
      refine funext fun i => ?_
      show _ = Adam.moment1 (Ag m c i) (Aa m c i)
      rw [Ag_eq, Aa_eq]
      exact ref25 _ _ i
    · rw [Cert.RefAdamOutIdeal.Read.val_main_v26_eq, e1, e3]
      refine funext fun i => ?_
      show _ = Adam.moment2 (Ag m c i) (Ab m c i)
      rw [Ag_eq, Ab_eq]
      exact ref26 _ _ i

end Cert.AdamOutVal

end
-- ==== Proof.AdamBranchVal.lean ====
/-
  The AdamW step on the shard of w_branch: entry by entry the call computes reference.py's step.
-/
module

public import proofs.«01_k».proof.Proof.AdamStep
public import proofs.«01_k».proof.Proof.Gen.AdamBranchIdeal.Value
public import proofs.«01_k».proof.Proof.Gen.RefAdamBranchIdeal.Read
public import proofs.«01_k».proof.Defs
public import proofs.«01_k».proof.Proof.Gen.AdamBranchIdeal
public import proofs.«01_k».proof.Proof.Gen.RefAdamBranchIdeal
public import proofs.«01_k».proof.Proof.Gen.RefAdamBranchIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.AdamBranchVal

open Cert.AdamBranchIdeal Cert.AdamBranchIdeal.Gen Idealize.ShloMosaic Idealize.ShloMosaic.TcCoe Idealize.SL.Sem

/-- The body's first moment, at an entry. -/
theorem pay2_eq (g a : FVec Ideal S2048x256 .f32) (y : S2048x256.Idx) : k0_pay2 (F := Ideal) g a y = Adam.moment1 (g y) (a y) := by
  pointwise [k0_pay2, k0_pay1, Adam.moment1]

/-- The body's second moment. -/
theorem pay3_eq (g b : FVec Ideal S2048x256 .f32) (y : S2048x256.Idx) : k0_pay3 (F := Ideal) g b y = Adam.moment2 (g y) (b y) := by
  pointwise [k0_pay3, k0_pay1, Adam.moment2]

/-- The body's change of the weight. -/
theorem pay4_eq (g a b w : FVec Ideal S2048x256 .f32) (y : S2048x256.Idx) :
    k0_pay4 (F := Ideal) g a b w y = Adam.change (w y) (g y) (a y) (b y) := by
  rw [Adam.change, ← pay2_eq, ← pay3_eq]
  pointwise [k0_pay4]

variable (m : (ℓ : Loc nD τ sig) → Buf (Elt Ideal) ℓ) (c : Dev nD)

/-- The weight, the gradient and the moments as the launch is given them: the argument's rows. -/
abbrev Aw : Vec Ideal S8192x256 .f32 := V m c main_v0
/-- The gradient. -/
abbrev Ag : Vec Ideal S8192x256 .f32 := V m c main_v1
/-- The first moment. -/
abbrev Aa : Vec Ideal S8192x256 .f32 := V m c main_v2
/-- The second moment. -/
abbrev Ab : Vec Ideal S8192x256 .f32 := V m c main_v3

/-- The array of changes after the run. -/
theorem final4 : (dats m 0 c).arrAt 4 cfg0.N = fun i => Adam.change (Aw m c i) (Ag m c i) (Aa m c i) (Ab m c i) := by
  refine (dats m 0 c).arrAt_eq_of_covers 4 _ (by decide +kernel) fun t hf y => ?_
  rw [after0_4, show out0_4 (F := Ideal) (iblk m c 0 t) (iblk m c 1 t) (iblk m c 2 t) (iblk m c 3 t)
    = k0_pay4 (iblk m c 1 t) (iblk m c 2 t) (iblk m c 3 t) (iblk m c 0 t) by unfold out0_4; frame_out]
  exact pay4_eq _ _ _ _ y

/-- The array of first moments. -/
theorem final5 : (dats m 0 c).arrAt 5 cfg0.N = fun i => Adam.moment1 (Ag m c i) (Aa m c i) := by
  refine (dats m 0 c).arrAt_eq_of_covers 5 _ (by decide +kernel) fun t hf y => ?_
  rw [after0_5, show out0_5 (F := Ideal) (iblk m c 0 t) (iblk m c 1 t) (iblk m c 2 t) (iblk m c 3 t)
    = k0_pay2 (iblk m c 1 t) (iblk m c 2 t) by unfold out0_5; frame_out]
  exact pay2_eq _ _ y

/-- The array of second moments. -/
theorem final6 : (dats m 0 c).arrAt 6 cfg0.N = fun i => Adam.moment2 (Ag m c i) (Ab m c i) := by
  refine (dats m 0 c).arrAt_eq_of_covers 6 _ (by decide +kernel) fun t hf y => ?_
  rw [after0_6, show out0_6 (F := Ideal) (iblk m c 0 t) (iblk m c 1 t) (iblk m c 2 t) (iblk m c 3 t)
    = k0_pay3 (iblk m c 1 t) (iblk m c 3 t) by unfold out0_6; frame_out]
  exact pay3_eq _ _ y

/-- An argument's rows, the leading axes taken together. -/
abbrev flat (x : Vec Ideal S4x4x512x256 .f32) : Vec Ideal S8192x256 .f32 := shapeCast S8192x256 x shapeCasts_S4x4x512x256_S8192x256

/-- The launch's four arrays are the arguments' rows. -/
theorem Aw_eq : Aw m c = flat (m ((c : Thread nD τ).loc main_arg0)) := by
  unfold Aw V; after_results_simp; rfl
/-- The gradient's. -/
theorem Ag_eq : Ag m c = flat (m ((c : Thread nD τ).loc main_arg1)) := by
  unfold Ag V; after_results_simp; rfl
/-- The first moment's. -/
theorem Aa_eq : Aa m c = flat (m ((c : Thread nD τ).loc main_arg2)) := by
  unfold Aa V; after_results_simp; rfl
/-- The second moment's. -/
theorem Ab_eq : Ab m c = flat (m ((c : Thread nD τ).loc main_arg3)) := by
  unfold Ab V; after_results_simp; rfl

section
open Cert.RefAdamBranchIdeal.Read
variable (w g a b : Vec Ideal S4x4x512x256 .f32) (i : S8192x256.Idx)

/-- The reference's first moments. -/
theorem ref25 : val_main_v25 (F := Ideal) g a i = Adam.moment1 (flat g i) (flat a i) := rfl
/-- The reference's second moments. -/
theorem ref26 : val_main_v26 (F := Ideal) g b i = Adam.moment2 (flat g i) (flat b i) := rfl
/-- The reference's changes. -/
theorem ref24 : val_main_v24 (F := Ideal) w g a b i = Adam.change (flat w i) (flat g i) (flat a i) (flat b i) := rfl
end

/-- The reference runs, keeps its arguments and leaves every semaphore at zero (it has none). -/
theorem frame_ref : Cert.quiescent_RefAdamBranchIdeal := fun m ρ _ =>
  (θ_run Cert.RefAdamBranchIdeal.defs _ _).mono
    (fun r h => ⟨fun c => (h c).2.2.2, sem_eq_zero_of_no_sems rfl r.2⟩) (Cert.RefAdamBranchIdeal.Value.run m ρ)

/-- The call's three arrays are the reference's. -/
theorem values : Cert.algebraic_AdamBranchIdeal_RefAdamBranchIdeal := by
  intro m g m' g' _ hm
  refine ⟨fun c i => Adam.change (Aw m c i) (Ag m c i) (Aa m c i) (Ab m c i), fun c i => Adam.moment1 (Ag m c i) (Aa m c i),
    fun c i => Adam.moment2 (Ag m c i) (Ab m c i), ?_, ?_⟩
  · exact (θ_run Cert.AdamBranchIdeal.defs _ _).mono (fun r h c => ⟨(h c).1.trans (final4 m c), (h c).2.1.trans (final5 m c),
      (h c).2.2.1.trans (final6 m c), (h c).2.2.2⟩) (Cert.AdamBranchIdeal.Value.run_blocks m g)
  · refine (θ_run Cert.RefAdamBranchIdeal.defs _ _).mono (fun r h c => ⟨(h c).1.trans ?_, (h c).2.1.trans ?_, (h c).2.2.1.trans ?_,
      (h c).2.2.2⟩) (Cert.RefAdamBranchIdeal.Value.run m' g')
    all_goals obtain ⟨e0, e1, e2, e3⟩ := hm c
    · rw [Cert.RefAdamBranchIdeal.Read.val_main_v24_eq, e0, e1, e2, e3]
      refine funext fun i => ?_
      show _ = Adam.change (Aw m c i) (Ag m c i) (Aa m c i) (Ab m c i)
      rw [Aw_eq, Ag_eq, Aa_eq, Ab_eq]
      exact ref24 _ _ _ _ i
    · rw [Cert.RefAdamBranchIdeal.Read.val_main_v25_eq, e1, e2]
      refine funext fun i => ?_
      show _ = Adam.moment1 (Ag m c i) (Aa m c i)
      rw [Ag_eq, Aa_eq]
      exact ref25 _ _ i
    · rw [Cert.RefAdamBranchIdeal.Read.val_main_v26_eq, e1, e3]
      refine funext fun i => ?_
      show _ = Adam.moment2 (Ag m c i) (Ab m c i)
      rw [Ag_eq, Ab_eq]
      exact ref26 _ _ i

end Cert.AdamBranchVal

end
-- ==== Proof.AdamGluVal.lean ====
/-
  The AdamW step on the shard of s5_w_glu: entry by entry the call computes reference.py's step.
-/
module

public import proofs.«01_k».proof.Proof.AdamStep
public import proofs.«01_k».proof.Proof.Gen.AdamGluIdeal.Value
public import proofs.«01_k».proof.Proof.Gen.RefAdamGluIdeal.Read
public import proofs.«01_k».proof.Defs
public import proofs.«01_k».proof.Proof.Gen.AdamGluIdeal
public import proofs.«01_k».proof.Proof.Gen.RefAdamGluIdeal
public import proofs.«01_k».proof.Proof.Gen.RefAdamGluIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.AdamGluVal

open Cert.AdamGluIdeal Cert.AdamGluIdeal.Gen Idealize.ShloMosaic Idealize.ShloMosaic.TcCoe Idealize.SL.Sem

/-- The body's first moment, at an entry. -/
theorem pay2_eq (g a : FVec Ideal S256x512 .f32) (y : S256x512.Idx) : k0_pay2 (F := Ideal) g a y = Adam.moment1 (g y) (a y) := by
  pointwise [k0_pay2, k0_pay1, Adam.moment1]

/-- The body's second moment. -/
theorem pay3_eq (g b : FVec Ideal S256x512 .f32) (y : S256x512.Idx) : k0_pay3 (F := Ideal) g b y = Adam.moment2 (g y) (b y) := by
  pointwise [k0_pay3, k0_pay1, Adam.moment2]

/-- The body's change of the weight. -/
theorem pay4_eq (g a b w : FVec Ideal S256x512 .f32) (y : S256x512.Idx) :
    k0_pay4 (F := Ideal) g a b w y = Adam.change (w y) (g y) (a y) (b y) := by
  rw [Adam.change, ← pay2_eq, ← pay3_eq]
  pointwise [k0_pay4]

variable (m : (ℓ : Loc nD τ sig) → Buf (Elt Ideal) ℓ) (c : Dev nD)

/-- The weight, the gradient and the moments as the launch is given them: the argument's rows. -/
abbrev Aw : Vec Ideal S256x512 .f32 := V m c main_v0
/-- The gradient. -/
abbrev Ag : Vec Ideal S256x512 .f32 := V m c main_v1
/-- The first moment. -/
abbrev Aa : Vec Ideal S256x512 .f32 := V m c main_v2
/-- The second moment. -/
abbrev Ab : Vec Ideal S256x512 .f32 := V m c main_v3

/-- The array of changes after the run. -/
theorem final4 : (dats m 0 c).arrAt 4 cfg0.N = fun i => Adam.change (Aw m c i) (Ag m c i) (Aa m c i) (Ab m c i) := by
  refine (dats m 0 c).arrAt_eq_of_covers 4 _ (by decide +kernel) fun t hf y => ?_
  rw [after0_4, show out0_4 (F := Ideal) (iblk m c 0 t) (iblk m c 1 t) (iblk m c 2 t) (iblk m c 3 t)
    = k0_pay4 (iblk m c 1 t) (iblk m c 2 t) (iblk m c 3 t) (iblk m c 0 t) by unfold out0_4; frame_out]
  exact pay4_eq _ _ _ _ y

/-- The array of first moments. -/
theorem final5 : (dats m 0 c).arrAt 5 cfg0.N = fun i => Adam.moment1 (Ag m c i) (Aa m c i) := by
  refine (dats m 0 c).arrAt_eq_of_covers 5 _ (by decide +kernel) fun t hf y => ?_
  rw [after0_5, show out0_5 (F := Ideal) (iblk m c 0 t) (iblk m c 1 t) (iblk m c 2 t) (iblk m c 3 t)
    = k0_pay2 (iblk m c 1 t) (iblk m c 2 t) by unfold out0_5; frame_out]
  exact pay2_eq _ _ y

/-- The array of second moments. -/
theorem final6 : (dats m 0 c).arrAt 6 cfg0.N = fun i => Adam.moment2 (Ag m c i) (Ab m c i) := by
  refine (dats m 0 c).arrAt_eq_of_covers 6 _ (by decide +kernel) fun t hf y => ?_
  rw [after0_6, show out0_6 (F := Ideal) (iblk m c 0 t) (iblk m c 1 t) (iblk m c 2 t) (iblk m c 3 t)
    = k0_pay3 (iblk m c 1 t) (iblk m c 3 t) by unfold out0_6; frame_out]
  exact pay3_eq _ _ y

/-- An argument's rows, the leading axes taken together. -/
abbrev flat (x : Vec Ideal S4x64x512 .f32) : Vec Ideal S256x512 .f32 := shapeCast S256x512 x shapeCasts_S4x64x512_S256x512

/-- The launch's four arrays are the arguments' rows. -/
theorem Aw_eq : Aw m c = flat (m ((c : Thread nD τ).loc main_arg0)) := by
  unfold Aw V; after_results_simp; rfl
/-- The gradient's. -/
theorem Ag_eq : Ag m c = flat (m ((c : Thread nD τ).loc main_arg1)) := by
  unfold Ag V; after_results_simp; rfl
/-- The first moment's. -/
theorem Aa_eq : Aa m c = flat (m ((c : Thread nD τ).loc main_arg2)) := by
  unfold Aa V; after_results_simp; rfl
/-- The second moment's. -/
theorem Ab_eq : Ab m c = flat (m ((c : Thread nD τ).loc main_arg3)) := by
  unfold Ab V; after_results_simp; rfl

section
open Cert.RefAdamGluIdeal.Read
variable (w g a b : Vec Ideal S4x64x512 .f32) (i : S256x512.Idx)

/-- The reference's first moments. -/
theorem ref25 : val_main_v25 (F := Ideal) g a i = Adam.moment1 (flat g i) (flat a i) := rfl
/-- The reference's second moments. -/
theorem ref26 : val_main_v26 (F := Ideal) g b i = Adam.moment2 (flat g i) (flat b i) := rfl
/-- The reference's changes. -/
theorem ref24 : val_main_v24 (F := Ideal) w g a b i = Adam.change (flat w i) (flat g i) (flat a i) (flat b i) := rfl
end

/-- The reference runs, keeps its arguments and leaves every semaphore at zero (it has none). -/
theorem frame_ref : Cert.quiescent_RefAdamGluIdeal := fun m ρ _ =>
  (θ_run Cert.RefAdamGluIdeal.defs _ _).mono
    (fun r h => ⟨fun c => (h c).2.2.2, sem_eq_zero_of_no_sems rfl r.2⟩) (Cert.RefAdamGluIdeal.Value.run m ρ)

/-- The call's three arrays are the reference's. -/
theorem values : Cert.algebraic_AdamGluIdeal_RefAdamGluIdeal := by
  intro m g m' g' _ hm
  refine ⟨fun c i => Adam.change (Aw m c i) (Ag m c i) (Aa m c i) (Ab m c i), fun c i => Adam.moment1 (Ag m c i) (Aa m c i),
    fun c i => Adam.moment2 (Ag m c i) (Ab m c i), ?_, ?_⟩
  · exact (θ_run Cert.AdamGluIdeal.defs _ _).mono (fun r h c => ⟨(h c).1.trans (final4 m c), (h c).2.1.trans (final5 m c),
      (h c).2.2.1.trans (final6 m c), (h c).2.2.2⟩) (Cert.AdamGluIdeal.Value.run_blocks m g)
  · refine (θ_run Cert.RefAdamGluIdeal.defs _ _).mono (fun r h c => ⟨(h c).1.trans ?_, (h c).2.1.trans ?_, (h c).2.2.1.trans ?_,
      (h c).2.2.2⟩) (Cert.RefAdamGluIdeal.Value.run m' g')
    all_goals obtain ⟨e0, e1, e2, e3⟩ := hm c
    · rw [Cert.RefAdamGluIdeal.Read.val_main_v24_eq, e0, e1, e2, e3]
      refine funext fun i => ?_
      show _ = Adam.change (Aw m c i) (Ag m c i) (Aa m c i) (Ab m c i)
      rw [Aw_eq, Ag_eq, Aa_eq, Ab_eq]
      exact ref24 _ _ _ _ i
    · rw [Cert.RefAdamGluIdeal.Read.val_main_v25_eq, e1, e2]
      refine funext fun i => ?_
      show _ = Adam.moment1 (Ag m c i) (Aa m c i)
      rw [Ag_eq, Aa_eq]
      exact ref25 _ _ i
    · rw [Cert.RefAdamGluIdeal.Read.val_main_v26_eq, e1, e3]
      refine funext fun i => ?_
      show _ = Adam.moment2 (Ag m c i) (Ab m c i)
      rw [Ag_eq, Ab_eq]
      exact ref26 _ _ i

end Cert.AdamGluVal

end
-- ==== Proof.AdamUqVal.lean ====
/-
  The AdamW step on the shard of mla_w_uq: entry by entry the call computes reference.py's step.
-/
module

public import proofs.«01_k».proof.Proof.AdamStep
public import proofs.«01_k».proof.Proof.Gen.AdamUqIdeal.Value
public import proofs.«01_k».proof.Proof.Gen.RefAdamUqIdeal.Read
public import proofs.«01_k».proof.Defs
public import proofs.«01_k».proof.Proof.Gen.AdamUqIdeal
public import proofs.«01_k».proof.Proof.Gen.RefAdamUqIdeal
public import proofs.«01_k».proof.Proof.Gen.RefAdamUqIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.AdamUqVal

open Cert.AdamUqIdeal Cert.AdamUqIdeal.Gen Idealize.ShloMosaic Idealize.ShloMosaic.TcCoe Idealize.SL.Sem

/-- The body's first moment, at an entry. -/
theorem pay2_eq (g a : FVec Ideal S1536x96 .f32) (y : S1536x96.Idx) : k0_pay2 (F := Ideal) g a y = Adam.moment1 (g y) (a y) := by
  pointwise [k0_pay2, k0_pay1, Adam.moment1]

/-- The body's second moment. -/
theorem pay3_eq (g b : FVec Ideal S1536x96 .f32) (y : S1536x96.Idx) : k0_pay3 (F := Ideal) g b y = Adam.moment2 (g y) (b y) := by
  pointwise [k0_pay3, k0_pay1, Adam.moment2]

/-- The body's change of the weight. -/
theorem pay4_eq (g a b w : FVec Ideal S1536x96 .f32) (y : S1536x96.Idx) :
    k0_pay4 (F := Ideal) g a b w y = Adam.change (w y) (g y) (a y) (b y) := by
  rw [Adam.change, ← pay2_eq, ← pay3_eq]
  pointwise [k0_pay4]

variable (m : (ℓ : Loc nD τ sig) → Buf (Elt Ideal) ℓ) (c : Dev nD)

/-- The weight, the gradient and the moments as the launch is given them: the argument's rows. -/
abbrev Aw : Vec Ideal S1536x96 .f32 := V m c main_v0
/-- The gradient. -/
abbrev Ag : Vec Ideal S1536x96 .f32 := V m c main_v1
/-- The first moment. -/
abbrev Aa : Vec Ideal S1536x96 .f32 := V m c main_v2
/-- The second moment. -/
abbrev Ab : Vec Ideal S1536x96 .f32 := V m c main_v3

/-- The array of changes after the run. -/
theorem final4 : (dats m 0 c).arrAt 4 cfg0.N = fun i => Adam.change (Aw m c i) (Ag m c i) (Aa m c i) (Ab m c i) := by
  refine (dats m 0 c).arrAt_eq_of_covers 4 _ (by decide +kernel) fun t hf y => ?_
  rw [after0_4, show out0_4 (F := Ideal) (iblk m c 0 t) (iblk m c 1 t) (iblk m c 2 t) (iblk m c 3 t)
    = k0_pay4 (iblk m c 1 t) (iblk m c 2 t) (iblk m c 3 t) (iblk m c 0 t) by unfold out0_4; frame_out]
  exact pay4_eq _ _ _ _ y

/-- The array of first moments. -/
theorem final5 : (dats m 0 c).arrAt 5 cfg0.N = fun i => Adam.moment1 (Ag m c i) (Aa m c i) := by
  refine (dats m 0 c).arrAt_eq_of_covers 5 _ (by decide +kernel) fun t hf y => ?_
  rw [after0_5, show out0_5 (F := Ideal) (iblk m c 0 t) (iblk m c 1 t) (iblk m c 2 t) (iblk m c 3 t)
    = k0_pay2 (iblk m c 1 t) (iblk m c 2 t) by unfold out0_5; frame_out]
  exact pay2_eq _ _ y

/-- The array of second moments. -/
theorem final6 : (dats m 0 c).arrAt 6 cfg0.N = fun i => Adam.moment2 (Ag m c i) (Ab m c i) := by
  refine (dats m 0 c).arrAt_eq_of_covers 6 _ (by decide +kernel) fun t hf y => ?_
  rw [after0_6, show out0_6 (F := Ideal) (iblk m c 0 t) (iblk m c 1 t) (iblk m c 2 t) (iblk m c 3 t)
    = k0_pay3 (iblk m c 1 t) (iblk m c 3 t) by unfold out0_6; frame_out]
  exact pay3_eq _ _ y

/-- An argument's rows, the leading axes taken together. -/
abbrev flat (x : Vec Ideal S4x384x96 .f32) : Vec Ideal S1536x96 .f32 := shapeCast S1536x96 x shapeCasts_S4x384x96_S1536x96

/-- The launch's four arrays are the arguments' rows. -/
theorem Aw_eq : Aw m c = flat (m ((c : Thread nD τ).loc main_arg0)) := by
  unfold Aw V; after_results_simp; rfl
/-- The gradient's. -/
theorem Ag_eq : Ag m c = flat (m ((c : Thread nD τ).loc main_arg1)) := by
  unfold Ag V; after_results_simp; rfl
/-- The first moment's. -/
theorem Aa_eq : Aa m c = flat (m ((c : Thread nD τ).loc main_arg2)) := by
  unfold Aa V; after_results_simp; rfl
/-- The second moment's. -/
theorem Ab_eq : Ab m c = flat (m ((c : Thread nD τ).loc main_arg3)) := by
  unfold Ab V; after_results_simp; rfl

section
open Cert.RefAdamUqIdeal.Read
variable (w g a b : Vec Ideal S4x384x96 .f32) (i : S1536x96.Idx)

/-- The reference's first moments. -/
theorem ref25 : val_main_v25 (F := Ideal) g a i = Adam.moment1 (flat g i) (flat a i) := rfl
/-- The reference's second moments. -/
theorem ref26 : val_main_v26 (F := Ideal) g b i = Adam.moment2 (flat g i) (flat b i) := rfl
/-- The reference's changes. -/
theorem ref24 : val_main_v24 (F := Ideal) w g a b i = Adam.change (flat w i) (flat g i) (flat a i) (flat b i) := rfl
end

/-- The reference runs, keeps its arguments and leaves every semaphore at zero (it has none). -/
theorem frame_ref : Cert.quiescent_RefAdamUqIdeal := fun m ρ _ =>
  (θ_run Cert.RefAdamUqIdeal.defs _ _).mono
    (fun r h => ⟨fun c => (h c).2.2.2, sem_eq_zero_of_no_sems rfl r.2⟩) (Cert.RefAdamUqIdeal.Value.run m ρ)

/-- The call's three arrays are the reference's. -/
theorem values : Cert.algebraic_AdamUqIdeal_RefAdamUqIdeal := by
  intro m g m' g' _ hm
  refine ⟨fun c i => Adam.change (Aw m c i) (Ag m c i) (Aa m c i) (Ab m c i), fun c i => Adam.moment1 (Ag m c i) (Aa m c i),
    fun c i => Adam.moment2 (Ag m c i) (Ab m c i), ?_, ?_⟩
  · exact (θ_run Cert.AdamUqIdeal.defs _ _).mono (fun r h c => ⟨(h c).1.trans (final4 m c), (h c).2.1.trans (final5 m c),
      (h c).2.2.1.trans (final6 m c), (h c).2.2.2⟩) (Cert.AdamUqIdeal.Value.run_blocks m g)
  · refine (θ_run Cert.RefAdamUqIdeal.defs _ _).mono (fun r h c => ⟨(h c).1.trans ?_, (h c).2.1.trans ?_, (h c).2.2.1.trans ?_,
      (h c).2.2.2⟩) (Cert.RefAdamUqIdeal.Value.run m' g')
    all_goals obtain ⟨e0, e1, e2, e3⟩ := hm c
    · rw [Cert.RefAdamUqIdeal.Read.val_main_v24_eq, e0, e1, e2, e3]
      refine funext fun i => ?_
      show _ = Adam.change (Aw m c i) (Ag m c i) (Aa m c i) (Ab m c i)
      rw [Aw_eq, Ag_eq, Aa_eq, Ab_eq]
      exact ref24 _ _ _ _ i
    · rw [Cert.RefAdamUqIdeal.Read.val_main_v25_eq, e1, e2]
      refine funext fun i => ?_
      show _ = Adam.moment1 (Ag m c i) (Aa m c i)
      rw [Ag_eq, Aa_eq]
      exact ref25 _ _ i
    · rw [Cert.RefAdamUqIdeal.Read.val_main_v26_eq, e1, e3]
      refine funext fun i => ?_
      show _ = Adam.moment2 (Ag m c i) (Ab m c i)
      rw [Ag_eq, Ab_eq]
      exact ref26 _ _ i

end Cert.AdamUqVal

end
-- ==== Proof.AdamUkvVal.lean ====
/-
  The AdamW step on the shard of mla_w_ukv: entry by entry the call computes reference.py's step.
-/
module

public import proofs.«01_k».proof.Proof.AdamStep
public import proofs.«01_k».proof.Proof.Gen.AdamUkvIdeal.Value
public import proofs.«01_k».proof.Proof.Gen.RefAdamUkvIdeal.Read
public import proofs.«01_k».proof.Defs
public import proofs.«01_k».proof.Proof.Gen.AdamUkvIdeal
public import proofs.«01_k».proof.Proof.Gen.RefAdamUkvIdeal
public import proofs.«01_k».proof.Proof.Gen.RefAdamUkvIdeal.Run
public import Idealize.ShloMosaic.Lib.Quiescent
public import Idealize.ShloMosaic.Adequacy
public import Idealize.ShloMosaic.Init
public import Idealize.ShloMosaic.Lib.Pipeline.ValueKit.Acc
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.AdamUkvVal

open Cert.AdamUkvIdeal Cert.AdamUkvIdeal.Gen Idealize.ShloMosaic Idealize.ShloMosaic.TcCoe Idealize.SL.Sem

/-- The body's first moment, at an entry. -/
theorem pay2_eq (g a : FVec Ideal S2048x128 .f32) (y : S2048x128.Idx) : k0_pay2 (F := Ideal) g a y = Adam.moment1 (g y) (a y) := by
  pointwise [k0_pay2, k0_pay1, Adam.moment1]

/-- The body's second moment. -/
theorem pay3_eq (g b : FVec Ideal S2048x128 .f32) (y : S2048x128.Idx) : k0_pay3 (F := Ideal) g b y = Adam.moment2 (g y) (b y) := by
  pointwise [k0_pay3, k0_pay1, Adam.moment2]

/-- The body's change of the weight. -/
theorem pay4_eq (g a b w : FVec Ideal S2048x128 .f32) (y : S2048x128.Idx) :
    k0_pay4 (F := Ideal) g a b w y = Adam.change (w y) (g y) (a y) (b y) := by
  rw [Adam.change, ← pay2_eq, ← pay3_eq]
  pointwise [k0_pay4]

variable (m : (ℓ : Loc nD τ sig) → Buf (Elt Ideal) ℓ) (c : Dev nD)

/-- The weight, the gradient and the moments as the launch is given them: the argument's rows. -/
abbrev Aw : Vec Ideal S2048x128 .f32 := V m c main_v0
/-- The gradient. -/
abbrev Ag : Vec Ideal S2048x128 .f32 := V m c main_v1
/-- The first moment. -/
abbrev Aa : Vec Ideal S2048x128 .f32 := V m c main_v2
/-- The second moment. -/
abbrev Ab : Vec Ideal S2048x128 .f32 := V m c main_v3

/-- The array of changes after the run. -/
theorem final4 : (dats m 0 c).arrAt 4 cfg0.N = fun i => Adam.change (Aw m c i) (Ag m c i) (Aa m c i) (Ab m c i) := by
  refine (dats m 0 c).arrAt_eq_of_covers 4 _ (by decide +kernel) fun t hf y => ?_
  rw [after0_4, show out0_4 (F := Ideal) (iblk m c 0 t) (iblk m c 1 t) (iblk m c 2 t) (iblk m c 3 t)
    = k0_pay4 (iblk m c 1 t) (iblk m c 2 t) (iblk m c 3 t) (iblk m c 0 t) by unfold out0_4; frame_out]
  exact pay4_eq _ _ _ _ y

/-- The array of first moments. -/
theorem final5 : (dats m 0 c).arrAt 5 cfg0.N = fun i => Adam.moment1 (Ag m c i) (Aa m c i) := by
  refine (dats m 0 c).arrAt_eq_of_covers 5 _ (by decide +kernel) fun t hf y => ?_
  rw [after0_5, show out0_5 (F := Ideal) (iblk m c 0 t) (iblk m c 1 t) (iblk m c 2 t) (iblk m c 3 t)
    = k0_pay2 (iblk m c 1 t) (iblk m c 2 t) by unfold out0_5; frame_out]
  exact pay2_eq _ _ y

/-- The array of second moments. -/
theorem final6 : (dats m 0 c).arrAt 6 cfg0.N = fun i => Adam.moment2 (Ag m c i) (Ab m c i) := by
  refine (dats m 0 c).arrAt_eq_of_covers 6 _ (by decide +kernel) fun t hf y => ?_
  rw [after0_6, show out0_6 (F := Ideal) (iblk m c 0 t) (iblk m c 1 t) (iblk m c 2 t) (iblk m c 3 t)
    = k0_pay3 (iblk m c 1 t) (iblk m c 3 t) by unfold out0_6; frame_out]
  exact pay3_eq _ _ y

/-- An argument's rows, the leading axes taken together. -/
abbrev flat (x : Vec Ideal S4x512x128 .f32) : Vec Ideal S2048x128 .f32 := shapeCast S2048x128 x shapeCasts_S4x512x128_S2048x128

/-- The launch's four arrays are the arguments' rows. -/
theorem Aw_eq : Aw m c = flat (m ((c : Thread nD τ).loc main_arg0)) := by
  unfold Aw V; after_results_simp; rfl
/-- The gradient's. -/
theorem Ag_eq : Ag m c = flat (m ((c : Thread nD τ).loc main_arg1)) := by
  unfold Ag V; after_results_simp; rfl
/-- The first moment's. -/
theorem Aa_eq : Aa m c = flat (m ((c : Thread nD τ).loc main_arg2)) := by
  unfold Aa V; after_results_simp; rfl
/-- The second moment's. -/
theorem Ab_eq : Ab m c = flat (m ((c : Thread nD τ).loc main_arg3)) := by
  unfold Ab V; after_results_simp; rfl

section
open Cert.RefAdamUkvIdeal.Read
variable (w g a b : Vec Ideal S4x512x128 .f32) (i : S2048x128.Idx)

/-- The reference's first moments. -/
theorem ref25 : val_main_v25 (F := Ideal) g a i = Adam.moment1 (flat g i) (flat a i) := rfl
/-- The reference's second moments. -/
theorem ref26 : val_main_v26 (F := Ideal) g b i = Adam.moment2 (flat g i) (flat b i) := rfl
/-- The reference's changes. -/
theorem ref24 : val_main_v24 (F := Ideal) w g a b i = Adam.change (flat w i) (flat g i) (flat a i) (flat b i) := rfl
end

/-- The reference runs, keeps its arguments and leaves every semaphore at zero (it has none). -/
theorem frame_ref : Cert.quiescent_RefAdamUkvIdeal := fun m ρ _ =>
  (θ_run Cert.RefAdamUkvIdeal.defs _ _).mono
    (fun r h => ⟨fun c => (h c).2.2.2, sem_eq_zero_of_no_sems rfl r.2⟩) (Cert.RefAdamUkvIdeal.Value.run m ρ)

/-- The call's three arrays are the reference's. -/
theorem values : Cert.algebraic_AdamUkvIdeal_RefAdamUkvIdeal := by
  intro m g m' g' _ hm
  refine ⟨fun c i => Adam.change (Aw m c i) (Ag m c i) (Aa m c i) (Ab m c i), fun c i => Adam.moment1 (Ag m c i) (Aa m c i),
    fun c i => Adam.moment2 (Ag m c i) (Ab m c i), ?_, ?_⟩
  · exact (θ_run Cert.AdamUkvIdeal.defs _ _).mono (fun r h c => ⟨(h c).1.trans (final4 m c), (h c).2.1.trans (final5 m c),
      (h c).2.2.1.trans (final6 m c), (h c).2.2.2⟩) (Cert.AdamUkvIdeal.Value.run_blocks m g)
  · refine (θ_run Cert.RefAdamUkvIdeal.defs _ _).mono (fun r h c => ⟨(h c).1.trans ?_, (h c).2.1.trans ?_, (h c).2.2.1.trans ?_,
      (h c).2.2.2⟩) (Cert.RefAdamUkvIdeal.Value.run m' g')
    all_goals obtain ⟨e0, e1, e2, e3⟩ := hm c
    · rw [Cert.RefAdamUkvIdeal.Read.val_main_v24_eq, e0, e1, e2, e3]
      refine funext fun i => ?_
      show _ = Adam.change (Aw m c i) (Ag m c i) (Aa m c i) (Ab m c i)
      rw [Aw_eq, Ag_eq, Aa_eq, Ab_eq]
      exact ref24 _ _ _ _ i
    · rw [Cert.RefAdamUkvIdeal.Read.val_main_v25_eq, e1, e2]
      refine funext fun i => ?_
      show _ = Adam.moment1 (Ag m c i) (Aa m c i)
      rw [Ag_eq, Aa_eq]
      exact ref25 _ _ i
    · rw [Cert.RefAdamUkvIdeal.Read.val_main_v26_eq, e1, e3]
      refine funext fun i => ?_
      show _ = Adam.moment2 (Ag m c i) (Ab m c i)
      rw [Ag_eq, Ab_eq]
      exact ref26 _ _ i

end Cert.AdamUkvVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.RefAttnFwdIdeal
public import proofs.«01_k».proof.Proof.AttnFwdVal
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Frame
public import proofs.«01_k».proof.Proof.Gen.RefInFwdIdeal
public import proofs.«01_k».proof.Proof.InFwdVal
public import proofs.«01_k».proof.Proof.Gen.InDa
public import proofs.«01_k».proof.Proof.Gen.InDa.Skeleton
public import proofs.«01_k».proof.Proof.Gen.InDa.Launch
public import proofs.«01_k».proof.Proof.Gen.InDa.Points
public import proofs.«01_k».proof.Proof.Gen.InDa.Frame
public import proofs.«01_k».proof.Proof.Gen.InDaIdeal
public import proofs.«01_k».proof.Proof.Gen.InDaIdeal.Frame
public import proofs.«01_k».proof.Proof.Gen.RefInDaIdeal
public import proofs.«01_k».proof.Proof.InDaVal
public import proofs.«01_k».proof.Proof.Gen.InDb
public import proofs.«01_k».proof.Proof.Gen.InDb.Skeleton
public import proofs.«01_k».proof.Proof.Gen.InDb.Launch
public import proofs.«01_k».proof.Proof.Gen.InDb.Points
public import proofs.«01_k».proof.Proof.Gen.InDb.Frame
public import proofs.«01_k».proof.Proof.Gen.InDbIdeal
public import proofs.«01_k».proof.Proof.Gen.InDbIdeal.Frame
public import proofs.«01_k».proof.Proof.Gen.RefInDbIdeal
public import proofs.«01_k».proof.Proof.InDbVal
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Frame
public import proofs.«01_k».proof.Proof.Gen.RefOutFwdIdeal
public import proofs.«01_k».proof.Proof.OutFwdVal
public import proofs.«01_k».proof.Proof.Gen.OutDa
public import proofs.«01_k».proof.Proof.Gen.OutDa.Skeleton
public import proofs.«01_k».proof.Proof.Gen.OutDa.Launch
public import proofs.«01_k».proof.Proof.Gen.OutDa.Points
public import proofs.«01_k».proof.Proof.Gen.OutDa.Frame
public import proofs.«01_k».proof.Proof.Gen.OutDaIdeal
public import proofs.«01_k».proof.Proof.Gen.OutDaIdeal.Frame
public import proofs.«01_k».proof.Proof.Gen.RefOutDaIdeal
public import proofs.«01_k».proof.Proof.OutDaVal
public import proofs.«01_k».proof.Proof.Gen.OutDb
public import proofs.«01_k».proof.Proof.Gen.OutDb.Skeleton
public import proofs.«01_k».proof.Proof.Gen.OutDb.Launch
public import proofs.«01_k».proof.Proof.Gen.OutDb.Points
public import proofs.«01_k».proof.Proof.Gen.OutDb.Frame
public import proofs.«01_k».proof.Proof.Gen.OutDbIdeal
public import proofs.«01_k».proof.Proof.Gen.OutDbIdeal.Frame
public import proofs.«01_k».proof.Proof.Gen.RefOutDbIdeal
public import proofs.«01_k».proof.Proof.OutDbVal
public import proofs.«01_k».proof.Proof.Gen.SmallFwd
public import proofs.«01_k».proof.Proof.Gen.SmallFwd.Skeleton
public import proofs.«01_k».proof.Proof.Gen.SmallFwd.Launch
public import proofs.«01_k».proof.Proof.Gen.SmallFwd.Points
public import proofs.«01_k».proof.Proof.Gen.SmallFwd.Frame
public import proofs.«01_k».proof.Proof.Gen.SmallFwdIdeal
public import proofs.«01_k».proof.Proof.Gen.SmallFwdIdeal.Frame
public import proofs.«01_k».proof.Proof.Gen.RefSmallFwdIdeal
public import proofs.«01_k».proof.Proof.SmallFwdVal
public import proofs.«01_k».proof.Proof.Gen.SmallDa
public import proofs.«01_k».proof.Proof.Gen.SmallDa.Skeleton
public import proofs.«01_k».proof.Proof.Gen.SmallDa.Launch
public import proofs.«01_k».proof.Proof.Gen.SmallDa.Points
public import proofs.«01_k».proof.Proof.Gen.SmallDa.Frame
public import proofs.«01_k».proof.Proof.Gen.SmallDaIdeal
public import proofs.«01_k».proof.Proof.Gen.SmallDaIdeal.Frame
public import proofs.«01_k».proof.Proof.Gen.RefSmallDaIdeal
public import proofs.«01_k».proof.Proof.SmallDaVal
public import proofs.«01_k».proof.Proof.Gen.SmallDb
public import proofs.«01_k».proof.Proof.Gen.SmallDb.Skeleton
public import proofs.«01_k».proof.Proof.Gen.SmallDb.Launch
public import proofs.«01_k».proof.Proof.Gen.SmallDb.Points
public import proofs.«01_k».proof.Proof.Gen.SmallDb.Frame
public import proofs.«01_k».proof.Proof.Gen.SmallDbIdeal
public import proofs.«01_k».proof.Proof.Gen.SmallDbIdeal.Frame
public import proofs.«01_k».proof.Proof.Gen.RefSmallDbIdeal
public import proofs.«01_k».proof.Proof.SmallDbVal
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.RefMergeFwdIdeal
public import proofs.«01_k».proof.Proof.MergeFwdVal
public import proofs.«01_k».proof.Proof.Gen.MergeDa
public import proofs.«01_k».proof.Proof.Gen.MergeDa.Skeleton
public import proofs.«01_k».proof.Proof.Gen.MergeDa.Launch
public import proofs.«01_k».proof.Proof.Gen.MergeDa.Points
public import proofs.«01_k».proof.Proof.Gen.MergeDa.Frame
public import proofs.«01_k».proof.Proof.Gen.MergeDaIdeal
public import proofs.«01_k».proof.Proof.Gen.MergeDaIdeal.Frame
public import proofs.«01_k».proof.Proof.Gen.RefMergeDaIdeal
public import proofs.«01_k».proof.Proof.MergeDaVal
public import proofs.«01_k».proof.Proof.Gen.MergeDb
public import proofs.«01_k».proof.Proof.Gen.MergeDb.Skeleton
public import proofs.«01_k».proof.Proof.Gen.MergeDb.Launch
public import proofs.«01_k».proof.Proof.Gen.MergeDb.Points
public import proofs.«01_k».proof.Proof.Gen.MergeDb.Frame
public import proofs.«01_k».proof.Proof.Gen.MergeDbIdeal
public import proofs.«01_k».proof.Proof.Gen.MergeDbIdeal.Frame
public import proofs.«01_k».proof.Proof.Gen.RefMergeDbIdeal
public import proofs.«01_k».proof.Proof.MergeDbVal
public import proofs.«01_k».proof.Proof.Gen.BranchFwd
public import proofs.«01_k».proof.Proof.Gen.BranchFwd.Skeleton
public import proofs.«01_k».proof.Proof.Gen.BranchFwd.Launch
public import proofs.«01_k».proof.Proof.Gen.BranchFwd.Points
public import proofs.«01_k».proof.Proof.Gen.BranchFwd.Frame
public import proofs.«01_k».proof.Proof.Gen.BranchFwdIdeal
public import proofs.«01_k».proof.Proof.Gen.BranchFwdIdeal.Frame
public import proofs.«01_k».proof.Proof.Gen.RefBranchFwdIdeal
public import proofs.«01_k».proof.Proof.BranchFwdVal
public import proofs.«01_k».proof.Proof.Gen.BranchDa
public import proofs.«01_k».proof.Proof.Gen.BranchDa.Skeleton
public import proofs.«01_k».proof.Proof.Gen.BranchDa.Launch
public import proofs.«01_k».proof.Proof.Gen.BranchDa.Points
public import proofs.«01_k».proof.Proof.Gen.BranchDa.Frame
public import proofs.«01_k».proof.Proof.Gen.BranchDaIdeal
public import proofs.«01_k».proof.Proof.Gen.BranchDaIdeal.Frame
public import proofs.«01_k».proof.Proof.Gen.RefBranchDaIdeal
public import proofs.«01_k».proof.Proof.BranchDaVal
public import proofs.«01_k».proof.Proof.Gen.BranchDb
public import proofs.«01_k».proof.Proof.Gen.BranchDb.Skeleton
public import proofs.«01_k».proof.Proof.Gen.BranchDb.Launch
public import proofs.«01_k».proof.Proof.Gen.BranchDb.Points
public import proofs.«01_k».proof.Proof.Gen.BranchDb.Frame
public import proofs.«01_k».proof.Proof.Gen.BranchDbIdeal
public import proofs.«01_k».proof.Proof.Gen.BranchDbIdeal.Frame
public import proofs.«01_k».proof.Proof.Gen.RefBranchDbIdeal
public import proofs.«01_k».proof.Proof.BranchDbVal
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Frame
public import proofs.«01_k».proof.Proof.Gen.RefNormFwdIdeal
public import proofs.«01_k».proof.Proof.NormFwdVal
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Frame
public import proofs.«01_k».proof.Proof.Gen.RefNormBwdIdeal
public import proofs.«01_k».proof.Proof.NormBwdVal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Frame
public import proofs.«01_k».proof.Proof.Gen.RefLossIdeal
public import proofs.«01_k».proof.Proof.LossVal
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.RefAdamSmallIdeal
public import proofs.«01_k».proof.Proof.AdamSmallVal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Frame
public import proofs.«01_k».proof.Proof.Gen.RefAdamInIdeal
public import proofs.«01_k».proof.Proof.AdamInVal
public import proofs.«01_k».proof.Proof.Gen.AdamMlpIn
public import proofs.«01_k».proof.Proof.Gen.AdamMlpIn.Skeleton
public import proofs.«01_k».proof.Proof.Gen.AdamMlpIn.Launch
public import proofs.«01_k».proof.Proof.Gen.AdamMlpIn.Points
public import proofs.«01_k».proof.Proof.Gen.AdamMlpIn.Frame
public import proofs.«01_k».proof.Proof.Gen.AdamMlpInIdeal
public import proofs.«01_k».proof.Proof.Gen.AdamMlpInIdeal.Frame
public import proofs.«01_k».proof.Proof.Gen.RefAdamMlpInIdeal
public import proofs.«01_k».proof.Proof.AdamMlpInVal
public import proofs.«01_k».proof.Proof.Gen.AdamMlpOut
public import proofs.«01_k».proof.Proof.Gen.AdamMlpOut.Skeleton
public import proofs.«01_k».proof.Proof.Gen.AdamMlpOut.Launch
public import proofs.«01_k».proof.Proof.Gen.AdamMlpOut.Points
public import proofs.«01_k».proof.Proof.Gen.AdamMlpOut.Frame
public import proofs.«01_k».proof.Proof.Gen.AdamMlpOutIdeal
public import proofs.«01_k».proof.Proof.Gen.AdamMlpOutIdeal.Frame
public import proofs.«01_k».proof.Proof.Gen.RefAdamMlpOutIdeal
public import proofs.«01_k».proof.Proof.AdamMlpOutVal
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Frame
public import proofs.«01_k».proof.Proof.Gen.RefAdamOutIdeal
public import proofs.«01_k».proof.Proof.AdamOutVal
public import proofs.«01_k».proof.Proof.Gen.AdamBranch
public import proofs.«01_k».proof.Proof.Gen.AdamBranch.Skeleton
public import proofs.«01_k».proof.Proof.Gen.AdamBranch.Launch
public import proofs.«01_k».proof.Proof.Gen.AdamBranch.Points
public import proofs.«01_k».proof.Proof.Gen.AdamBranch.Frame
public import proofs.«01_k».proof.Proof.Gen.AdamBranchIdeal
public import proofs.«01_k».proof.Proof.Gen.AdamBranchIdeal.Frame
public import proofs.«01_k».proof.Proof.Gen.RefAdamBranchIdeal
public import proofs.«01_k».proof.Proof.AdamBranchVal
public import proofs.«01_k».proof.Proof.Gen.AdamGlu
public import proofs.«01_k».proof.Proof.Gen.AdamGlu.Skeleton
public import proofs.«01_k».proof.Proof.Gen.AdamGlu.Launch
public import proofs.«01_k».proof.Proof.Gen.AdamGlu.Points
public import proofs.«01_k».proof.Proof.Gen.AdamGlu.Frame
public import proofs.«01_k».proof.Proof.Gen.AdamGluIdeal
public import proofs.«01_k».proof.Proof.Gen.AdamGluIdeal.Frame
public import proofs.«01_k».proof.Proof.Gen.RefAdamGluIdeal
public import proofs.«01_k».proof.Proof.AdamGluVal
public import proofs.«01_k».proof.Proof.Gen.AdamUq
public import proofs.«01_k».proof.Proof.Gen.AdamUq.Skeleton
public import proofs.«01_k».proof.Proof.Gen.AdamUq.Launch
public import proofs.«01_k».proof.Proof.Gen.AdamUq.Points
public import proofs.«01_k».proof.Proof.Gen.AdamUq.Frame
public import proofs.«01_k».proof.Proof.Gen.AdamUqIdeal
public import proofs.«01_k».proof.Proof.Gen.AdamUqIdeal.Frame
public import proofs.«01_k».proof.Proof.Gen.RefAdamUqIdeal
public import proofs.«01_k».proof.Proof.AdamUqVal
public import proofs.«01_k».proof.Proof.Gen.AdamUkv
public import proofs.«01_k».proof.Proof.Gen.AdamUkv.Skeleton
public import proofs.«01_k».proof.Proof.Gen.AdamUkv.Launch
public import proofs.«01_k».proof.Proof.Gen.AdamUkv.Points
public import proofs.«01_k».proof.Proof.Gen.AdamUkv.Frame
public import proofs.«01_k».proof.Proof.Gen.AdamUkvIdeal
public import proofs.«01_k».proof.Proof.Gen.AdamUkvIdeal.Frame
public import proofs.«01_k».proof.Proof.Gen.RefAdamUkvIdeal
public import proofs.«01_k».proof.Proof.AdamUkvVal
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The precondition's two side conditions: a scalar broadcasts to any shape. -/
theorem pre_facts : Cert.Pre_finite.Facts := ⟨by decide, by decide⟩

/-- The reference runs, keeps its arguments and leaves every semaphore at zero (it has none). -/
theorem frame_ri : Cert.quiescent_ReferenceIdeal := fun m ρ _ =>
  (θ_run Cert.ReferenceIdeal.defs _ _).mono
    (fun r h => ⟨fun c => (h c).2.2.2, sem_eq_zero_of_no_sems rfl r.2⟩) (Cert.ReferenceIdeal.Value.run m ρ)

/-- On finite arguments the kernel's three arrays are the reference's three gradients. -/
theorem values [Cert.Pre_finite.Facts] : Cert.algebraic_KernelIdeal_ReferenceIdeal_pre_finite := by
  intro m g m' g' hpre hm
  refine ⟨Cert.Attn.finQ m, Cert.Attn.finK m, Cert.Attn.finV m, ?_, ?_⟩
  · exact (θ_run Cert.KernelIdeal.defs _ _).mono
      (fun r h c => ⟨(h c).1.trans (Cert.Attn.final6 m c), (h c).2.1.trans (Cert.Attn.final7 m c),
        (h c).2.2.1.trans (Cert.Attn.final8 m c), (h c).2.2.2⟩) (Cert.KernelIdeal.Value.run_blocks m g)
  · refine (θ_run Cert.ReferenceIdeal.defs _ _).mono (fun r h c => ?_) (Cert.ReferenceIdeal.Value.run m' g')
    obtain ⟨r0, r1, r2, r3⟩ := Cert.Attn.finite_real _ _ _ _ (hpre c)
    obtain ⟨e0, e1, e2, e3⟩ := hm c
    obtain ⟨q, k, v, kept⟩ := h c
    refine ⟨q.trans ?_, k.trans ?_, v.trans ?_, kept⟩
    · rw [Cert.ReferenceIdeal.Read.val_main_v55_eq, e0, e1, e2, e3]
      exact (Cert.Attn.finQ_eq m c r0 r1 r2 r3).symm
    · rw [Cert.ReferenceIdeal.Read.val_main_v56_eq, e0, e1, e2, e3]
      exact (Cert.Attn.finK_eq m c r0 r1 r2 r3).symm
    · rw [e0, e1, e3]
      exact (Cert.Attn.finV_eq m c r0 r1).symm

/-- The frames, and what each call computes; the calls' own modules prove their parts. -/
theorem claim : Cert.Claim := ⟨Cert.Kernel.Gen.facts, Cert.KernelIdeal.Gen.facts, Cert.ReferenceIdeal.Gen.facts,
  Cert.AttnFwd.Gen.facts, Cert.AttnFwdIdeal.Gen.facts, Cert.RefAttnFwdIdeal.Gen.facts,
  Cert.InFwd.Gen.facts, Cert.InFwdIdeal.Gen.facts, Cert.RefInFwdIdeal.Gen.facts,
  Cert.InDa.Gen.facts, Cert.InDaIdeal.Gen.facts, Cert.RefInDaIdeal.Gen.facts,
  Cert.InDb.Gen.facts, Cert.InDbIdeal.Gen.facts, Cert.RefInDbIdeal.Gen.facts,
  Cert.OutFwd.Gen.facts, Cert.OutFwdIdeal.Gen.facts, Cert.RefOutFwdIdeal.Gen.facts,
  Cert.OutDa.Gen.facts, Cert.OutDaIdeal.Gen.facts, Cert.RefOutDaIdeal.Gen.facts,
  Cert.OutDb.Gen.facts, Cert.OutDbIdeal.Gen.facts, Cert.RefOutDbIdeal.Gen.facts,
  Cert.SmallFwd.Gen.facts, Cert.SmallFwdIdeal.Gen.facts, Cert.RefSmallFwdIdeal.Gen.facts,
  Cert.SmallDa.Gen.facts, Cert.SmallDaIdeal.Gen.facts, Cert.RefSmallDaIdeal.Gen.facts,
  Cert.SmallDb.Gen.facts, Cert.SmallDbIdeal.Gen.facts, Cert.RefSmallDbIdeal.Gen.facts,
  Cert.MergeFwd.Gen.facts, Cert.MergeFwdIdeal.Gen.facts, Cert.RefMergeFwdIdeal.Gen.facts,
  Cert.MergeDa.Gen.facts, Cert.MergeDaIdeal.Gen.facts, Cert.RefMergeDaIdeal.Gen.facts,
  Cert.MergeDb.Gen.facts, Cert.MergeDbIdeal.Gen.facts, Cert.RefMergeDbIdeal.Gen.facts,
  Cert.BranchFwd.Gen.facts, Cert.BranchFwdIdeal.Gen.facts, Cert.RefBranchFwdIdeal.Gen.facts,
  Cert.BranchDa.Gen.facts, Cert.BranchDaIdeal.Gen.facts, Cert.RefBranchDaIdeal.Gen.facts,
  Cert.BranchDb.Gen.facts, Cert.BranchDbIdeal.Gen.facts, Cert.RefBranchDbIdeal.Gen.facts,
  Cert.NormFwd.Gen.facts, Cert.NormFwdIdeal.Gen.facts, Cert.RefNormFwdIdeal.Gen.facts,
  Cert.NormBwd.Gen.facts, Cert.NormBwdIdeal.Gen.facts, Cert.RefNormBwdIdeal.Gen.facts,
  Cert.Loss.Gen.facts, Cert.LossIdeal.Gen.facts, Cert.RefLossIdeal.Gen.facts,
  Cert.AdamSmall.Gen.facts, Cert.AdamSmallIdeal.Gen.facts, Cert.RefAdamSmallIdeal.Gen.facts,
  Cert.AdamIn.Gen.facts, Cert.AdamInIdeal.Gen.facts, Cert.RefAdamInIdeal.Gen.facts,
  Cert.AdamMlpIn.Gen.facts, Cert.AdamMlpInIdeal.Gen.facts, Cert.RefAdamMlpInIdeal.Gen.facts,
  Cert.AdamMlpOut.Gen.facts, Cert.AdamMlpOutIdeal.Gen.facts, Cert.RefAdamMlpOutIdeal.Gen.facts,
  Cert.AdamOut.Gen.facts, Cert.AdamOutIdeal.Gen.facts, Cert.RefAdamOutIdeal.Gen.facts,
  Cert.AdamBranch.Gen.facts, Cert.AdamBranchIdeal.Gen.facts, Cert.RefAdamBranchIdeal.Gen.facts,
  Cert.AdamGlu.Gen.facts, Cert.AdamGluIdeal.Gen.facts, Cert.RefAdamGluIdeal.Gen.facts,
  Cert.AdamUq.Gen.facts, Cert.AdamUqIdeal.Gen.facts, Cert.RefAdamUqIdeal.Gen.facts,
  Cert.AdamUkv.Gen.facts, Cert.AdamUkvIdeal.Gen.facts, Cert.RefAdamUkvIdeal.Gen.facts,
  pre_facts,
  Cert.AttnFwdVal.pre_facts,
  Cert.NormBwdVal.pre_facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.AttnFwd.Gen.frame m ρ, fun m ρ _ => Cert.AttnFwdIdeal.Gen.frame m ρ, fun m ρ _ => Cert.AttnFwdIdeal.Gen.frame m ρ, Cert.AttnFwdVal.frame_ref, fun m ρ _ => Cert.AttnFwdVal.frame_ref m ρ trivial,
  fun m ρ _ => Cert.InFwd.Gen.frame m ρ, fun m ρ _ => Cert.InFwdIdeal.Gen.frame m ρ, Cert.InFwdVal.frame_ref,
  fun m ρ _ => Cert.InDa.Gen.frame m ρ, fun m ρ _ => Cert.InDaIdeal.Gen.frame m ρ, Cert.InDaVal.frame_ref,
  fun m ρ _ => Cert.InDb.Gen.frame m ρ, fun m ρ _ => Cert.InDbIdeal.Gen.frame m ρ, Cert.InDbVal.frame_ref,
  fun m ρ _ => Cert.OutFwd.Gen.frame m ρ, fun m ρ _ => Cert.OutFwdIdeal.Gen.frame m ρ, Cert.OutFwdVal.frame_ref,
  fun m ρ _ => Cert.OutDa.Gen.frame m ρ, fun m ρ _ => Cert.OutDaIdeal.Gen.frame m ρ, Cert.OutDaVal.frame_ref,
  fun m ρ _ => Cert.OutDb.Gen.frame m ρ, fun m ρ _ => Cert.OutDbIdeal.Gen.frame m ρ, Cert.OutDbVal.frame_ref,
  fun m ρ _ => Cert.SmallFwd.Gen.frame m ρ, fun m ρ _ => Cert.SmallFwdIdeal.Gen.frame m ρ, Cert.SmallFwdVal.frame_ref,
  fun m ρ _ => Cert.SmallDa.Gen.frame m ρ, fun m ρ _ => Cert.SmallDaIdeal.Gen.frame m ρ, Cert.SmallDaVal.frame_ref,
  fun m ρ _ => Cert.SmallDb.Gen.frame m ρ, fun m ρ _ => Cert.SmallDbIdeal.Gen.frame m ρ, Cert.SmallDbVal.frame_ref,
  fun m ρ _ => Cert.MergeFwd.Gen.frame m ρ, fun m ρ _ => Cert.MergeFwdIdeal.Gen.frame m ρ, Cert.MergeFwdVal.frame_ref,
  fun m ρ _ => Cert.MergeDa.Gen.frame m ρ, fun m ρ _ => Cert.MergeDaIdeal.Gen.frame m ρ, Cert.MergeDaVal.frame_ref,
  fun m ρ _ => Cert.MergeDb.Gen.frame m ρ, fun m ρ _ => Cert.MergeDbIdeal.Gen.frame m ρ, Cert.MergeDbVal.frame_ref,
  fun m ρ _ => Cert.BranchFwd.Gen.frame m ρ, fun m ρ _ => Cert.BranchFwdIdeal.Gen.frame m ρ, Cert.BranchFwdVal.frame_ref,
  fun m ρ _ => Cert.BranchDa.Gen.frame m ρ, fun m ρ _ => Cert.BranchDaIdeal.Gen.frame m ρ, Cert.BranchDaVal.frame_ref,
  fun m ρ _ => Cert.BranchDb.Gen.frame m ρ, fun m ρ _ => Cert.BranchDbIdeal.Gen.frame m ρ, Cert.BranchDbVal.frame_ref,
  fun m ρ _ => Cert.NormFwd.Gen.frame m ρ, fun m ρ _ => Cert.NormFwdIdeal.Gen.frame m ρ, Cert.NormFwdVal.frame_ref,
  fun m ρ _ => Cert.NormBwd.Gen.frame m ρ, fun m ρ _ => Cert.NormBwdIdeal.Gen.frame m ρ, fun m ρ _ => Cert.NormBwdIdeal.Gen.frame m ρ, Cert.NormBwdVal.frame_ref, fun m ρ _ => Cert.NormBwdVal.frame_ref m ρ trivial,
  fun m ρ _ => Cert.Loss.Gen.frame m ρ, fun m ρ _ => Cert.LossIdeal.Gen.frame m ρ, Cert.LossVal.frame_ref,
  fun m ρ _ => Cert.AdamSmall.Gen.frame m ρ, fun m ρ _ => Cert.AdamSmallIdeal.Gen.frame m ρ, Cert.AdamSmallVal.frame_ref,
  fun m ρ _ => Cert.AdamIn.Gen.frame m ρ, fun m ρ _ => Cert.AdamInIdeal.Gen.frame m ρ, Cert.AdamInVal.frame_ref,
  fun m ρ _ => Cert.AdamMlpIn.Gen.frame m ρ, fun m ρ _ => Cert.AdamMlpInIdeal.Gen.frame m ρ, Cert.AdamMlpInVal.frame_ref,
  fun m ρ _ => Cert.AdamMlpOut.Gen.frame m ρ, fun m ρ _ => Cert.AdamMlpOutIdeal.Gen.frame m ρ, Cert.AdamMlpOutVal.frame_ref,
  fun m ρ _ => Cert.AdamOut.Gen.frame m ρ, fun m ρ _ => Cert.AdamOutIdeal.Gen.frame m ρ, Cert.AdamOutVal.frame_ref,
  fun m ρ _ => Cert.AdamBranch.Gen.frame m ρ, fun m ρ _ => Cert.AdamBranchIdeal.Gen.frame m ρ, Cert.AdamBranchVal.frame_ref,
  fun m ρ _ => Cert.AdamGlu.Gen.frame m ρ, fun m ρ _ => Cert.AdamGluIdeal.Gen.frame m ρ, Cert.AdamGluVal.frame_ref,
  fun m ρ _ => Cert.AdamUq.Gen.frame m ρ, fun m ρ _ => Cert.AdamUqIdeal.Gen.frame m ρ, Cert.AdamUqVal.frame_ref,
  fun m ρ _ => Cert.AdamUkv.Gen.frame m ρ, fun m ρ _ => Cert.AdamUkvIdeal.Gen.frame m ρ, Cert.AdamUkvVal.frame_ref,
  trivial, @values pre_facts,
  trivial, @Cert.AttnFwdVal.values Cert.AttnFwdVal.pre_facts,
  trivial, Cert.InFwdVal.values,
  trivial, Cert.InDaVal.values,
  trivial, Cert.InDbVal.values,
  trivial, Cert.OutFwdVal.values,
  trivial, Cert.OutDaVal.values,
  trivial, Cert.OutDbVal.values,
  trivial, Cert.SmallFwdVal.values,
  trivial, Cert.SmallDaVal.values,
  trivial, Cert.SmallDbVal.values,
  trivial, Cert.MergeFwdVal.values,
  trivial, Cert.MergeDaVal.values,
  trivial, Cert.MergeDbVal.values,
  trivial, Cert.BranchFwdVal.values,
  trivial, Cert.BranchDaVal.values,
  trivial, Cert.BranchDbVal.values,
  trivial, Cert.NormFwdVal.values,
  trivial, @Cert.NormBwdVal.values Cert.NormBwdVal.pre_facts,
  trivial, Cert.LossVal.values,
  trivial, Cert.AdamSmallVal.values,
  trivial, Cert.AdamInVal.values,
  trivial, Cert.AdamMlpInVal.values,
  trivial, Cert.AdamMlpOutVal.values,
  trivial, Cert.AdamOutVal.values,
  trivial, Cert.AdamBranchVal.values,
  trivial, Cert.AdamGluVal.values,
  trivial, Cert.AdamUqVal.values,
  trivial, Cert.AdamUkvVal.values⟩

end Cert.Proof

end
